-- ==== Defs.lean ====
def Pre_Upscale (m : (ℓ : Loc Cert.Upscale.nD Cert.Upscale.τ Cert.Upscale.sig) → Buf (Elt Bits) ℓ) : Prop :=
  True

def Pre_UpscaleIdeal (m : (ℓ : Loc Cert.UpscaleIdeal.nD Cert.UpscaleIdeal.τ Cert.UpscaleIdeal.sig) → Buf (Elt Ideal) ℓ) : Prop :=
  True

def Pre_UpscaleRefIdeal (m : (ℓ : Loc Cert.UpscaleRefIdeal.nD Cert.UpscaleRefIdeal.τ Cert.UpscaleRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12)) (m ((c.tc : Thread Cert.AttnIdeal.nD Cert.AttnIdeal.τ).loc Cert.AttnIdeal.main_arg13)) (m ((c.tc : Thread Cert.AttnIdeal.nD Cert.AttnIdeal.τ).loc Cert.AttnIdeal.main_arg14))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10)) (m ((c.tc : Thread Cert.AttnRefIdeal.nD Cert.AttnRefIdeal.τ).loc Cert.AttnRefIdeal.main_arg11)) (m ((c.tc : Thread Cert.AttnRefIdeal.nD Cert.AttnRefIdeal.τ).loc Cert.AttnRefIdeal.main_arg12)) (m ((c.tc : Thread Cert.AttnRefIdeal.nD Cert.AttnRefIdeal.τ).loc Cert.AttnRefIdeal.main_arg13)) (m ((c.tc : Thread Cert.AttnRefIdeal.nD Cert.AttnRefIdeal.τ).loc Cert.AttnRefIdeal.main_arg14))) = (fun _ => 1#1)

def quiescent_Upscale [hUpscale : Cert.Upscale.Facts] : Prop :=
  ∀ (m : (ℓ : Loc Cert.Upscale.nD Cert.Upscale.τ Cert.Upscale.sig) → Buf (Elt Bits) ℓ) (g : Dev Cert.Upscale.nD → PrngReg), Pre_Upscale m →
    θ_run (Cert.Upscale.defs (F := Bits)) (onTc (τ := Cert.Upscale.τ) (Cert.Upscale.main (F := Bits))) ⟨m, fun _ => 0, g⟩ (fun r => (∀ c : Dev Cert.Upscale.nD,
      r.2.mem ((c.tc : Thread Cert.Upscale.nD Cert.Upscale.τ).loc Cert.Upscale.main_arg0) = m ((c.tc : Thread Cert.Upscale.nD Cert.Upscale.τ).loc Cert.Upscale.main_arg0)
      ∧ r.2.mem ((c.tc : Thread Cert.Upscale.nD Cert.Upscale.τ).loc Cert.Upscale.main_arg1) = m ((c.tc : Thread Cert.Upscale.nD Cert.Upscale.τ).loc Cert.Upscale.main_arg1)
      ∧ r.2.mem ((c.tc : Thread Cert.Upscale.nD Cert.Upscale.τ).loc Cert.Upscale.main_arg2) = m ((c.tc : Thread Cert.Upscale.nD Cert.Upscale.τ).loc Cert.Upscale.main_arg2)
      ∧ r.2.mem ((c.tc : Thread Cert.Upscale.nD Cert.Upscale.τ).loc Cert.Upscale.main_arg3) = m ((c.tc : Thread Cert.Upscale.nD Cert.Upscale.τ).loc Cert.Upscale.main_arg3)
      ∧ r.2.mem ((c.tc : Thread Cert.Upscale.nD Cert.Upscale.τ).loc Cert.Upscale.main_arg4) = m ((c.tc : Thread Cert.Upscale.nD Cert.Upscale.τ).loc Cert.Upscale.main_arg4)
      ∧ r.2.mem ((c.tc : Thread Cert.Upscale.nD Cert.Upscale.τ).loc Cert.Upscale.main_arg5) = m ((c.tc : Thread Cert.Upscale.nD Cert.Upscale.τ).loc Cert.Upscale.main_arg5)
      ∧ r.2.mem ((c.tc : Thread Cert.Upscale.nD Cert.Upscale.τ).loc Cert.Upscale.main_arg6) = m ((c.tc : Thread Cert.Upscale.nD Cert.Upscale.τ).loc Cert.Upscale.main_arg6)
      ∧ r.2.mem ((c.tc : Thread Cert.Upscale.nD Cert.Upscale.τ).loc Cert.Upscale.main_arg7) = m ((c.tc : Thread Cert.Upscale.nD Cert.Upscale.τ).loc Cert.Upscale.main_arg7)
      ∧ r.2.mem ((c.tc : Thread Cert.Upscale.nD Cert.Upscale.τ).loc Cert.Upscale.main_arg8) = m ((c.tc : Thread Cert.Upscale.nD Cert.Upscale.τ).loc Cert.Upscale.main_arg8)
      ∧ r.2.mem ((c.tc : Thread Cert.Upscale.nD Cert.Upscale.τ).loc Cert.Upscale.main_arg9) = m ((c.tc : Thread Cert.Upscale.nD Cert.Upscale.τ).loc Cert.Upscale.main_arg9)
      ∧ r.2.mem ((c.tc : Thread Cert.Upscale.nD Cert.Upscale.τ).loc Cert.Upscale.main_arg10) = m ((c.tc : Thread Cert.Upscale.nD Cert.Upscale.τ).loc Cert.Upscale.main_arg10))
      ∧ r.2.sem = fun _ => 0)

def quiescent_UpscaleIdeal [hUpscaleIdeal : Cert.UpscaleIdeal.Facts] : Prop :=
  ∀ (m : (ℓ : Loc Cert.UpscaleIdeal.nD Cert.UpscaleIdeal.τ Cert.UpscaleIdeal.sig) → Buf (Elt Ideal) ℓ) (g : Dev Cert.UpscaleIdeal.nD → PrngReg), Pre_UpscaleIdeal m →
    θ_run (Cert.UpscaleIdeal.defs (F := Ideal)) (onTc (τ := Cert.UpscaleIdeal.τ) (Cert.UpscaleIdeal.main (F := Ideal))) ⟨m, fun _ => 0, g⟩ (fun r => (∀ c : Dev Cert.UpscaleIdeal.nD,
      r.2.mem ((c.tc : Thread Cert.UpscaleIdeal.nD Cert.UpscaleIdeal.τ).loc Cert.UpscaleIdeal.main_arg0) = m ((c.tc : Thread Cert.UpscaleIdeal.nD Cert.UpscaleIdeal.τ).loc Cert.UpscaleIdeal.main_arg0)
      ∧ r.2.mem ((c.tc : Thread Cert.UpscaleIdeal.nD Cert.UpscaleIdeal.τ).loc Cert.UpscaleIdeal.main_arg1) = m ((c.tc : Thread Cert.UpscaleIdeal.nD Cert.UpscaleIdeal.τ).loc Cert.UpscaleIdeal.main_arg1)
      ∧ r.2.mem ((c.tc : Thread Cert.UpscaleIdeal.nD Cert.UpscaleIdeal.τ).loc Cert.UpscaleIdeal.main_arg2) = m ((c.tc : Thread Cert.UpscaleIdeal.nD Cert.UpscaleIdeal.τ).loc Cert.UpscaleIdeal.main_arg2)
      ∧ r.2.mem ((c.tc : Thread Cert.UpscaleIdeal.nD Cert.UpscaleIdeal.τ).loc Cert.UpscaleIdeal.main_arg3) = m ((c.tc : Thread Cert.UpscaleIdeal.nD Cert.UpscaleIdeal.τ).loc Cert.UpscaleIdeal.main_arg3)
      ∧ r.2.mem ((c.tc : Thread Cert.UpscaleIdeal.nD Cert.UpscaleIdeal.τ).loc Cert.UpscaleIdeal.main_arg4) = m ((c.tc : Thread Cert.UpscaleIdeal.nD Cert.UpscaleIdeal.τ).loc Cert.UpscaleIdeal.main_arg4)
      ∧ r.2.mem ((c.tc : Thread Cert.UpscaleIdeal.nD Cert.UpscaleIdeal.τ).loc Cert.UpscaleIdeal.main_arg5) = m ((c.tc : Thread Cert.UpscaleIdeal.nD Cert.UpscaleIdeal.τ).loc Cert.UpscaleIdeal.main_arg5)
      ∧ r.2.mem ((c.tc : Thread Cert.UpscaleIdeal.nD Cert.UpscaleIdeal.τ).loc Cert.UpscaleIdeal.main_arg6) = m ((c.tc : Thread Cert.UpscaleIdeal.nD Cert.UpscaleIdeal.τ).loc Cert.UpscaleIdeal.main_arg6)
      ∧ r.2.mem ((c.tc : Thread Cert.UpscaleIdeal.nD Cert.UpscaleIdeal.τ).loc Cert.UpscaleIdeal.main_arg7) = m ((c.tc : Thread Cert.UpscaleIdeal.nD Cert.UpscaleIdeal.τ).loc Cert.UpscaleIdeal.main_arg7)
      ∧ r.2.mem ((c.tc : Thread Cert.UpscaleIdeal.nD Cert.UpscaleIdeal.τ).loc Cert.UpscaleIdeal.main_arg8) = m ((c.tc : Thread Cert.UpscaleIdeal.nD Cert.UpscaleIdeal.τ).loc Cert.UpscaleIdeal.main_arg8)
      ∧ r.2.mem ((c.tc : Thread Cert.UpscaleIdeal.nD Cert.UpscaleIdeal.τ).loc Cert.UpscaleIdeal.main_arg9) = m ((c.tc : Thread Cert.UpscaleIdeal.nD Cert.UpscaleIdeal.τ).loc Cert.UpscaleIdeal.main_arg9)
      ∧ r.2.mem ((c.tc : Thread Cert.UpscaleIdeal.nD Cert.UpscaleIdeal.τ).loc Cert.UpscaleIdeal.main_arg10) = m ((c.tc : Thread Cert.UpscaleIdeal.nD Cert.UpscaleIdeal.τ).loc Cert.UpscaleIdeal.main_arg10))
      ∧ r.2.sem = fun _ => 0)

def quiescent_UpscaleRefIdeal [hUpscaleRefIdeal : Cert.UpscaleRefIdeal.Facts] : Prop :=
  ∀ (m : (ℓ : Loc Cert.UpscaleRefIdeal.nD Cert.UpscaleRefIdeal.τ Cert.UpscaleRefIdeal.sig) → Buf (Elt Ideal) ℓ) (g : Dev Cert.UpscaleRefIdeal.nD → PrngReg), Pre_UpscaleRefIdeal m →
    θ_run (Cert.UpscaleRefIdeal.defs (F := Ideal)) (onTc (τ := Cert.UpscaleRefIdeal.τ) (Cert.UpscaleRefIdeal.main (F := Ideal))) ⟨m, fun _ => 0, g⟩ (fun r => (∀ c : Dev Cert.UpscaleRefIdeal.nD,
      r.2.mem ((c.tc : Thread Cert.UpscaleRefIdeal.nD Cert.UpscaleRefIdeal.τ).loc Cert.UpscaleRefIdeal.main_arg0) = m ((c.tc : Thread Cert.UpscaleRefIdeal.nD Cert.UpscaleRefIdeal.τ).loc Cert.UpscaleRefIdeal.main_arg0)
      ∧ r.2.mem ((c.tc : Thread Cert.UpscaleRefIdeal.nD Cert.UpscaleRefIdeal.τ).loc Cert.UpscaleRefIdeal.main_arg1) = m ((c.tc : Thread Cert.UpscaleRefIdeal.nD Cert.UpscaleRefIdeal.τ).loc Cert.UpscaleRefIdeal.main_arg1)
      ∧ r.2.mem ((c.tc : Thread Cert.UpscaleRefIdeal.nD Cert.UpscaleRefIdeal.τ).loc Cert.UpscaleRefIdeal.main_arg2) = m ((c.tc : Thread Cert.UpscaleRefIdeal.nD Cert.UpscaleRefIdeal.τ).loc Cert.UpscaleRefIdeal.main_arg2)
      ∧ r.2.mem ((c.tc : Thread Cert.UpscaleRefIdeal.nD Cert.UpscaleRefIdeal.τ).loc Cert.UpscaleRefIdeal.main_arg3) = m ((c.tc : Thread Cert.UpscaleRefIdeal.nD Cert.UpscaleRefIdeal.τ).loc Cert.UpscaleRefIdeal.main_arg3)
      ∧ r.2.mem ((c.tc : Thread Cert.UpscaleRefIdeal.nD Cert.UpscaleRefIdeal.τ).loc Cert.UpscaleRefIdeal.main_arg4) = m ((c.tc : Thread Cert.UpscaleRefIdeal.nD Cert.UpscaleRefIdeal.τ).loc Cert.UpscaleRefIdeal.main_arg4)
      ∧ r.2.mem ((c.tc : Thread Cert.UpscaleRefIdeal.nD Cert.UpscaleRefIdeal.τ).loc Cert.UpscaleRefIdeal.main_arg5) = m ((c.tc : Thread Cert.UpscaleRefIdeal.nD Cert.UpscaleRefIdeal.τ).loc Cert.UpscaleRefIdeal.main_arg5)
      ∧ r.2.mem ((c.tc : Thread Cert.UpscaleRefIdeal.nD Cert.UpscaleRefIdeal.τ).loc Cert.UpscaleRefIdeal.main_arg6) = m ((c.tc : Thread Cert.UpscaleRefIdeal.nD Cert.UpscaleRefIdeal.τ).loc Cert.UpscaleRefIdeal.main_arg6)
      ∧ r.2.mem ((c.tc : Thread Cert.UpscaleRefIdeal.nD Cert.UpscaleRefIdeal.τ).loc Cert.UpscaleRefIdeal.main_arg7) = m ((c.tc : Thread Cert.UpscaleRefIdeal.nD Cert.UpscaleRefIdeal.τ).loc Cert.UpscaleRefIdeal.main_arg7)
      ∧ r.2.mem ((c.tc : Thread Cert.UpscaleRefIdeal.nD Cert.UpscaleRefIdeal.τ).loc Cert.UpscaleRefIdeal.main_arg8) = m ((c.tc : Thread Cert.UpscaleRefIdeal.nD Cert.UpscaleRefIdeal.τ).loc Cert.UpscaleRefIdeal.main_arg8)
      ∧ r.2.mem ((c.tc : Thread Cert.UpscaleRefIdeal.nD Cert.UpscaleRefIdeal.τ).loc Cert.UpscaleRefIdeal.main_arg9) = m ((c.tc : Thread Cert.UpscaleRefIdeal.nD Cert.UpscaleRefIdeal.τ).loc Cert.UpscaleRefIdeal.main_arg9)
      ∧ r.2.mem ((c.tc : Thread Cert.UpscaleRefIdeal.nD Cert.UpscaleRefIdeal.τ).loc Cert.UpscaleRefIdeal.main_arg10) = m ((c.tc : Thread Cert.UpscaleRefIdeal.nD Cert.UpscaleRefIdeal.τ).loc Cert.UpscaleRefIdeal.main_arg10))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10)
      ∧ r.2.mem ((c.tc : Thread Cert.Attn.nD Cert.Attn.τ).loc Cert.Attn.main_arg11) = m ((c.tc : Thread Cert.Attn.nD Cert.Attn.τ).loc Cert.Attn.main_arg11)
      ∧ r.2.mem ((c.tc : Thread Cert.Attn.nD Cert.Attn.τ).loc Cert.Attn.main_arg12) = m ((c.tc : Thread Cert.Attn.nD Cert.Attn.τ).loc Cert.Attn.main_arg12)
      ∧ r.2.mem ((c.tc : Thread Cert.Attn.nD Cert.Attn.τ).loc Cert.Attn.main_arg13) = m ((c.tc : Thread Cert.Attn.nD Cert.Attn.τ).loc Cert.Attn.main_arg13)
      ∧ r.2.mem ((c.tc : Thread Cert.Attn.nD Cert.Attn.τ).loc Cert.Attn.main_arg14) = m ((c.tc : Thread Cert.Attn.nD Cert.Attn.τ).loc Cert.Attn.main_arg14))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
      ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12)
      ∧ r.2.mem ((c.tc : Thread Cert.AttnIdeal.nD Cert.AttnIdeal.τ).loc Cert.AttnIdeal.main_arg13) = m ((c.tc : Thread Cert.AttnIdeal.nD Cert.AttnIdeal.τ).loc Cert.AttnIdeal.main_arg13)
      ∧ r.2.mem ((c.tc : Thread Cert.AttnIdeal.nD Cert.AttnIdeal.τ).loc Cert.AttnIdeal.main_arg14) = m ((c.tc : Thread Cert.AttnIdeal.nD Cert.AttnIdeal.τ).loc Cert.AttnIdeal.main_arg14))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
      ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12)
      ∧ r.2.mem ((c.tc : Thread Cert.AttnIdeal.nD Cert.AttnIdeal.τ).loc Cert.AttnIdeal.main_arg13) = m ((c.tc : Thread Cert.AttnIdeal.nD Cert.AttnIdeal.τ).loc Cert.AttnIdeal.main_arg13)
      ∧ r.2.mem ((c.tc : Thread Cert.AttnIdeal.nD Cert.AttnIdeal.τ).loc Cert.AttnIdeal.main_arg14) = m ((c.tc : Thread Cert.AttnIdeal.nD Cert.AttnIdeal.τ).loc Cert.AttnIdeal.main_arg14))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10)
      ∧ r.2.mem ((c.tc : Thread Cert.AttnRefIdeal.nD Cert.AttnRefIdeal.τ).loc Cert.AttnRefIdeal.main_arg11) = m ((c.tc : Thread Cert.AttnRefIdeal.nD Cert.AttnRefIdeal.τ).loc Cert.AttnRefIdeal.main_arg11)
      ∧ r.2.mem ((c.tc : Thread Cert.AttnRefIdeal.nD Cert.AttnRefIdeal.τ).loc Cert.AttnRefIdeal.main_arg12) = m ((c.tc : Thread Cert.AttnRefIdeal.nD Cert.AttnRefIdeal.τ).loc Cert.AttnRefIdeal.main_arg12)
      ∧ r.2.mem ((c.tc : Thread Cert.AttnRefIdeal.nD Cert.AttnRefIdeal.τ).loc Cert.AttnRefIdeal.main_arg13) = m ((c.tc : Thread Cert.AttnRefIdeal.nD Cert.AttnRefIdeal.τ).loc Cert.AttnRefIdeal.main_arg13)
      ∧ r.2.mem ((c.tc : Thread Cert.AttnRefIdeal.nD Cert.AttnRefIdeal.τ).loc Cert.AttnRefIdeal.main_arg14) = m ((c.tc : Thread Cert.AttnRefIdeal.nD Cert.AttnRefIdeal.τ).loc Cert.AttnRefIdeal.main_arg14))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10)
      ∧ r.2.mem ((c.tc : Thread Cert.AttnRefIdeal.nD Cert.AttnRefIdeal.τ).loc Cert.AttnRefIdeal.main_arg11) = m ((c.tc : Thread Cert.AttnRefIdeal.nD Cert.AttnRefIdeal.τ).loc Cert.AttnRefIdeal.main_arg11)
      ∧ r.2.mem ((c.tc : Thread Cert.AttnRefIdeal.nD Cert.AttnRefIdeal.τ).loc Cert.AttnRefIdeal.main_arg12) = m ((c.tc : Thread Cert.AttnRefIdeal.nD Cert.AttnRefIdeal.τ).loc Cert.AttnRefIdeal.main_arg12)
      ∧ r.2.mem ((c.tc : Thread Cert.AttnRefIdeal.nD Cert.AttnRefIdeal.τ).loc Cert.AttnRefIdeal.main_arg13) = m ((c.tc : Thread Cert.AttnRefIdeal.nD Cert.AttnRefIdeal.τ).loc Cert.AttnRefIdeal.main_arg13)
      ∧ r.2.mem ((c.tc : Thread Cert.AttnRefIdeal.nD Cert.AttnRefIdeal.τ).loc Cert.AttnRefIdeal.main_arg14) = m ((c.tc : Thread Cert.AttnRefIdeal.nD Cert.AttnRefIdeal.τ).loc Cert.AttnRefIdeal.main_arg14))
      ∧ r.2.sem = fun _ => 0)

def preserves_Upscale_UpscaleIdeal : Prop :=
  True

def algebraic_UpscaleIdeal_UpscaleRefIdeal [hUpscaleIdeal : Cert.UpscaleIdeal.Facts] [hUpscaleRefIdeal : Cert.UpscaleRefIdeal.Facts] : Prop :=
  ∀ (m : (ℓ : Loc Cert.UpscaleIdeal.nD Cert.UpscaleIdeal.τ Cert.UpscaleIdeal.sig) → Buf (Elt Ideal) ℓ) (g : Dev Cert.UpscaleIdeal.nD → PrngReg)
    (m' : (ℓ : Loc Cert.UpscaleRefIdeal.nD Cert.UpscaleRefIdeal.τ Cert.UpscaleRefIdeal.sig) → Buf (Elt Ideal) ℓ) (g' : Dev Cert.UpscaleRefIdeal.nD → PrngReg), Pre_UpscaleIdeal m →
    (∀ c : Dev Cert.UpscaleIdeal.nD,
      m' ((c.tc : Thread Cert.UpscaleRefIdeal.nD Cert.UpscaleRefIdeal.τ).loc Cert.UpscaleRefIdeal.main_arg0) = m ((c.tc : Thread Cert.UpscaleIdeal.nD Cert.UpscaleIdeal.τ).loc Cert.UpscaleIdeal.main_arg0)
      ∧ m' ((c.tc : Thread Cert.UpscaleRefIdeal.nD Cert.UpscaleRefIdeal.τ).loc Cert.UpscaleRefIdeal.main_arg1) = m ((c.tc : Thread Cert.UpscaleIdeal.nD Cert.UpscaleIdeal.τ).loc Cert.UpscaleIdeal.main_arg1)
      ∧ m' ((c.tc : Thread Cert.UpscaleRefIdeal.nD Cert.UpscaleRefIdeal.τ).loc Cert.UpscaleRefIdeal.main_arg2) = m ((c.tc : Thread Cert.UpscaleIdeal.nD Cert.UpscaleIdeal.τ).loc Cert.UpscaleIdeal.main_arg2)
      ∧ m' ((c.tc : Thread Cert.UpscaleRefIdeal.nD Cert.UpscaleRefIdeal.τ).loc Cert.UpscaleRefIdeal.main_arg3) = m ((c.tc : Thread Cert.UpscaleIdeal.nD Cert.UpscaleIdeal.τ).loc Cert.UpscaleIdeal.main_arg3)
      ∧ m' ((c.tc : Thread Cert.UpscaleRefIdeal.nD Cert.UpscaleRefIdeal.τ).loc Cert.UpscaleRefIdeal.main_arg4) = m ((c.tc : Thread Cert.UpscaleIdeal.nD Cert.UpscaleIdeal.τ).loc Cert.UpscaleIdeal.main_arg4)
      ∧ m' ((c.tc : Thread Cert.UpscaleRefIdeal.nD Cert.UpscaleRefIdeal.τ).loc Cert.UpscaleRefIdeal.main_arg5) = m ((c.tc : Thread Cert.UpscaleIdeal.nD Cert.UpscaleIdeal.τ).loc Cert.UpscaleIdeal.main_arg5)
      ∧ m' ((c.tc : Thread Cert.UpscaleRefIdeal.nD Cert.UpscaleRefIdeal.τ).loc Cert.UpscaleRefIdeal.main_arg6) = m ((c.tc : Thread Cert.UpscaleIdeal.nD Cert.UpscaleIdeal.τ).loc Cert.UpscaleIdeal.main_arg6)
      ∧ m' ((c.tc : Thread Cert.UpscaleRefIdeal.nD Cert.UpscaleRefIdeal.τ).loc Cert.UpscaleRefIdeal.main_arg7) = m ((c.tc : Thread Cert.UpscaleIdeal.nD Cert.UpscaleIdeal.τ).loc Cert.UpscaleIdeal.main_arg7)
      ∧ m' ((c.tc : Thread Cert.UpscaleRefIdeal.nD Cert.UpscaleRefIdeal.τ).loc Cert.UpscaleRefIdeal.main_arg8) = m ((c.tc : Thread Cert.UpscaleIdeal.nD Cert.UpscaleIdeal.τ).loc Cert.UpscaleIdeal.main_arg8)
      ∧ m' ((c.tc : Thread Cert.UpscaleRefIdeal.nD Cert.UpscaleRefIdeal.τ).loc Cert.UpscaleRefIdeal.main_arg9) = m ((c.tc : Thread Cert.UpscaleIdeal.nD Cert.UpscaleIdeal.τ).loc Cert.UpscaleIdeal.main_arg9)
      ∧ m' ((c.tc : Thread Cert.UpscaleRefIdeal.nD Cert.UpscaleRefIdeal.τ).loc Cert.UpscaleRefIdeal.main_arg10) = m ((c.tc : Thread Cert.UpscaleIdeal.nD Cert.UpscaleIdeal.τ).loc Cert.UpscaleIdeal.main_arg10)) →
    ∃ (v0 : (c : Dev Cert.UpscaleIdeal.nD) → Buf (Elt Ideal) ((c.tc : Thread Cert.UpscaleIdeal.nD Cert.UpscaleIdeal.τ).loc Cert.UpscaleIdeal.main_v41_0)) (v1 : (c : Dev Cert.UpscaleIdeal.nD) → Buf (Elt Ideal) ((c.tc : Thread Cert.UpscaleIdeal.nD Cert.UpscaleIdeal.τ).loc Cert.UpscaleIdeal.main_v41_1)) (v2 : (c : Dev Cert.UpscaleIdeal.nD) → Buf (Elt Ideal) ((c.tc : Thread Cert.UpscaleIdeal.nD Cert.UpscaleIdeal.τ).loc Cert.UpscaleIdeal.main_v41_2)),
      θ_run (Cert.UpscaleIdeal.defs (F := Ideal)) (onTc (τ := Cert.UpscaleIdeal.τ) (Cert.UpscaleIdeal.main (F := Ideal))) ⟨m, fun _ => 0, g⟩ (fun r => ∀ c : Dev Cert.UpscaleIdeal.nD,
          r.2.mem ((c.tc : Thread Cert.UpscaleIdeal.nD Cert.UpscaleIdeal.τ).loc Cert.UpscaleIdeal.main_v41_0) = v0 c
          ∧ r.2.mem ((c.tc : Thread Cert.UpscaleIdeal.nD Cert.UpscaleIdeal.τ).loc Cert.UpscaleIdeal.main_v41_1) = v1 c
          ∧ r.2.mem ((c.tc : Thread Cert.UpscaleIdeal.nD Cert.UpscaleIdeal.τ).loc Cert.UpscaleIdeal.main_v41_2) = v2 c
          ∧ r.2.mem ((c.tc : Thread Cert.UpscaleIdeal.nD Cert.UpscaleIdeal.τ).loc Cert.UpscaleIdeal.main_arg0) = m ((c.tc : Thread Cert.UpscaleIdeal.nD Cert.UpscaleIdeal.τ).loc Cert.UpscaleIdeal.main_arg0)
          ∧ r.2.mem ((c.tc : Thread Cert.UpscaleIdeal.nD Cert.UpscaleIdeal.τ).loc Cert.UpscaleIdeal.main_arg1) = m ((c.tc : Thread Cert.UpscaleIdeal.nD Cert.UpscaleIdeal.τ).loc Cert.UpscaleIdeal.main_arg1)
          ∧ r.2.mem ((c.tc : Thread Cert.UpscaleIdeal.nD Cert.UpscaleIdeal.τ).loc Cert.UpscaleIdeal.main_arg2) = m ((c.tc : Thread Cert.UpscaleIdeal.nD Cert.UpscaleIdeal.τ).loc Cert.UpscaleIdeal.main_arg2)
          ∧ r.2.mem ((c.tc : Thread Cert.UpscaleIdeal.nD Cert.UpscaleIdeal.τ).loc Cert.UpscaleIdeal.main_arg3) = m ((c.tc : Thread Cert.UpscaleIdeal.nD Cert.UpscaleIdeal.τ).loc Cert.UpscaleIdeal.main_arg3)
          ∧ r.2.mem ((c.tc : Thread Cert.UpscaleIdeal.nD Cert.UpscaleIdeal.τ).loc Cert.UpscaleIdeal.main_arg4) = m ((c.tc : Thread Cert.UpscaleIdeal.nD Cert.UpscaleIdeal.τ).loc Cert.UpscaleIdeal.main_arg4)
          ∧ r.2.mem ((c.tc : Thread Cert.UpscaleIdeal.nD Cert.UpscaleIdeal.τ).loc Cert.UpscaleIdeal.main_arg5) = m ((c.tc : Thread Cert.UpscaleIdeal.nD Cert.UpscaleIdeal.τ).loc Cert.UpscaleIdeal.main_arg5)
          ∧ r.2.mem ((c.tc : Thread Cert.UpscaleIdeal.nD Cert.UpscaleIdeal.τ).loc Cert.UpscaleIdeal.main_arg6) = m ((c.tc : Thread Cert.UpscaleIdeal.nD Cert.UpscaleIdeal.τ).loc Cert.UpscaleIdeal.main_arg6)
          ∧ r.2.mem ((c.tc : Thread Cert.UpscaleIdeal.nD Cert.UpscaleIdeal.τ).loc Cert.UpscaleIdeal.main_arg7) = m ((c.tc : Thread Cert.UpscaleIdeal.nD Cert.UpscaleIdeal.τ).loc Cert.UpscaleIdeal.main_arg7)
          ∧ r.2.mem ((c.tc : Thread Cert.UpscaleIdeal.nD Cert.UpscaleIdeal.τ).loc Cert.UpscaleIdeal.main_arg8) = m ((c.tc : Thread Cert.UpscaleIdeal.nD Cert.UpscaleIdeal.τ).loc Cert.UpscaleIdeal.main_arg8)
          ∧ r.2.mem ((c.tc : Thread Cert.UpscaleIdeal.nD Cert.UpscaleIdeal.τ).loc Cert.UpscaleIdeal.main_arg9) = m ((c.tc : Thread Cert.UpscaleIdeal.nD Cert.UpscaleIdeal.τ).loc Cert.UpscaleIdeal.main_arg9)
          ∧ r.2.mem ((c.tc : Thread Cert.UpscaleIdeal.nD Cert.UpscaleIdeal.τ).loc Cert.UpscaleIdeal.main_arg10) = m ((c.tc : Thread Cert.UpscaleIdeal.nD Cert.UpscaleIdeal.τ).loc Cert.UpscaleIdeal.main_arg10))
      ∧ θ_run (Cert.UpscaleRefIdeal.defs (F := Ideal)) (onTc (τ := Cert.UpscaleRefIdeal.τ) (Cert.UpscaleRefIdeal.main (F := Ideal))) ⟨m', fun _ => 0, g'⟩ (fun r => ∀ c : Dev Cert.UpscaleRefIdeal.nD,
          r.2.mem ((c.tc : Thread Cert.UpscaleRefIdeal.nD Cert.UpscaleRefIdeal.τ).loc Cert.UpscaleRefIdeal.main_v93) = v0 c
          ∧ r.2.mem ((c.tc : Thread Cert.UpscaleRefIdeal.nD Cert.UpscaleRefIdeal.τ).loc Cert.UpscaleRefIdeal.main_v94) = v1 c
          ∧ r.2.mem ((c.tc : Thread Cert.UpscaleRefIdeal.nD Cert.UpscaleRefIdeal.τ).loc Cert.UpscaleRefIdeal.main_v95) = v2 c
          ∧ r.2.mem ((c.tc : Thread Cert.UpscaleRefIdeal.nD Cert.UpscaleRefIdeal.τ).loc Cert.UpscaleRefIdeal.main_arg0) = m' ((c.tc : Thread Cert.UpscaleRefIdeal.nD Cert.UpscaleRefIdeal.τ).loc Cert.UpscaleRefIdeal.main_arg0)
          ∧ r.2.mem ((c.tc : Thread Cert.UpscaleRefIdeal.nD Cert.UpscaleRefIdeal.τ).loc Cert.UpscaleRefIdeal.main_arg1) = m' ((c.tc : Thread Cert.UpscaleRefIdeal.nD Cert.UpscaleRefIdeal.τ).loc Cert.UpscaleRefIdeal.main_arg1)
          ∧ r.2.mem ((c.tc : Thread Cert.UpscaleRefIdeal.nD Cert.UpscaleRefIdeal.τ).loc Cert.UpscaleRefIdeal.main_arg2) = m' ((c.tc : Thread Cert.UpscaleRefIdeal.nD Cert.UpscaleRefIdeal.τ).loc Cert.UpscaleRefIdeal.main_arg2)
          ∧ r.2.mem ((c.tc : Thread Cert.UpscaleRefIdeal.nD Cert.UpscaleRefIdeal.τ).loc Cert.UpscaleRefIdeal.main_arg3) = m' ((c.tc : Thread Cert.UpscaleRefIdeal.nD Cert.UpscaleRefIdeal.τ).loc Cert.UpscaleRefIdeal.main_arg3)
          ∧ r.2.mem ((c.tc : Thread Cert.UpscaleRefIdeal.nD Cert.UpscaleRefIdeal.τ).loc Cert.UpscaleRefIdeal.main_arg4) = m' ((c.tc : Thread Cert.UpscaleRefIdeal.nD Cert.UpscaleRefIdeal.τ).loc Cert.UpscaleRefIdeal.main_arg4)
          ∧ r.2.mem ((c.tc : Thread Cert.UpscaleRefIdeal.nD Cert.UpscaleRefIdeal.τ).loc Cert.UpscaleRefIdeal.main_arg5) = m' ((c.tc : Thread Cert.UpscaleRefIdeal.nD Cert.UpscaleRefIdeal.τ).loc Cert.UpscaleRefIdeal.main_arg5)
          ∧ r.2.mem ((c.tc : Thread Cert.UpscaleRefIdeal.nD Cert.UpscaleRefIdeal.τ).loc Cert.UpscaleRefIdeal.main_arg6) = m' ((c.tc : Thread Cert.UpscaleRefIdeal.nD Cert.UpscaleRefIdeal.τ).loc Cert.UpscaleRefIdeal.main_arg6)
          ∧ r.2.mem ((c.tc : Thread Cert.UpscaleRefIdeal.nD Cert.UpscaleRefIdeal.τ).loc Cert.UpscaleRefIdeal.main_arg7) = m' ((c.tc : Thread Cert.UpscaleRefIdeal.nD Cert.UpscaleRefIdeal.τ).loc Cert.UpscaleRefIdeal.main_arg7)
          ∧ r.2.mem ((c.tc : Thread Cert.UpscaleRefIdeal.nD Cert.UpscaleRefIdeal.τ).loc Cert.UpscaleRefIdeal.main_arg8) = m' ((c.tc : Thread Cert.UpscaleRefIdeal.nD Cert.UpscaleRefIdeal.τ).loc Cert.UpscaleRefIdeal.main_arg8)
          ∧ r.2.mem ((c.tc : Thread Cert.UpscaleRefIdeal.nD Cert.UpscaleRefIdeal.τ).loc Cert.UpscaleRefIdeal.main_arg9) = m' ((c.tc : Thread Cert.UpscaleRefIdeal.nD Cert.UpscaleRefIdeal.τ).loc Cert.UpscaleRefIdeal.main_arg9)
          ∧ r.2.mem ((c.tc : Thread Cert.UpscaleRefIdeal.nD Cert.UpscaleRefIdeal.τ).loc Cert.UpscaleRefIdeal.main_arg10) = m' ((c.tc : Thread Cert.UpscaleRefIdeal.nD Cert.UpscaleRefIdeal.τ).loc Cert.UpscaleRefIdeal.main_arg10))

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)
      ∧ m' ((c.tc : Thread Cert.AttnRefIdeal.nD Cert.AttnRefIdeal.τ).loc Cert.AttnRefIdeal.main_arg11) = m ((c.tc : Thread Cert.AttnIdeal.nD Cert.AttnIdeal.τ).loc Cert.AttnIdeal.main_arg11)
      ∧ m' ((c.tc : Thread Cert.AttnRefIdeal.nD Cert.AttnRefIdeal.τ).loc Cert.AttnRefIdeal.main_arg12) = m ((c.tc : Thread Cert.AttnIdeal.nD Cert.AttnIdeal.τ).loc Cert.AttnIdeal.main_arg12)
      ∧ m' ((c.tc : Thread Cert.AttnRefIdeal.nD Cert.AttnRefIdeal.τ).loc Cert.AttnRefIdeal.main_arg13) = m ((c.tc : Thread Cert.AttnIdeal.nD Cert.AttnIdeal.τ).loc Cert.AttnIdeal.main_arg13)
      ∧ m' ((c.tc : Thread Cert.AttnRefIdeal.nD Cert.AttnRefIdeal.τ).loc Cert.AttnRefIdeal.main_arg14) = m ((c.tc : Thread Cert.AttnIdeal.nD Cert.AttnIdeal.τ).loc Cert.AttnIdeal.main_arg14)) →
    ∃ (v0 : (c : Dev Cert.AttnIdeal.nD) → Buf (Elt Ideal) ((c.tc : Thread Cert.AttnIdeal.nD Cert.AttnIdeal.τ).loc Cert.AttnIdeal.main_v26_0)) (v1 : (c : Dev Cert.AttnIdeal.nD) → Buf (Elt Ideal) ((c.tc : Thread Cert.AttnIdeal.nD Cert.AttnIdeal.τ).loc Cert.AttnIdeal.main_v26_1)) (v2 : (c : Dev Cert.AttnIdeal.nD) → Buf (Elt Ideal) ((c.tc : Thread Cert.AttnIdeal.nD Cert.AttnIdeal.τ).loc Cert.AttnIdeal.main_v26_2)) (v3 : (c : Dev Cert.AttnIdeal.nD) → Buf (Elt Ideal) ((c.tc : Thread Cert.AttnIdeal.nD Cert.AttnIdeal.τ).loc Cert.AttnIdeal.main_v26_3)) (v4 : (c : Dev Cert.AttnIdeal.nD) → Buf (Elt Ideal) ((c.tc : Thread Cert.AttnIdeal.nD Cert.AttnIdeal.τ).loc Cert.AttnIdeal.main_v26_4)) (v5 : (c : Dev Cert.AttnIdeal.nD) → Buf (Elt Ideal) ((c.tc : Thread Cert.AttnIdeal.nD Cert.AttnIdeal.τ).loc Cert.AttnIdeal.main_v26_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v26_0) = v0 c
          ∧ r.2.mem ((c.tc : Thread Cert.AttnIdeal.nD Cert.AttnIdeal.τ).loc Cert.AttnIdeal.main_v26_1) = v1 c
          ∧ r.2.mem ((c.tc : Thread Cert.AttnIdeal.nD Cert.AttnIdeal.τ).loc Cert.AttnIdeal.main_v26_2) = v2 c
          ∧ r.2.mem ((c.tc : Thread Cert.AttnIdeal.nD Cert.AttnIdeal.τ).loc Cert.AttnIdeal.main_v26_3) = v3 c
          ∧ r.2.mem ((c.tc : Thread Cert.AttnIdeal.nD Cert.AttnIdeal.τ).loc Cert.AttnIdeal.main_v26_4) = v4 c
          ∧ r.2.mem ((c.tc : Thread Cert.AttnIdeal.nD Cert.AttnIdeal.τ).loc Cert.AttnIdeal.main_v26_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
          ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
          ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12)
          ∧ r.2.mem ((c.tc : Thread Cert.AttnIdeal.nD Cert.AttnIdeal.τ).loc Cert.AttnIdeal.main_arg13) = m ((c.tc : Thread Cert.AttnIdeal.nD Cert.AttnIdeal.τ).loc Cert.AttnIdeal.main_arg13)
          ∧ r.2.mem ((c.tc : Thread Cert.AttnIdeal.nD Cert.AttnIdeal.τ).loc Cert.AttnIdeal.main_arg14) = m ((c.tc : Thread Cert.AttnIdeal.nD Cert.AttnIdeal.τ).loc Cert.AttnIdeal.main_arg14))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v128) = v0 c
          ∧ r.2.mem ((c.tc : Thread Cert.AttnRefIdeal.nD Cert.AttnRefIdeal.τ).loc Cert.AttnRefIdeal.main_v223) = v1 c
          ∧ r.2.mem ((c.tc : Thread Cert.AttnRefIdeal.nD Cert.AttnRefIdeal.τ).loc Cert.AttnRefIdeal.main_v168) = v2 c
          ∧ r.2.mem ((c.tc : Thread Cert.AttnRefIdeal.nD Cert.AttnRefIdeal.τ).loc Cert.AttnRefIdeal.main_v224) = v3 c
          ∧ r.2.mem ((c.tc : Thread Cert.AttnRefIdeal.nD Cert.AttnRefIdeal.τ).loc Cert.AttnRefIdeal.main_v222) = v4 c
          ∧ r.2.mem ((c.tc : Thread Cert.AttnRefIdeal.nD Cert.AttnRefIdeal.τ).loc Cert.AttnRefIdeal.main_v218) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10)
          ∧ r.2.mem ((c.tc : Thread Cert.AttnRefIdeal.nD Cert.AttnRefIdeal.τ).loc Cert.AttnRefIdeal.main_arg11) = m' ((c.tc : Thread Cert.AttnRefIdeal.nD Cert.AttnRefIdeal.τ).loc Cert.AttnRefIdeal.main_arg11)
          ∧ r.2.mem ((c.tc : Thread Cert.AttnRefIdeal.nD Cert.AttnRefIdeal.τ).loc Cert.AttnRefIdeal.main_arg12) = m' ((c.tc : Thread Cert.AttnRefIdeal.nD Cert.AttnRefIdeal.τ).loc Cert.AttnRefIdeal.main_arg12)
          ∧ r.2.mem ((c.tc : Thread Cert.AttnRefIdeal.nD Cert.AttnRefIdeal.τ).loc Cert.AttnRefIdeal.main_arg13) = m' ((c.tc : Thread Cert.AttnRefIdeal.nD Cert.AttnRefIdeal.τ).loc Cert.AttnRefIdeal.main_arg13)
          ∧ r.2.mem ((c.tc : Thread Cert.AttnRefIdeal.nD Cert.AttnRefIdeal.τ).loc Cert.AttnRefIdeal.main_arg14) = m' ((c.tc : Thread Cert.AttnRefIdeal.nD Cert.AttnRefIdeal.τ).loc Cert.AttnRefIdeal.main_arg14))

def Claim : Prop :=
  ∃ (hUpscale : Cert.Upscale.Facts) (hUpscaleIdeal : Cert.UpscaleIdeal.Facts) (hUpscaleRefIdeal : Cert.UpscaleRefIdeal.Facts) (hAttn : Cert.Attn.Facts) (hAttnIdeal : Cert.AttnIdeal.Facts) (hAttnRefIdeal : Cert.AttnRefIdeal.Facts) (hPre_finite_scores : Cert.Pre_finite_scores.Facts),
    quiescent_Upscale (hUpscale := hUpscale)
    ∧ quiescent_UpscaleIdeal (hUpscaleIdeal := hUpscaleIdeal)
    ∧ quiescent_UpscaleRefIdeal (hUpscaleRefIdeal := hUpscaleRefIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ preserves_Upscale_UpscaleIdeal
    ∧ algebraic_UpscaleIdeal_UpscaleRefIdeal (hUpscaleIdeal := hUpscaleIdeal) (hUpscaleRefIdeal := hUpscaleRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
-- ==== Pre_finite_scores.lean ====
abbrev S40 : Shape := ⟨1, ![40]⟩
abbrev S11x40x128 : Shape := ⟨3, ![11, 40, 128]⟩
abbrev S40x128x2688 : Shape := ⟨3, ![40, 128, 2688]⟩
abbrev S40x256x2688 : Shape := ⟨3, ![40, 256, 2688]⟩
abbrev S256x2688 : Shape := ⟨2, ![256, 2688]⟩
abbrev S2x128x256 : Shape := ⟨3, ![2, 128, 256]⟩
abbrev S2x256 : Shape := ⟨2, ![2, 256]⟩
abbrev S2x4x256 : Shape := ⟨3, ![2, 4, 256]⟩
abbrev S3x256x128 : Shape := ⟨3, ![3, 256, 128]⟩
abbrev S3x128 : Shape := ⟨2, ![3, 128]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S11x40x128 : S_.BroadcastsInDim S11x40x128 (![] : Fin 0 → Fin S11x40x128.rank)
  reducesTo_S11x40x128_S_d0_1_2 : S11x40x128.ReducesTo [0, 1, 2] S_
  bitsLt_bf16_f32 : FTy.bits .bf16 < FTy.bits .f32
  bcast_S_S40x128x2688 : S_.BroadcastsInDim S40x128x2688 (![] : Fin 0 → Fin S40x128x2688.rank)
  reducesTo_S40x128x2688_S_d0_1_2 : S40x128x2688.ReducesTo [0, 1, 2] S_

variable [Facts]

def fn_part1 {F : FTy → Type} [FloatOps F] (main_v11 : IVec S_ 1) (main_v15 : IVec S40x128x2688 1) (main_c_5 : IVec S_ 1) : IVec S_ 1 :=
  let main_v16 : IVec S_ 1 := (fun x v => Host.reduce IntOp.andi x v reducesTo_S40x128x2688_S_d0_1_2 h_S_) main_v15 main_c_5
  let main_v17 : IVec S_ 1 := andi main_v11 main_v16
  main_v17

def fn {F : FTy → Type} [FloatOps F] (main_arg0 : IVec S40 32) (main_arg1 : FVec F S11x40x128 .f32) (main_arg2 : FVec F S11x40x128 .f32) (main_arg3 : FVec F S11x40x128 .f32) (main_arg4 : FVec F S40x128x2688 .bf16) (main_arg5 : FVec F S40x256x2688 .f32) (main_arg6 : FVec F S256x2688 .f32) (main_arg7 : IVec S2x128x256 8) (main_arg8 : FVec F S2x256 .f32) (main_arg9 : FVec F S2x256 .f32) (main_arg10 : FVec F S2x4x256 .f32) (main_arg11 : FVec F S2x4x256 .f32) (main_arg12 : IVec S3x256x128 8) (main_arg13 : FVec F S3x128 .f32) (main_arg14 : FVec F S3x128 .f32) : IVec S_ 1 :=
  let main_c : IVec S_ 32 := constantI S_ 32 4294967292#32
  let main_v0 : IVec S40 32 := broadcastInDim S40 ![] bcast_S_S40 main_c
  let main_v1 : IVec S40 1 := cmpi .sge main_arg0 main_v0
  let main_c_0 : IVec S_ 1 := constantI S_ 1 1#1
  let main_v2 : IVec S_ 1 := (fun x v => Host.reduce IntOp.andi x v reducesTo_S40_S_d0 h_S_) main_v1 main_c_0
  let main_c_1 : IVec S_ 32 := constantI S_ 32 268435450#32
  let main_v3 : IVec S40 32 := broadcastInDim S40 ![] bcast_S_S40 main_c_1
  let main_v4 : IVec S40 1 := cmpi .sle main_arg0 main_v3
  let main_c_2 : IVec S_ 1 := constantI S_ 1 1#1
  let main_v5 : IVec S_ 1 := (fun x v => Host.reduce IntOp.andi x v reducesTo_S40_S_d0 h_S_) main_v4 main_c_2
  let main_v6 : IVec S_ 1 := andi main_v2 main_v5
  let main_v7 : FVec F S11x40x128 .f32 := Host.absf main_arg1
  let main_cst : FVec F S_ .f32 := constant S_ .f32 0x7F800000#32
  let main_v8 : FVec F S11x40x128 .f32 := broadcastInDim S11x40x128 ![] bcast_S_S11x40x128 main_cst
  let main_v9 : IVec S11x40x128 1 := cmpf .olt main_v7 main_v8
  let main_c_3 : IVec S_ 1 := constantI S_ 1 1#1
  let main_v10 : IVec S_ 1 := (fun x v => Host.reduce IntOp.andi x v reducesTo_S11x40x128_S_d0_1_2 h_S_) main_v9 main_c_3
  let main_v11 : IVec S_ 1 := andi main_v6 main_v10
  let main_v12 : FVec F S40x128x2688 .f32 := (extf .f32 · bitsLt_bf16_f32) main_arg4
  let main_v13 : FVec F S40x128x2688 .f32 := Host.absf main_v12
  let main_cst_4 : FVec F S_ .f32 := constant S_ .f32 0x7F800000#32
  let main_v14 : FVec F S40x128x2688 .f32 := broadcastInDim S40x128x2688 ![] bcast_S_S40x128x2688 main_cst_4
  let main_v15 : IVec S40x128x2688 1 := cmpf .olt main_v13 main_v14
  let main_c_5 : IVec S_ 1 := constantI S_ 1 1#1
  fn_part1 (F := F) main_v11 main_v15 main_c_5
-- ==== Upscale.lean ====
abbrev S4x40x32 : Shape := ⟨3, ![4, 40, 32]⟩
abbrev S40x256x2688 : Shape := ⟨3, ![40, 256, 2688]⟩
abbrev S40x1x2688 : Shape := ⟨3, ![40, 1, 2688]⟩
abbrev S256x2x2x64 : Shape := ⟨4, ![256, 2, 2, 64]⟩
abbrev S2x2x64 : Shape := ⟨3, ![2, 2, 64]⟩
abbrev S64 : Shape := ⟨1, ![64]⟩
abbrev S64x2x2x32 : Shape := ⟨4, ![64, 2, 2, 32]⟩
abbrev S2x2x32 : Shape := ⟨3, ![2, 2, 32]⟩
abbrev S32 : Shape := ⟨1, ![32]⟩
abbrev S2x2x64x256 : Shape := ⟨4, ![2, 2, 64, 256]⟩
abbrev S256x256 : Shape := ⟨2, ![256, 256]⟩
abbrev S32x2x2x64 : Shape := ⟨4, ![32, 2, 2, 64]⟩
abbrev S32x1x4x1x64 : Shape := ⟨5, ![32, 1, 4, 1, 64]⟩
abbrev S4x4 : Shape := ⟨2, ![4, 4]⟩
abbrev S_ : Shape := ⟨0, ![]⟩
abbrev S1x4x1x4x1 : Shape := ⟨5, ![1, 4, 1, 4, 1]⟩
abbrev S32x4x4x4x64 : Shape := ⟨5, ![32, 4, 4, 4, 64]⟩
abbrev S512x256 : Shape := ⟨2, ![512, 256]⟩
abbrev S256 : Shape := ⟨1, ![256]⟩
abbrev S1x64 : Shape := ⟨2, ![1, 64]⟩
abbrev S4x64 : Shape := ⟨2, ![4, 64]⟩
abbrev S1x256 : Shape := ⟨2, ![1, 256]⟩
abbrev S4x256 : Shape := ⟨2, ![4, 256]⟩
abbrev S32x2x2 : Shape := ⟨3, ![32, 2, 2]⟩
abbrev S32x1x4 : Shape := ⟨3, ![32, 1, 4]⟩
abbrev S32x4x4 : Shape := ⟨3, ![32, 4, 4]⟩
abbrev S512 : Shape := ⟨1, ![512]⟩
abbrev S32x16 : Shape := ⟨2, ![32, 16]⟩
abbrev S1x512 : Shape := ⟨2, ![1, 512]⟩
abbrev S2x512 : Shape := ⟨2, ![2, 512]⟩
abbrev S40x4x32 : Shape := ⟨3, ![40, 4, 32]⟩
abbrev S40x1x128 : Shape := ⟨3, ![40, 1, 128]⟩
abbrev S40x4x2688 : Shape := ⟨3, ![40, 4, 2688]⟩
abbrev S40x4x16x2688 : Shape := ⟨4, ![40, 4, 16, 2688]⟩
abbrev S1x1x128 : Shape := ⟨3, ![1, 1, 128]⟩
abbrev S1x256x2688 : Shape := ⟨3, ![1, 256, 2688]⟩
abbrev S1x1x2688 : Shape := ⟨3, ![1, 1, 2688]⟩
abbrev S1x4x2688 : Shape := ⟨3, ![1, 4, 2688]⟩
abbrev S1x4x16x2688 : Shape := ⟨4, ![1, 4, 16, 2688]⟩
abbrev S4x256x128 : Shape := ⟨3, ![4, 256, 128]⟩
abbrev S2x512x128 : Shape := ⟨3, ![2, 512, 128]⟩
abbrev S128x128 : Shape := ⟨2, ![128, 128]⟩
abbrev S128x256 : Shape := ⟨2, ![128, 256]⟩
abbrev S256x128 : Shape := ⟨2, ![256, 128]⟩
abbrev S1x256x128 : Shape := ⟨3, ![1, 256, 128]⟩
abbrev S128x512 : Shape := ⟨2, ![128, 512]⟩
abbrev S512x128 : Shape := ⟨2, ![512, 128]⟩
abbrev S1x512x128 : Shape := ⟨3, ![1, 512, 128]⟩
abbrev S1x128 : Shape := ⟨2, ![1, 128]⟩
abbrev S1x256x384 : Shape := ⟨3, ![1, 256, 384]⟩
abbrev S256x384 : Shape := ⟨2, ![256, 384]⟩
abbrev S1x1x384 : Shape := ⟨3, ![1, 1, 384]⟩
abbrev S1x384 : Shape := ⟨2, ![1, 384]⟩
abbrev S64x384 : Shape := ⟨2, ![64, 384]⟩
abbrev S8x384 : Shape := ⟨2, ![8, 384]⟩
abbrev S384 : Shape := ⟨1, ![384]⟩
abbrev S4x384 : Shape := ⟨2, ![4, 384]⟩
abbrev S1x4x384 : Shape := ⟨3, ![1, 4, 384]⟩
abbrev S16x384 : Shape := ⟨2, ![16, 384]⟩
abbrev S512x384 : Shape := ⟨2, ![512, 384]⟩
abbrev S1x1 : Shape := ⟨2, ![1, 1]⟩
abbrev S1x1x16x384 : Shape := ⟨4, ![1, 1, 16, 384]⟩

abbrev nBuf : Space → Nat
  | .hbm => 61
  | .vmem => 21
  | .smem => 0
  | _ => 0

abbrev bufTy : (tb : Table) → Fin (tcTables nBuf tb) → BufTy
  | .hbm, ⟨0, _⟩ => ⟨S4x40x32, .f32⟩
  | .hbm, ⟨1, _⟩ => ⟨S40x256x2688, .bf16⟩
  | .hbm, ⟨2, _⟩ => ⟨S40x1x2688, .f32⟩
  | .hbm, ⟨3, _⟩ => ⟨S256x2x2x64, .i8⟩
  | .hbm, ⟨4, _⟩ => ⟨S2x2x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x2x2x32, .i8⟩
  | .hbm, ⟨9, _⟩ => ⟨S2x2x32, .f32⟩
  | .hbm, ⟨10, _⟩ => ⟨S32, .f32⟩
  | .hbm, ⟨11, _⟩ => ⟨S2x2x64x256, .i8⟩
  | .hbm, ⟨12, _⟩ => ⟨S256x256, .i8⟩
  | .hbm, ⟨13, _⟩ => ⟨S32x2x2x64, .i8⟩
  | .hbm, ⟨14, _⟩ => ⟨S32x1x4x1x64, .i8⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .i8⟩
  | .hbm, ⟨22, _⟩ => ⟨S1x4x1x4x1, .i8⟩
  | .hbm, ⟨23, _⟩ => ⟨S_, .i8⟩
  | .hbm, ⟨24, _⟩ => ⟨S1x4x1x4x1, .i8⟩
  | .hbm, ⟨25, _⟩ => ⟨S1x4x1x4x1, .i1⟩
  | .hbm, ⟨26, _⟩ => ⟨S_, .i8⟩
  | .hbm, ⟨27, _⟩ => ⟨S32x4x4x4x64, .i1⟩
  | .hbm, ⟨28, _⟩ => ⟨S32x4x4x4x64, .i8⟩
  | .hbm, ⟨29, _⟩ => ⟨S32x4x4x4x64, .i8⟩
  | .hbm, ⟨30, _⟩ => ⟨S32x4x4x4x64, .i8⟩
  | .hbm, ⟨31, _⟩ => ⟨S512x256, .i8⟩
  | .hbm, ⟨32, _⟩ => ⟨S256, .f32⟩
  | .hbm, ⟨33, _⟩ => ⟨S1x64, .f32⟩
  | .hbm, ⟨34, _⟩ => ⟨S4x64, .f32⟩
  | .hbm, ⟨35, _⟩ => ⟨S256, .f32⟩
  | .hbm, ⟨36, _⟩ => ⟨S1x64, .f32⟩
  | .hbm, ⟨37, _⟩ => ⟨S4x64, .f32⟩
  | .hbm, ⟨38, _⟩ => ⟨S256, .f32⟩
  | .hbm, ⟨39, _⟩ => ⟨S1x64, .f32⟩
  | .hbm, ⟨40, _⟩ => ⟨S4x64, .f32⟩
  | .hbm, ⟨41, _⟩ => ⟨S256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S4x256, .f32⟩
  | .hbm, ⟨47, _⟩ => ⟨S32x2x2, .f32⟩
  | .hbm, ⟨48, _⟩ => ⟨S32x1x4, .f32⟩
  | .hbm, ⟨49, _⟩ => ⟨S32x4x4, .f32⟩
  | .hbm, ⟨50, _⟩ => ⟨S512, .f32⟩
  | .hbm, ⟨51, _⟩ => ⟨S32x16, .f32⟩
  | .hbm, ⟨52, _⟩ => ⟨S512, .f32⟩
  | .hbm, ⟨53, _⟩ => ⟨S1x512, .f32⟩
  | .hbm, ⟨54, _⟩ => ⟨S1x512, .f32⟩
  | .hbm, ⟨55, _⟩ => ⟨S2x512, .f32⟩
  | .hbm, ⟨56, _⟩ => ⟨S40x4x32, .f32⟩
  | .hbm, ⟨57, _⟩ => ⟨S40x1x128, .f32⟩
  | .hbm, ⟨58, _⟩ => ⟨S40x256x2688, .i8⟩
  | .hbm, ⟨59, _⟩ => ⟨S40x4x2688, .f32⟩
  | .hbm, ⟨60, _⟩ => ⟨S40x4x16x2688, .bf16⟩
  | .local _ .vmem, ⟨0, _⟩ => ⟨S1x1x128, .f32⟩
  | .local _ .vmem, ⟨1, _⟩ => ⟨S1x1x128, .f32⟩
  | .local _ .vmem, ⟨2, _⟩ => ⟨S1x256x2688, .bf16⟩
  | .local _ .vmem, ⟨3, _⟩ => ⟨S1x256x2688, .bf16⟩
  | .local _ .vmem, ⟨4, _⟩ => ⟨S1x1x2688, .f32⟩
  | .local _ .vmem, ⟨5, _⟩ => ⟨S1x1x2688, .f32⟩
  | .local _ .vmem, ⟨6, _⟩ => ⟨S256x256, .i8⟩
  | .local _ .vmem, ⟨7, _⟩ => ⟨S512x256, .i8⟩
  | .local _ .vmem, ⟨8, _⟩ => ⟨S4x256, .f32⟩
  | .local _ .vmem, ⟨9, _⟩ => ⟨S2x512, .f32⟩
  | .local _ .vmem, ⟨10, _⟩ => ⟨S1x256x2688, .i8⟩
  | .local _ .vmem, ⟨11, _⟩ => ⟨S1x256x2688, .i8⟩
  | .local _ .vmem, ⟨12, _⟩ => ⟨S1x4x2688, .f32⟩
  | .local _ .vmem, ⟨13, _⟩ => ⟨S1x4x2688, .f32⟩
  | .local _ .vmem, ⟨14, _⟩ => ⟨S1x4x16x2688, .bf16⟩
  | .local _ .vmem, ⟨15, _⟩ => ⟨S1x4x16x2688, .bf16⟩
  | .local _ .vmem, ⟨16, _⟩ => ⟨S256x256, .bf16⟩
  | .local _ .vmem, ⟨17, _⟩ => ⟨S512x256, .bf16⟩
  | .local _ .vmem, ⟨18, _⟩ => ⟨S4x256x128, .f32⟩
  | .local _ .vmem, ⟨19, _⟩ => ⟨S2x512x128, .f32⟩
  | .local _ .vmem, ⟨20, _⟩ => ⟨S128x128, .f32⟩
  | _, _ => ⟨S4x40x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_5 : BitVec 32 := 0#32
  let c7_i32 : BitVec 32 := 7#32
  let v11 : BitVec 32 := Scalar.addi c0_i32_5 c7_i32
  let c1_i32 : BitVec 32 := 1#32
  ⟨c0_i32_5, v11, c1_i32⟩
def k0_mult1 (k0_t1 : Fin k0_t1_loop.trips) : BitVec 32 :=
  let c0_i32_5 : BitVec 32 := 0#32
  let c1_i32 : BitVec 32 := 1#32
  let arg16 : BitVec 32 := Scf.iv c0_i32_5 c1_i32 k0_t1
  let c384_i32 : BitVec 32 := 384#32
  let v12 : BitVec 32 := Scalar.muli arg16 c384_i32
  v12
def k0_off1 (k0_t1 : Fin k0_t1_loop.trips) : Fin 3 → Nat :=
  let c0_9 : Index := 0#32
  let c0_10 : Index := 0#32
  let c0_i32_5 : BitVec 32 := 0#32
  let c1_i32 : BitVec 32 := 1#32
  let arg16 : BitVec 32 := Scf.iv c0_i32_5 c1_i32 k0_t1
  let c384_i32 : BitVec 32 := 384#32
  let v12 : BitVec 32 := Scalar.muli arg16 c384_i32
  let v13 : BitVec 32 := v12
  let v15 : Index := Scalar.indexCast v13
  ![0, 0, v15.toNat]
def k0_off2 (k0_t1 : Fin k0_t1_loop.trips) : Fin 3 → Nat :=
  let c0_11 : Index := 0#32
  let c0_12 : Index := 0#32
  let c0_i32_5 : BitVec 32 := 0#32
  let c1_i32 : BitVec 32 := 1#32
  let arg16 : BitVec 32 := Scf.iv c0_i32_5 c1_i32 k0_t1
  let c384_i32 : BitVec 32 := 384#32
  let v12 : BitVec 32 := Scalar.muli arg16 c384_i32
  let v13 : BitVec 32 := v12
  let v19 : Index := Scalar.indexCast v13
  ![0, 0, v19.toNat]
def k0_off3 (k0_t1 : Fin k0_t1_loop.trips) : Fin 3 → Nat :=
  let c0_106 : Index := 0#32
  let c0_107 : Index := 0#32
  let c0_i32_5 : BitVec 32 := 0#32
  let c1_i32 : BitVec 32 := 1#32
  let arg16 : BitVec 32 := Scf.iv c0_i32_5 c1_i32 k0_t1
  let c384_i32 : BitVec 32 := 384#32
  let v12 : BitVec 32 := Scalar.muli arg16 c384_i32
  let v13 : BitVec 32 := v12
  let v440 : Index := Scalar.indexCast v13
  ![0, 0, v440.toNat]
def k0_off4 (k0_t1 : Fin k0_t1_loop.trips) : Fin 4 → Nat :=
  let c0_531 : Index := 0#32
  let c0_532 : Index := 0#32
  let c0_533 : Index := 0#32
  let c0_i32_5 : BitVec 32 := 0#32
  let c1_i32 : BitVec 32 := 1#32
  let arg16 : BitVec 32 := Scf.iv c0_i32_5 c1_i32 k0_t1
  let c384_i32 : BitVec 32 := 384#32
  let v12 : BitVec 32 := Scalar.muli arg16 c384_i32
  let v13 : BitVec 32 := v12
  let v1733 : Index := Scalar.indexCast v13
  ![0, 0, 0, v1733.toNat]
def k0_off5 (k0_t1 : Fin k0_t1_loop.trips) : Fin 4 → Nat :=
  let c0_534 : Index := 0#32
  let c1_535 : Index := 1#32
  let c0_536 : Index := 0#32
  let c0_i32_5 : BitVec 32 := 0#32
  let c1_i32 : BitVec 32 := 1#32
  let arg16 : BitVec 32 := Scf.iv c0_i32_5 c1_i32 k0_t1
  let c384_i32 : BitVec 32 := 384#32
  let v12 : BitVec 32 := Scalar.muli arg16 c384_i32
  let v13 : BitVec 32 := v12
  let v1738 : Index := Scalar.indexCast v13
  ![0, 1, 0, v1738.toNat]
def k0_off6 (k0_t1 : Fin k0_t1_loop.trips) : Fin 4 → Nat :=
  let c0_537 : Index := 0#32
  let c2_538 : Index := 2#32
  let c0_539 : Index := 0#32
  let c0_i32_5 : BitVec 32 := 0#32
  let c1_i32 : BitVec 32 := 1#32
  let arg16 : BitVec 32 := Scf.iv c0_i32_5 c1_i32 k0_t1
  let c384_i32 : BitVec 32 := 384#32
  let v12 : BitVec 32 := Scalar.muli arg16 c384_i32
  let v13 : BitVec 32 := v12
  let v1743 : Index := Scalar.indexCast v13
  ![0, 2, 0, v1743.toNat]
def k0_off7 (k0_t1 : Fin k0_t1_loop.trips) : Fin 4 → Nat :=
  let c0_540 : Index := 0#32
  let c3_541 : Index := 3#32
  let c0_542 : Index := 0#32
  let c0_i32_5 : BitVec 32 := 0#32
  let c1_i32 : BitVec 32 := 1#32
  let arg16 : BitVec 32 := Scf.iv c0_i32_5 c1_i32 k0_t1
  let c384_i32 : BitVec 32 := 384#32
  let v12 : BitVec 32 := Scalar.muli arg16 c384_i32
  let v13 : BitVec 32 := v12
  let v1748 : Index := Scalar.indexCast v13
  ![0, 3, 0, v1748.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x2688 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x2688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x16x2688 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== UpscaleRefIdeal.lean ====
abbrev S4x40x32 : Shape := ⟨3, ![4, 40, 32]⟩
abbrev S40x256x2688 : Shape := ⟨3, ![40, 256, 2688]⟩
abbrev S40x1x2688 : Shape := ⟨3, ![40, 1, 2688]⟩
abbrev S256x2x2x64 : Shape := ⟨4, ![256, 2, 2, 64]⟩
abbrev S2x2x64 : Shape := ⟨3, ![2, 2, 64]⟩
abbrev S64 : Shape := ⟨1, ![64]⟩
abbrev S64x2x2x32 : Shape := ⟨4, ![64, 2, 2, 32]⟩
abbrev S2x2x32 : Shape := ⟨3, ![2, 2, 32]⟩
abbrev S32 : Shape := ⟨1, ![32]⟩
abbrev S40x2688x256 : Shape := ⟨3, ![40, 2688, 256]⟩
abbrev S40x2688 : Shape := ⟨2, ![40, 2688]⟩
abbrev S256x4x64 : Shape := ⟨3, ![256, 4, 64]⟩
abbrev S40x2688x4x64 : Shape := ⟨4, ![40, 2688, 4, 64]⟩
abbrev S40x2688x1x1 : Shape := ⟨4, ![40, 2688, 1, 1]⟩
abbrev S4x64 : Shape := ⟨2, ![4, 64]⟩
abbrev S1x1x4x64 : Shape := ⟨4, ![1, 1, 4, 64]⟩
abbrev S1x1x1x64 : Shape := ⟨4, ![1, 1, 1, 64]⟩
abbrev S_ : Shape := ⟨0, ![]⟩
abbrev S40x2688x4 : Shape := ⟨3, ![40, 2688, 4]⟩
abbrev S40x2688x4x1 : Shape := ⟨4, ![40, 2688, 4, 1]⟩
abbrev S64x4x32 : Shape := ⟨3, ![64, 4, 32]⟩
abbrev S40x2688x4x4x32 : Shape := ⟨5, ![40, 2688, 4, 4, 32]⟩
abbrev S40x2688x4x1x1 : Shape := ⟨5, ![40, 2688, 4, 1, 1]⟩
abbrev S4x32 : Shape := ⟨2, ![4, 32]⟩
abbrev S1x1x1x4x32 : Shape := ⟨5, ![1, 1, 1, 4, 32]⟩
abbrev S1x1x1x1x32 : Shape := ⟨5, ![1, 1, 1, 1, 32]⟩
abbrev S40x2688x4x4x4 : Shape := ⟨5, ![40, 2688, 4, 4, 4]⟩
abbrev S40x4x4x4x2688 : Shape := ⟨5, ![40, 4, 4, 4, 2688]⟩
abbrev S40x4x64x2688 : Shape := ⟨4, ![40, 4, 64, 2688]⟩
abbrev S40x4x2688 : Shape := ⟨3, ![40, 4, 2688]⟩
abbrev S40x4x16x2688 : Shape := ⟨4, ![40, 4, 16, 2688]⟩

abbrev nBuf : Space → Nat
  | .hbm => 122
  | .vmem => 0
  | .smem => 0
  | _ => 0

abbrev bufTy : (tb : Table) → Fin (tcTables nBuf tb) → BufTy
  | .hbm, ⟨0, _⟩ => ⟨S4x40x32, .f32⟩
  | .hbm, ⟨1, _⟩ => ⟨S40x256x2688, .bf16⟩
  | .hbm, ⟨2, _⟩ => ⟨S40x1x2688, .f32⟩
  | .hbm, ⟨3, _⟩ => ⟨S256x2x2x64, .i8⟩
  | .hbm, ⟨4, _⟩ => ⟨S2x2x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x2x2x32, .i8⟩
  | .hbm, ⟨9, _⟩ => ⟨S2x2x32, .f32⟩
  | .hbm, ⟨10, _⟩ => ⟨S32, .f32⟩
  | .hbm, ⟨11, _⟩ => ⟨S40x2688x256, .bf16⟩
  | .hbm, ⟨12, _⟩ => ⟨S40x2688, .f32⟩
  | .hbm, ⟨13, _⟩ => ⟨S256x2x2x64, .i32⟩
  | .hbm, ⟨14, _⟩ => ⟨S256x2x2x64, .f32⟩
  | .hbm, ⟨15, _⟩ => ⟨S256x2x2x64, .bf16⟩
  | .hbm, ⟨16, _⟩ => ⟨S256x4x64, .bf16⟩
  | .hbm, ⟨17, _⟩ => ⟨S40x2688x4x64, .f32⟩
  | .hbm, ⟨18, _⟩ => ⟨S40x2688x1x1, .f32⟩
  | .hbm, ⟨19, _⟩ => ⟨S40x2688x4x64, .f32⟩
  | .hbm, ⟨20, _⟩ => ⟨S40x2688x4x64, .f32⟩
  | .hbm, ⟨21, _⟩ => ⟨S4x64, .f32⟩
  | .hbm, ⟨22, _⟩ => ⟨S1x1x4x64, .f32⟩
  | .hbm, ⟨23, _⟩ => ⟨S40x2688x4x64, .f32⟩
  | .hbm, ⟨24, _⟩ => ⟨S40x2688x4x64, .f32⟩
  | .hbm, ⟨25, _⟩ => ⟨S1x1x1x64, .f32⟩
  | .hbm, ⟨26, _⟩ => ⟨S40x2688x4x64, .f32⟩
  | .hbm, ⟨27, _⟩ => ⟨S40x2688x4x64, .f32⟩
  | .hbm, ⟨28, _⟩ => ⟨S_, .f32⟩
  | .hbm, ⟨29, _⟩ => ⟨S40x2688x4, .f32⟩
  | .hbm, ⟨30, _⟩ => ⟨S40x2688x4x1, .f32⟩
  | .hbm, ⟨31, _⟩ => ⟨S_, .f32⟩
  | .hbm, ⟨32, _⟩ => ⟨S40x2688x4x1, .f32⟩
  | .hbm, ⟨33, _⟩ => ⟨S40x2688x4x1, .f32⟩
  | .hbm, ⟨34, _⟩ => ⟨S40x2688x4x64, .f32⟩
  | .hbm, ⟨35, _⟩ => ⟨S40x2688x4x64, .f32⟩
  | .hbm, ⟨36, _⟩ => ⟨S40x2688x4x64, .f32⟩
  | .hbm, ⟨37, _⟩ => ⟨S_, .f32⟩
  | .hbm, ⟨38, _⟩ => ⟨S40x2688x4, .f32⟩
  | .hbm, ⟨39, _⟩ => ⟨S40x2688x4x1, .f32⟩
  | .hbm, ⟨40, _⟩ => ⟨S_, .f32⟩
  | .hbm, ⟨41, _⟩ => ⟨S40x2688x4x1, .f32⟩
  | .hbm, ⟨42, _⟩ => ⟨S40x2688x4x1, .f32⟩
  | .hbm, ⟨43, _⟩ => ⟨S_, .f32⟩
  | .hbm, ⟨44, _⟩ => ⟨S40x2688x4x1, .f32⟩
  | .hbm, ⟨45, _⟩ => ⟨S40x2688x4x1, .f32⟩
  | .hbm, ⟨46, _⟩ => ⟨S40x2688x4x1, .f32⟩
  | .hbm, ⟨47, _⟩ => ⟨S40x2688x4x64, .f32⟩
  | .hbm, ⟨48, _⟩ => ⟨S40x2688x4x64, .f32⟩
  | .hbm, ⟨49, _⟩ => ⟨S1x1x1x64, .f32⟩
  | .hbm, ⟨50, _⟩ => ⟨S40x2688x4x64, .f32⟩
  | .hbm, ⟨51, _⟩ => ⟨S40x2688x4x64, .f32⟩
  | .hbm, ⟨52, _⟩ => ⟨S1x1x1x64, .f32⟩
  | .hbm, ⟨53, _⟩ => ⟨S40x2688x4x64, .f32⟩
  | .hbm, ⟨54, _⟩ => ⟨S40x2688x4x64, .f32⟩
  | .hbm, ⟨55, _⟩ => ⟨S_, .f32⟩
  | .hbm, ⟨56, _⟩ => ⟨S40x2688x4x64, .f32⟩
  | .hbm, ⟨57, _⟩ => ⟨S40x2688x4x64, .f32⟩
  | .hbm, ⟨58, _⟩ => ⟨S40x2688x4x64, .f32⟩
  | .hbm, ⟨59, _⟩ => ⟨S_, .f32⟩
  | .hbm, ⟨60, _⟩ => ⟨S40x2688x4x64, .f32⟩
  | .hbm, ⟨61, _⟩ => ⟨S40x2688x4x64, .f32⟩
  | .hbm, ⟨62, _⟩ => ⟨S40x2688x4x64, .f32⟩
  | .hbm, ⟨63, _⟩ => ⟨S40x2688x4x64, .f32⟩
  | .hbm, ⟨64, _⟩ => ⟨S40x2688x4x64, .f32⟩
  | .hbm, ⟨65, _⟩ => ⟨S_, .f32⟩
  | .hbm, ⟨66, _⟩ => ⟨S40x2688x4, .f32⟩
  | .hbm, ⟨67, _⟩ => ⟨S_, .f32⟩
  | .hbm, ⟨68, _⟩ => ⟨S40x2688x4, .f32⟩
  | .hbm, ⟨69, _⟩ => ⟨S40x2688x4, .i1⟩
  | .hbm, ⟨70, _⟩ => ⟨S_, .f32⟩
  | .hbm, ⟨71, _⟩ => ⟨S40x2688x4, .f32⟩
  | .hbm, ⟨72, _⟩ => ⟨S40x2688x4, .f32⟩
  | .hbm, ⟨73, _⟩ => ⟨S_, .f32⟩
  | .hbm, ⟨74, _⟩ => ⟨S40x2688x4, .f32⟩
  | .hbm, ⟨75, _⟩ => ⟨S40x2688x4, .f32⟩
  | .hbm, ⟨76, _⟩ => ⟨S40x2688x4x1, .f32⟩
  | .hbm, ⟨77, _⟩ => ⟨S40x2688x4x64, .f32⟩
  | .hbm, ⟨78, _⟩ => ⟨S40x2688x4x64, .f32⟩
  | .hbm, ⟨79, _⟩ => ⟨S40x2688x4x64, .f32⟩
  | .hbm, ⟨80, _⟩ => ⟨S_, .f32⟩
  | .hbm, ⟨81, _⟩ => ⟨S40x2688x4x64, .f32⟩
  | .hbm, ⟨82, _⟩ => ⟨S40x2688x4x64, .f32⟩
  | .hbm, ⟨83, _⟩ => ⟨S_, .f32⟩
  | .hbm, ⟨84, _⟩ => ⟨S40x2688x4x64, .f32⟩
  | .hbm, ⟨85, _⟩ => ⟨S40x2688x4x64, .f32⟩
  | .hbm, ⟨86, _⟩ => ⟨S40x2688x4x64, .i32⟩
  | .hbm, ⟨87, _⟩ => ⟨S40x2688x4x64, .i8⟩
  | .hbm, ⟨88, _⟩ => ⟨S40x2688x4x64, .i32⟩
  | .hbm, ⟨89, _⟩ => ⟨S40x2688x4x64, .f32⟩
  | .hbm, ⟨90, _⟩ => ⟨S40x2688x4x64, .bf16⟩
  | .hbm, ⟨91, _⟩ => ⟨S64x2x2x32, .i32⟩
  | .hbm, ⟨92, _⟩ => ⟨S64x2x2x32, .f32⟩
  | .hbm, ⟨93, _⟩ => ⟨S64x2x2x32, .bf16⟩
  | .hbm, ⟨94, _⟩ => ⟨S64x4x32, .bf16⟩
  | .hbm, ⟨95, _⟩ => ⟨S40x2688x4x4x32, .f32⟩
  | .hbm, ⟨96, _⟩ => ⟨S40x2688x4x1x1, .f32⟩
  | .hbm, ⟨97, _⟩ => ⟨S40x2688x4x4x32, .f32⟩
  | .hbm, ⟨98, _⟩ => ⟨S40x2688x4x4x32, .f32⟩
  | .hbm, ⟨99, _⟩ => ⟨S4x32, .f32⟩
  | .hbm, ⟨100, _⟩ => ⟨S1x1x1x4x32, .f32⟩
  | .hbm, ⟨101, _⟩ => ⟨S40x2688x4x4x32, .f32⟩
  | .hbm, ⟨102, _⟩ => ⟨S40x2688x4x4x32, .f32⟩
  | .hbm, ⟨103, _⟩ => ⟨S1x1x1x1x32, .f32⟩
  | .hbm, ⟨104, _⟩ => ⟨S40x2688x4x4x32, .f32⟩
  | .hbm, ⟨105, _⟩ => ⟨S40x2688x4x4x32, .f32⟩
  | .hbm, ⟨106, _⟩ => ⟨S_, .f32⟩
  | .hbm, ⟨107, _⟩ => ⟨S40x2688x4x4x32, .f32⟩
  | .hbm, ⟨108, _⟩ => ⟨S40x2688x4x4x32, .f32⟩
  | .hbm, ⟨109, _⟩ => ⟨S40x2688x4x4x32, .f32⟩
  | .hbm, ⟨110, _⟩ => ⟨S_, .f32⟩
  | .hbm, ⟨111, _⟩ => ⟨S40x2688x4x4x32, .f32⟩
  | .hbm, ⟨112, _⟩ => ⟨S40x2688x4x4x32, .f32⟩
  | .hbm, ⟨113, _⟩ => ⟨S40x2688x4x4x32, .f32⟩
  | .hbm, ⟨114, _⟩ => ⟨S40x2688x4x4x32, .f32⟩
  | .hbm, ⟨115, _⟩ => ⟨S40x2688x4x4x4, .f32⟩
  | .hbm, ⟨116, _⟩ => ⟨S40x4x4x4x2688, .f32⟩
  | .hbm, ⟨117, _⟩ => ⟨S40x4x4x4x2688, .bf16⟩
  | .hbm, ⟨118, _⟩ => ⟨S40x4x64x2688, .i8⟩
  | .hbm, ⟨119, _⟩ => ⟨S40x256x2688, .i8⟩
  | .hbm, ⟨120, _⟩ => ⟨S40x4x2688, .f32⟩
  | .hbm, ⟨121, _⟩ => ⟨S40x4x16x2688, .bf16⟩
  | _, _ => ⟨S4x40x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_12 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩

abbrev nD : Nat := 1
abbrev τ : Topo := Topo.v7x

variable {F : FTy → Type} [FloatOps F]
-- ==== Attn.lean ====
abbrev S40 : Shape := ⟨1, ![40]⟩
abbrev S11x40x128 : Shape := ⟨3, ![11, 40, 128]⟩
abbrev S40x128x2688 : Shape := ⟨3, ![40, 128, 2688]⟩
abbrev S40x256x2688 : Shape := ⟨3, ![40, 256, 2688]⟩
abbrev S256x2688 : Shape := ⟨2, ![256, 2688]⟩
abbrev S2x128x256 : Shape := ⟨3, ![2, 128, 256]⟩
abbrev S2x256 : Shape := ⟨2, ![2, 256]⟩
abbrev S2x4x256 : Shape := ⟨3, ![2, 4, 256]⟩
abbrev S3x256x128 : Shape := ⟨3, ![3, 256, 128]⟩
abbrev S3x128 : Shape := ⟨2, ![3, 128]⟩
abbrev S1x256 : Shape := ⟨2, ![1, 256]⟩
abbrev S256 : Shape := ⟨1, ![256]⟩
abbrev S1x1x256 : Shape := ⟨3, ![1, 1, 256]⟩
abbrev S4x256 : Shape := ⟨2, ![4, 256]⟩
abbrev S1x128 : Shape := ⟨2, ![1, 128]⟩
abbrev S128 : Shape := ⟨1, ![128]⟩
abbrev S4x128 : Shape := ⟨2, ![4, 128]⟩
abbrev S40x2688x256 : Shape := ⟨3, ![40, 2688, 256]⟩
abbrev S40x1x2688 : Shape := ⟨3, ![40, 1, 2688]⟩
abbrev S40x11x128 : Shape := ⟨3, ![40, 11, 128]⟩
abbrev S1x128x2688 : Shape := ⟨3, ![1, 128, 2688]⟩
abbrev S1x256x2688 : Shape := ⟨3, ![1, 256, 2688]⟩
abbrev S1x128x256 : Shape := ⟨3, ![1, 128, 256]⟩
abbrev S1x256x128 : Shape := ⟨3, ![1, 256, 128]⟩
abbrev S1x2688x256 : Shape := ⟨3, ![1, 2688, 256]⟩
abbrev S1x1x2688 : Shape := ⟨3, ![1, 1, 2688]⟩
abbrev S1x11x128 : Shape := ⟨3, ![1, 11, 128]⟩
abbrev S256x128 : Shape := ⟨2, ![256, 128]⟩
abbrev S128x256 : Shape := ⟨2, ![128, 256]⟩
abbrev S4x256x128 : Shape := ⟨3, ![4, 256, 128]⟩
abbrev S4x128x128 : Shape := ⟨3, ![4, 128, 128]⟩
abbrev S88x2688 : Shape := ⟨2, ![88, 2688]⟩
abbrev S88x128 : Shape := ⟨2, ![88, 128]⟩
abbrev S128x2688 : Shape := ⟨2, ![128, 2688]⟩
abbrev S128x128 : Shape := ⟨2, ![128, 128]⟩
abbrev S1x128x128 : Shape := ⟨3, ![1, 128, 128]⟩
abbrev S8x128 : Shape := ⟨2, ![8, 128]⟩
abbrev S11x1x128 : Shape := ⟨3, ![11, 1, 128]⟩
abbrev S11x8x128 : Shape := ⟨3, ![11, 8, 128]⟩
abbrev S1x8x128 : Shape := ⟨3, ![1, 8, 128]⟩
abbrev S128x88 : Shape := ⟨2, ![128, 88]⟩
abbrev S1 : Shape := ⟨1, ![1]⟩
abbrev S1x128x384 : Shape := ⟨3, ![1, 128, 384]⟩
abbrev S128x384 : Shape := ⟨2, ![128, 384]⟩
abbrev S1x256x384 : Shape := ⟨3, ![1, 256, 384]⟩
abbrev S256x384 : Shape := ⟨2, ![256, 384]⟩
abbrev S88x384 : Shape := ⟨2, ![88, 384]⟩
abbrev S8x384 : Shape := ⟨2, ![8, 384]⟩
abbrev S16x384 : Shape := ⟨2, ![16, 384]⟩
abbrev S1x384 : Shape := ⟨2, ![1, 384]⟩
abbrev S384 : Shape := ⟨1, ![384]⟩
abbrev S384x256 : Shape := ⟨2, ![384, 256]⟩
abbrev S1x384x256 : Shape := ⟨3, ![1, 384, 256]⟩
abbrev S1x1x384 : Shape := ⟨3, ![1, 1, 384]⟩
abbrev S88 : Shape := ⟨1, ![88]⟩
abbrev S88x1 : Shape := ⟨2, ![88, 1]⟩
abbrev S11x128 : Shape := ⟨2, ![11, 128]⟩

abbrev nBuf : Space → Nat
  | .hbm => 47
  | .vmem => 33
  | .smem => 1
  | _ => 0

abbrev bufTy : (tb : Table) → Fin (tcTables nBuf tb) → BufTy
  | .hbm, ⟨0, _⟩ => ⟨S40, .i32⟩
  | .hbm, ⟨1, _⟩ => ⟨S11x40x128, .f32⟩
  | .hbm, ⟨2, _⟩ => ⟨S11x40x128, .f32⟩
  | .hbm, ⟨3, _⟩ => ⟨S11x40x128, .f32⟩
  | .hbm, ⟨4, _⟩ => ⟨S40x128x2688, .bf16⟩
  | .hbm, ⟨5, _⟩ => ⟨S40x256x2688, .f32⟩
  | .hbm, ⟨6, _⟩ => ⟨S256x2688, .f32⟩
  | .hbm, ⟨7, _⟩ => ⟨S2x128x256, .i8⟩
  | .hbm, ⟨8, _⟩ => ⟨S2x256, .f32⟩
  | .hbm, ⟨9, _⟩ => ⟨S2x256, .f32⟩
  | .hbm, ⟨10, _⟩ => ⟨S2x4x256, .f32⟩
  | .hbm, ⟨11, _⟩ => ⟨S2x4x256, .f32⟩
  | .hbm, ⟨12, _⟩ => ⟨S3x256x128, .i8⟩
  | .hbm, ⟨13, _⟩ => ⟨S3x128, .f32⟩
  | .hbm, ⟨14, _⟩ => ⟨S3x128, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S256, .f32⟩
  | .hbm, ⟨19, _⟩ => ⟨S1x1x256, .f32⟩
  | .hbm, ⟨20, _⟩ => ⟨S256, .f32⟩
  | .hbm, ⟨21, _⟩ => ⟨S1x1x256, .f32⟩
  | .hbm, ⟨22, _⟩ => ⟨S256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S4x256, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S4x128, .f32⟩
  | .hbm, ⟨41, _⟩ => ⟨S40x2688x256, .i8⟩
  | .hbm, ⟨42, _⟩ => ⟨S40x1x2688, .f32⟩
  | .hbm, ⟨43, _⟩ => ⟨S40x2688x256, .i8⟩
  | .hbm, ⟨44, _⟩ => ⟨S40x1x2688, .f32⟩
  | .hbm, ⟨45, _⟩ => ⟨S40x256x2688, .bf16⟩
  | .hbm, ⟨46, _⟩ => ⟨S40x11x128, .f32⟩
  | .local _ .vmem, ⟨0, _⟩ => ⟨S11x40x128, .f32⟩
  | .local _ .vmem, ⟨1, _⟩ => ⟨S11x40x128, .f32⟩
  | .local _ .vmem, ⟨2, _⟩ => ⟨S11x40x128, .f32⟩
  | .local _ .vmem, ⟨3, _⟩ => ⟨S1x128x2688, .bf16⟩
  | .local _ .vmem, ⟨4, _⟩ => ⟨S1x128x2688, .bf16⟩
  | .local _ .vmem, ⟨5, _⟩ => ⟨S1x256x2688, .f32⟩
  | .local _ .vmem, ⟨6, _⟩ => ⟨S1x256x2688, .f32⟩
  | .local _ .vmem, ⟨7, _⟩ => ⟨S256x2688, .f32⟩
  | .local _ .vmem, ⟨8, _⟩ => ⟨S1x128x256, .i8⟩
  | .local _ .vmem, ⟨9, _⟩ => ⟨S1x256x128, .i8⟩
  | .local _ .vmem, ⟨10, _⟩ => ⟨S1x256x128, .i8⟩
  | .local _ .vmem, ⟨11, _⟩ => ⟨S4x256, .f32⟩
  | .local _ .vmem, ⟨12, _⟩ => ⟨S4x128, .f32⟩
  | .local _ .vmem, ⟨13, _⟩ => ⟨S1x2688x256, .i8⟩
  | .local _ .vmem, ⟨14, _⟩ => ⟨S1x2688x256, .i8⟩
  | .local _ .vmem, ⟨15, _⟩ => ⟨S1x1x2688, .f32⟩
  | .local _ .vmem, ⟨16, _⟩ => ⟨S1x1x2688, .f32⟩
  | .local _ .vmem, ⟨17, _⟩ => ⟨S1x2688x256, .i8⟩
  | .local _ .vmem, ⟨18, _⟩ => ⟨S1x2688x256, .i8⟩
  | .local _ .vmem, ⟨19, _⟩ => ⟨S1x1x2688, .f32⟩
  | .local _ .vmem, ⟨20, _⟩ => ⟨S1x1x2688, .f32⟩
  | .local _ .vmem, ⟨21, _⟩ => ⟨S1x256x2688, .bf16⟩
  | .local _ .vmem, ⟨22, _⟩ => ⟨S1x256x2688, .bf16⟩
  | .local _ .vmem, ⟨23, _⟩ => ⟨S1x11x128, .f32⟩
  | .local _ .vmem, ⟨24, _⟩ => ⟨S1x11x128, .f32⟩
  | .local _ .vmem, ⟨25, _⟩ => ⟨S256x128, .bf16⟩
  | .local _ .vmem, ⟨26, _⟩ => ⟨S128x256, .bf16⟩
  | .local _ .vmem, ⟨27, _⟩ => ⟨S128x256, .bf16⟩
  | .local _ .vmem, ⟨28, _⟩ => ⟨S4x256x128, .f32⟩
  | .local _ .vmem, ⟨29, _⟩ => ⟨S4x128x128, .f32⟩
  | .local _ .vmem, ⟨30, _⟩ => ⟨S88x2688, .f32⟩
  | .local _ .vmem, ⟨31, _⟩ => ⟨S88x128, .f32⟩
  | .local _ .vmem, ⟨32, _⟩ => ⟨S128x2688, .bf16⟩
  | .local _ .smem, ⟨0, _⟩ => ⟨S40, .i32⟩
  | _, _ => ⟨S40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev main_v26_5 : Ref sig .tc := ⟨.hbm, 46, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![40], ![false]⟩

def k0_off1 (i : grid0.Coords) : Fin 3 → Nat :=
  let c0 : Index := 0#32
  let arg0 : BitVec 32 := BitVec.ofNat 32 (i 0).val
  let v32 : Index := Scalar.indexCast arg0
  let c0_6 : Index := 0#32
  ![0, v32.toNat, 0]
def k0_off2 (i : grid0.Coords) : Fin 1 → Nat :=
  let arg0 : BitVec 32 := BitVec.ofNat 32 (i 0).val
  let v118 : Index := Scalar.indexCast arg0
  ![v118.toNat]
@[reducible] def k0_t1_loop : Scf.Loop 32 :=
  let c0_i32_33 : BitVec 32 := 0#32
  let c7_i32 : BitVec 32 := 7#32
  let v137 : BitVec 32 := Scalar.addi c0_i32_33 c7_i32
  let c1_i32_34 : BitVec 32 := 1#32
  ⟨c0_i32_33, v137, c1_i32_34⟩
def k0_mult1 (k0_t1 : Fin k0_t1_loop.trips) : BitVec 32 :=
  let c0_i32_33 : BitVec 32 := 0#32
  let c1_i32_34 : BitVec 32 := 1#32
  let arg27 : BitVec 32 := Scf.iv c0_i32_33 c1_i32_34 k0_t1
  let c384_i32 : BitVec 32 := 384#32
  let v193 : BitVec 32 := Scalar.muli arg27 c384_i32
  v193
def k0_off3 (k0_t1 : Fin k0_t1_loop.trips) : Fin 3 → Nat :=
  let c0_60 : Index := 0#32
  let c0_61 : Index := 0#32
  let c0_i32_33 : BitVec 32 := 0#32
  let c1_i32_34 : BitVec 32 := 1#32
  let arg27 : BitVec 32 := Scf.iv c0_i32_33 c1_i32_34 k0_t1
  let c384_i32 : BitVec 32 := 384#32
  let v193 : BitVec 32 := Scalar.muli arg27 c384_i32
  let v194 : BitVec 32 := v193
  let v195 : Index := Scalar.indexCast v194
  ![0, 0, v195.toNat]
def k0_off4 (k0_t1 : Fin k0_t1_loop.trips) : Fin 3 → Nat :=
  let c0_62 : Index := 0#32
  let c0_63 : Index := 0#32
  let c0_i32_33 : BitVec 32 := 0#32
  let c1_i32_34 : BitVec 32 := 1#32
  let arg27 : BitVec 32 := Scf.iv c0_i32_33 c1_i32_34 k0_t1
  let c384_i32 : BitVec 32 := 384#32
  let v193 : BitVec 32 := Scalar.muli arg27 c384_i32
  let v194 : BitVec 32 := v193
  let v198 : Index := Scalar.indexCast v194
  ![0, 0, v198.toNat]
def k0_off5 (k0_t1 : Fin k0_t1_loop.trips) : Fin 2 → Nat :=
  let c0_93 : Index := 0#32
  let c0_i32_33 : BitVec 32 := 0#32
  let c1_i32_34 : BitVec 32 := 1#32
  let arg27 : BitVec 32 := Scf.iv c0_i32_33 c1_i32_34 k0_t1
  let c384_i32 : BitVec 32 := 384#32
  let v193 : BitVec 32 := Scalar.muli arg27 c384_i32
  let v194 : BitVec 32 := v193
  let v521 : Index := Scalar.indexCast v194
  ![0, v521.toNat]
def k0_off6 (k0_t1 : Fin k0_t1_loop.trips) : Fin 3 → Nat :=
  let c0_108 : Index := 0#32
  let c0_i32_33 : BitVec 32 := 0#32
  let c1_i32_34 : BitVec 32 := 1#32
  let arg27 : BitVec 32 := Scf.iv c0_i32_33 c1_i32_34 k0_t1
  let c384_i32 : BitVec 32 := 384#32
  let v193 : BitVec 32 := Scalar.muli arg27 c384_i32
  let v194 : BitVec 32 := v193
  let v689 : Index := Scalar.indexCast v194
  let c0_109 : Index := 0#32
  ![0, v689.toNat, 0]
def k0_off7 (k0_t1 : Fin k0_t1_loop.trips) : Fin 3 → Nat :=
  let c0_110 : Index := 0#32
  let c0_111 : Index := 0#32
  let c0_i32_33 : BitVec 32 := 0#32
  let c1_i32_34 : BitVec 32 := 1#32
  let arg27 : BitVec 32 := Scf.iv c0_i32_33 c1_i32_34 k0_t1
  let c384_i32 : BitVec 32 := 384#32
  let v193 : BitVec 32 := Scalar.muli arg27 c384_i32
  let v194 : BitVec 32 := v193
  let v693 : Index := Scalar.indexCast v194
  ![0, 0, v693.toNat]
def k0_off8 (k0_t1 : Fin k0_t1_loop.trips) : Fin 2 → Nat :=
  let c0_136 : Index := 0#32
  let c0_i32_33 : BitVec 32 := 0#32
  let c1_i32_34 : BitVec 32 := 1#32
  let arg27 : BitVec 32 := Scf.iv c0_i32_33 c1_i32_34 k0_t1
  let c384_i32 : BitVec 32 := 384#32
  let v193 : BitVec 32 := Scalar.muli arg27 c384_i32
  let v194 : BitVec 32 := v193
  let v740 : Index := Scalar.indexCast v194
  ![0, v740.toNat]
def k0_off9 (k0_t1 : Fin k0_t1_loop.trips) : Fin 2 → Nat :=
  let c0_138 : Index := 0#32
  let c0_i32_33 : BitVec 32 := 0#32
  let c1_i32_34 : BitVec 32 := 1#32
  let arg27 : BitVec 32 := Scf.iv c0_i32_33 c1_i32_34 k0_t1
  let c384_i32 : BitVec 32 := 384#32
  let v193 : BitVec 32 := Scalar.muli arg27 c384_i32
  let v194 : BitVec 32 := v193
  let v745 : Index := Scalar.indexCast v194
  ![0, v745.toNat]
@[reducible] def k0_t2_loop : Scf.Loop 32 :=
  let c0_i32_44 : BitVec 32 := 0#32
  let c7_i32_45 : BitVec 32 := 7#32
  let v150 : BitVec 32 := Scalar.addi c0_i32_44 c7_i32_45
  let c1_i32_46 : BitVec 32 := 1#32
  ⟨c0_i32_44, v150, c1_i32_46⟩
def k0_mult2 (k0_t2 : Fin k0_t2_loop.trips) : BitVec 32 :=
  let c0_i32_44 : BitVec 32 := 0#32
  let c1_i32_46 : BitVec 32 := 1#32
  let arg27 : BitVec 32 := Scf.iv c0_i32_44 c1_i32_46 k0_t2
  let c384_i32 : BitVec 32 := 384#32
  let v193 : BitVec 32 := Scalar.muli arg27 c384_i32
  v193
def k0_off10 (k0_t2 : Fin k0_t2_loop.trips) : Fin 2 → Nat :=
  let c0_60 : Index := 0#32
  let c0_i32_44 : BitVec 32 := 0#32
  let c1_i32_46 : BitVec 32 := 1#32
  let arg27 : BitVec 32 := Scf.iv c0_i32_44 c1_i32_46 k0_t2
  let c384_i32 : BitVec 32 := 384#32
  let v193 : BitVec 32 := Scalar.muli arg27 c384_i32
  let v194 : BitVec 32 := v193
  let v195 : Index := Scalar.indexCast v194
  ![0, v195.toNat]
def k0_off11 (k0_t2 : Fin k0_t2_loop.trips) : Fin 2 → Nat :=
  let c0_62 : Index := 0#32
  let c0_i32_44 : BitVec 32 := 0#32
  let c1_i32_46 : BitVec 32 := 1#32
  let arg27 : BitVec 32 := Scf.iv c0_i32_44 c1_i32_46 k0_t2
  let c384_i32 : BitVec 32 := 384#32
  let v193 : BitVec 32 := Scalar.muli arg27 c384_i32
  let v194 : BitVec 32 := v193
  let v209 : Index := Scalar.indexCast v194
  ![0, v209.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S40 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S11x40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x2688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x256 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x128 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2688x256 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x2688 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2688x256 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x2688 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x2688 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x11x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== AttnRefIdeal.lean ====
abbrev S40 : Shape := ⟨1, ![40]⟩
abbrev S11x40x128 : Shape := ⟨3, ![11, 40, 128]⟩
abbrev S40x128x2688 : Shape := ⟨3, ![40, 128, 2688]⟩
abbrev S40x256x2688 : Shape := ⟨3, ![40, 256, 2688]⟩
abbrev S256x2688 : Shape := ⟨2, ![256, 2688]⟩
abbrev S2x128x256 : Shape := ⟨3, ![2, 128, 256]⟩
abbrev S2x256 : Shape := ⟨2, ![2, 256]⟩
abbrev S2x4x256 : Shape := ⟨3, ![2, 4, 256]⟩
abbrev S3x256x128 : Shape := ⟨3, ![3, 256, 128]⟩
abbrev S3x128 : Shape := ⟨2, ![3, 128]⟩
abbrev S11 : Shape := ⟨1, ![11]⟩
abbrev S1x11 : Shape := ⟨2, ![1, 11]⟩
abbrev S_ : Shape := ⟨0, ![]⟩
abbrev S40x1 : Shape := ⟨2, ![40, 1]⟩
abbrev S40x11 : Shape := ⟨2, ![40, 11]⟩
abbrev S40x2688x128 : Shape := ⟨3, ![40, 2688, 128]⟩
abbrev S40x11x128 : Shape := ⟨3, ![40, 11, 128]⟩
abbrev S40x2688x8x16 : Shape := ⟨4, ![40, 2688, 8, 16]⟩
abbrev S40x11x8x16 : Shape := ⟨4, ![40, 11, 8, 16]⟩
abbrev S40x8x2688x11 : Shape := ⟨4, ![40, 8, 2688, 11]⟩
abbrev S40x1x1x11 : Shape := ⟨4, ![40, 1, 1, 11]⟩
abbrev S40x8x2688 : Shape := ⟨3, ![40, 8, 2688]⟩
abbrev S40x8x2688x1 : Shape := ⟨4, ![40, 8, 2688, 1]⟩
abbrev S40x8x16x2688 : Shape := ⟨4, ![40, 8, 16, 2688]⟩
abbrev S40x2688x8 : Shape := ⟨3, ![40, 2688, 8]⟩
abbrev S40x2688x8x1 : Shape := ⟨4, ![40, 2688, 8, 1]⟩
abbrev S40x2688 : Shape := ⟨2, ![40, 2688]⟩
abbrev S40x2688x1 : Shape := ⟨3, ![40, 2688, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S40x2688x256 : Shape := ⟨3, ![40, 2688, 256]⟩
abbrev S1x1x256 : Shape := ⟨3, ![1, 1, 256]⟩
abbrev S2688x256 : Shape := ⟨2, ![2688, 256]⟩
abbrev S1x2688x256 : Shape := ⟨3, ![1, 2688, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x1x128 : Shape := ⟨3, ![1, 1, 128]⟩
abbrev S40x8x11x2688 : Shape := ⟨4, ![40, 8, 11, 2688]⟩
abbrev S40x8x11 : Shape := ⟨3, ![40, 8, 11]⟩
abbrev S40x8x11x1 : Shape := ⟨4, ![40, 8, 11, 1]⟩
abbrev S40x8x16x11 : Shape := ⟨4, ![40, 8, 16, 11]⟩
abbrev S40x11x8 : Shape := ⟨3, ![40, 11, 8]⟩
abbrev S40x11x8x1 : Shape := ⟨4, ![40, 11, 8, 1]⟩
abbrev S40x1x2688 : Shape := ⟨3, ![40, 1, 2688]⟩

abbrev nBuf : Space → Nat
  | .hbm => 278
  | .vmem => 0
  | .smem => 0
  | _ => 0

abbrev hbmTy0_0 (i : Nat) : BufTy := match i % 128 with
  | 0 => ⟨S40, .i32⟩
  | 1 => ⟨S11x40x128, .f32⟩
  | 2 => ⟨S11x40x128, .f32⟩
  | 3 => ⟨S11x40x128, .f32⟩
  | 4 => ⟨S40x128x2688, .bf16⟩
  | 5 => ⟨S40x256x2688, .f32⟩
  | 6 => ⟨S256x2688, .f32⟩
  | 7 => ⟨S2x128x256, .i8⟩
  | 8 => ⟨S2x256, .f32⟩
  | 9 => ⟨S2x256, .f32⟩
  | 10 => ⟨S2x4x256, .f32⟩
  | 11 => ⟨S2x4x256, .f32⟩
  | 12 => ⟨S3x256x128, .i8⟩
  | 13 => ⟨S3x128, .f32⟩
  | 14 => ⟨S3x128, .f32⟩
  | 15 => ⟨S11, .i32⟩
  | 16 => ⟨S1x11, .i32⟩
  | 17 => ⟨S_, .i32⟩
  | 18 => ⟨S40, .i32⟩
  | 19 => ⟨S40, .i32⟩
  | 20 => ⟨S40x1, .i32⟩
  | 21 => ⟨S40x11, .i32⟩
  | 22 => ⟨S40x11, .i32⟩
  | 23 => ⟨S40x11, .i1⟩
  | 24 => ⟨S40x2688x128, .bf16⟩
  | 25 => ⟨S40x11x128, .f32⟩
  | 26 => ⟨S40x11x128, .f32⟩
  | 27 => ⟨S40x2688x8x16, .bf16⟩
  | 28 => ⟨S40x11x128, .bf16⟩
  | 29 => ⟨S40x11x8x16, .bf16⟩
  | 30 => ⟨S40x11x128, .bf16⟩
  | 31 => ⟨S40x11x8x16, .bf16⟩
  | 32 => ⟨S40x8x2688x11, .f32⟩
  | 33 => ⟨S_, .f32⟩
  | 34 => ⟨S40x8x2688x11, .f32⟩
  | 35 => ⟨S40x8x2688x11, .f32⟩
  | 36 => ⟨S_, .f32⟩
  | 37 => ⟨S40x8x2688x11, .f32⟩
  | 38 => ⟨S40x8x2688x11, .f32⟩
  | 39 => ⟨S40x1x1x11, .i1⟩
  | 40 => ⟨S_, .f32⟩
  | 41 => ⟨S_, .f32⟩
  | 42 => ⟨S40x8x2688x11, .i1⟩
  | 43 => ⟨S40x8x2688x11, .f32⟩
  | 44 => ⟨S40x8x2688x11, .f32⟩
  | 45 => ⟨S_, .f32⟩
  | 46 => ⟨S40x8x2688, .f32⟩
  | 47 => ⟨S40x8x2688x1, .f32⟩
  | 48 => ⟨S40x8x2688x1, .f32⟩
  | 49 => ⟨S_, .f32⟩
  | 50 => ⟨S40x8x2688x11, .f32⟩
  | 51 => ⟨S40x8x2688x11, .f32⟩
  | 52 => ⟨S40x8x2688x11, .f32⟩
  | 53 => ⟨S40x8x2688x11, .f32⟩
  | 54 => ⟨S_, .f32⟩
  | 55 => ⟨S40x8x2688, .f32⟩
  | 56 => ⟨S40x8x2688x11, .bf16⟩
  | 57 => ⟨S40x8x16x2688, .f32⟩
  | 58 => ⟨S40x2688x8x16, .f32⟩
  | 59 => ⟨S40x2688x8, .f32⟩
  | 60 => ⟨S40x2688x8x1, .f32⟩
  | 61 => ⟨S40x2688x8x16, .f32⟩
  | 62 => ⟨S40x2688x8x16, .f32⟩
  | 63 => ⟨S40x2688x128, .f32⟩
  | 64 => ⟨S40x2688x128, .f32⟩
  | 65 => ⟨S_, .f32⟩
  | 66 => ⟨S40x2688, .f32⟩
  | 67 => ⟨S_, .f32⟩
  | 68 => ⟨S40x2688, .f32⟩
  | 69 => ⟨S40x2688, .i1⟩
  | 70 => ⟨S_, .f32⟩
  | 71 => ⟨S40x2688, .f32⟩
  | 72 => ⟨S40x2688, .f32⟩
  | 73 => ⟨S_, .f32⟩
  | 74 => ⟨S40x2688, .f32⟩
  | 75 => ⟨S40x2688, .f32⟩
  | 76 => ⟨S40x2688x1, .f32⟩
  | 77 => ⟨S40x2688x128, .f32⟩
  | 78 => ⟨S40x2688x128, .f32⟩
  | 79 => ⟨S40x2688x128, .f32⟩
  | 80 => ⟨S_, .f32⟩
  | 81 => ⟨S40x2688x128, .f32⟩
  | 82 => ⟨S40x2688x128, .f32⟩
  | 83 => ⟨S_, .f32⟩
  | 84 => ⟨S40x2688x128, .f32⟩
  | 85 => ⟨S40x2688x128, .f32⟩
  | 86 => ⟨S40x2688x128, .i32⟩
  | 87 => ⟨S40x2688x128, .i8⟩
  | 88 => ⟨S1x128x256, .i8⟩
  | 89 => ⟨S128x256, .i8⟩
  | 90 => ⟨S1x256, .f32⟩
  | 91 => ⟨S256, .f32⟩
  | 92 => ⟨S1x256, .f32⟩
  | 93 => ⟨S256, .f32⟩
  | 94 => ⟨S40x2688x128, .i32⟩
  | 95 => ⟨S40x2688x128, .f32⟩
  | 96 => ⟨S40x2688x128, .bf16⟩
  | 97 => ⟨S128x256, .i32⟩
  | 98 => ⟨S128x256, .f32⟩
  | 99 => ⟨S128x256, .bf16⟩
  | 100 => ⟨S40x2688x256, .f32⟩
  | 101 => ⟨S40x2688x1, .f32⟩
  | 102 => ⟨S40x2688x256, .f32⟩
  | 103 => ⟨S40x2688x256, .f32⟩
  | 104 => ⟨S1x1x256, .f32⟩
  | 105 => ⟨S40x2688x256, .f32⟩
  | 106 => ⟨S40x2688x256, .f32⟩
  | 107 => ⟨S1x1x256, .f32⟩
  | 108 => ⟨S40x2688x256, .f32⟩
  | 109 => ⟨S40x2688x256, .f32⟩
  | 110 => ⟨S40x2688x256, .f32⟩
  | 111 => ⟨S40x2688x256, .f32⟩
  | 112 => ⟨S1x1x256, .f32⟩
  | 113 => ⟨S256, .f32⟩
  | 114 => ⟨S1x1x256, .f32⟩
  | 115 => ⟨S256, .f32⟩
  | 116 => ⟨S_, .f32⟩
  | 117 => ⟨S40x2688, .f32⟩
  | 118 => ⟨S40x2688x1, .f32⟩
  | 119 => ⟨S_, .f32⟩
  | 120 => ⟨S40x2688x1, .f32⟩
  | 121 => ⟨S40x2688x1, .f32⟩
  | 122 => ⟨S40x2688x256, .f32⟩
  | 123 => ⟨S40x2688x256, .f32⟩
  | 124 => ⟨S40x2688x256, .f32⟩
  | 125 => ⟨S_, .f32⟩
  | 126 => ⟨S40x2688, .f32⟩
  | 127 => ⟨S40x2688x1, .f32⟩
  | _ => ⟨S40, .i32⟩

abbrev hbmTy0_1 (i : Nat) : BufTy := match i % 128 with
  | 0 => ⟨S_, .f32⟩
  | 1 => ⟨S40x2688x1, .f32⟩
  | 2 => ⟨S40x2688x1, .f32⟩
  | 3 => ⟨S_, .f32⟩
  | 4 => ⟨S40x2688x1, .f32⟩
  | 5 => ⟨S40x2688x1, .f32⟩
  | 6 => ⟨S40x2688x1, .f32⟩
  | 7 => ⟨S40x2688x256, .f32⟩
  | 8 => ⟨S40x2688x256, .f32⟩
  | 9 => ⟨S1x1x256, .f32⟩
  | 10 => ⟨S40x2688x256, .f32⟩
  | 11 => ⟨S40x2688x256, .f32⟩
  | 12 => ⟨S1x1x256, .f32⟩
  | 13 => ⟨S40x2688x256, .f32⟩
  | 14 => ⟨S40x2688x256, .f32⟩
  | 15 => ⟨S2688x256, .f32⟩
  | 16 => ⟨S1x2688x256, .f32⟩
  | 17 => ⟨S40x2688x256, .f32⟩
  | 18 => ⟨S40x2688x256, .f32⟩
  | 19 => ⟨S40x2688x256, .f32⟩
  | 20 => ⟨S_, .f32⟩
  | 21 => ⟨S40x2688, .f32⟩
  | 22 => ⟨S_, .f32⟩
  | 23 => ⟨S40x2688, .f32⟩
  | 24 => ⟨S40x2688, .i1⟩
  | 25 => ⟨S_, .f32⟩
  | 26 => ⟨S40x2688, .f32⟩
  | 27 => ⟨S40x2688, .f32⟩
  | 28 => ⟨S_, .f32⟩
  | 29 => ⟨S40x2688, .f32⟩
  | 30 => ⟨S40x2688, .f32⟩
  | 31 => ⟨S40x2688x1, .f32⟩
  | 32 => ⟨S40x2688x256, .f32⟩
  | 33 => ⟨S40x2688x256, .f32⟩
  | 34 => ⟨S40x2688x256, .f32⟩
  | 35 => ⟨S_, .f32⟩
  | 36 => ⟨S40x2688x256, .f32⟩
  | 37 => ⟨S40x2688x256, .f32⟩
  | 38 => ⟨S_, .f32⟩
  | 39 => ⟨S40x2688x256, .f32⟩
  | 40 => ⟨S40x2688x256, .f32⟩
  | 41 => ⟨S40x2688x256, .i32⟩
  | 42 => ⟨S40x2688x256, .i8⟩
  | 43 => ⟨S1x256x128, .i8⟩
  | 44 => ⟨S256x128, .i8⟩
  | 45 => ⟨S1x128, .f32⟩
  | 46 => ⟨S128, .f32⟩
  | 47 => ⟨S1x128, .f32⟩
  | 48 => ⟨S128, .f32⟩
  | 49 => ⟨S40x2688x256, .i32⟩
  | 50 => ⟨S40x2688x256, .f32⟩
  | 51 => ⟨S40x2688x256, .bf16⟩
  | 52 => ⟨S256x128, .i32⟩
  | 53 => ⟨S256x128, .f32⟩
  | 54 => ⟨S256x128, .bf16⟩
  | 55 => ⟨S40x2688x128, .f32⟩
  | 56 => ⟨S40x2688x1, .f32⟩
  | 57 => ⟨S40x2688x128, .f32⟩
  | 58 => ⟨S40x2688x128, .f32⟩
  | 59 => ⟨S1x1x128, .f32⟩
  | 60 => ⟨S40x2688x128, .f32⟩
  | 61 => ⟨S40x2688x128, .f32⟩
  | 62 => ⟨S1x1x128, .f32⟩
  | 63 => ⟨S40x2688x128, .f32⟩
  | 64 => ⟨S40x2688x128, .f32⟩
  | 65 => ⟨S40x2688x256, .f32⟩
  | 66 => ⟨S_, .f32⟩
  | 67 => ⟨S40x2688, .f32⟩
  | 68 => ⟨S_, .f32⟩
  | 69 => ⟨S40x2688, .f32⟩
  | 70 => ⟨S40x2688, .i1⟩
  | 71 => ⟨S_, .f32⟩
  | 72 => ⟨S40x2688, .f32⟩
  | 73 => ⟨S40x2688, .f32⟩
  | 74 => ⟨S_, .f32⟩
  | 75 => ⟨S40x2688, .f32⟩
  | 76 => ⟨S40x2688, .f32⟩
  | 77 => ⟨S40x2688x1, .f32⟩
  | 78 => ⟨S40x2688x256, .f32⟩
  | 79 => ⟨S40x2688x256, .f32⟩
  | 80 => ⟨S40x2688x256, .f32⟩
  | 81 => ⟨S_, .f32⟩
  | 82 => ⟨S40x2688x256, .f32⟩
  | 83 => ⟨S40x2688x256, .f32⟩
  | 84 => ⟨S_, .f32⟩
  | 85 => ⟨S40x2688x256, .f32⟩
  | 86 => ⟨S40x2688x256, .f32⟩
  | 87 => ⟨S40x2688x256, .i32⟩
  | 88 => ⟨S40x2688x256, .i8⟩
  | 89 => ⟨S1x256x128, .i8⟩
  | 90 => ⟨S256x128, .i8⟩
  | 91 => ⟨S1x128, .f32⟩
  | 92 => ⟨S128, .f32⟩
  | 93 => ⟨S1x128, .f32⟩
  | 94 => ⟨S128, .f32⟩
  | 95 => ⟨S40x2688x256, .i32⟩
  | 96 => ⟨S40x2688x256, .f32⟩
  | 97 => ⟨S40x2688x256, .bf16⟩
  | 98 => ⟨S256x128, .i32⟩
  | 99 => ⟨S256x128, .f32⟩
  | 100 => ⟨S256x128, .bf16⟩
  | 101 => ⟨S40x2688x128, .f32⟩
  | 102 => ⟨S40x2688x1, .f32⟩
  | 103 => ⟨S40x2688x128, .f32⟩
  | 104 => ⟨S40x2688x128, .f32⟩
  | 105 => ⟨S1x1x128, .f32⟩
  | 106 => ⟨S40x2688x128, .f32⟩
  | 107 => ⟨S40x2688x128, .f32⟩
  | 108 => ⟨S1x1x128, .f32⟩
  | 109 => ⟨S40x2688x128, .f32⟩
  | 110 => ⟨S40x2688x128, .f32⟩
  | 111 => ⟨S40x11x128, .f32⟩
  | 112 => ⟨S40x11x128, .bf16⟩
  | 113 => ⟨S40x11x8x16, .bf16⟩
  | 114 => ⟨S40x2688x128, .bf16⟩
  | 115 => ⟨S40x2688x8x16, .bf16⟩
  | 116 => ⟨S40x2688x128, .bf16⟩
  | 117 => ⟨S40x2688x8x16, .bf16⟩
  | 118 => ⟨S40x8x11x2688, .f32⟩
  | 119 => ⟨S_, .f32⟩
  | 120 => ⟨S40x8x11x2688, .f32⟩
  | 121 => ⟨S40x8x11x2688, .f32⟩
  | 122 => ⟨S_, .f32⟩
  | 123 => ⟨S40x8x11x2688, .f32⟩
  | 124 => ⟨S40x8x11x2688, .f32⟩
  | 125 => ⟨S_, .f32⟩
  | 126 => ⟨S40x8x11, .f32⟩
  | 127 => ⟨S40x8x11x1, .f32⟩
  | _ => ⟨S40, .i32⟩

abbrev hbmTy0_2 (i : Nat) : BufTy := match i % 128 with
  | 0 => ⟨S40x8x11x1, .f32⟩
  | 1 => ⟨S_, .f32⟩
  | 2 => ⟨S40x8x11x2688, .f32⟩
  | 3 => ⟨S40x8x11x2688, .f32⟩
  | 4 => ⟨S40x8x11x2688, .f32⟩
  | 5 => ⟨S40x8x11x2688, .f32⟩
  | 6 => ⟨S_, .f32⟩
  | 7 => ⟨S40x8x11, .f32⟩
  | 8 => ⟨S40x8x11x2688, .bf16⟩
  | 9 => ⟨S40x8x16x11, .f32⟩
  | 10 => ⟨S40x11x8x16, .f32⟩
  | 11 => ⟨S40x11x8, .f32⟩
  | 12 => ⟨S40x11x8x1, .f32⟩
  | 13 => ⟨S40x11x8x16, .f32⟩
  | 14 => ⟨S40x11x8x16, .f32⟩
  | 15 => ⟨S40x11x128, .f32⟩
  | 16 => ⟨S40x2688x256, .i32⟩
  | 17 => ⟨S40x2688x256, .f32⟩
  | 18 => ⟨S40x2688x256, .bf16⟩
  | 19 => ⟨S40x256x2688, .bf16⟩
  | 20 => ⟨S40x1x2688, .f32⟩
  | 21 => ⟨S40x1x2688, .f32⟩
  | _ => ⟨S40, .i32⟩

abbrev hbmTy (i : Nat) : BufTy := match i / 128 with
  | 0 => hbmTy0_0 i
  | 1 => hbmTy0_1 i
  | 2 => hbmTy0_2 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_11 : Ref sig .tc := ⟨.hbm, 116, rfl⟩
abbrev main_v85 : Ref sig .tc := ⟨.hbm, 117, rfl⟩
abbrev main_v86 : Ref sig .tc := ⟨.hbm, 118, rfl⟩
abbrev main_cst_12 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_13 : Ref sig .tc := ⟨.hbm, 125, rfl⟩
abbrev main_v92 : Ref sig .tc := ⟨.hbm, 126, rfl⟩
abbrev main_v93 : Ref sig .tc := ⟨.hbm, 127, rfl⟩
abbrev main_cst_14 : Ref sig .tc := ⟨.hbm, 128, rfl⟩
abbrev main_v94 : Ref sig .tc := ⟨.hbm, 129, rfl⟩
abbrev main_v95 : Ref sig .tc := ⟨.hbm, 130, rfl⟩
abbrev main_cst_15 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_16 : Ref sig .tc := ⟨.hbm, 148, rfl⟩
abbrev main_v112 : Ref sig .tc := ⟨.hbm, 149, rfl⟩
abbrev main_cst_17 : Ref sig .tc := ⟨.hbm, 150, rfl⟩
abbrev main_v113 : Ref sig .tc := ⟨.hbm, 151, rfl⟩
abbrev main_v114 : Ref sig .tc := ⟨.hbm, 152, rfl⟩
abbrev main_cst_18 : Ref sig .tc := ⟨.hbm, 153, rfl⟩
abbrev main_v115 : Ref sig .tc := ⟨.hbm, 154, rfl⟩
abbrev main_v116 : Ref sig .tc := ⟨.hbm, 155, rfl⟩
abbrev main_cst_19 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_20 : Ref sig .tc := ⟨.hbm, 163, rfl⟩
abbrev main_v123 : Ref sig .tc := ⟨.hbm, 164, rfl⟩
abbrev main_v124 : Ref sig .tc := ⟨.hbm, 165, rfl⟩
abbrev main_cst_21 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_22 : Ref sig .tc := ⟨.hbm, 194, rfl⟩
abbrev main_v152 : Ref sig .tc := ⟨.hbm, 195, rfl⟩
abbrev main_cst_23 : Ref sig .tc := ⟨.hbm, 196, rfl⟩
abbrev main_v153 : Ref sig .tc := ⟨.hbm, 197, rfl⟩
abbrev main_v154 : Ref sig .tc := ⟨.hbm, 198, rfl⟩
abbrev main_cst_24 : Ref sig .tc := ⟨.hbm, 199, rfl⟩
abbrev main_v155 : Ref sig .tc := ⟨.hbm, 200, rfl⟩
abbrev main_v156 : Ref sig .tc := ⟨.hbm, 201, rfl⟩
abbrev main_cst_25 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_26 : Ref sig .tc := ⟨.hbm, 209, rfl⟩
abbrev main_v163 : Ref sig .tc := ⟨.hbm, 210, rfl⟩
abbrev main_v164 : Ref sig .tc := ⟨.hbm, 211, rfl⟩
abbrev main_cst_27 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_cst_28 : Ref sig .tc := ⟨.hbm, 247, rfl⟩
abbrev main_v199 : Ref sig .tc := ⟨.hbm, 248, rfl⟩
abbrev main_v200 : Ref sig .tc := ⟨.hbm, 249, rfl⟩
abbrev main_cst_29 : Ref sig .tc := ⟨.hbm, 250, rfl⟩
abbrev main_v201 : Ref sig .tc := ⟨.hbm, 251, rfl⟩
abbrev main_v202 : Ref sig .tc := ⟨.hbm, 252, rfl⟩
abbrev main_cst_30 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_cst_31 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_cst_32 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩

abbrev nD : Nat := 1
abbrev τ : Topo := Topo.v7x

variable {F : FTy → Type} [FloatOps F]
-- ==== Proof.Vectors.lean ====
/-
  The upscaling kernel's arithmetic as functions of whole vectors, one chunk of 384 pixels at a time: the first
  transposed convolution, one tap's layer norm and GELU, one tap's quantiser, the second convolution, one output
  channel's GELU, and a mask's running sum over the 32 channels. No memory is mentioned here; `Trip.lean` says that a
  trip of the kernel's loop stores these.
-/
module

public import proofs.«01_k».proof.Proof.Gen.UpscaleIdeal.Value
public import Idealize.ShloMosaic.Lib.Pipeline.ValueKit
public import Idealize.ShloMosaic.Lib.Pointwise

@[expose] public section

set_option maxRecDepth 16384

noncomputable section

namespace Cert.Up

open Cert.UpscaleIdeal Cert.UpscaleIdeal.Gen Idealize.ShloMosaic

/-- A 64-row block's column sums start from 8-row pieces: rows `o … o+7`. -/
abbrev eight (o : ℕ) (h : S64x384.Slices ![o, 0] S8x384) (v : FVec Ideal S64x384 .f32) : FVec Ideal S8x384 .f32 :=
  extractStridedSlice S8x384 ![o, 0] v h

/-- One tap's 64 rows out of 256, from row `o`. -/
abbrev tapRows (o : ℕ) (h : S256x384.Slices ![o, 0] S64x384) (v : FVec Ideal S256x384 .f32) : FVec Ideal S64x384 .f32 :=
  extractStridedSlice S64x384 ![o, 0] v h

/-- A column of 256 numbers held along 128 lanes, spread over the chunk's 384 lanes. -/
abbrev lanes256 (v : Vec Ideal S1x256x128 .f32) : FVec Ideal S256x384 .f32 :=
  concatenate S256x384 1 [⟨S256x128, shapeCast S256x128 v shapeCasts_S1x256x128_S256x128⟩,
    ⟨S256x128, shapeCast S256x128 v shapeCasts_S1x256x128_S256x128⟩,
    ⟨S256x128, shapeCast S256x128 v shapeCasts_S1x256x128_S256x128⟩] concatenates_S256x128_S256x128_S256x128_S256x384_d1

/-- A column of 512 numbers held along 128 lanes, spread over the chunk's 384 lanes. -/
abbrev lanes512 (v : Vec Ideal S1x512x128 .f32) : FVec Ideal S512x384 .f32 :=
  concatenate S512x384 1 [⟨S512x128, shapeCast S512x128 v shapeCasts_S1x512x128_S512x128⟩,
    ⟨S512x128, shapeCast S512x128 v shapeCasts_S1x512x128_S512x128⟩,
    ⟨S512x128, shapeCast S512x128 v shapeCasts_S1x512x128_S512x128⟩] concatenates_S512x128_S512x128_S512x128_S512x384_d1

/-- Column sums of a 64-row block, the eight 8-row pieces added in a tree and then reduced. -/
abbrev colSum (v : FVec Ideal S64x384 .f32) : FVec Ideal S1x384 .f32 :=
  shapeCast S1x384 (multiReduction .add [0] S384
    (addf (addf (addf (eight 0 slices_S64x384_o0_0_S8x384 v) (eight 32 slices_S64x384_o32_0_S8x384 v))
        (addf (eight 8 slices_S64x384_o8_0_S8x384 v) (eight 40 slices_S64x384_o40_0_S8x384 v)))
      (addf (addf (eight 16 slices_S64x384_o16_0_S8x384 v) (eight 48 slices_S64x384_o48_0_S8x384 v))
        (addf (eight 24 slices_S64x384_o24_0_S8x384 v) (eight 56 slices_S64x384_o56_0_S8x384 v))))
    0x00000000#32 reduces_S8x384_S384 (.inl rfl) rfl) shapeCasts_S384_S1x384

/-- Column maxima of a 64-row block, in the same tree. -/
abbrev colMax (v : FVec Ideal S64x384 .f32) : FVec Ideal S1x384 .f32 :=
  shapeCast S1x384 (multiReduction .maximumf [0] S384
    (maximumf (maximumf (maximumf (eight 0 slices_S64x384_o0_0_S8x384 v) (eight 32 slices_S64x384_o32_0_S8x384 v))
        (maximumf (eight 8 slices_S64x384_o8_0_S8x384 v) (eight 40 slices_S64x384_o40_0_S8x384 v)))
      (maximumf (maximumf (eight 16 slices_S64x384_o16_0_S8x384 v) (eight 48 slices_S64x384_o48_0_S8x384 v))
        (maximumf (eight 24 slices_S64x384_o24_0_S8x384 v) (eight 56 slices_S64x384_o56_0_S8x384 v))))
    0xFF800000#32 reduces_S8x384_S384 (.inl rfl) rfl) shapeCasts_S384_S1x384

/-- The column mean: the sum times 1/64. -/
abbrev colMean (v : FVec Ideal S64x384 .f32) : FVec Ideal S1x384 .f32 :=
  mulf (colSum v) (broadcast S1x384 (Scalar.ofBits .f32 0x3C800000#32))

/-- The block less its column means. -/
abbrev centred (y : FVec Ideal S64x384 .f32) : FVec Ideal S64x384 .f32 :=
  subf y (broadcastTo S64x384 (colMean y) broadcasts_S1x384_S64x384)

/-- Layer norm down the columns, with gain `g` and offset `b`. -/
abbrev lnV (y g b : FVec Ideal S64x384 .f32) : FVec Ideal S64x384 .f32 :=
  addf (mulf (mulf (centred y) (broadcastTo S64x384
      (divf (broadcast S1x384 (Scalar.ofBits .f32 0x3F800000#32))
        (sqrt (addf (colMean (mulf (centred y) (centred y))) (broadcast S1x384 (Scalar.ofBits .f32 0x358637BD#32)))))
      broadcasts_S1x384_S64x384)) g) b

/-- GELU by the error function. -/
abbrev geluV {s : Shape} (u : FVec Ideal s .f32) : FVec Ideal s .f32 :=
  mulf (mulf (broadcast s (Scalar.ofBits .f32 0x3F000000#32)) u)
    (addf (broadcast s (Scalar.ofBits .f32 0x3F800000#32)) (erf (mulf u (broadcast s (Scalar.ofBits .f32 0x3F3504F3#32)))))

/-- One tap's activations: GELU of the layer norm. -/
def tapU (y g b : FVec Ideal S64x384 .f32) : FVec Ideal S64x384 .f32 := geluV (lnV y g b)

/-- One tap's scales: a column's largest magnitude over 127, or one for a zero column. -/
def tapScale (u : FVec Ideal S64x384 .f32) : FVec Ideal S1x384 .f32 :=
  select (cmpf .ogt (colMax (absf u)) (broadcast S1x384 (Scalar.ofBits .f32 0x00000000#32)))
    (divf (colMax (absf u)) (broadcast S1x384 (Scalar.ofBits .f32 0x42FE0000#32)))
    (broadcast S1x384 (Scalar.ofBits .f32 0x3F800000#32))

/-- One tap's codes, still as numbers: the activations over their scale, rounded to even and clipped. -/
def tapCode (u : FVec Ideal S64x384 .f32) : FVec Ideal S64x384 .f32 :=
  minimumf (broadcast S64x384 (Scalar.ofBits .f32 0x42FE0000#32))
    (maximumf (broadcast S64x384 (Scalar.ofBits .f32 0xC2FE0000#32))
      (roundeven (mulf u (broadcastTo S64x384
        (divf (broadcast S1x384 (Scalar.ofBits .f32 0x3F800000#32)) (tapScale u)) broadcasts_S1x384_S64x384))))

/-- The four taps' codes one under another. -/
def codes (u0 u1 u2 u3 : FVec Ideal S64x384 .f32) : FVec Ideal S256x384 .f32 :=
  concatenate S256x384 0 [⟨S64x384, tapCode u0⟩, ⟨S64x384, tapCode u1⟩, ⟨S64x384, tapCode u2⟩, ⟨S64x384, tapCode u3⟩]
    concatenates_S64x384_S64x384_S64x384_S64x384_S256x384_d0

/-- The codes as stored: int8. -/
def codesOut (u0 u1 u2 u3 : FVec Ideal S64x384 .f32) : IVec S1x256x384 8 :=
  shapeCast S1x256x384 (trunci 8 (fptosi 32 (codes u0 u1 u2 u3)) natLt_8_32) shapeCasts_S256x384_S1x256x384

/-- The four taps' scales as stored. -/
def scalesOut (u0 u1 u2 u3 : FVec Ideal S64x384 .f32) : FVec Ideal S1x4x384 .f32 :=
  shapeCast S1x4x384 (concatenate S4x384 0 [⟨S1x384, tapScale u0⟩, ⟨S1x384, tapScale u1⟩, ⟨S1x384, tapScale u2⟩,
    ⟨S1x384, tapScale u3⟩] concatenates_S1x384_S1x384_S1x384_S1x384_S4x384_d0) shapeCasts_S4x384_S1x4x384

/-- One scale repeated over the four taps of the second convolution. -/
abbrev four (v : FVec Ideal S1x384 .f32) : FVec Ideal S4x384 .f32 :=
  broadcastTo S4x384 (shapeCast S1x384 v shapeCasts_S1x384_S1x384) broadcasts_S1x384_S4x384

/-- The scales of the 16 output pixels of one input pixel. -/
def scale16 (u0 u1 u2 u3 : FVec Ideal S64x384 .f32) : FVec Ideal S16x384 .f32 :=
  concatenate S16x384 0 [⟨S4x384, four (tapScale u0)⟩, ⟨S4x384, four (tapScale u1)⟩, ⟨S4x384, four (tapScale u2)⟩,
    ⟨S4x384, four (tapScale u3)⟩] concatenates_S4x384_S4x384_S4x384_S4x384_S16x384_d0

/-- The first convolution with its scales and bias: 4 taps of 64 channels. -/
def conv1 (w : Vec Ideal S256x256 .bf16) (x : Vec Ideal S1x256x384 .bf16) (xs : Vec Ideal S1x1x384 .f32)
    (s b : Vec Ideal S1x256x128 .f32) : FVec Ideal S256x384 .f32 := k0_pay13 w x xs s b

/-- The second convolution's products, unscaled. -/
def conv2 (q : FVec Ideal S256x384 .f32) (w : Vec Ideal S512x256 .bf16) : FVec Ideal S512x384 .f32 := k0_pay75 q w

/-- Channel `n` of the second convolution takes rows `16n … 16n+15`. -/
theorem slices16 (n : ℕ) (h : n < 32) : S512x384.Slices ![n * 16, 0] S16x384 := by
  refine ⟨rfl, fun a => ?_⟩
  match a with
  | ⟨0, _⟩ => show n * 16 + 16 ≤ 512; omega
  | ⟨1, _⟩ => show 0 + 384 ≤ 384; omega

/-- One channel's 16 pixels: scaled, biased, GELU. -/
def chan (z : FVec Ideal S512x384 .f32) (sc : FVec Ideal S16x384 .f32) (s b : Vec Ideal S1x512x128 .f32)
    (n : ℕ) (h : n < 32) : FVec Ideal S16x384 .f32 :=
  geluV (addf (mulf (mulf (extractStridedSlice S16x384 ![n * 16, 0] z (slices16 n h)) sc)
      (extractStridedSlice S16x384 ![n * 16, 0] (lanes512 s) (slices16 n h)))
    (extractStridedSlice S16x384 ![n * 16, 0] (lanes512 b) (slices16 n h)))

/-- One number over the 16 x 384 block. -/
abbrev spread (h : Vec Ideal S1x1 .f32) : FVec Ideal S16x384 .f32 :=
  broadcastTo S16x384 (shapeCast S1x1 h shapeCasts_S1x1_S1x1) broadcasts_S1x1_S16x384

/-- A mask's sum over channels `0 … n`, in the kernel's order. -/
def maskAcc (z : FVec Ideal S512x384 .f32) (sc : FVec Ideal S16x384 .f32) (s b : Vec Ideal S1x512x128 .f32)
    (hv : (n : ℕ) → n < 32 → Vec Ideal S1x1 .f32) : (n : ℕ) → n < 32 → FVec Ideal S16x384 .f32
  | 0, h => mulf (chan z sc s b 0 h) (spread (hv 0 h))
  | n + 1, h => addf (maskAcc z sc s b hv n (Nat.lt_of_succ_lt h)) (mulf (chan z sc s b (n + 1) h) (spread (hv (n + 1) h)))

/-- A mask as stored. -/
def maskOut (v : FVec Ideal S16x384 .f32) : FVec Ideal S1x1x16x384 .bf16 :=
  shapeCast S1x1x16x384 (truncf .bf16 v bitsLt_bf16_f32) shapeCasts_S16x384_S1x1x16x384

end Cert.Up

end
-- ==== Proof.Trip.lean ====
/-
  What one trip of the upscaling kernel's chunk loop stores: the chunk's codes, its scales and its four masks, as the
  vector functions of `Vectors.lean` applied to what the trip loads.
-/
module

public import proofs.«01_k».proof.Proof.Vectors

@[expose] public section

set_option maxRecDepth 16384

noncomputable section

namespace Cert.Up

open Cert.UpscaleIdeal Cert.UpscaleIdeal.Gen Idealize.ShloMosaic Idealize.ShloMosaic.TcCoe Idealize.SL.Sem Idealize.ShloMosaic.Tactic

/-- Column `i` of the four kept for the first convolution: scale, bias, gain, offset. -/
abbrev col1 (c1 : Vec Ideal S4x256x128 .f32) (i : ℕ) (h : ∀ a, (![i, 0, 0] : Fin 3 → ℕ) a + S1x256x128.size a ≤ S4x256x128.size a) :
    Vec Ideal S1x256x128 .f32 := View.ld (Val := Elt Ideal) (e' := .f32) c1 (Rect.unit (s := S4x256x128) ![i, 0, 0] S1x256x128.size h)

/-- Column `i` of the two kept for the second convolution: scale, bias. -/
abbrev col2 (c2 : Vec Ideal S2x512x128 .f32) (i : ℕ) (h : ∀ a, (![i, 0, 0] : Fin 3 → ℕ) a + S1x512x128.size a ≤ S2x512x128.size a) :
    Vec Ideal S1x512x128 .f32 := View.ld (Val := Elt Ideal) (e' := .f32) c2 (Rect.unit (s := S2x512x128) ![i, 0, 0] S1x512x128.size h)

/-- The activations of the tap whose rows start at `o`, for one chunk. -/
def act (o : ℕ) (ho : S256x384.Slices ![o, 0] S64x384) (w1 : Vec Ideal S256x256 .bf16) (c1 : Vec Ideal S4x256x128 .f32)
    (x : Vec Ideal S1x256x384 .bf16) (xs : Vec Ideal S1x1x384 .f32) : FVec Ideal S64x384 .f32 :=
  tapU (tapRows o ho (conv1 w1 x xs (col1 c1 0 inb_S4x256x128_S1x256x128_0_0_0) (col1 c1 1 inb_S4x256x128_S1x256x128_1_0_0)))
    (tapRows o ho (lanes256 (col1 c1 2 inb_S4x256x128_S1x256x128_2_0_0)))
    (tapRows o ho (lanes256 (col1 c1 3 inb_S4x256x128_S1x256x128_3_0_0)))

/-- A function of the four taps' activations, at one chunk. -/
abbrev atTaps {α : Type} (f : FVec Ideal S64x384 .f32 → FVec Ideal S64x384 .f32 → FVec Ideal S64x384 .f32 → FVec Ideal S64x384 .f32 → α)
    (w1 : Vec Ideal S256x256 .bf16) (c1 : Vec Ideal S4x256x128 .f32)
    (x : Vec Ideal S1x256x384 .bf16) (xs : Vec Ideal S1x1x384 .f32) : α :=
  f (act 0 slices_S256x384_o0_0_S64x384 w1 c1 x xs) (act 64 slices_S256x384_o64_0_S64x384 w1 c1 x xs)
    (act 128 slices_S256x384_o128_0_S64x384 w1 c1 x xs) (act 192 slices_S256x384_o192_0_S64x384 w1 c1 x xs)

/-- Row `a` of the hyper-network column lies in the kept block. -/
theorem inb_row (a : ℕ) (h : a < 128) : ∀ i, (![a, 0] : Fin 2 → ℕ) i + S1x1.size i ≤ S128x128.size i := fun i =>
  match i with
  | ⟨0, _⟩ => by show a + 1 ≤ 128; omega
  | ⟨1, _⟩ => by show 0 + 1 ≤ 128; omega

/-- The hyper-network's number for mask `mk`, channel `n`. -/
abbrev hyp (hc : Vec Ideal S128x128 .f32) (mk : ℕ) (hm : mk < 4) (n : ℕ) (h : n < 32) : Vec Ideal S1x1 .f32 :=
  View.ld (Val := Elt Ideal) (e' := .f32) hc (Rect.unit (s := S128x128) ![mk * 32 + n, 0] S1x1.size (inb_row (mk * 32 + n) (by omega)))

/-- One chunk's mask `mk`. -/
def maskAt (mk : ℕ) (hm : mk < 4) (w1 : Vec Ideal S256x256 .bf16) (w2 : Vec Ideal S512x256 .bf16) (c1 : Vec Ideal S4x256x128 .f32)
    (c2 : Vec Ideal S2x512x128 .f32) (hc : Vec Ideal S128x128 .f32)
    (x : Vec Ideal S1x256x384 .bf16) (xs : Vec Ideal S1x1x384 .f32) : FVec Ideal S1x1x16x384 .bf16 :=
  maskOut (maskAcc (conv2 (atTaps codes w1 c1 x xs) w2) (atTaps scale16 w1 c1 x xs)
    (col2 c2 0 inb_S2x512x128_S1x512x128_0_0_0) (col2 c2 1 inb_S2x512x128_S1x512x128_1_0_0) (hyp hc mk hm) 31 (by omega))

section
variable (𝒱 : Variants) (c : Dev nD) (bd : Option 𝒱.V) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (X_arg2 : BufTy.Contents (Elt Ideal) arg2.view.ty) (X_arg3 : BufTy.Contents (Elt Ideal) arg3.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (k : Fin k0_t1_loop.trips)

set_option maxHeartbeats 2000000

/-- The chunk's codes. -/
theorem trip_codes : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 k).1
    = [⟨Rect.unit (s := S1x256x2688) (k0_off1 k) S1x256x384.size (k0_off1_inb k),
        atTaps codesOut (View.ld (Val := Elt Ideal) (View.read (Elt Ideal) arg11.view X_arg11) (Rect.unit (s := S256x256) ![0, 0] S256x256.size inb_S256x256_S256x256_0_0)) (View.read (Elt Ideal) arg13.view X_arg13) (View.ld (Val := Elt Ideal) (View.read (Elt Ideal) arg2.view X_arg2) (Rect.unit (s := S1x256x2688) (k0_off1 k) S1x256x384.size (k0_off1_inb k))) (View.ld (Val := Elt Ideal) (View.read (Elt Ideal) arg3.view X_arg3) (Rect.unit (s := S1x1x2688) (k0_off2 k) S1x1x384.size (k0_off2_inb k)))⟩] := by
  unfold trip_k0_t1
  rfl

/-- The chunk's scales. -/
theorem trip_scales : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 k).2.1
    = [⟨Rect.unit (s := S1x4x2688) (k0_off3 k) S1x4x384.size (k0_off3_inb k),
        atTaps scalesOut (View.ld (Val := Elt Ideal) (View.read (Elt Ideal) arg11.view X_arg11) (Rect.unit (s := S256x256) ![0, 0] S256x256.size inb_S256x256_S256x256_0_0)) (View.read (Elt Ideal) arg13.view X_arg13) (View.ld (Val := Elt Ideal) (View.read (Elt Ideal) arg2.view X_arg2) (Rect.unit (s := S1x256x2688) (k0_off1 k) S1x256x384.size (k0_off1_inb k))) (View.ld (Val := Elt Ideal) (View.read (Elt Ideal) arg3.view X_arg3) (Rect.unit (s := S1x1x2688) (k0_off2 k) S1x1x384.size (k0_off2_inb k)))⟩] := by
  unfold trip_k0_t1
  rfl

/-- The chunk's four masks, the last stored first. -/
theorem trip_masks : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 k).2.2.1
    = [⟨Rect.unit (s := S1x4x16x2688) (k0_off7 k) S1x1x16x384.size (k0_off7_inb k), maskAt 3 (by omega) (View.ld (Val := Elt Ideal) (View.read (Elt Ideal) arg11.view X_arg11) (Rect.unit (s := S256x256) ![0, 0] S256x256.size inb_S256x256_S256x256_0_0)) (View.ld (Val := Elt Ideal) (View.read (Elt Ideal) arg12.view X_arg12) (Rect.unit (s := S512x256) ![0, 0] S512x256.size inb_S512x256_S512x256_0_0)) (View.read (Elt Ideal) arg13.view X_arg13) (View.read (Elt Ideal) arg14.view X_arg14) (View.read (Elt Ideal) arg15.view X_arg15) (View.ld (Val := Elt Ideal) (View.read (Elt Ideal) arg2.view X_arg2) (Rect.unit (s := S1x256x2688) (k0_off1 k) S1x256x384.size (k0_off1_inb k))) (View.ld (Val := Elt Ideal) (View.read (Elt Ideal) arg3.view X_arg3) (Rect.unit (s := S1x1x2688) (k0_off2 k) S1x1x384.size (k0_off2_inb k)))⟩,
       ⟨Rect.unit (s := S1x4x16x2688) (k0_off6 k) S1x1x16x384.size (k0_off6_inb k), maskAt 2 (by omega) (View.ld (Val := Elt Ideal) (View.read (Elt Ideal) arg11.view X_arg11) (Rect.unit (s := S256x256) ![0, 0] S256x256.size inb_S256x256_S256x256_0_0)) (View.ld (Val := Elt Ideal) (View.read (Elt Ideal) arg12.view X_arg12) (Rect.unit (s := S512x256) ![0, 0] S512x256.size inb_S512x256_S512x256_0_0)) (View.read (Elt Ideal) arg13.view X_arg13) (View.read (Elt Ideal) arg14.view X_arg14) (View.read (Elt Ideal) arg15.view X_arg15) (View.ld (Val := Elt Ideal) (View.read (Elt Ideal) arg2.view X_arg2) (Rect.unit (s := S1x256x2688) (k0_off1 k) S1x256x384.size (k0_off1_inb k))) (View.ld (Val := Elt Ideal) (View.read (Elt Ideal) arg3.view X_arg3) (Rect.unit (s := S1x1x2688) (k0_off2 k) S1x1x384.size (k0_off2_inb k)))⟩,
       ⟨Rect.unit (s := S1x4x16x2688) (k0_off5 k) S1x1x16x384.size (k0_off5_inb k), maskAt 1 (by omega) (View.ld (Val := Elt Ideal) (View.read (Elt Ideal) arg11.view X_arg11) (Rect.unit (s := S256x256) ![0, 0] S256x256.size inb_S256x256_S256x256_0_0)) (View.ld (Val := Elt Ideal) (View.read (Elt Ideal) arg12.view X_arg12) (Rect.unit (s := S512x256) ![0, 0] S512x256.size inb_S512x256_S512x256_0_0)) (View.read (Elt Ideal) arg13.view X_arg13) (View.read (Elt Ideal) arg14.view X_arg14) (View.read (Elt Ideal) arg15.view X_arg15) (View.ld (Val := Elt Ideal) (View.read (Elt Ideal) arg2.view X_arg2) (Rect.unit (s := S1x256x2688) (k0_off1 k) S1x256x384.size (k0_off1_inb k))) (View.ld (Val := Elt Ideal) (View.read (Elt Ideal) arg3.view X_arg3) (Rect.unit (s := S1x1x2688) (k0_off2 k) S1x1x384.size (k0_off2_inb k)))⟩,
       ⟨Rect.unit (s := S1x4x16x2688) (k0_off4 k) S1x1x16x384.size (k0_off4_inb k), maskAt 0 (by omega) (View.ld (Val := Elt Ideal) (View.read (Elt Ideal) arg11.view X_arg11) (Rect.unit (s := S256x256) ![0, 0] S256x256.size inb_S256x256_S256x256_0_0)) (View.ld (Val := Elt Ideal) (View.read (Elt Ideal) arg12.view X_arg12) (Rect.unit (s := S512x256) ![0, 0] S512x256.size inb_S512x256_S512x256_0_0)) (View.read (Elt Ideal) arg13.view X_arg13) (View.read (Elt Ideal) arg14.view X_arg14) (View.read (Elt Ideal) arg15.view X_arg15) (View.ld (Val := Elt Ideal) (View.read (Elt Ideal) arg2.view X_arg2) (Rect.unit (s := S1x256x2688) (k0_off1 k) S1x256x384.size (k0_off1_inb k))) (View.ld (Val := Elt Ideal) (View.read (Elt Ideal) arg3.view X_arg3) (Rect.unit (s := S1x1x2688) (k0_off2 k) S1x1x384.size (k0_off2_inb k)))⟩] := by
  unfold trip_k0_t1
  rfl

end

end Cert.Up

end
-- ==== Proof.Scalar.lean ====
/-
  The arithmetic of one column of 64 channels, as the reference writes it: GELU, layer norm, and the quantiser's scale
  and codes. And the facts about extended reals by which the kernel's forms of them are the same: a product with a
  reciprocal is a quotient when the divisor is not zero, a layer norm's root is never zero, a quantiser's scale is never
  zero, and a code survives being stored as int8 and read back.
-/
module

public import Idealize.ShloMosaic.Lib.Pipeline.ValueKit
public import Idealize.ShloMosaic.Lib.Pointwise
public import Idealize.ShloMosaic.Lib.IdealHost

@[expose] public section

set_option maxRecDepth 16384

noncomputable section

namespace Cert.Up

open Idealize.ShloMosaic

/-- GELU by the error function. -/
def geluS (u : EReal) : EReal :=
  Ideal.ofBits .f32 0x3F000000#32 * u * (1 + Ideal.erf (u * Ideal.ofBits .f32 0x3F3504F3#32))

/-- The mean of 64 numbers. -/
def meanC (f : Fin 64 → EReal) : EReal := Ideal.div (∑ r, f r) (Ideal.ofBits .f32 0x42800000#32)

/-- A number less the mean. -/
def cenC (f : Fin 64 → EReal) (r : Fin 64) : EReal := f r - meanC f

/-- The root that a layer norm divides by. -/
def rootC (f : Fin 64 → EReal) : EReal :=
  Ideal.sqrt (meanC (fun r => cenC f r * cenC f r) + Ideal.ofBits .f32 0x358637BD#32)

/-- Layer norm of 64 numbers with gain `g` and offset `b`. -/
def lnC (f g b : Fin 64 → EReal) (r : Fin 64) : EReal := Ideal.div (cenC f r) (rootC f) * g r + b r

/-- The largest magnitude among 64 numbers. -/
def magC (u : Fin 64 → EReal) : EReal :=
  Finset.univ.fold max (Ideal.ofBits .f32 0xFF800000#32) (fun r => FloatOps.absf (F := Ideal) (φ := .f32) (u r))

/-- The quantiser's scale: the largest magnitude over 127, or one when all are zero. -/
def scaleC (u : Fin 64 → EReal) : EReal :=
  if 0 < magC u then Ideal.div (magC u) (Ideal.ofBits .f32 0x42FE0000#32) else 1

/-- A quantiser's code, as a number: the quotient by the scale, rounded to even, clipped to `-127 … 127`. -/
def codeC (u : Fin 64 → EReal) (r : Fin 64) : EReal :=
  min (max (Ideal.liftRound Ideal.roundHalfEven (Ideal.div (u r) (scaleC u))) (Ideal.ofBits .f32 0xC2FE0000#32))
    (Ideal.ofBits .f32 0x42FE0000#32)

/-- A code as an int8 word. -/
def word (q : EReal) : BitVec 8 := BitVec.setWidth 8 (Ideal.fptosi 32 q)

theorem bits_64 : Ideal.ofBits .f32 0x42800000#32 = ((64 : ℝ) : EReal) := by
  simp [Ideal.ofBits, Ideal.ieee, -EReal.coe_mul]; norm_num

theorem bits_64th : Ideal.ofBits .f32 0x3C800000#32 = ((1 / 64 : ℝ) : EReal) := by
  simp [Ideal.ofBits, Ideal.ieee, -EReal.coe_mul]; norm_num

theorem bits_127 : Ideal.ofBits .f32 0x42FE0000#32 = ((127 : ℝ) : EReal) := by
  simp [Ideal.ofBits, Ideal.ieee, -EReal.coe_mul]; norm_num

theorem bits_neg127 : Ideal.ofBits .f32 0xC2FE0000#32 = ((-127 : ℝ) : EReal) := by
  simp [Ideal.ofBits, Ideal.ieee, -EReal.coe_mul, -EReal.coe_neg]; norm_num

theorem bits_eps_pos : 0 < Ideal.ofBits .f32 0x358637BD#32 := by
  have h : Ideal.ofBits .f32 0x358637BD#32 = ((8796093 / 2 ^ 43 : ℝ) : EReal) := by
    simp [Ideal.ofBits, Ideal.ieee, -EReal.coe_mul]; norm_num
  rw [h]; exact EReal.coe_pos.mpr (by norm_num)

/-- The mean by a product with `1/64`. -/
theorem mul_64th (x : EReal) : x * Ideal.ofBits .f32 0x3C800000#32 = Ideal.div x (Ideal.ofBits .f32 0x42800000#32) := by
  rw [bits_64, bits_64th, Ideal.div_coe (by norm_num)]

/-- A square is not negative. -/
theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- A mean of numbers that are not negative is not negative. -/
theorem meanC_nonneg (f : Fin 64 → EReal) (h : ∀ r, 0 ≤ f r) : 0 ≤ meanC f := by
  unfold meanC
  rw [bits_64, Ideal.div_coe (by norm_num)]
  exact mul_nonneg (Finset.sum_nonneg fun r _ => h r) (EReal.coe_nonneg.mpr (by norm_num))

/-- The root of a positive number is not zero. -/
theorem sqrt_ne_zero {x : EReal} (h : 0 < x) : Ideal.sqrt x ≠ 0 := by
  induction x using EReal.rec with
  | bot => exact absurd h (by simp)
  | top => simp
  | coe r =>
    have hr : 0 < r := EReal.coe_pos.mp h
    rw [Ideal.sqrt_coe, if_neg (not_lt.mpr hr.le)]
    exact (EReal.coe_pos.mpr (Real.sqrt_pos.mpr hr)).ne'

theorem rootC_ne_zero (f : Fin 64 → EReal) : rootC f ≠ 0 :=
  sqrt_ne_zero (lt_of_lt_of_le bits_eps_pos
    (le_add_of_nonneg_left (meanC_nonneg _ fun r => sq_nonneg' _)))

theorem scaleC_ne_zero (u : Fin 64 → EReal) : scaleC u ≠ 0 := by
  unfold scaleC
  split
  · rename_i h
    rw [bits_127, Ideal.div_coe (by norm_num)]
    exact (EReal.mul_pos h (EReal.coe_pos.mpr (by norm_num))).ne'
  · exact one_ne_zero

/-- The reference's GELU, by the complementary error function. -/
theorem gelu_erfc (u : EReal) :
    Ideal.ofBits .f32 0x3F000000#32 * u * Ideal.erfc (-u * Ideal.ofBits .f32 0x3F3504F3#32) = geluS u := by
  unfold geluS
  rw [EReal.neg_mul, Ideal.erfc_neg]

/-- A code is an integer between -127 and 127. -/
theorem codeC_int (u : Fin 64 → EReal) (r : Fin 64) : ∃ k : ℤ, -127 ≤ k ∧ k ≤ 127 ∧ codeC u r = ((k : ℝ) : EReal) := by
  unfold codeC
  rw [bits_127, bits_neg127]
  generalize Ideal.div (u r) (scaleC u) = x
  induction x using EReal.rec with
  | bot =>
    refine ⟨-127, by norm_num, by norm_num, ?_⟩
    rw [Ideal.liftRound_bot, max_eq_right bot_le, min_eq_left (EReal.coe_le_coe_iff.mpr (by norm_num))]; norm_num
  | top =>
    refine ⟨127, by norm_num, by norm_num, ?_⟩
    rw [Ideal.liftRound_top, max_eq_left le_top, min_eq_right le_top]; norm_num
  | coe a =>
    refine ⟨min (max (Ideal.roundHalfEven a) (-127)) 127, by omega, by omega, ?_⟩
    rw [Ideal.liftRound_coe, ← EReal.coe_strictMono.monotone.map_max, ← EReal.coe_strictMono.monotone.map_min]
    congr 1
    push_cast
    rfl

/-- Every integer between -127 and 127 survives the cut from 32 bits to 8. -/
theorem toInt_cut : ∀ k : Fin 255, (BitVec.setWidth 8 (BitVec.ofInt 32 ((k : ℤ) - 127))).toInt = (k : ℤ) - 127 := by
  decide

/-- A code read back from its int8 word is the code. -/
theorem word_toInt (u : Fin 64 → EReal) (r : Fin 64) : (((word (codeC u r)).toInt : ℝ) : EReal) = codeC u r := by
  obtain ⟨k, h1, h2, hk⟩ := codeC_int u r
  rw [hk]
  have hc : Ideal.toIntClamped (-(2 ^ (32 - 1) : ℕ)) ((2 ^ (32 - 1) : ℕ) - 1) ((k : ℝ) : EReal) = k := by
    rw [Ideal.toIntClamped_coe, Int.floor_intCast, Int.ceil_intCast, ite_self]
    norm_num
    omega
  have hw : (word ((k : ℝ) : EReal)).toInt = k := by
    unfold word Ideal.fptosi
    rw [hc]
    have h := toInt_cut ⟨(k + 127).toNat, by omega⟩
    have e : (((k + 127).toNat : ℕ) : ℤ) - 127 = k := by omega
    simp only [e] at h
    exact h
  rw [hw]

end Cert.Up

end
-- ==== Proof.Columns.lean ====
/-
  The kernel's vector functions of one tap and of one chunk, read at an entry: each is the column arithmetic of
  `Scalar.lean` applied to that pixel's column.
-/
module

public import proofs.«01_k».proof.Proof.Vectors
public import proofs.«01_k».proof.Proof.Scalar

@[expose] public section

set_option maxRecDepth 16384

noncomputable section

namespace Cert.Up

open Cert.UpscaleIdeal Cert.UpscaleIdeal.Gen Idealize.ShloMosaic

/-- Column `l` of a block. -/
abbrev colOf {n : ℕ} (v : (⟨2, ![n, 384]⟩ : Shape).Idx → EReal) (l : Fin 384) : Fin n → EReal := fun r => v (ix2 r l)

/-- The tree of 8-row pieces adds up the 64 rows. -/
theorem sum_eights (f : Fin 64 → EReal) :
    ∑ x : Fin 8, (f ⟨x.val, by omega⟩ + f ⟨32 + x.val, by omega⟩ + (f ⟨8 + x.val, by omega⟩ + f ⟨40 + x.val, by omega⟩) +
        (f ⟨16 + x.val, by omega⟩ + f ⟨48 + x.val, by omega⟩ + (f ⟨24 + x.val, by omega⟩ + f ⟨56 + x.val, by omega⟩))) =
      ∑ r, f r := by
  rw [Fin.sum_univ_tiles 8 8 rfl f, Finset.sum_comm]
  refine Finset.sum_congr rfl fun x _ => ?_
  rw [Fin.sum_univ_eight]
  show _ = f ⟨0 * 8 + x.val, _⟩ + f ⟨8 + x.val, _⟩ + f ⟨16 + x.val, _⟩ + f ⟨24 + x.val, _⟩ + f ⟨32 + x.val, _⟩ +
    f ⟨40 + x.val, _⟩ + f ⟨48 + x.val, _⟩ + f ⟨56 + x.val, _⟩
  simp only [Nat.zero_mul, Nat.zero_add]
  ac_rfl

theorem colSum_apply (v : FVec Ideal S64x384 .f32) (l : Fin 384) :
    colSum v (ix2 0 l) = ∑ r : Fin 64, v (ix2 r l) := by
  pointwise [colSum, eight]
  exact sum_eights (fun r => v (ix2 r l))

/-- The tree of 8-row pieces takes the maximum over the 64 rows. -/
theorem max_eights (z : EReal) (f : Fin 64 → EReal) :
    Finset.univ.fold max z (fun x : Fin 8 =>
        max (max (max (f ⟨x.val, by omega⟩) (f ⟨32 + x.val, by omega⟩)) (max (f ⟨8 + x.val, by omega⟩) (f ⟨40 + x.val, by omega⟩)))
          (max (max (f ⟨16 + x.val, by omega⟩) (f ⟨48 + x.val, by omega⟩)) (max (f ⟨24 + x.val, by omega⟩) (f ⟨56 + x.val, by omega⟩)))) =
      Finset.univ.fold max z f := by
  refine eq_of_forall_ge_iff fun c => ?_
  simp only [Finset.fold_max_le, Finset.mem_univ, true_implies, max_le_iff]
  refine and_congr_right fun _ => ⟨fun h r => ?_, fun h x => ?_⟩
  · obtain ⟨⟨⟨h0, h4⟩, h1, h5⟩, ⟨h2, h6⟩, h3, h7⟩ := h ⟨r.val % 8, by omega⟩
    have hr : r.val / 8 < 8 := by omega
    have e : r.val = 8 * (r.val / 8) + r.val % 8 := by omega
    generalize r.val / 8 = q at hr e
    interval_cases q
    · exact (congrArg f (Fin.ext (by simp only; omega))).trans_le h0
    · exact (congrArg f (Fin.ext (by simp only; omega))).trans_le h1
    · exact (congrArg f (Fin.ext (by simp only; omega))).trans_le h2
    · exact (congrArg f (Fin.ext (by simp only; omega))).trans_le h3
    · exact (congrArg f (Fin.ext (by simp only; omega))).trans_le h4
    · exact (congrArg f (Fin.ext (by simp only; omega))).trans_le h5
    · exact (congrArg f (Fin.ext (by simp only; omega))).trans_le h6
    · exact (congrArg f (Fin.ext (by simp only; omega))).trans_le h7
  · exact ⟨⟨⟨h _, h _⟩, h _, h _⟩, ⟨h _, h _⟩, h _, h _⟩

theorem colMag_apply (u : FVec Ideal S64x384 .f32) (l : Fin 384) :
    colMax (absf u) (ix2 0 l) = magC (colOf u l) := by
  pointwise [colMax, eight]
  exact max_eights _ (fun r => FloatOps.absf (F := Ideal) (φ := .f32) (u (ix2 r l)))

theorem colMean_apply (v : FVec Ideal S64x384 .f32) (l : Fin 384) : colMean v (ix2 0 l) = meanC (colOf v l) := by
  show colSum v (ix2 0 l) * Ideal.ofBits .f32 0x3C800000#32 = _
  rw [colSum_apply, mul_64th]
  rfl

theorem centred_apply (y : FVec Ideal S64x384 .f32) (r : Fin 64) (l : Fin 384) :
    centred y (ix2 r l) = cenC (colOf y l) r := by
  have h : centred y (ix2 r l) = y (ix2 r l) - colMean y (ix2 0 l) := by
    unfold centred; generalize colMean y = m; pointwise
  rw [h, colMean_apply]
  rfl

/-- One tap's activations at a pixel: GELU of the layer norm of the pixel's column. -/
theorem tapU_apply (y g b : FVec Ideal S64x384 .f32) (r : Fin 64) (l : Fin 384) :
    tapU y g b (ix2 r l) = geluS (lnC (colOf y l) (colOf g l) (colOf b l) r) := by
  have hr : (sqrt (addf (colMean (mulf (centred y) (centred y))) (broadcast S1x384 (Scalar.ofBits .f32 0x358637BD#32)))
      : FVec Ideal S1x384 .f32) (ix2 0 l) = rootC (colOf y l) := by
    show Ideal.sqrt (colMean (mulf (centred y) (centred y)) (ix2 0 l) + Ideal.ofBits .f32 0x358637BD#32) = _
    rw [colMean_apply]
    unfold rootC
    congr 3
    funext r'
    show centred y (ix2 r' l) * centred y (ix2 r' l) = _
    rw [centred_apply]
  have hl : lnV y g b (ix2 r l) = lnC (colOf y l) (colOf g l) (colOf b l) r := by
    have h : lnV y g b (ix2 r l) = centred y (ix2 r l) * Ideal.div 1 ((sqrt (addf (colMean (mulf (centred y) (centred y)))
        (broadcast S1x384 (Scalar.ofBits .f32 0x358637BD#32))) : FVec Ideal S1x384 .f32) (ix2 0 l)) * g (ix2 r l) + b (ix2 r l) := by
      unfold lnV
      generalize sqrt (addf (colMean (mulf (centred y) (centred y))) (broadcast S1x384 (Scalar.ofBits .f32 0x358637BD#32))) = q
      generalize centred y = d
      pointwise
    rw [h, hr, centred_apply, Ideal.mul_one_div (rootC_ne_zero _)]
    rfl
  unfold tapU
  generalize lnV y g b = v at hl
  rw [← hl]
  unfold geluV geluS
  pointwise
  rfl

/-- One tap's scale at a pixel. -/
theorem tapScale_apply (u : FVec Ideal S64x384 .f32) (l : Fin 384) : tapScale u (ix2 0 l) = scaleC (colOf u l) := by
  have h := colMag_apply u l
  unfold tapScale scaleC
  generalize colMax (absf u) = m at h
  rw [← h]
  pointwise

/-- One tap's code at a pixel. -/
theorem tapCode_apply (u : FVec Ideal S64x384 .f32) (r : Fin 64) (l : Fin 384) : tapCode u (ix2 r l) = codeC (colOf u l) r := by
  unfold tapCode
  pointwise
  rw [tapScale_apply, Ideal.mul_one_div (scaleC_ne_zero _), min_comm, max_comm]
  rfl

end Cert.Up

end
-- ==== Proof.Chunk.lean ====
/-
  What one chunk of the kernel computes, read at an entry: the codes, the scales and the masks of a pixel as functions
  of that pixel's 256 input codes, its input scale and the constant arrays. The arrays of constants that are kept along
  the lanes enter by what one row of them holds.
-/
module

public import proofs.«01_k».proof.Proof.Trip
public import proofs.«01_k».proof.Proof.Columns

@[expose] public section

set_option maxRecDepth 16384

noncomputable section

namespace Cert.Up

open Cert.UpscaleIdeal Cert.UpscaleIdeal.Gen Idealize.ShloMosaic

/-- Row `64 t + c`: channel `c` of tap `t`. -/
abbrev row (t : Fin 4) (c : Fin 64) : Fin 256 := ⟨t.val * 64 + c.val, by omega⟩

/-- The first convolution at a pixel, row `r`: products, input scale, the row's scale and bias. -/
def preP (w : Fin 256 → Fin 256 → EReal) (v : Fin 4 → Fin 256 → EReal) (x : Fin 256 → EReal) (xs : EReal) (r : Fin 256) : EReal :=
  (∑ k, w r k * x k) * xs * v 0 r + v 1 r

/-- Tap `t`'s 64 activations at a pixel. -/
def actP (w : Fin 256 → Fin 256 → EReal) (v : Fin 4 → Fin 256 → EReal) (x : Fin 256 → EReal) (xs : EReal) (t : Fin 4) :
    Fin 64 → EReal := fun c =>
  geluS (lnC (fun c => preP w v x xs (row t c)) (fun c => v 2 (row t c)) (fun c => v 3 (row t c)) c)

/-- A row's code, from the four taps' activations. -/
def codeP (u : Fin 4 → Fin 64 → EReal) (k : Fin 256) : EReal :=
  codeC (u ⟨k.val / 64, by omega⟩) ⟨k.val % 64, by omega⟩

/-- Row `r` of the second convolution, after scales, bias and GELU; `v` holds a row's scale and bias. -/
def chanP (w : Fin 512 → Fin 256 → EReal) (v : Fin 2 → Fin 512 → EReal) (u : Fin 4 → Fin 64 → EReal) (r : Fin 512) : EReal :=
  geluS ((∑ k, w r k * codeP u k) * scaleC (u ⟨r.val % 16 / 4, by omega⟩) * v 0 r + v 1 r)

/-- A mask at output pixel `a` of an input pixel: the 32 channels weighted by `h`. -/
def maskP (w : Fin 512 → Fin 256 → EReal) (v : Fin 2 → Fin 512 → EReal) (u : Fin 4 → Fin 64 → EReal) (h : Fin 32 → EReal)
    (a : Fin 16) : EReal :=
  ∑ n : Fin 32, chanP w v u ⟨n.val * 16 + a.val, by omega⟩ * h n

section
variable (w1 : Vec Ideal S256x256 .bf16) (w2 : Vec Ideal S512x256 .bf16) (c1 : Vec Ideal S4x256x128 .f32)
  (c2 : Vec Ideal S2x512x128 .f32) (hc : Vec Ideal S128x128 .f32) (x : Vec Ideal S1x256x384 .bf16) (xs : Vec Ideal S1x1x384 .f32)
  (v1 : Fin 4 → Fin 256 → EReal) (v2 : Fin 2 → Fin 512 → EReal) (hv : Fin 128 → EReal)

theorem col1_apply (i : Fin 4) (h) (r : Fin 256) (l : Fin 128) : col1 c1 i.val h (ix3 0 r l) = c1 (ix3 i r l) := by
  refine View.ld_unit_apply_of _ _ _ _ _ (ix3 i r l) fun a => ?_
  fin_cases a
  · show i.val = i.val + 0; rfl
  · show r.val = 0 + r.val; omega
  · show l.val = 0 + l.val; omega

theorem col2_apply (i : Fin 2) (h) (r : Fin 512) (l : Fin 128) : col2 c2 i.val h (ix3 0 r l) = c2 (ix3 i r l) := by
  refine View.ld_unit_apply_of _ _ _ _ _ (ix3 i r l) fun a => ?_
  fin_cases a
  · show i.val = i.val + 0; rfl
  · show r.val = 0 + r.val; omega
  · show l.val = 0 + l.val; omega

theorem hyp_apply (mk : Fin 4) (h) (n : ℕ) (hn : n < 32) :
    hyp hc mk.val h n hn (ix2 0 0) = hc (ix2 ⟨mk.val * 32 + n, by omega⟩ 0) := by
  refine View.ld_unit_apply_of _ _ _ _ _ (ix2 ⟨mk.val * 32 + n, by omega⟩ 0) fun a => ?_
  fin_cases a
  · show mk.val * 32 + n = mk.val * 32 + n + 0; rfl
  · show 0 = 0 + 0; rfl

theorem conv1_apply (s b : Vec Ideal S1x256x128 .f32) (sv bv : Fin 256 → EReal) (hs : ∀ r l, s (ix3 0 r l) = sv r)
    (hb : ∀ r l, b (ix3 0 r l) = bv r) (r : Fin 256) (l : Fin 384) :
    conv1 w1 x xs s b (ix2 r l) = (∑ k, w1 (ix2 r k) * x (ix3 0 k l)) * xs (ix3 0 0 l) * sv r + bv r := by
  pointwise [conv1, k0_pay13]
  simp only [hs, hb, dite_eq_ite, ite_self]

theorem lanes256_apply (s : Vec Ideal S1x256x128 .f32) (sv : Fin 256 → EReal) (hs : ∀ r l, s (ix3 0 r l) = sv r)
    (r : Fin 256) (l : Fin 384) : lanes256 s (ix2 r l) = sv r := by
  pointwise
  simp only [hs, dite_eq_ite, ite_self]

theorem lanes512_apply (s : Vec Ideal S1x512x128 .f32) (sv : Fin 512 → EReal) (hs : ∀ r l, s (ix3 0 r l) = sv r)
    (r : Fin 512) (l : Fin 384) : lanes512 s (ix2 r l) = sv r := by
  pointwise
  simp only [hs, dite_eq_ite, ite_self]

theorem tapRows_apply (t : Fin 4) (o : ℕ) (e : o = t.val * 64) (ho) (v : FVec Ideal S256x384 .f32) (c : Fin 64) (l : Fin 384) :
    tapRows o ho v (ix2 c l) = v (ix2 (row t c) l) := by
  subst e
  pointwise

theorem codes_apply (u : Fin 4 → FVec Ideal S64x384 .f32) (r : Fin 256) (l : Fin 384) :
    codes (u 0) (u 1) (u 2) (u 3) (ix2 r l) = codeP (fun t => colOf (u t) l) r := by
  pointwise [codes]
  obtain ⟨r, hr⟩ := r
  simp only [tapCode_apply, codeP]
  by_cases h0 : r < 64
  · rw [dif_pos h0]
    have e : r / 64 = 0 := by omega
    have f : r % 64 = r := by omega
    simp only [e, f]; rfl
  by_cases h1 : r - 64 < 64
  · rw [dif_neg h0, dif_pos h1]
    have e : r / 64 = 1 := by omega
    have f : r % 64 = r - 64 := by omega
    simp only [e, f]; rfl
  by_cases h2 : r - 64 - 64 < 64
  · rw [dif_neg h0, dif_neg h1, dif_pos h2]
    have e : r / 64 = 2 := by omega
    have f : r % 64 = r - 64 - 64 := by omega
    simp only [e, f]; rfl
  · rw [dif_neg h0, dif_neg h1, dif_neg h2]
    have e : r / 64 = 3 := by omega
    have f : r % 64 = r - 64 - 64 - 64 := by omega
    simp only [e, f]; rfl

theorem codesOut_apply (u : Fin 4 → FVec Ideal S64x384 .f32) (r : Fin 256) (l : Fin 384) :
    codesOut (u 0) (u 1) (u 2) (u 3) (ix3 0 r l) = word (codeP (fun t => colOf (u t) l) r) := by
  rw [← codes_apply]
  pointwise [codesOut]
  rfl

theorem scalesOut_apply (u : Fin 4 → FVec Ideal S64x384 .f32) (t : Fin 4) (l : Fin 384) :
    scalesOut (u 0) (u 1) (u 2) (u 3) (ix3 0 t l) = scaleC (colOf (u t) l) := by
  pointwise [scalesOut]
  fin_cases t <;> simp [tapScale_apply]

theorem scale16_apply (u : Fin 4 → FVec Ideal S64x384 .f32) (a : Fin 16) (l : Fin 384) :
    scale16 (u 0) (u 1) (u 2) (u 3) (ix2 a l) = scaleC (colOf (u ⟨a.val / 4, by omega⟩) l) := by
  pointwise [scale16]
  fin_cases a <;> simp [tapScale_apply]

theorem conv2_apply (q : FVec Ideal S256x384 .f32) (r : Fin 512) (l : Fin 384) :
    conv2 q w2 (ix2 r l) = ∑ k, w2 (ix2 r k) * q (ix2 k l) := by
  pointwise [conv2, k0_pay75]

theorem chan_apply (z : FVec Ideal S512x384 .f32) (sc : FVec Ideal S16x384 .f32) (s b : Vec Ideal S1x512x128 .f32)
    (sv bv : Fin 512 → EReal) (hs : ∀ r l, s (ix3 0 r l) = sv r) (hb : ∀ r l, b (ix3 0 r l) = bv r)
    (n : ℕ) (h : n < 32) (a : Fin 16) (l : Fin 384) :
    chan z sc s b n h (ix2 a l) = geluS (z (ix2 ⟨n * 16 + a.val, by omega⟩ l) * sc (ix2 a l) * sv ⟨n * 16 + a.val, by omega⟩
      + bv ⟨n * 16 + a.val, by omega⟩) := by
  have hs' := lanes512_apply s sv hs
  have hb' := lanes512_apply b bv hb
  unfold chan
  generalize lanes512 s = sl at hs'
  generalize lanes512 b = bl at hb'
  unfold geluV geluS
  pointwise
  simp only [hs', hb']
  rfl

theorem maskAcc_apply (z : FVec Ideal S512x384 .f32) (sc : FVec Ideal S16x384 .f32) (s b : Vec Ideal S1x512x128 .f32)
    (hh : (n : ℕ) → n < 32 → Vec Ideal S1x1 .f32) (a : Fin 16) (l : Fin 384) : (n : ℕ) → (h : n < 32) →
    maskAcc z sc s b hh n h (ix2 a l) =
      ∑ i : Fin (n + 1), chan z sc s b i.val (by omega) (ix2 a l) * hh i.val (by omega) (ix2 0 0)
  | 0, h => by
    rw [Fin.sum_univ_one]
    show mulf (chan z sc s b 0 h) (spread (hh 0 h)) (ix2 a l) = chan z sc s b 0 h (ix2 a l) * hh 0 h (ix2 0 0)
    generalize chan z sc s b 0 h = q
    pointwise
  | n + 1, h => by
    rw [Fin.sum_univ_castSucc]
    have ih := maskAcc_apply z sc s b hh a l n (Nat.lt_of_succ_lt h)
    show addf (maskAcc z sc s b hh n (Nat.lt_of_succ_lt h)) (mulf (chan z sc s b (n + 1) h) (spread (hh (n + 1) h))) (ix2 a l) = _
    refine Eq.trans ?_ (congrArg₂ (· + ·) ih rfl)
    generalize maskAcc z sc s b hh n (Nat.lt_of_succ_lt h) = p
    show _ = p (ix2 a l) + chan z sc s b (n + 1) h (ix2 a l) * hh (n + 1) h (ix2 0 0)
    generalize chan z sc s b (n + 1) h = q
    pointwise

variable (h1 : ∀ i r l, c1 (ix3 i r l) = v1 i r) (h2 : ∀ i r l, c2 (ix3 i r l) = v2 i r) (hh : ∀ r l, hc (ix2 r l) = hv r)

/-- One column of the first convolution's weights, as a function of row and channel. -/
abbrev mat {m n : ℕ} (w : (⟨2, ![m, n]⟩ : Shape).Idx → EReal) : Fin m → Fin n → EReal := fun r k => w (ix2 r k)

include h1 in
/-- The activations of tap `t` at pixel `l` of the chunk. -/
theorem act_apply (t : Fin 4) (o : ℕ) (e : o = t.val * 64) (ho) (l : Fin 384) :
    colOf (act o ho w1 c1 x xs) l = actP (mat w1) v1 (fun k => x (ix3 0 k l)) (xs (ix3 0 0 l)) t := by
  funext c
  have hc : ∀ (i : Fin 4) (h : ∀ a, (![i.val, 0, 0] : Fin 3 → ℕ) a + S1x256x128.size a ≤ S4x256x128.size a) (r : Fin 256) (l : Fin 128),
      col1 c1 i.val h (ix3 0 r l) = v1 i r := fun i h r l => (col1_apply c1 i h r l).trans (h1 i r l)
  show act o ho w1 c1 x xs (ix2 c l) = _
  unfold act actP
  rw [tapU_apply]
  congr 1
  congr 1
  · funext c
    rw [colOf, tapRows_apply t o e]
    exact conv1_apply w1 x xs _ _ (v1 0) (v1 1) (hc 0 _) (hc 1 _) _ _
  · funext c
    rw [colOf, tapRows_apply t o e]
    exact lanes256_apply _ _ (hc 2 _) _ _
  · funext c
    rw [colOf, tapRows_apply t o e]
    exact lanes256_apply _ _ (hc 3 _) _ _

/-- The four taps' activations, listed. -/
def actV (t : Fin 4) : FVec Ideal S64x384 .f32 :=
  act (t.val * 64) (by
    refine ⟨rfl, fun a => ?_⟩
    match a with
    | ⟨0, _⟩ => show t.val * 64 + 64 ≤ 256; omega
    | ⟨1, _⟩ => show 0 + 384 ≤ 384; omega) w1 c1 x xs

theorem atTaps_eq {α : Type} (f : FVec Ideal S64x384 .f32 → FVec Ideal S64x384 .f32 → FVec Ideal S64x384 .f32 → FVec Ideal S64x384 .f32 → α) :
    atTaps f w1 c1 x xs = f (actV w1 c1 x xs 0) (actV w1 c1 x xs 1) (actV w1 c1 x xs 2) (actV w1 c1 x xs 3) := rfl

include h1 in
theorem actV_apply (l : Fin 384) : (fun t => colOf (actV w1 c1 x xs t) l) = actP (mat w1) v1 (fun k => x (ix3 0 k l)) (xs (ix3 0 0 l)) :=
  funext fun t => act_apply w1 c1 x xs v1 h1 t _ rfl _ l

include h1 in
/-- The chunk's codes at a pixel. -/
theorem chunk_codes (r : Fin 256) (l : Fin 384) : atTaps codesOut w1 c1 x xs (ix3 0 r l) =
    word (codeP (actP (mat w1) v1 (fun k => x (ix3 0 k l)) (xs (ix3 0 0 l))) r) := by
  rw [atTaps_eq, codesOut_apply, actV_apply w1 c1 x xs v1 h1]

include h1 in
/-- The chunk's scales at a pixel. -/
theorem chunk_scales (t : Fin 4) (l : Fin 384) : atTaps scalesOut w1 c1 x xs (ix3 0 t l) =
    scaleC (actP (mat w1) v1 (fun k => x (ix3 0 k l)) (xs (ix3 0 0 l)) t) := by
  rw [atTaps_eq, scalesOut_apply, ← actV_apply w1 c1 x xs v1 h1]

include h1 h2 hh in
/-- The chunk's masks at a pixel. -/
theorem chunk_mask (mk : Fin 4) (hm) (a : Fin 16) (l : Fin 384) : maskAt mk.val hm w1 w2 c1 c2 hc x xs (ix4 0 0 a l) =
    maskP (mat w2) v2 (actP (mat w1) v1 (fun k => x (ix3 0 k l)) (xs (ix3 0 0 l))) (fun n => hv ⟨mk.val * 32 + n.val, by omega⟩) a := by
  have hc2 : ∀ (i : Fin 2) (h : ∀ a, (![i.val, 0, 0] : Fin 3 → ℕ) a + S1x512x128.size a ≤ S2x512x128.size a) (r : Fin 512) (l : Fin 128),
      col2 c2 i.val h (ix3 0 r l) = v2 i r := fun i h r l => (col2_apply c2 i h r l).trans (h2 i r l)
  have ho : ∀ v : FVec Ideal S16x384 .f32, maskOut v (ix4 0 0 a l) = v (ix2 a l) := fun v => by pointwise [maskOut]
  unfold maskAt
  rw [ho, maskAcc_apply]
  refine Finset.sum_congr rfl fun n _ => ?_
  refine congrArg₂ (· * ·) ((chan_apply _ _ _ _ (v2 0) (v2 1) (hc2 0 _) (hc2 1 _) n.val _ a l).trans ?_)
    ((hyp_apply hc mk hm n.val _).trans (hh _ _))
  unfold chanP
  rw [conv2_apply, atTaps_eq, atTaps_eq, scale16_apply, ← actV_apply w1 c1 x xs v1 h1]
  have e : (n.val * 16 + a.val) % 16 / 4 = a.val / 4 := by omega
  simp only [codes_apply, e]

end

end Cert.Up

end
-- ==== Proof.Loop.lean ====
/-
  The kernel's chunk loop: after any number of trips, every piece stored so far holds, wherever it lies, the value that the
  whole block is to hold there. The block's values are functions of the input pixel's column, as in `Chunk.lean`.
-/
module

public import proofs.«01_k».proof.Proof.Chunk

@[expose] public section

set_option maxRecDepth 16384

noncomputable section

namespace Cert.Up

open Cert.UpscaleIdeal Cert.UpscaleIdeal.Gen Idealize.ShloMosaic Idealize.ShloMosaic.TcCoe Idealize.SL.Sem Idealize.ShloMosaic.Tactic

/-- The activations of pixel `s` of a block. -/
abbrev blkAct (W1 : Vec Ideal S256x256 .bf16) (v1 : Fin 4 → Fin 256 → EReal) (X : Vec Ideal S1x256x2688 .bf16)
    (XS : Vec Ideal S1x1x2688 .f32) (s : Fin 2688) : Fin 4 → Fin 64 → EReal :=
  actP (mat W1) v1 (fun k => X (ix3 0 k s)) (XS (ix3 0 0 s))

/-- A block's codes. -/
def blkCodes (W1 : Vec Ideal S256x256 .bf16) (v1 : Fin 4 → Fin 256 → EReal) (X : Vec Ideal S1x256x2688 .bf16)
    (XS : Vec Ideal S1x1x2688 .f32) : Vec Ideal S1x256x2688 .i8 := fun i => word (codeP (blkAct W1 v1 X XS (i 2)) (i 1))

/-- A block's scales. -/
def blkScales (W1 : Vec Ideal S256x256 .bf16) (v1 : Fin 4 → Fin 256 → EReal) (X : Vec Ideal S1x256x2688 .bf16)
    (XS : Vec Ideal S1x1x2688 .f32) : Vec Ideal S1x4x2688 .f32 := fun i => scaleC (blkAct W1 v1 X XS (i 2) (i 1))

/-- A block's masks. -/
def blkMasks (W1 : Vec Ideal S256x256 .bf16) (W2 : Vec Ideal S512x256 .bf16) (v1 : Fin 4 → Fin 256 → EReal)
    (v2 : Fin 2 → Fin 512 → EReal) (hv : Fin 128 → EReal) (X : Vec Ideal S1x256x2688 .bf16)
    (XS : Vec Ideal S1x1x2688 .f32) : Vec Ideal S1x4x16x2688 .bf16 := fun i =>
  maskP (mat W2) v2 (blkAct W1 v1 X XS (i 3)) (fun n => hv ⟨(i 1).val * 32 + n.val, by have h : (i 1).val < 4 := (i 1).isLt; omega⟩) (i 2)

theorem trips7 : k0_t1_loop.trips = 7 := by decide

theorem off1_eq : ∀ k : Fin k0_t1_loop.trips, k0_off1 k = ![0, 0, k.val * 384] := by decide
theorem off2_eq : ∀ k : Fin k0_t1_loop.trips, k0_off2 k = ![0, 0, k.val * 384] := by decide
theorem off3_eq : ∀ k : Fin k0_t1_loop.trips, k0_off3 k = ![0, 0, k.val * 384] := by decide
theorem off4_eq : ∀ k : Fin k0_t1_loop.trips, k0_off4 k = ![0, 0, 0, k.val * 384] := by decide
theorem off5_eq : ∀ k : Fin k0_t1_loop.trips, k0_off5 k = ![0, 1, 0, k.val * 384] := by decide
theorem off6_eq : ∀ k : Fin k0_t1_loop.trips, k0_off6 k = ![0, 2, 0, k.val * 384] := by decide
theorem off7_eq : ∀ k : Fin k0_t1_loop.trips, k0_off7 k = ![0, 3, 0, k.val * 384] := by decide

theorem allAt_append {S : Shape} {e : EltTy} {y : S.Idx} {v : Elt Ideal e} {L M : List (View.Piece (Elt Ideal) S e)}
    (h1 : View.AllAt L y v) (h2 : View.AllAt M y v) : View.AllAt (L ++ M) y v := fun p hp =>
  (List.mem_append.mp hp).elim (h1 p) (h2 p)

section Trip
variable (W1 : Vec Ideal S256x256 .bf16) (W2 : Vec Ideal S512x256 .bf16) (C1 : Vec Ideal S4x256x128 .f32)
  (C2 : Vec Ideal S2x512x128 .f32) (HC : Vec Ideal S128x128 .f32) (X : Vec Ideal S1x256x2688 .bf16)
  (XS : Vec Ideal S1x1x2688 .f32) (v1 : Fin 4 → Fin 256 → EReal) (v2 : Fin 2 → Fin 512 → EReal) (hv : Fin 128 → EReal)
  (h1 : ∀ i r l, C1 (ix3 i r l) = v1 i r) (h2 : ∀ i r l, C2 (ix3 i r l) = v2 i r) (hh : ∀ r l, HC (ix2 r l) = hv r)
  (k : Fin k0_t1_loop.trips)

/-- The chunk's input columns, out of the block. -/
theorem ldX (r : Fin 256) (l : Fin 384) (s : Fin 2688) (hs : s.val = k.val * 384 + l.val) (h) :
    View.ld (Val := Elt Ideal) (e' := .bf16) X (Rect.unit (s := S1x256x2688) (k0_off1 k) S1x256x384.size h) (ix3 0 r l) = X (ix3 0 r s) := by
  refine View.ld_unit_apply_of _ _ _ _ _ (ix3 0 r s) fun a => ?_
  refine Eq.trans ?_ (congrArg (fun o : Fin 3 → ℕ => o a + _) (off1_eq k).symm)
  fin_cases a
  · show 0 = 0 + 0; rfl
  · show r.val = 0 + r.val; omega
  · show s.val = k.val * 384 + l.val; omega

/-- The chunk's input scales, out of the block. -/
theorem ldXS (l : Fin 384) (s : Fin 2688) (hs : s.val = k.val * 384 + l.val) (h) :
    View.ld (Val := Elt Ideal) (e' := .f32) XS (Rect.unit (s := S1x1x2688) (k0_off2 k) S1x1x384.size h) (ix3 0 0 l) = XS (ix3 0 0 s) := by
  refine View.ld_unit_apply_of _ _ _ _ _ (ix3 0 0 s) fun a => ?_
  refine Eq.trans ?_ (congrArg (fun o : Fin 3 → ℕ => o a + _) (off2_eq k).symm)
  fin_cases a
  · show 0 = 0 + 0; rfl
  · show 0 = 0 + 0; rfl
  · show s.val = k.val * 384 + l.val; omega

/-- The activations of a chunk's pixel are those of the block's pixel. -/
theorem act_chunk (l : Fin 384) (s : Fin 2688) (hs : s.val = k.val * 384 + l.val) (h h') (hw) :
    actP (mat (View.ld (Val := Elt Ideal) (e' := .bf16) W1 (Rect.unit (s := S256x256) ![0, 0] S256x256.size hw))) v1
      (fun r => View.ld (Val := Elt Ideal) (e' := .bf16) X (Rect.unit (s := S1x256x2688) (k0_off1 k) S1x256x384.size h) (ix3 0 r l))
      (View.ld (Val := Elt Ideal) (e' := .f32) XS (Rect.unit (s := S1x1x2688) (k0_off2 k) S1x1x384.size h') (ix3 0 0 l))
    = blkAct W1 v1 X XS s := by
  rw [ldXS XS k l s hs, View.ld_unit_zero (by funext a; fin_cases a <;> rfl)]
  congr 1
  funext r
  exact ldX X k r l s hs h

include h1 in
theorem tile_codes (hx hxs hw) (y : S1x256x2688.Idx) :
    View.TileAt (Val := Elt Ideal) (e := .i8) y (k0_off1 k) S1x256x384.size
      (atTaps codesOut (View.ld (Val := Elt Ideal) (e' := .bf16) W1 (Rect.unit (s := S256x256) ![0, 0] S256x256.size hw)) C1
        (View.ld (Val := Elt Ideal) (e' := .bf16) X (Rect.unit (s := S1x256x2688) (k0_off1 k) S1x256x384.size hx))
        (View.ld (Val := Elt Ideal) (e' := .f32) XS (Rect.unit (s := S1x1x2688) (k0_off2 k) S1x1x384.size hxs)))
      (blkCodes W1 v1 X XS y) := by
  intro x hy
  rw [off1_eq] at hy
  obtain ⟨x0, r, l, rfl⟩ : ∃ (x0 : Fin 1) (r : Fin 256) (l : Fin 384), x = ix3 x0 r l :=
    ⟨x 0, x 1, x 2, by funext a; fin_cases a <;> rfl⟩
  obtain rfl : x0 = 0 := Subsingleton.elim _ _
  have e1 : (y 1).val = 0 + r.val := hy 1
  have e2 : (y 2).val = k.val * 384 + l.val := hy 2
  refine (chunk_codes _ C1 _ _ v1 h1 r l).trans ?_
  rw [act_chunk W1 X XS v1 k l (y 2) e2]
  have er : r = y 1 := Fin.ext (by omega)
  rw [er]
  rfl

include h1 in
theorem tile_scales (hx hxs hw) (y : S1x4x2688.Idx) :
    View.TileAt (Val := Elt Ideal) (e := .f32) y (k0_off3 k) S1x4x384.size
      (atTaps scalesOut (View.ld (Val := Elt Ideal) (e' := .bf16) W1 (Rect.unit (s := S256x256) ![0, 0] S256x256.size hw)) C1
        (View.ld (Val := Elt Ideal) (e' := .bf16) X (Rect.unit (s := S1x256x2688) (k0_off1 k) S1x256x384.size hx))
        (View.ld (Val := Elt Ideal) (e' := .f32) XS (Rect.unit (s := S1x1x2688) (k0_off2 k) S1x1x384.size hxs)))
      (blkScales W1 v1 X XS y) := by
  intro x hy
  rw [off3_eq] at hy
  obtain ⟨x0, r, l, rfl⟩ : ∃ (x0 : Fin 1) (r : Fin 4) (l : Fin 384), x = ix3 x0 r l :=
    ⟨x 0, x 1, x 2, by funext a; fin_cases a <;> rfl⟩
  obtain rfl : x0 = 0 := Subsingleton.elim _ _
  have e1 : (y 1).val = 0 + r.val := hy 1
  have e2 : (y 2).val = k.val * 384 + l.val := hy 2
  refine (chunk_scales _ C1 _ _ v1 h1 r l).trans ?_
  rw [act_chunk W1 X XS v1 k l (y 2) e2]
  have er : r = y 1 := Fin.ext (by omega)
  rw [er]
  rfl

include h1 h2 hh in
theorem tile_mask (mk : Fin 4) (hm) (off : Fin 4 → ℕ) (hoff : off = ![0, mk.val, 0, k.val * 384]) (hx hxs hw hw2) (y : S1x4x16x2688.Idx) :
    View.TileAt (Val := Elt Ideal) (e := .bf16) y off S1x1x16x384.size
      (maskAt mk.val hm (View.ld (Val := Elt Ideal) (e' := .bf16) W1 (Rect.unit (s := S256x256) ![0, 0] S256x256.size hw))
        (View.ld (Val := Elt Ideal) (e' := .bf16) W2 (Rect.unit (s := S512x256) ![0, 0] S512x256.size hw2)) C1 C2 HC
        (View.ld (Val := Elt Ideal) (e' := .bf16) X (Rect.unit (s := S1x256x2688) (k0_off1 k) S1x256x384.size hx))
        (View.ld (Val := Elt Ideal) (e' := .f32) XS (Rect.unit (s := S1x1x2688) (k0_off2 k) S1x1x384.size hxs)))
      (blkMasks W1 W2 v1 v2 hv X XS y) := by
  intro x hy
  subst hoff
  obtain ⟨x0, x1, r, l, rfl⟩ : ∃ (x0 : Fin 1) (x1 : Fin 1) (r : Fin 16) (l : Fin 384), x = ix4 x0 x1 r l :=
    ⟨x 0, x 1, x 2, x 3, by funext a; fin_cases a <;> rfl⟩
  obtain rfl : x0 = 0 := Subsingleton.elim _ _
  obtain rfl : x1 = 0 := Subsingleton.elim _ _
  have e1 : (y 1).val = mk.val + 0 := hy 1
  have e2 : (y 2).val = 0 + r.val := hy 2
  have e3 : (y 3).val = k.val * 384 + l.val := hy 3
  refine (chunk_mask _ _ C1 C2 HC _ _ v1 v2 hv h1 h2 hh mk hm r l).trans ?_
  rw [act_chunk W1 X XS v1 k l (y 3) e3, View.ld_unit_zero (by funext a; fin_cases a <;> rfl)]
  unfold blkMasks
  have ea : r = y 2 := Fin.ext (by omega)
  rw [ea]
  refine congrArg (fun f : Fin 32 → EReal => maskP (mat W2) v2 (blkAct W1 v1 X XS (y 3)) f (y 2)) (funext fun n => congrArg hv (Fin.ext ?_))
  show mk.val * 32 + n.val = (y 1).val * 32 + n.val
  omega

end Trip

section Loop
variable (𝒱 : Variants) (c : Dev nD) (bd : Option 𝒱.V) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (X_arg2 : BufTy.Contents (Elt Ideal) arg2.view.ty) (X_arg3 : BufTy.Contents (Elt Ideal) arg3.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
variable (W1 : Vec Ideal S256x256 .bf16) (W2 : Vec Ideal S512x256 .bf16) (C1 : Vec Ideal S4x256x128 .f32)
  (C2 : Vec Ideal S2x512x128 .f32) (HC : Vec Ideal S128x128 .f32) (X : Vec Ideal S1x256x2688 .bf16)
  (XS : Vec Ideal S1x1x2688 .f32) (v1 : Fin 4 → Fin 256 → EReal) (v2 : Fin 2 → Fin 512 → EReal) (hv : Fin 128 → EReal)
  (h1 : ∀ i r l, C1 (ix3 i r l) = v1 i r) (h2 : ∀ i r l, C2 (ix3 i r l) = v2 i r) (hh : ∀ r l, HC (ix2 r l) = hv r)
  (eX : View.read (Elt Ideal) arg2.view X_arg2 = X) (eXS : View.read (Elt Ideal) arg3.view X_arg3 = XS)
  (eW1 : View.read (Elt Ideal) arg11.view X_arg11 = W1) (eW2 : View.read (Elt Ideal) arg12.view X_arg12 = W2)
  (eC1 : View.read (Elt Ideal) arg13.view X_arg13 = C1) (eC2 : View.read (Elt Ideal) arg14.view X_arg14 = C2)
  (eHC : View.read (Elt Ideal) arg15.view X_arg15 = HC)

include eX eXS eW1 eC1 h1 in
/-- After `n` trips, every stored piece of codes agrees with the block. -/
theorem loop_codes (y : S1x256x2688.Idx) : ∀ n : ℕ, n ≤ k0_t1_loop.trips →
    View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 n).1 y (blkCodes W1 v1 X XS y)
  | 0, _ => View.allAt_nil _ _
  | n + 1, hn => by
    have ih := loop_codes y n (Nat.le_of_succ_le hn)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 ⟨n, hn⟩]
    refine allAt_append ?_ ih
    have e := trip_codes 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 ⟨n, hn⟩
    rw [eX, eXS, eW1, eC1] at e
    refine Eq.mpr (congrArg (fun L => View.AllAt L y (blkCodes W1 v1 X XS y)) e) ?_
    exact View.allAt_cons_unit _ _ _ _ _ (tile_codes W1 C1 X XS v1 h1 ⟨n, hn⟩ _ _ _ y) (View.allAt_nil _ _)

include eX eXS eW1 eC1 h1 in
/-- After `n` trips, every stored piece of scales agrees with the block. -/
theorem loop_scales (y : S1x4x2688.Idx) : ∀ n : ℕ, n ≤ k0_t1_loop.trips →
    View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 n).2.1 y (blkScales W1 v1 X XS y)
  | 0, _ => View.allAt_nil _ _
  | n + 1, hn => by
    have ih := loop_scales y n (Nat.le_of_succ_le hn)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 ⟨n, hn⟩]
    refine allAt_append ?_ ih
    have e := trip_scales 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 ⟨n, hn⟩
    rw [eX, eXS, eW1, eC1] at e
    refine Eq.mpr (congrArg (fun L => View.AllAt L y (blkScales W1 v1 X XS y)) e) ?_
    exact View.allAt_cons_unit _ _ _ _ _ (tile_scales W1 C1 X XS v1 h1 ⟨n, hn⟩ _ _ _ y) (View.allAt_nil _ _)

include eX eXS eW1 eW2 eC1 eC2 eHC h1 h2 hh in
/-- After `n` trips, every stored piece of masks agrees with the block. -/
theorem loop_masks (y : S1x4x16x2688.Idx) : ∀ n : ℕ, n ≤ k0_t1_loop.trips →
    View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 n).2.2 y (blkMasks W1 W2 v1 v2 hv X XS y)
  | 0, _ => View.allAt_nil _ _
  | n + 1, hn => by
    have ih := loop_masks y n (Nat.le_of_succ_le hn)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 ⟨n, hn⟩]
    refine allAt_append ?_ ih
    have e := trip_masks 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg11 X_arg12 X_arg13 X_arg14 X_arg15 ⟨n, hn⟩
    rw [eX, eXS, eW1, eW2, eC1, eC2, eHC] at e
    refine Eq.mpr (congrArg (fun L => View.AllAt L y (blkMasks W1 W2 v1 v2 hv X XS y)) e) ?_
    refine View.allAt_cons_unit _ _ _ _ _ (tile_mask W1 W2 C1 C2 HC X XS v1 v2 hv h1 h2 hh ⟨n, hn⟩ 3 _ _ (off7_eq _) _ _ _ _ y) ?_
    refine View.allAt_cons_unit _ _ _ _ _ (tile_mask W1 W2 C1 C2 HC X XS v1 v2 hv h1 h2 hh ⟨n, hn⟩ 2 _ _ (off6_eq _) _ _ _ _ y) ?_
    refine View.allAt_cons_unit _ _ _ _ _ (tile_mask W1 W2 C1 C2 HC X XS v1 v2 hv h1 h2 hh ⟨n, hn⟩ 1 _ _ (off5_eq _) _ _ _ _ y) ?_
    exact View.allAt_cons_unit _ _ _ _ _ (tile_mask W1 W2 C1 C2 HC X XS v1 v2 hv h1 h2 hh ⟨n, hn⟩ 0 _ _ (off4_eq _) _ _ _ _ y)
      (View.allAt_nil _ _)

end Loop

end Cert.Up

end
-- ==== Proof.Kept.lean ====
/-
  What the kernel keeps between grid points: the weights as numbers, and the per-row columns spread along the lanes.
-/
module

public import proofs.«01_k».proof.Proof.Loop

@[expose] public section

set_option maxRecDepth 16384

noncomputable section

namespace Cert.Up

open Cert.UpscaleIdeal Cert.UpscaleIdeal.Gen Idealize.ShloMosaic Idealize.ShloMosaic.TcCoe Idealize.SL.Sem Idealize.ShloMosaic.Tactic

/-- The first convolution's weights, as numbers. -/
abbrev keptW1 (x3 : Vec Ideal S256x256 .i8) : Vec Ideal S256x256 .bf16 := sitofp (F := Ideal) .bf16 x3

/-- The second convolution's weights, as numbers. -/
abbrev keptW2 (x4 : Vec Ideal S512x256 .i8) : Vec Ideal S512x256 .bf16 := sitofp (F := Ideal) .bf16 x4

/-- The four rows of per-row numbers, each spread along the lanes. -/
def keptC1 (x5 : Vec Ideal S4x256 .f32) : Vec Ideal S4x256x128 .f32 := fun i => x5 (ix2 (i 0) (i 1))

/-- The two rows of per-row numbers, each spread along the lanes. -/
def keptC2 (x6 : Vec Ideal S2x512 .f32) : Vec Ideal S2x512x128 .f32 := fun i => x6 (ix2 (i 0) (i 1))

/-- The image's hyper-network numbers, spread along the lanes. -/
def keptH (x0 : Vec Ideal S1x1x128 .f32) : Vec Ideal S128x128 .f32 := fun i => x0 (ix3 0 0 (i 0))

theorem pay10_apply (w : Vec Ideal S1x256 .f32) (i : Fin 1) (r : Fin 256) (l : Fin 128) :
    k0_pay10 (F := Ideal) w (ix3 i r l) = w (ix2 0 r) := by
  pointwise [k0_pay10]

theorem pay11_apply (w : Vec Ideal S1x256 .f32) (i : Fin 1) (r : Fin 256) (l : Fin 128) :
    k0_pay11 (F := Ideal) w (ix3 i r l) = w (ix2 0 r) := by
  pointwise [k0_pay11]

theorem pay2_apply (w : Vec Ideal S1x256 .f32) (i : Fin 1) (r : Fin 256) (l : Fin 128) :
    k0_pay2 (F := Ideal) w (ix3 i r l) = w (ix2 0 r) := by
  pointwise [k0_pay2]

theorem pay3_apply (w : Vec Ideal S1x512 .f32) (i : Fin 1) (r : Fin 512) (l : Fin 128) :
    k0_pay3 (F := Ideal) w (ix3 i r l) = w (ix2 0 r) := by
  pointwise [k0_pay3]

theorem pay4_apply (w : Vec Ideal S1x512 .f32) (i : Fin 1) (r : Fin 512) (l : Fin 128) :
    k0_pay4 (F := Ideal) w (ix3 i r l) = w (ix2 0 r) := by
  pointwise [k0_pay4]

theorem pay112_apply (w : Vec Ideal S1x256 .f32) (i : Fin 1) (r : Fin 256) (l : Fin 128) :
    k0_pay1 (F := Ideal) (k0_pay12 (F := Ideal) w) (ix3 i r l) = w (ix2 0 r) := by
  pointwise [k0_pay1, k0_pay12]

theorem pay5_apply (w : Vec Ideal S1x1x128 .f32) (r l : Fin 128) :
    k0_pay5 (F := Ideal) w (ix2 r l) = w (ix3 0 0 r) := by
  pointwise [k0_pay5]

theorem zero2 : (![0, 0] : Fin 2 → ℕ) = fun _ => 0 := by funext a; fin_cases a <;> rfl
theorem zero3 : (![0, 0, 0] : Fin 3 → ℕ) = fun _ => 0 := by funext a; fin_cases a <;> rfl

/-- A row of a block of rows, read off as a one-row block. -/
theorem row_ld {n m : ℕ} (X : Vec Ideal ⟨2, ![n, m]⟩ .f32) (i : ℕ) (hi : i < n) (h) (r : Fin m) :
    View.ld (Val := Elt Ideal) (e' := .f32) X (Rect.unit (s := ⟨2, ![n, m]⟩) ![i, 0] ![1, m] h) (ix2 0 r) = X (ix2 ⟨i, hi⟩ r) := by
  refine View.ld_unit_apply_of _ _ _ _ _ (ix2 ⟨i, hi⟩ r) fun a => ?_
  fin_cases a
  · show i = i + 0; rfl
  · show r.val = 0 + r.val; omega

section Kept
variable {sp : Space} (c : Dev nD)

theorem kept_W1 (arg4 : Memref sig .tc .vmem S256x256 .i8) (harg4 : arg4.IsWhole) (x3 : Vec Ideal S256x256 .i8)
    (v : View sig .tc sp S256x256 .bf16) (f) :
    View.read (Elt Ideal) v (v.writes (Elt Ideal) f (kernelRun0_A.sl.HS0_1 (F := Ideal) c arg4 harg4 x3)) = keptW1 x3 := by
  rw [View.read_writes_eq_canon _ _ _ (View.cover_of_tiledL _ S256x256.size (by sl_kernel_rfl))]
  unfold kernelRun0_A.sl.HS0_1
  rw [View.canon_unit_zero zero2]
  unfold k0_pay8
  simp only [View.readAt_eq_ld, harg4.read_unread, shapeCast_self]
  exact congrArg (sitofp (F := Ideal) .bf16) (View.ld_unit_zero zero2 _ _)

theorem kept_W2 (arg5 : Memref sig .tc .vmem S512x256 .i8) (harg5 : arg5.IsWhole) (x4 : Vec Ideal S512x256 .i8)
    (v : View sig .tc sp S512x256 .bf16) (f) :
    View.read (Elt Ideal) v (v.writes (Elt Ideal) f (kernelRun0_A.sl.HS1_1 (F := Ideal) c arg5 harg5 x4)) = keptW2 x4 := by
  rw [View.read_writes_eq_canon _ _ _ (View.cover_of_tiledL _ S512x256.size (by sl_kernel_rfl))]
  unfold kernelRun0_A.sl.HS1_1
  rw [View.canon_unit_zero zero2]
  unfold k0_pay9
  simp only [View.readAt_eq_ld, harg5.read_unread, shapeCast_self]
  exact congrArg (sitofp (F := Ideal) .bf16) (View.ld_unit_zero zero2 _ _)

/-- One stored column agrees with the kept array. -/
theorem tileC1 (x5 : Vec Ideal S4x256 .f32) (i : ℕ) (hi : i < 4) (w : Vec Ideal S1x256x128 .f32) (y : S4x256x128.Idx)
    (hw : ∀ r l, w (ix3 0 r l) = x5 (ix2 ⟨i, hi⟩ r)) :
    View.TileAt (Val := Elt Ideal) (e := .f32) y ![i, 0, 0] ![1, 256, 128] w (keptC1 x5 y) := by
  intro x hy
  obtain ⟨x0, r, l, rfl⟩ : ∃ (x0 : Fin 1) (r : Fin 256) (l : Fin 128), x = ix3 x0 r l :=
    ⟨x 0, x 1, x 2, by funext a; fin_cases a <;> rfl⟩
  obtain rfl : x0 = 0 := Subsingleton.elim _ _
  have e0 : (y 0).val = i + 0 := hy 0
  have e1 : (y 1).val = 0 + r.val := hy 1
  have a0 : (⟨i, hi⟩ : Fin 4) = y 0 := Fin.ext (by rw [e0]; rfl)
  have a1 : r = y 1 := Fin.ext (by omega)
  refine (hw r l).trans ?_
  rw [a0, a1]
  rfl

/-- One stored column agrees with the kept array. -/
theorem tileC2 (x6 : Vec Ideal S2x512 .f32) (i : ℕ) (hi : i < 2) (w : Vec Ideal S1x512x128 .f32) (y : S2x512x128.Idx)
    (hw : ∀ r l, w (ix3 0 r l) = x6 (ix2 ⟨i, hi⟩ r)) :
    View.TileAt (Val := Elt Ideal) (e := .f32) y ![i, 0, 0] ![1, 512, 128] w (keptC2 x6 y) := by
  intro x hy
  obtain ⟨x0, r, l, rfl⟩ : ∃ (x0 : Fin 1) (r : Fin 512) (l : Fin 128), x = ix3 x0 r l :=
    ⟨x 0, x 1, x 2, by funext a; fin_cases a <;> rfl⟩
  obtain rfl : x0 = 0 := Subsingleton.elim _ _
  have e0 : (y 0).val = i + 0 := hy 0
  have e1 : (y 1).val = 0 + r.val := hy 1
  have a0 : (⟨i, hi⟩ : Fin 2) = y 0 := Fin.ext (by rw [e0]; rfl)
  have a1 : r = y 1 := Fin.ext (by omega)
  refine (hw r l).trans ?_
  rw [a0, a1]
  rfl

theorem kept_C1 (arg6 : Memref sig .tc .vmem S4x256 .f32) (harg6 : arg6.IsWhole) (x5 : Vec Ideal S4x256 .f32)
    (v : View sig .tc sp S4x256x128 .f32) (f) :
    View.read (Elt Ideal) v (v.writes (Elt Ideal) f (kernelRun0_A.sl.HS2_4 (F := Ideal) c arg6 harg6 x5)) = keptC1 x5 := by
  have hc : ∀ y : S4x256x128.Idx, ∃ p ∈ kernelRun0_A.sl.HS2_4 (F := Ideal) c arg6 harg6 x5, y ∈ p.1.set :=
    View.cover_of_tiledL _ S1x256x128.size (by sl_kernel_rfl)
  rw [View.read_writes_eq_canon _ _ _ hc]
  funext y
  refine View.canon_eq_of_allAt _ y _ (hc y) ?_
  unfold kernelRun0_A.sl.HS2_4 kernelRun0_A.sl.r
  simp only [View.readAt_eq_ld, harg6.read_unread]
  refine View.allAt_cons_unit _ _ _ _ _ (tileC1 x5 3 (by omega) _ y fun r l => (pay2_apply _ _ _ _).trans (row_ld x5 3 _ _ r)) ?_
  refine View.allAt_cons_unit _ _ _ _ _ (tileC1 x5 2 (by omega) _ y fun r l => (pay112_apply _ _ _ _).trans (row_ld x5 2 _ _ r)) ?_
  refine View.allAt_cons_unit _ _ _ _ _ (tileC1 x5 1 (by omega) _ y fun r l => (pay11_apply _ _ _ _).trans (row_ld x5 1 _ _ r)) ?_
  refine View.allAt_cons_unit _ _ _ _ _ (tileC1 x5 0 (by omega) _ y fun r l => (pay10_apply _ _ _ _).trans (row_ld x5 0 _ _ r)) ?_
  exact View.allAt_nil _ _

theorem kept_C2 (arg7 : Memref sig .tc .vmem S2x512 .f32) (harg7 : arg7.IsWhole) (x6 : Vec Ideal S2x512 .f32)
    (v : View sig .tc sp S2x512x128 .f32) (f) :
    View.read (Elt Ideal) v (v.writes (Elt Ideal) f (kernelRun0_A.sl.HS3_2 (F := Ideal) c arg7 harg7 x6)) = keptC2 x6 := by
  have hc : ∀ y : S2x512x128.Idx, ∃ p ∈ kernelRun0_A.sl.HS3_2 (F := Ideal) c arg7 harg7 x6, y ∈ p.1.set :=
    View.cover_of_tiledL _ S1x512x128.size (by sl_kernel_rfl)
  rw [View.read_writes_eq_canon _ _ _ hc]
  funext y
  refine View.canon_eq_of_allAt _ y _ (hc y) ?_
  unfold kernelRun0_A.sl.HS3_2
  simp only [View.readAt_eq_ld, harg7.read_unread]
  refine View.allAt_cons_unit _ _ _ _ _ (tileC2 x6 1 (by omega) _ y fun r l => (pay4_apply _ _ _ _).trans (row_ld x6 1 _ _ r)) ?_
  refine View.allAt_cons_unit _ _ _ _ _ (tileC2 x6 0 (by omega) _ y fun r l => (pay3_apply _ _ _ _).trans (row_ld x6 0 _ _ r)) ?_
  exact View.allAt_nil _ _

theorem kept_H_A (arg1 : Memref sig .tc .vmem S1x1x128 .f32) (harg1 : arg1.IsWhole) (x0 : Vec Ideal S1x1x128 .f32)
    (v : View sig .tc sp S128x128 .f32) (f) :
    View.read (Elt Ideal) v (v.writes (Elt Ideal) f (kernelRun0_A.sl.HS4_1 (F := Ideal) c arg1 harg1 x0)) = keptH x0 := by
  rw [View.read_writes_eq_canon _ _ _ (View.cover_of_tiledL _ S128x128.size (by sl_kernel_rfl))]
  unfold kernelRun0_A.sl.HS4_1
  refine (View.canon_unit_zero zero2 _ _).trans ?_
  funext i
  obtain ⟨r, l, rfl⟩ : ∃ (r l : Fin 128), i = ix2 r l := ⟨i 0, i 1, by funext a; fin_cases a <;> rfl⟩
  refine (pay5_apply _ r l).trans ?_
  rw [View.readAt_eq_ld, harg1.read_unread]
  exact congrFun (View.ld_unit_zero zero3 _ _) _

theorem kept_H_B (arg1 : Memref sig .tc .vmem S1x1x128 .f32) (harg1 : arg1.IsWhole) (x0 : Vec Ideal S1x1x128 .f32)
    (v : View sig .tc sp S128x128 .f32) (f) :
    View.read (Elt Ideal) v (v.writes (Elt Ideal) f (kernelRun0_B.sl.HS4_1 (F := Ideal) c arg1 harg1 x0)) = keptH x0 := by
  rw [View.read_writes_eq_canon _ _ _ (View.cover_of_tiledL _ S128x128.size (by sl_kernel_rfl))]
  unfold kernelRun0_B.sl.HS4_1
  refine (View.canon_unit_zero zero2 _ _).trans ?_
  funext i
  obtain ⟨r, l, rfl⟩ : ∃ (r l : Fin 128), i = ix2 r l := ⟨i 0, i 1, by funext a; fin_cases a <;> rfl⟩
  refine (pay5_apply _ r l).trans ?_
  rw [View.readAt_eq_ld, harg1.read_unread]
  exact congrFun (View.ld_unit_zero zero3 _ _) _

end Kept

end Cert.Up

end
-- ==== Proof.Block.lean ====
/-
  What one grid point leaves in its three output blocks, whichever case of the kernel runs: the block functions of
  `Loop.lean`, at the point's input blocks and the kept weights and columns.
-/
module

public import proofs.«01_k».proof.Proof.Kept

@[expose] public section

set_option maxRecDepth 16384

noncomputable section

namespace Cert.Up

open Cert.UpscaleIdeal Cert.UpscaleIdeal.Gen Idealize.ShloMosaic Idealize.ShloMosaic.TcCoe Idealize.SL.Sem Idealize.ShloMosaic.Tactic

theorem keptC1_at (x5 : Vec Ideal S4x256 .f32) (i : Fin 4) (r : Fin 256) (l : Fin 128) :
    keptC1 x5 (ix3 i r l) = x5 (ix2 i r) := rfl
theorem keptC2_at (x6 : Vec Ideal S2x512 .f32) (i : Fin 2) (r : Fin 512) (l : Fin 128) :
    keptC2 x6 (ix3 i r l) = x6 (ix2 i r) := rfl
theorem keptH_at (x0 : Vec Ideal S1x1x128 .f32) (r l : Fin 128) : keptH x0 (ix2 r l) = x0 (ix3 0 0 r) := rfl

/-- Case A's block of codes. -/
theorem out_A_7 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = blkCodes (keptW1 x3) (fun i r => x5 (ix2 i r)) x1 x2 := by
  have hc := cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
  unfold out0_A_7
  rw [View.read_writes_eq_canon _ _ _ hc]
  funext y
  refine View.canon_eq_of_allAt _ y _ (hc y) ?_
  clear hc
  unfold kernelRun0_A
  dsimp only
  exact loop_codes _ _ _ _ _ _ _ _ _ _ _ _ _ _ _ _ _ _ _ _ _ _ _ _ _ _ _ _ _ _ _ _ _ _ _ _ _ _ _ _ _ (keptW1 x3) (keptC1 x5) x1 x2 (fun i r => x5 (ix2 i r)) (keptC1_at x5) (harg2.read_unread x1) (harg3.read_unread x2) (kept_W1 c arg4 harg4 x3 _ _) (kept_C1 c arg6 harg6 x5 _ _) y _ (by decide)

/-- Case A's block of scales. -/
theorem out_A_8 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = blkScales (keptW1 x3) (fun i r => x5 (ix2 i r)) x1 x2 := by
  have hc := cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
  unfold out0_A_8
  rw [View.read_writes_eq_canon _ _ _ hc]
  funext y
  refine View.canon_eq_of_allAt _ y _ (hc y) ?_
  clear hc
  unfold kernelRun0_A
  dsimp only
  exact loop_scales _ _ _ _ _ _ _ _ _ _ _ _ _ _ _ _ _ _ _ _ _ _ _ _ _ _ _ _ _ _ _ _ _ _ _ _ _ _ _ _ _ (keptW1 x3) (keptC1 x5) x1 x2 (fun i r => x5 (ix2 i r)) (keptC1_at x5) (harg2.read_unread x1) (harg3.read_unread x2) (kept_W1 c arg4 harg4 x3 _ _) (kept_C1 c arg6 harg6 x5 _ _) y _ (by decide)

/-- Case A's block of masks. -/
theorem out_A_9 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = blkMasks (keptW1 x3) (keptW2 x4) (fun i r => x5 (ix2 i r)) (fun i r => x6 (ix2 i r)) (fun r => x0 (ix3 0 0 r)) x1 x2 := by
  have hc := cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
  unfold out0_A_9
  rw [View.read_writes_eq_canon _ _ _ hc]
  funext y
  refine View.canon_eq_of_allAt _ y _ (hc y) ?_
  clear hc
  unfold kernelRun0_A
  dsimp only
  exact loop_masks _ _ _ _ _ _ _ _ _ _ _ _ _ _ _ _ _ _ _ _ _ _ _ _ _ _ _ _ _ _ _ _ _ _ _ _ _ _ _ _ _ (keptW1 x3) (keptW2 x4) (keptC1 x5) (keptC2 x6) (keptH x0) x1 x2 (fun i r => x5 (ix2 i r)) (fun i r => x6 (ix2 i r)) (fun r => x0 (ix3 0 0 r)) (keptC1_at x5) (keptC2_at x6) (keptH_at x0) (harg2.read_unread x1) (harg3.read_unread x2) (kept_W1 c arg4 harg4 x3 _ _) (kept_W2 c arg5 harg5 x4 _ _) (kept_C1 c arg6 harg6 x5 _ _) (kept_C2 c arg7 harg7 x6 _ _) (kept_H_A c arg1 harg1 x0 _ _) y _ (by decide)

/-- Case B's block of codes. -/
theorem out_B_7 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : ¬cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) (xs0 : Vec Ideal S256x256 .bf16) (xs1 : Vec Ideal S512x256 .bf16) (xs2 : Vec Ideal S4x256x128 .f32) (xs3 : Vec Ideal S2x512x128 .f32)
    (v1 : Fin 4 → Fin 256 → EReal) (v2 : Fin 2 → Fin 512 → EReal) (h1 : ∀ i r l, xs2 (ix3 i r l) = v1 i r) (h2 : ∀ i r l, xs3 (ix3 i r l) = v2 i r) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3 = blkCodes xs0 v1 x1 x2 := by
  have hc := cover0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3
  unfold out0_B_7
  rw [View.read_writes_eq_canon _ _ _ hc]
  funext y
  refine View.canon_eq_of_allAt _ y _ (hc y) ?_
  clear hc
  unfold kernelRun0_B
  dsimp only
  exact loop_codes _ _ _ _ _ _ _ _ _ _ _ _ _ _ _ _ _ _ _ _ _ _ _ _ _ _ _ _ _ _ _ _ _ _ _ _ _ _ _ _ _ xs0 xs2 x1 x2 v1 h1 (harg2.read_unread x1) (harg3.read_unread x2) (harg11.read_unread xs0) (harg13.read_unread xs2) y _ (by decide)

/-- Case B's block of scales. -/
theorem out_B_8 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : ¬cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) (xs0 : Vec Ideal S256x256 .bf16) (xs1 : Vec Ideal S512x256 .bf16) (xs2 : Vec Ideal S4x256x128 .f32) (xs3 : Vec Ideal S2x512x128 .f32)
    (v1 : Fin 4 → Fin 256 → EReal) (v2 : Fin 2 → Fin 512 → EReal) (h1 : ∀ i r l, xs2 (ix3 i r l) = v1 i r) (h2 : ∀ i r l, xs3 (ix3 i r l) = v2 i r) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3 = blkScales xs0 v1 x1 x2 := by
  have hc := cover0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3
  unfold out0_B_8
  rw [View.read_writes_eq_canon _ _ _ hc]
  funext y
  refine View.canon_eq_of_allAt _ y _ (hc y) ?_
  clear hc
  unfold kernelRun0_B
  dsimp only
  exact loop_scales _ _ _ _ _ _ _ _ _ _ _ _ _ _ _ _ _ _ _ _ _ _ _ _ _ _ _ _ _ _ _ _ _ _ _ _ _ _ _ _ _ xs0 xs2 x1 x2 v1 h1 (harg2.read_unread x1) (harg3.read_unread x2) (harg11.read_unread xs0) (harg13.read_unread xs2) y _ (by decide)

/-- Case B's block of masks. -/
theorem out_B_9 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : ¬cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) (xs0 : Vec Ideal S256x256 .bf16) (xs1 : Vec Ideal S512x256 .bf16) (xs2 : Vec Ideal S4x256x128 .f32) (xs3 : Vec Ideal S2x512x128 .f32)
    (v1 : Fin 4 → Fin 256 → EReal) (v2 : Fin 2 → Fin 512 → EReal) (h1 : ∀ i r l, xs2 (ix3 i r l) = v1 i r) (h2 : ∀ i r l, xs3 (ix3 i r l) = v2 i r) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3 = blkMasks xs0 xs1 v1 v2 (fun r => x0 (ix3 0 0 r)) x1 x2 := by
  have hc := cover0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3
  unfold out0_B_9
  rw [View.read_writes_eq_canon _ _ _ hc]
  funext y
  refine View.canon_eq_of_allAt _ y _ (hc y) ?_
  clear hc
  unfold kernelRun0_B
  dsimp only
  exact loop_masks _ _ _ _ _ _ _ _ _ _ _ _ _ _ _ _ _ _ _ _ _ _ _ _ _ _ _ _ _ _ _ _ _ _ _ _ _ _ _ _ _ xs0 xs1 xs2 xs3 (keptH x0) x1 x2 v1 v2 (fun r => x0 (ix3 0 0 r)) h1 h2 (keptH_at x0) (harg2.read_unread x1) (harg3.read_unread x2) (harg11.read_unread xs0) (harg12.read_unread xs1) (harg13.read_unread xs2) (harg14.read_unread xs3) (kept_H_B c arg1 harg1 x0 _ _) y _ (by decide)

/-- Case A leaves the kept W1. -/
theorem sout_A_0 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = keptW1 x3 := by
  unfold sout0_A_0 kernelRun0_A
  dsimp only
  exact kept_W1 c arg4 harg4 x3 _ _

/-- Case A leaves the kept W2. -/
theorem sout_A_1 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = keptW2 x4 := by
  unfold sout0_A_1 kernelRun0_A
  dsimp only
  exact kept_W2 c arg5 harg5 x4 _ _

/-- Case A leaves the kept C1. -/
theorem sout_A_2 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = keptC1 x5 := by
  unfold sout0_A_2 kernelRun0_A
  dsimp only
  exact kept_C1 c arg6 harg6 x5 _ _

/-- Case A leaves the kept C2. -/
theorem sout_A_3 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = keptC2 x6 := by
  unfold sout0_A_3 kernelRun0_A
  dsimp only
  exact kept_C2 c arg7 harg7 x6 _ _

/-- Case B leaves W1 as it found it. -/
theorem sout_B_0 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : ¬cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) (xs0 : Vec Ideal S256x256 .bf16) (xs1 : Vec Ideal S512x256 .bf16) (xs2 : Vec Ideal S4x256x128 .f32) (xs3 : Vec Ideal S2x512x128 .f32) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3 = xs0 := rfl

/-- Case B leaves W2 as it found it. -/
theorem sout_B_1 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : ¬cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) (xs0 : Vec Ideal S256x256 .bf16) (xs1 : Vec Ideal S512x256 .bf16) (xs2 : Vec Ideal S4x256x128 .f32) (xs3 : Vec Ideal S2x512x128 .f32) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3 = xs1 := rfl

/-- Case B leaves C1 as it found it. -/
theorem sout_B_2 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : ¬cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) (xs0 : Vec Ideal S256x256 .bf16) (xs1 : Vec Ideal S512x256 .bf16) (xs2 : Vec Ideal S4x256x128 .f32) (xs3 : Vec Ideal S2x512x128 .f32) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3 = xs2 := rfl

/-- Case B leaves C2 as it found it. -/
theorem sout_B_3 (c : Dev nD) (i : grid0.Coords) (arg1 : Memref sig .tc .vmem S1x1x128 .f32) (harg1 : arg1.IsWhole) (arg2 : Memref sig .tc .vmem S1x256x2688 .bf16) (harg2 : arg2.IsWhole) (arg3 : Memref sig .tc .vmem S1x1x2688 .f32) (harg3 : arg3.IsWhole) (arg4 : Memref sig .tc .vmem S256x256 .i8) (harg4 : arg4.IsWhole) (arg5 : Memref sig .tc .vmem S512x256 .i8) (harg5 : arg5.IsWhole) (arg6 : Memref sig .tc .vmem S4x256 .f32) (harg6 : arg6.IsWhole) (arg7 : Memref sig .tc .vmem S2x512 .f32) (harg7 : arg7.IsWhole) (arg8 : Memref sig .tc .vmem S1x256x2688 .i8) (harg8 : arg8.IsWhole) (arg9 : Memref sig .tc .vmem S1x4x2688 .f32) (harg9 : arg9.IsWhole) (arg10 : Memref sig .tc .vmem S1x4x16x2688 .bf16) (harg10 : arg10.IsWhole) (arg11 : Memref sig .tc .vmem S256x256 .bf16) (harg11 : arg11.IsWhole) (arg12 : Memref sig .tc .vmem S512x256 .bf16) (harg12 : arg12.IsWhole) (arg13 : Memref sig .tc .vmem S4x256x128 .f32) (harg13 : arg13.IsWhole) (arg14 : Memref sig .tc .vmem S2x512x128 .f32) (harg14 : arg14.IsWhole) (arg15 : Memref sig .tc .vmem S128x128 .f32) (harg15 : arg15.IsWhole) (hc0 : ¬cond0_0 i) (x0 : Vec Ideal S1x1x128 .f32) (x1 : Vec Ideal S1x256x2688 .bf16) (x2 : Vec Ideal S1x1x2688 .f32) (x3 : Vec Ideal S256x256 .i8) (x4 : Vec Ideal S512x256 .i8) (x5 : Vec Ideal S4x256 .f32) (x6 : Vec Ideal S2x512 .f32) (xs0 : Vec Ideal S256x256 .bf16) (xs1 : Vec Ideal S512x256 .bf16) (xs2 : Vec Ideal S4x256x128 .f32) (xs3 : Vec Ideal S2x512x128 .f32) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 xs3 = xs3 := rfl

end Cert.Up

end
-- ==== Proof.Points.lean ====
/-
  What every grid point leaves: the weights and columns of the first point stay, and each point's outputs are the block
  functions at its own input blocks.
-/
module

public import proofs.«01_k».proof.Proof.Block

@[expose] public section

set_option maxRecDepth 16384

noncomputable section

namespace Cert.Up

open Cert.UpscaleIdeal Cert.UpscaleIdeal.Gen Idealize.ShloMosaic Idealize.ShloMosaic.TcCoe Idealize.SL.Sem Idealize.ShloMosaic.Tactic

variable (m : (ℓ : Loc nD τ sig) → Buf (Elt Ideal) ℓ) (c : Dev nD)

theorem idx0 : ∀ t : Fin cfg0.N, win0_0.index t = ![t.val, 0, 0] := by decide +kernel
theorem idx1 : ∀ t : Fin cfg0.N, win0_1.index t = ![t.val, 0, 0] := by decide +kernel
theorem idx2 : ∀ t : Fin cfg0.N, win0_2.index t = ![t.val, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel

theorem blk0 (t : Fin cfg0.N) (p : Fin 40) (hp : p.val = t.val) (k : Fin 128) :
    iblk m c 0 t (ix3 0 0 k) = V m c main_v40 (ix3 p 0 k) := by
  blk_ext [iblk, idx0 t]
theorem blk1 (t : Fin cfg0.N) (p : Fin 40) (hp : p.val = t.val) (k : Fin 256) (s : Fin 2688) :
    iblk m c 1 t (ix3 0 k s) = V m c main_arg1 (ix3 p k s) := by
  blk_ext [iblk, idx1 t]
theorem blk2 (t : Fin cfg0.N) (p : Fin 40) (hp : p.val = t.val) (s : Fin 2688) :
    iblk m c 2 t (ix3 0 0 s) = V m c main_arg2 (ix3 p 0 s) := by
  blk_ext [iblk, idx2 t]
theorem blk3 (t : Fin cfg0.N) : iblk m c 3 t = V m c main_v1 := by
  funext y
  blk_ext [iblk, idx3 t]
theorem blk4 (t : Fin cfg0.N) : iblk m c 4 t = V m c main_v14 := by
  funext y
  blk_ext [iblk, idx4 t]
theorem blk5 (t : Fin cfg0.N) : iblk m c 5 t = V m c main_v29 := by
  funext y
  blk_ext [iblk, idx5 t]
theorem blk6 (t : Fin cfg0.N) : iblk m c 6 t = V m c main_v38 := by
  funext y
  blk_ext [iblk, idx6 t]

/-- What is kept after any point. -/
theorem kept_at : ∀ (n : ℕ) (hn : n < cfg0.N), (outsAt0 m c n hn).2.2.2
    = (keptW1 (V m c main_v1), keptW2 (V m c main_v14), keptC1 (V m c main_v29), keptC2 (V m c main_v38)) := by
  intro n
  induction n with
  | zero =>
    intro hn
    have e := outsAt0_A m c ⟨0, hn⟩ (Nat.zero_mod _)
    dsimp only at e
    rw [e]
    dsimp only
    rw [sout_A_0, sout_A_1, sout_A_2, sout_A_3, blk3, blk4, blk5, blk6]
  | succ n ih =>
    intro hn
    have hN := lt_of_lt_of_eq hn (show cfg0.N = 40 from N_0)
    have e := outsAt0_B m c ⟨n + 1, hn⟩ (by show ¬ (n + 1) % 40 = 0; omega)
    dsimp only at e
    rw [e]
    dsimp only
    rw [sout_B_0, sout_B_1, sout_B_2, sout_B_3]
    exact ih (Nat.lt_of_succ_lt hn)

/-- The three blocks that a point leaves. -/
theorem blocks_at (t : Fin cfg0.N) :
    (outsAt0 m c t.val t.isLt).1 = blkCodes (keptW1 (V m c main_v1)) (fun i r => V m c main_v29 (ix2 i r)) (iblk m c 1 t) (iblk m c 2 t)
    ∧ (outsAt0 m c t.val t.isLt).2.1 = blkScales (keptW1 (V m c main_v1)) (fun i r => V m c main_v29 (ix2 i r)) (iblk m c 1 t) (iblk m c 2 t)
    ∧ (outsAt0 m c t.val t.isLt).2.2.1 = blkMasks (keptW1 (V m c main_v1)) (keptW2 (V m c main_v14)) (fun i r => V m c main_v29 (ix2 i r))
        (fun i r => V m c main_v38 (ix2 i r)) (fun r => iblk m c 0 t (ix3 0 0 r)) (iblk m c 1 t) (iblk m c 2 t) := by
  by_cases h0 : t.val % 40 = 0
  · rw [outsAt0_A m c t h0]
    dsimp only
    rw [out_A_7, out_A_8, out_A_9, blk3, blk4, blk5, blk6]
    exact ⟨rfl, rfl, rfl⟩
  · rw [outsAt0_B m c t h0]
    dsimp only
    have k := kept_at m c (t.val - 1) (Nat.lt_of_le_of_lt (Nat.sub_le _ _) t.isLt)
    generalize outsAt0 m c (t.val - 1) (Nat.lt_of_le_of_lt (Nat.sub_le _ _) t.isLt) = o at k ⊢
    obtain ⟨o1, o2, o3, o4⟩ := o
    dsimp only at k
    subst k
    dsimp only
    rw [out_B_7 (v1 := fun i r => V m c main_v29 (ix2 i r)) (v2 := fun i r => V m c main_v38 (ix2 i r)) (h1 := fun i r l => keptC1_at _ i r l) (h2 := fun i r l => keptC2_at _ i r l),
      out_B_8 (v1 := fun i r => V m c main_v29 (ix2 i r)) (v2 := fun i r => V m c main_v38 (ix2 i r)) (h1 := fun i r l => keptC1_at _ i r l) (h2 := fun i r l => keptC2_at _ i r l),
      out_B_9 (v1 := fun i r => V m c main_v29 (ix2 i r)) (v2 := fun i r => V m c main_v38 (ix2 i r)) (h1 := fun i r l => keptC1_at _ i r l) (h2 := fun i r l => keptC2_at _ i r l)]
    exact ⟨rfl, rfl, rfl⟩

end Cert.Up

end
-- ==== Proof.Spec.lean ====
/-
  The problem's mathematics, number by number: what the upscaling computes at an image `p`, an input pixel `s`, a tap `t` of the
  first transposed convolution and a tap `u` of the second. Both programs are shown to compute these numbers.
-/
module

public import proofs.«01_k».proof.Proof.Scalar
public import Idealize.ShloMosaic.Lib.Pointwise

@[expose] public section

set_option maxRecDepth 16384

noncomputable section

namespace Cert.Up

open Idealize.ShloMosaic

/-- A tap's row and column in its 2x2 square. -/
abbrev tapY (t : Fin 4) : Fin 2 := ⟨t.val / 2, by omega⟩
abbrev tapX (t : Fin 4) : Fin 2 := ⟨t.val % 2, by omega⟩

/-- An int8 word as a number. -/
abbrev num (b : BitVec 8) : EReal := ((b.toInt : ℝ) : EReal)

section
variable (x1 : Vec Ideal ⟨3, ![40, 256, 2688]⟩ .bf16) (x2 : Vec Ideal ⟨3, ![40, 1, 2688]⟩ .f32) (x3 : Vec Ideal ⟨4, ![256, 2, 2, 64]⟩ .i8)
  (x4 : Vec Ideal ⟨3, ![2, 2, 64]⟩ .f32) (x5 x6 x7 : Vec Ideal ⟨1, ![64]⟩ .f32)

/-- The first transposed convolution at tap `t`, channel `n`. -/
def preS (p : Fin 40) (s : Fin 2688) (t : Fin 4) (n : Fin 64) : EReal :=
  (∑ k : Fin 256, num (x3 (ix4 k (tapY t) (tapX t) n)) * x1 (ix3 p k s)) * x2 (ix3 p 0 s) * x4 (ix3 (tapY t) (tapX t) n) + x5 (ix1 n)

/-- … then the layer norm over the 64 channels, and GELU. -/
def actS (p : Fin 40) (s : Fin 2688) (t : Fin 4) (n : Fin 64) : EReal :=
  geluS (lnC (preS x1 x2 x3 x4 x5 p s t) (fun n => x6 (ix1 n)) (fun n => x7 (ix1 n)) n)

variable (x8 : Vec Ideal ⟨4, ![64, 2, 2, 32]⟩ .i8) (x9 : Vec Ideal ⟨3, ![2, 2, 32]⟩ .f32) (x10 : Vec Ideal ⟨1, ![32]⟩ .f32)

/-- The second transposed convolution of the quantised activations at tap `u`, channel `ch`, and GELU. -/
def chanS (p : Fin 40) (s : Fin 2688) (t u : Fin 4) (ch : Fin 32) : EReal :=
  geluS ((∑ n : Fin 64, num (x8 (ix4 n (tapY u) (tapX u) ch)) * codeC (actS x1 x2 x3 x4 x5 x6 x7 p s t) n)
    * scaleC (actS x1 x2 x3 x4 x5 x6 x7 p s t) * x9 (ix3 (tapY u) (tapX u) ch) + x10 (ix1 ch))

/-- Mask `mk`: the 32 channels weighted by the hyper-network's numbers. -/
def maskS (x0 : Vec Ideal ⟨3, ![4, 40, 32]⟩ .f32) (p : Fin 40) (mk : Fin 4) (t u : Fin 4) (s : Fin 2688) : EReal :=
  ∑ ch : Fin 32, chanS x1 x2 x3 x4 x5 x6 x7 x8 x9 x10 p s t u ch * x0 (ix3 mk p ch)

end

end Cert.Up

end
-- ==== Proof.Entry.lean ====
/-
  The arrays that the kernel's region finds, entry by entry, in terms of the arguments: the two weight matrices, the rows of
  per-row numbers, and the hyper-network's numbers.
-/
module

public import proofs.«01_k».proof.Proof.Block
public import proofs.«01_k».proof.Proof.Spec
public import Idealize.ShloMosaic.Lib.StableHlo.RunRead

@[expose] public section

set_option maxRecDepth 16384

noncomputable section

namespace Cert.Up

open Cert.UpscaleIdeal Cert.UpscaleIdeal.Gen Idealize.ShloMosaic Idealize.ShloMosaic.TcCoe Idealize.SL.Sem Idealize.ShloMosaic.Tactic

variable (m : (ℓ : Loc nD τ sig) → Buf (Elt Ideal) ℓ) (c : Dev nD)

theorem entry_w1 (t : Fin 4) (n : Fin 64) (k : Fin 256) :
    V m c main_v1 (ix2 (row t n) k) = m ((c : Thread nD τ).loc main_arg3) (ix4 k (tapY t) (tapX t) n) := by
  unfold V
  simp only [hostOps0, hostOps0_1, hostOps0_2, List.flatten_cons, List.flatten_nil, List.append_nil, List.cons_append, List.nil_append]
  after_results
  pointwise [row]
  have h1 : (t.val * 64 + n.val) / 128 = t.val / 2 := by omega
  have h2 : (t.val * 64 + n.val) / 64 % 2 = t.val % 2 := by omega
  simp only [h1, h2]

theorem entry_w2 (ch : Fin 32) (a b a' : Fin 4) (n : Fin 64) :
    V m c main_v14 (ix2 ⟨ch.val * 16 + a.val * 4 + b.val, by omega⟩ ⟨a'.val * 64 + n.val, by omega⟩)
    = if a = a' then m ((c : Thread nD τ).loc main_arg8) (ix4 n (tapY b) (tapX b) ch) else (0#8 : BitVec 8) := by
  unfold V
  simp only [hostOps0, hostOps0_1, hostOps0_2, List.flatten_cons, List.flatten_nil, List.append_nil, List.cons_append, List.nil_append]
  after_reads_simp
  simp only [StableHlo.TRef.ofBuf_toBuf, StableHlo.TRef.ofBuf, StableHlo.TRef.toBuf, cast_eq]
  pointwise
  have h : ∀ a a' : Fin 4, IntOp.cmpi CmpIPredicate.ne
      (BitVec.setWidth 8 (IntOp.cmpi CmpIPredicate.eq (IntOp.addi (BitVec.ofNat 32 a.val) 0#32) (BitVec.ofNat 32 a'.val))) 0#8
      = if a = a' then 1#1 else 0#1 := by decide
  rw [h]
  by_cases e : a = a'
  · rw [if_pos e, if_pos e]; rfl
  · rw [if_neg e, if_neg e]; rfl

theorem entry_c1_0 (t : Fin 4) (n : Fin 64) :
    V m c main_v29 (ix2 0 (row t n)) = m ((c : Thread nD τ).loc main_arg4) (ix3 (tapY t) (tapX t) n) := by
  unfold V
  simp only [hostOps0, hostOps0_1, hostOps0_2, List.flatten_cons, List.flatten_nil, List.append_nil, List.cons_append, List.nil_append]
  after_reads_simp
  pointwise [row]
  after_reads_simp
  pointwise
  have h1 : (t.val * 64 + n.val) / 128 = t.val / 2 := by omega
  have h2 : (t.val * 64 + n.val) / 64 % 2 = t.val % 2 := by omega
  have h3 : (t.val * 64 + n.val) % 64 = n.val := by omega
  simp only [h1, h2, h3]

theorem entry_c1_1 (t : Fin 4) (n : Fin 64) :
    V m c main_v29 (ix2 1 (row t n)) = m ((c : Thread nD τ).loc main_arg5) (ix1 n) := by
  unfold V
  simp only [hostOps0, hostOps0_1, hostOps0_2, List.flatten_cons, List.flatten_nil, List.append_nil, List.cons_append, List.nil_append]
  after_reads_simp
  pointwise [row]
  after_reads_simp
  pointwise
  have h3 : (t.val * 64 + n.val) % 64 = n.val := by omega
  simp only [h3]

theorem entry_c1_2 (t : Fin 4) (n : Fin 64) :
    V m c main_v29 (ix2 2 (row t n)) = m ((c : Thread nD τ).loc main_arg6) (ix1 n) := by
  unfold V
  simp only [hostOps0, hostOps0_1, hostOps0_2, List.flatten_cons, List.flatten_nil, List.append_nil, List.cons_append, List.nil_append]
  after_reads_simp
  pointwise [row]
  after_reads_simp
  pointwise
  have h3 : (t.val * 64 + n.val) % 64 = n.val := by omega
  simp only [h3]

theorem entry_c1_3 (t : Fin 4) (n : Fin 64) :
    V m c main_v29 (ix2 3 (row t n)) = m ((c : Thread nD τ).loc main_arg7) (ix1 n) := by
  unfold V
  simp only [hostOps0, hostOps0_1, hostOps0_2, List.flatten_cons, List.flatten_nil, List.append_nil, List.cons_append, List.nil_append]
  after_reads_simp
  pointwise [row]
  after_reads_simp
  pointwise
  have h3 : (t.val * 64 + n.val) % 64 = n.val := by omega
  simp only [h3]

theorem entry_c2 (ch : Fin 32) (a b : Fin 4) :
    V m c main_v38 (ix2 0 ⟨ch.val * 16 + a.val * 4 + b.val, by omega⟩) = m ((c : Thread nD τ).loc main_arg9) (ix3 (tapY b) (tapX b) ch)
    ∧ V m c main_v38 (ix2 1 ⟨ch.val * 16 + a.val * 4 + b.val, by omega⟩) = m ((c : Thread nD τ).loc main_arg10) (ix1 ch) := by
  unfold V
  simp only [hostOps0, hostOps0_1, hostOps0_2, List.flatten_cons, List.flatten_nil, List.append_nil, List.cons_append, List.nil_append]
  after_results
  pointwise
  have h1 : (ch.val * 16 + a.val * 4 + b.val) % 4 = b.val := by omega
  have h2 : (ch.val * 16 + a.val * 4 + b.val) / 16 = ch.val := by omega
  refine ⟨?_, ?_⟩
  · simp only [h1, h2]
  · simp only [h1, h2]

theorem entry_h (p : Fin 40) (mk : Fin 4) (n : Fin 32) : V m c main_v40 (ix3 p 0 ⟨mk.val * 32 + n.val, by omega⟩)
    = m ((c : Thread nD τ).loc main_arg0) (ix3 mk p n) := by
  unfold V
  simp only [hostOps0, hostOps0_1, hostOps0_2, List.flatten_cons, List.flatten_nil, List.append_nil, List.cons_append, List.nil_append]
  after_results
  pointwise

end Cert.Up

end
-- ==== Proof.Final.lean ====
/-
  The kernel's three arrays, number by number, in terms of its arguments.
-/
module

public import proofs.«01_k».proof.Proof.Points
public import proofs.«01_k».proof.Proof.Entry
public import proofs.«01_k».proof.Proof.Gen.UpscaleIdeal.Value

@[expose] public section

set_option maxRecDepth 16384

noncomputable section

namespace Cert.Up

open Cert.UpscaleIdeal Cert.UpscaleIdeal.Gen Cert.UpscaleIdeal.Value Idealize.ShloMosaic Idealize.ShloMosaic.TcCoe Idealize.SL.Sem

variable (m : (ℓ : Loc nD τ sig) → Buf (Elt Ideal) ℓ) (c : Dev nD)

/-- Argument `n` of the kernel. -/
abbrev a0 : Vec Ideal ⟨3, ![4, 40, 32]⟩ .f32 := m ((c : Thread nD τ).loc main_arg0)
abbrev a1 : Vec Ideal ⟨3, ![40, 256, 2688]⟩ .bf16 := m ((c : Thread nD τ).loc main_arg1)
abbrev a2 : Vec Ideal ⟨3, ![40, 1, 2688]⟩ .f32 := m ((c : Thread nD τ).loc main_arg2)
abbrev a3 : Vec Ideal ⟨4, ![256, 2, 2, 64]⟩ .i8 := m ((c : Thread nD τ).loc main_arg3)
abbrev a4 : Vec Ideal ⟨3, ![2, 2, 64]⟩ .f32 := m ((c : Thread nD τ).loc main_arg4)
abbrev a5 : Vec Ideal ⟨1, ![64]⟩ .f32 := m ((c : Thread nD τ).loc main_arg5)
abbrev a6 : Vec Ideal ⟨1, ![64]⟩ .f32 := m ((c : Thread nD τ).loc main_arg6)
abbrev a7 : Vec Ideal ⟨1, ![64]⟩ .f32 := m ((c : Thread nD τ).loc main_arg7)
abbrev a8 : Vec Ideal ⟨4, ![64, 2, 2, 32]⟩ .i8 := m ((c : Thread nD τ).loc main_arg8)
abbrev a9 : Vec Ideal ⟨3, ![2, 2, 32]⟩ .f32 := m ((c : Thread nD τ).loc main_arg9)
abbrev a10 : Vec Ideal ⟨1, ![32]⟩ .f32 := m ((c : Thread nD τ).loc main_arg10)

/-- The kept first weights, as numbers. -/
theorem w1_num (t : Fin 4) (n : Fin 64) (k : Fin 256) :
    mat (keptW1 (V m c main_v1)) (row t n) k = num (a3 m c (ix4 k (tapY t) (tapX t) n)) := by
  have h := entry_w1 m c t n k
  unfold mat keptW1
  change num (V m c main_v1 (ix2 (row t n) k)) = _
  rw [h]

/-- The kept second weights, as numbers: block-diagonal over the first convolution's taps. -/
theorem w2_num (ch : Fin 32) (a b a' : Fin 4) (n : Fin 64) :
    mat (keptW2 (V m c main_v14)) ⟨ch.val * 16 + a.val * 4 + b.val, by omega⟩ ⟨a'.val * 64 + n.val, by omega⟩
      = if a = a' then num (a8 m c (ix4 n (tapY b) (tapX b) ch)) else 0 := by
  have h := entry_w2 m c ch a b a' n
  unfold mat keptW2
  change num (V m c main_v14 (ix2 ⟨ch.val * 16 + a.val * 4 + b.val, by omega⟩ ⟨a'.val * 64 + n.val, by omega⟩)) = _
  rw [h]
  split
  · rfl
  · simp [num]

/-- The activations that point `t` computes are the specification's at image `p`. -/
theorem act_eq (t : Fin cfg0.N) (p : Fin 40) (hp : p.val = t.val) (s : Fin 2688) :
    blkAct (keptW1 (V m c main_v1)) (fun i r => V m c main_v29 (ix2 i r)) (iblk m c 1 t) (iblk m c 2 t) s
      = actS (a1 m c) (a2 m c) (a3 m c) (a4 m c) (a5 m c) (a6 m c) (a7 m c) p s := by
  funext ta n
  unfold blkAct actP actS preP
  have e : (fun c' => preS (a1 m c) (a2 m c) (a3 m c) (a4 m c) (a5 m c) p s ta c')
      = fun c' => (∑ k, mat (keptW1 (V m c main_v1)) (row ta c') k * iblk m c 1 t (ix3 0 k s)) * iblk m c 2 t (ix3 0 0 s)
          * V m c main_v29 (ix2 0 (row ta c')) + V m c main_v29 (ix2 1 (row ta c')) := by
    funext c'
    unfold preS
    rw [entry_c1_0, entry_c1_1, blk2 m c t p hp, V_main_arg2]
    refine congrArg (fun z => z * a2 m c (ix3 p 0 s) * a4 m c (ix3 (tapY ta) (tapX ta) c') + a5 m c (ix1 c')) ?_
    refine Finset.sum_congr rfl fun k _ => ?_
    rw [w1_num, blk1 m c t p hp, V_main_arg1]
  rw [show preS (a1 m c) (a2 m c) (a3 m c) (a4 m c) (a5 m c) p s ta = _ from e]
  have e2 : (fun c' => V m c main_v29 (ix2 2 (row ta c'))) = fun n => a6 m c (ix1 n) := funext fun c' => entry_c1_2 m c ta c'
  have e3 : (fun c' => V m c main_v29 (ix2 3 (row ta c'))) = fun n => a7 m c (ix1 n) := funext fun c' => entry_c1_3 m c ta c'
  rw [← e2, ← e3]

/-- The codes array. -/
theorem final_codes (p : Fin 40) (t : Fin 4) (n : Fin 64) (s : Fin 2688) :
    G7 m c (ix3 p ⟨t.val * 64 + n.val, by omega⟩ s)
      = word (codeC (actS (a1 m c) (a2 m c) (a3 m c) (a4 m c) (a5 m c) (a6 m c) (a7 m c) p s t) n) := by
  have hq : pt7Of (ix3 p ⟨t.val * 64 + n.val, by omega⟩ s) = p.val := by
    show 1 * (p.val / 1 - 0) + 1 * ((t.val * 64 + n.val) / 256 - 0) + 1 * (s.val / 2688 - 0) = p.val
    omega
  have hN : (cfg0.N : ℕ) = 40 := N_0
  have h : pt7Of (ix3 p ⟨t.val * 64 + n.val, by omega⟩ s) < cfg0.N := by rw [hq, hN]; exact p.isLt
  have hl : loc7Of (ix3 p ⟨t.val * 64 + n.val, by omega⟩ s) = ix3 0 ⟨t.val * 64 + n.val, by omega⟩ s := by
    funext a
    match a with
    | ⟨0, _⟩ => exact Fin.ext (show p.val % 1 = 0 by omega)
    | ⟨1, _⟩ => exact Fin.ext (show (t.val * 64 + n.val) % 256 = t.val * 64 + n.val by omega)
    | ⟨2, _⟩ => exact Fin.ext (show s.val % 2688 = s.val by omega)
  unfold G7
  rw [dif_pos h, ← outsAt0_sweep m c _ h, hl, (blocks_at m c ⟨_, h⟩).1]
  unfold blkCodes codeP
  rw [show (ix3 (0 : Fin 1) (⟨t.val * 64 + n.val, by omega⟩ : Fin 256) s) 2 = s from rfl, act_eq m c ⟨_, h⟩ p hq.symm s]
  have h1 : (t.val * 64 + n.val) / 64 = t.val := by omega
  have h2 : (t.val * 64 + n.val) % 64 = n.val := by omega
  show word (codeC (actS _ _ _ _ _ _ _ p s ⟨(t.val * 64 + n.val) / 64, _⟩) ⟨(t.val * 64 + n.val) % 64, _⟩) = _
  simp only [h1, h2]

/-- The scales array. -/
theorem final_scales (p : Fin 40) (t : Fin 4) (s : Fin 2688) :
    G8 m c (ix3 p t s) = scaleC (actS (a1 m c) (a2 m c) (a3 m c) (a4 m c) (a5 m c) (a6 m c) (a7 m c) p s t) := by
  have hq : pt8Of (ix3 p t s) = p.val := by
    show 1 * (p.val / 1 - 0) + 1 * (t.val / 4 - 0) + 1 * (s.val / 2688 - 0) = p.val
    omega
  have hN : (cfg0.N : ℕ) = 40 := N_0
  have h : pt8Of (ix3 p t s) < cfg0.N := by rw [hq, hN]; exact p.isLt
  have hl : loc8Of (ix3 p t s) = ix3 0 t s := by
    funext a
    match a with
    | ⟨0, _⟩ => exact Fin.ext (show p.val % 1 = 0 by omega)
    | ⟨1, _⟩ => exact Fin.ext (show t.val % 4 = t.val by omega)
    | ⟨2, _⟩ => exact Fin.ext (show s.val % 2688 = s.val by omega)
  unfold G8
  rw [dif_pos h, ← outsAt0_sweep m c _ h, hl, (blocks_at m c ⟨_, h⟩).2.1]
  unfold blkScales
  rw [show (ix3 (0 : Fin 1) t s) 2 = s from rfl, act_eq m c ⟨_, h⟩ p hq.symm s]
  rfl

/-- A row of the second convolution is a channel of the specification. -/
theorem chan_eq (u : Fin 4 → Fin 64 → EReal) (p : Fin 40) (s : Fin 2688)
    (hu : u = actS (a1 m c) (a2 m c) (a3 m c) (a4 m c) (a5 m c) (a6 m c) (a7 m c) p s) (ch : Fin 32) (a b : Fin 4) :
    chanP (mat (keptW2 (V m c main_v14))) (fun i r => V m c main_v38 (ix2 i r)) u ⟨ch.val * 16 + a.val * 4 + b.val, by omega⟩
      = chanS (a1 m c) (a2 m c) (a3 m c) (a4 m c) (a5 m c) (a6 m c) (a7 m c) (a8 m c) (a9 m c) (a10 m c) p s a b ch := by
  have e : ∀ a' : Fin 4, ∀ n : Fin 64, codeP u ⟨a'.val * 64 + n.val, by omega⟩ = codeC (u a') n := by
    intro a' n
    unfold codeP
    have h1 : (a'.val * 64 + n.val) / 64 = a'.val := by omega
    have h2 : (a'.val * 64 + n.val) % 64 = n.val := by omega
    simp only [h1, h2]
  have hs : (∑ k, mat (keptW2 (V m c main_v14)) ⟨ch.val * 16 + a.val * 4 + b.val, by omega⟩ k * codeP u k)
      = ∑ n : Fin 64, num (a8 m c (ix4 n (tapY b) (tapX b) ch)) * codeC (u a) n := by
    rw [Fin.sum_univ_tiles 4 64 rfl, Finset.sum_eq_single a]
    · refine Finset.sum_congr rfl fun n _ => ?_
      rw [e a n, w2_num, if_pos rfl]
    · intro a' _ h
      refine Finset.sum_eq_zero fun n _ => ?_
      rw [w2_num, if_neg (Ne.symm h), zero_mul]
    · intro h; exact absurd (Finset.mem_univ _) h
  have h3 : (⟨(ch.val * 16 + a.val * 4 + b.val) % 16 / 4, by omega⟩ : Fin 4) = a := Fin.ext (by show (ch.val * 16 + a.val * 4 + b.val) % 16 / 4 = a.val; omega)
  unfold chanP chanS
  beta_reduce
  rw [(entry_c2 m c ch a b).1, (entry_c2 m c ch a b).2, hs, ← hu]
  refine congrArg geluS (congrArg₂ (· + ·) (congrArg₂ (· * ·) (congrArg₂ (· * ·) rfl (congrArg (fun q => scaleC (u q)) h3)) rfl) rfl)

/-- A mask is the sum of its 32 terms. -/
theorem mask_sum (w : Fin 512 → Fin 256 → EReal) (v : Fin 2 → Fin 512 → EReal) (u : Fin 4 → Fin 64 → EReal) (h : Fin 32 → EReal)
    (a : Fin 16) (f : Fin 32 → EReal) (e : ∀ n : Fin 32, chanP w v u ⟨n.val * 16 + a.val, by omega⟩ * h n = f n) :
    maskP w v u h a = ∑ n, f n := Finset.sum_congr rfl fun n _ => e n

/-- The masks array. -/
theorem final_masks (p : Fin 40) (mk a b : Fin 4) (s : Fin 2688) :
    G9 m c (ix4 p mk ⟨a.val * 4 + b.val, by omega⟩ s)
      = maskS (a1 m c) (a2 m c) (a3 m c) (a4 m c) (a5 m c) (a6 m c) (a7 m c) (a8 m c) (a9 m c) (a10 m c) (a0 m c) p mk a b s := by
  have hq : pt9Of (ix4 p mk ⟨a.val * 4 + b.val, by omega⟩ s) = p.val := by
    show 1 * (p.val / 1 - 0) + 1 * (mk.val / 4 - 0) + 1 * ((a.val * 4 + b.val) / 16 - 0) + 1 * (s.val / 2688 - 0) = p.val
    omega
  have hN : (cfg0.N : ℕ) = 40 := N_0
  have h : pt9Of (ix4 p mk ⟨a.val * 4 + b.val, by omega⟩ s) < cfg0.N := by rw [hq, hN]; exact p.isLt
  have hl : loc9Of (ix4 p mk ⟨a.val * 4 + b.val, by omega⟩ s) = ix4 0 mk ⟨a.val * 4 + b.val, by omega⟩ s := by
    funext x
    match x with
    | ⟨0, _⟩ => exact Fin.ext (show p.val % 1 = 0 by omega)
    | ⟨1, _⟩ => exact Fin.ext (show mk.val % 4 = mk.val by omega)
    | ⟨2, _⟩ => exact Fin.ext (show (a.val * 4 + b.val) % 16 = a.val * 4 + b.val by omega)
    | ⟨3, _⟩ => exact Fin.ext (show s.val % 2688 = s.val by omega)
  unfold G9
  rw [dif_pos h, ← outsAt0_sweep m c _ h, hl, (blocks_at m c ⟨_, h⟩).2.2]
  have e : ∀ n : Fin 32, (⟨n.val * 16 + (a.val * 4 + b.val), by omega⟩ : Fin 512) = ⟨n.val * 16 + a.val * 4 + b.val, by omega⟩ :=
    fun n => Fin.ext (Nat.add_assoc _ _ _).symm
  refine mask_sum _ _ _ _ _ _ fun n => ?_
  refine congrArg₂ (fun x y : EReal => x * y) ?_ ((blk0 m c ⟨_, h⟩ p hq.symm _).trans (entry_h m c p mk n))
  refine Eq.trans ?_ (chan_eq m c _ p s (act_eq m c ⟨_, h⟩ p hq.symm s) n a b)
  exact congrArg (chanP _ _ _) (e n)

end Cert.Up

end
-- ==== Proof.Reference.lean ====
/-
  What the reference computes, number by number: the stages of its program read at an index.
-/
module

public import proofs.«01_k».proof.Proof.Spec
public import proofs.«01_k».proof.Proof.Gen.UpscaleRefIdeal.Read

@[expose] public section

set_option maxRecDepth 16384

noncomputable section

namespace Cert.Up

open Cert.UpscaleRefIdeal Cert.UpscaleRefIdeal.Read Idealize.ShloMosaic

variable (x1 : Vec Ideal ⟨3, ![40, 256, 2688]⟩ .bf16) (x2 : Vec Ideal ⟨3, ![40, 1, 2688]⟩ .f32) (x3 : Vec Ideal ⟨4, ![256, 2, 2, 64]⟩ .i8)
  (x4 : Vec Ideal ⟨3, ![2, 2, 64]⟩ .f32) (x5 x6 x7 : Vec Ideal ⟨1, ![64]⟩ .f32)
  (x8 : Vec Ideal ⟨4, ![64, 2, 2, 32]⟩ .i8) (x9 : Vec Ideal ⟨3, ![2, 2, 32]⟩ .f32) (x10 : Vec Ideal ⟨1, ![32]⟩ .f32)
  (x0 : Vec Ideal ⟨3, ![4, 40, 32]⟩ .f32)

/-- Casting an int8 word up to 32 bits keeps its number. -/
theorem num_wide (b : BitVec 8) : FloatOps.sitofp (F := Ideal) .f32 (b.signExtend 32) = num b := by
  change (((b.signExtend 32).toInt : ℝ) : EReal) = num b
  rw [BitVec.toInt_signExtend_of_le (by decide)]

/-- The first transposed convolution. -/
theorem ref_pre (p : Fin 40) (s : Fin 2688) (t : Fin 4) (n : Fin 64) :
    val_main_v16 (F := Ideal) x1 x2 x3 x4 x5 (ix4 p s t n) = preS x1 x2 x3 x4 x5 p s t n := by
  unfold preS
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16]
  simp only [num_wide, mul_comm (x1 _)]

/-- The mean over the channels. -/
theorem ref_mean (p : Fin 40) (s : Fin 2688) (t : Fin 4) :
    val_main_v20 (F := Ideal) x1 x2 x3 x4 x5 (ix4 p s t 0) = meanC (preS x1 x2 x3 x4 x5 p s t) := by
  unfold meanC
  pointwise [val_main_v17, val_main_v18, val_main_v19, val_main_v20, val_main_cst, val_main_cst_0]
  simp only [ref_pre]

/-- A channel less the mean. -/
theorem ref_cen (p : Fin 40) (s : Fin 2688) (t : Fin 4) (n : Fin 64) :
    val_main_v22 (F := Ideal) x1 x2 x3 x4 x5 (ix4 p s t n) = cenC (preS x1 x2 x3 x4 x5 p s t) n := by
  unfold cenC
  pointwise [val_main_v21, val_main_v22]
  rw [ref_pre, ref_mean]

/-- The variance over the channels. -/
theorem ref_var (p : Fin 40) (s : Fin 2688) (t : Fin 4) :
    val_main_v27 (F := Ideal) x1 x2 x3 x4 x5 (ix4 p s t 0)
      = meanC (fun r => cenC (preS x1 x2 x3 x4 x5 p s t) r * cenC (preS x1 x2 x3 x4 x5 p s t) r) := by
  unfold meanC
  pointwise [val_main_v23, val_main_v24, val_main_v25, val_main_v26, val_main_v27, val_main_cst_1, val_main_cst_2]
  simp only [ref_cen]

/-- The layer norm. -/
theorem ref_ln (p : Fin 40) (s : Fin 2688) (t : Fin 4) (n : Fin 64) :
    val_main_v38 (F := Ideal) x1 x2 x3 x4 x5 x6 x7 (ix4 p s t n)
      = lnC (preS x1 x2 x3 x4 x5 p s t) (fun n => x6 (ix1 n)) (fun n => x7 (ix1 n)) n := by
  unfold lnC rootC
  pointwise [val_main_v28, val_main_v29, val_main_v30, val_main_v31, val_main_v32, val_main_v33, val_main_v34, val_main_v35, val_main_v36, val_main_v37, val_main_v38, val_main_cst_3]
  rw [ref_cen, ref_var]

/-- The activation. -/
theorem ref_act (p : Fin 40) (s : Fin 2688) (t : Fin 4) (n : Fin 64) :
    val_main_v45 (F := Ideal) x1 x2 x3 x4 x5 x6 x7 (ix4 p s t n) = actS x1 x2 x3 x4 x5 x6 x7 p s t n := by
  unfold actS
  rw [← gelu_erfc, ← ref_ln]
  pointwise [val_main_v39, val_main_v40, val_main_v41, val_main_v42, val_main_v43, val_main_v44, val_main_v45, val_main_cst_4, val_main_cst_5]

/-- The largest magnitude over the channels. -/
theorem ref_mag (p : Fin 40) (s : Fin 2688) (t : Fin 4) :
    val_main_v47 (F := Ideal) x1 x2 x3 x4 x5 x6 x7 (ix3 p s t) = magC (actS x1 x2 x3 x4 x5 x6 x7 p s t) := by
  unfold magC
  pointwise [val_main_v47, val_main_v46, val_main_cst_6]
  simp only [ref_act]

/-- The quantiser's scale. -/
theorem ref_scale (p : Fin 40) (s : Fin 2688) (t : Fin 4) :
    val_main_v53 (F := Ideal) x1 x2 x3 x4 x5 x6 x7 (ix3 p s t) = scaleC (actS x1 x2 x3 x4 x5 x6 x7 p s t) := by
  rw [val_main_v53_apply, val_main_v49_apply, val_main_v51_apply, ref_mag, val_main_v48_apply, val_main_v50_apply, val_main_v52_apply]
  unfold scaleC
  generalize magC (actS x1 x2 x3 x4 x5 x6 x7 p s t) = a
  pointwise [val_main_cst_7, val_main_cst_8, val_main_cst_9]

/-- The quantiser's code, as a number. -/
theorem ref_code (p : Fin 40) (s : Fin 2688) (t : Fin 4) (n : Fin 64) :
    val_main_v61 (F := Ideal) x1 x2 x3 x4 x5 x6 x7 (ix4 p s t n) = codeC (actS x1 x2 x3 x4 x5 x6 x7 p s t) n := by
  rw [val_main_v61_apply, val_main_v60_apply, val_main_v59_apply, val_main_v58_apply, val_main_v57_apply, val_main_v56_apply, val_main_v55_apply,
    val_main_v54_apply, ref_act]
  have e : idx_main_v54 (idx_main_v55 (ix4 p s t n)) = ix3 p s t := by
    funext a; fin_cases a <;> rfl
  rw [e, ref_scale]
  unfold codeC
  generalize scaleC (actS x1 x2 x3 x4 x5 x6 x7 p s t) = a
  generalize actS x1 x2 x3 x4 x5 x6 x7 p s t n = b
  rfl

/-- The code's int8 word. -/
theorem ref_word (p : Fin 40) (s : Fin 2688) (t : Fin 4) (n : Fin 64) :
    val_main_v63 (F := Ideal) x1 x2 x3 x4 x5 x6 x7 (ix4 p s t n) = word (codeC (actS x1 x2 x3 x4 x5 x6 x7 p s t) n) := by
  rw [← ref_code]
  unfold val_main_v63 val_main_v62
  generalize val_main_v61 (F := Ideal) x1 x2 x3 x4 x5 x6 x7 = y
  pointwise
  rfl

/-- The word read back is the code. -/
theorem ref_back (p : Fin 40) (s : Fin 2688) (t : Fin 4) (n : Fin 64) :
    val_main_v66 (F := Ideal) x1 x2 x3 x4 x5 x6 x7 (ix4 p s t n) = codeC (actS x1 x2 x3 x4 x5 x6 x7 p s t) n := by
  have h := ref_word x1 x2 x3 x4 x5 x6 x7 p s t n
  unfold val_main_v66 val_main_v65 val_main_v64
  generalize val_main_v63 (F := Ideal) x1 x2 x3 x4 x5 x6 x7 = y at h ⊢
  pointwise
  rw [h, num_wide]
  exact word_toInt _ _

/-- The second transposed convolution, before its GELU. -/
theorem ref_pre2 (p : Fin 40) (s : Fin 2688) (t u : Fin 4) (ch : Fin 32) :
    val_main_v81 (F := Ideal) x1 x2 x3 x4 x5 x6 x7 x8 x9 x10 (ix5 p s t u ch)
      = (∑ n : Fin 64, num (x8 (ix4 n (tapY u) (tapX u) ch)) * codeC (actS x1 x2 x3 x4 x5 x6 x7 p s t) n)
        * scaleC (actS x1 x2 x3 x4 x5 x6 x7 p s t) * x9 (ix3 (tapY u) (tapX u) ch) + x10 (ix1 ch) := by
  rw [val_main_v81_apply, val_main_v80_apply, val_main_v79_apply, val_main_v78_apply, val_main_v77_apply, val_main_v76_apply,
    val_main_v74_apply, val_main_v73_apply, val_main_v72_apply, val_main_v71_apply]
  have e : idx_main_v72 (idx_main_v73 (ix5 p s t u ch)) = ix3 p s t := by
    funext a; fin_cases a <;> rfl
  have e1 : ∀ k, lidx_main_v71 (ix5 p s t u ch) k = ix4 p s t k := by
    intro k; funext a; fin_cases a <;> rfl
  have e2 : ∀ k, val_main_v70 (F := Ideal) x8 (ridx_main_v71 (ix5 p s t u ch) k) = num (x8 (ix4 k (tapY u) (tapX u) ch)) := by
    intro k
    have e3 : ridx_main_v71 (ix5 p s t u ch) k = ix3 k u ch := by
      funext a; fin_cases a <;> rfl
    rw [e3]
    pointwise [val_main_v70, val_main_v69, val_main_v68, val_main_v67]
    exact num_wide _
  have e4 : idx_main_v76 (idx_main_v77 (ix5 p s t u ch)) = ix2 u ch := by
    funext a; fin_cases a <;> rfl
  have e5 : idx_main_v79 (idx_main_v80 (ix5 p s t u ch)) = ix1 ch := by
    funext a; fin_cases a; rfl
  have e6 : val_main_v75 (F := Ideal) x9 (ix2 u ch) = x9 (ix3 (tapY u) (tapX u) ch) := by
    pointwise [val_main_v75]
  simp only [e, e1, e2, e4, e5, e6, ref_back, ref_scale, mul_comm (num _)]
  generalize (∑ k : Fin 64, codeC (actS x1 x2 x3 x4 x5 x6 x7 p s t) k * num (x8 (ix4 k (tapY u) (tapX u) ch))) = a
  generalize scaleC (actS x1 x2 x3 x4 x5 x6 x7 p s t) = b
  rfl

/-- … and after it. -/
theorem ref_chan (p : Fin 40) (s : Fin 2688) (t u : Fin 4) (ch : Fin 32) :
    val_main_v88 (F := Ideal) x1 x2 x3 x4 x5 x6 x7 x8 x9 x10 (ix5 p s t u ch)
      = chanS x1 x2 x3 x4 x5 x6 x7 x8 x9 x10 p s t u ch := by
  rw [val_main_v88_apply, val_main_v87_apply, val_main_v86_apply, val_main_v85_apply, val_main_v84_apply, val_main_v83_apply,
    val_main_v82_apply, ref_pre2]
  unfold chanS
  rw [← gelu_erfc]
  generalize (∑ n : Fin 64, num (x8 (ix4 n (tapY u) (tapX u) ch)) * codeC (actS x1 x2 x3 x4 x5 x6 x7 p s t) n)
        * scaleC (actS x1 x2 x3 x4 x5 x6 x7 p s t) * x9 (ix3 (tapY u) (tapX u) ch) + x10 (ix1 ch) = a
  rfl

/-- The reference's codes. -/
theorem ref_codes (p : Fin 40) (s : Fin 2688) (t : Fin 4) (n : Fin 64) :
    val_main_v93 (F := Ideal) x1 x2 x3 x4 x5 x6 x7 (ix3 p ⟨t.val * 64 + n.val, by omega⟩ s)
      = word (codeC (actS x1 x2 x3 x4 x5 x6 x7 p s t) n) := by
  rw [← ref_word]
  unfold val_main_v93 val_main_v92
  generalize val_main_v63 (F := Ideal) x1 x2 x3 x4 x5 x6 x7 = y
  pointwise

/-- The reference's scales. -/
theorem ref_scales (p : Fin 40) (s : Fin 2688) (t : Fin 4) :
    val_main_v94 (F := Ideal) x1 x2 x3 x4 x5 x6 x7 (ix3 p t s) = scaleC (actS x1 x2 x3 x4 x5 x6 x7 p s t) := by
  rw [← ref_scale]
  unfold val_main_v94
  generalize val_main_v53 (F := Ideal) x1 x2 x3 x4 x5 x6 x7 = y
  pointwise

/-- The reference's masks. -/
theorem ref_masks (p : Fin 40) (s : Fin 2688) (mk t u : Fin 4) :
    val_main_v95 (F := Ideal) x0 x1 x2 x3 x4 x5 x6 x7 x8 x9 x10 (ix4 p mk ⟨t.val * 4 + u.val, by omega⟩ s)
      = maskS x1 x2 x3 x4 x5 x6 x7 x8 x9 x10 x0 p mk t u s := by
  unfold maskS
  simp only [← ref_chan]
  unfold val_main_v95 val_main_v91 val_main_v90 val_main_v89
  generalize val_main_v88 (F := Ideal) x1 x2 x3 x4 x5 x6 x7 x8 x9 x10 = y
  pointwise

end Cert.Up

end
-- ==== Proof.Equation.lean ====
/-
  The equation: from equal arguments the kernel's three arrays are the reference's three results.
-/
module

public import proofs.«01_k».proof.Proof.Final
public import proofs.«01_k».proof.Proof.Reference

@[expose] public section

set_option maxRecDepth 16384

noncomputable section

namespace Cert.Up

open Cert.UpscaleIdeal Cert.UpscaleIdeal.Value Cert.UpscaleRefIdeal.Read Idealize.ShloMosaic Idealize.ShloMosaic.TcCoe Idealize.SL.Sem

variable (m : (ℓ : Loc nD τ sig) → Buf (Elt Ideal) ℓ) (c : Dev nD)

/-- The codes agree. -/
theorem codes_eq : val_main_v93 (F := Ideal) (a1 m c) (a2 m c) (a3 m c) (a4 m c) (a5 m c) (a6 m c) (a7 m c) = G7 m c := by
  funext i
  obtain ⟨p, r, s, rfl⟩ : ∃ (p : Fin 40) (r : Fin 256) (s : Fin 2688), i = ix3 p r s :=
    ⟨i 0, i 1, i 2, by funext a; fin_cases a <;> rfl⟩
  obtain ⟨t, n, rfl⟩ : ∃ (t : Fin 4) (n : Fin 64), r = ⟨t.val * 64 + n.val, by omega⟩ :=
    ⟨⟨r.val / 64, by omega⟩, ⟨r.val % 64, by omega⟩, Fin.ext (by show r.val = r.val / 64 * 64 + r.val % 64; omega)⟩
  exact (ref_codes _ _ _ _ _ _ _ p s t n).trans (final_codes m c p t n s).symm

/-- The scales agree. -/
theorem scales_eq : val_main_v94 (F := Ideal) (a1 m c) (a2 m c) (a3 m c) (a4 m c) (a5 m c) (a6 m c) (a7 m c) = G8 m c := by
  funext i
  obtain ⟨p, t, s, rfl⟩ : ∃ (p : Fin 40) (t : Fin 4) (s : Fin 2688), i = ix3 p t s :=
    ⟨i 0, i 1, i 2, by funext a; fin_cases a <;> rfl⟩
  exact (ref_scales _ _ _ _ _ _ _ p s t).trans (final_scales m c p t s).symm

/-- The masks agree. -/
theorem masks_eq : val_main_v95 (F := Ideal) (a0 m c) (a1 m c) (a2 m c) (a3 m c) (a4 m c) (a5 m c) (a6 m c) (a7 m c) (a8 m c)
    (a9 m c) (a10 m c) = G9 m c := by
  funext i
  obtain ⟨p, mk, r, s, rfl⟩ : ∃ (p : Fin 40) (mk : Fin 4) (r : Fin 16) (s : Fin 2688), i = ix4 p mk r s :=
    ⟨i 0, i 1, i 2, i 3, by funext a; fin_cases a <;> rfl⟩
  obtain ⟨a, b, rfl⟩ : ∃ a b : Fin 4, r = ⟨a.val * 4 + b.val, by omega⟩ :=
    ⟨⟨r.val / 4, by omega⟩, ⟨r.val % 4, by omega⟩, Fin.ext (by show r.val = r.val / 4 * 4 + r.val % 4; omega)⟩
  exact (ref_masks _ _ _ _ _ _ _ _ _ _ _ p s mk a b).trans (final_masks m c p mk a b s).symm

/-- The codes agree on equal arguments. -/
theorem codes_of {y1 : Vec Ideal ⟨3, ![40, 256, 2688]⟩ .bf16} {y2 : Vec Ideal ⟨3, ![40, 1, 2688]⟩ .f32} {y3 : Vec Ideal ⟨4, ![256, 2, 2, 64]⟩ .i8} {y4 : Vec Ideal ⟨3, ![2, 2, 64]⟩ .f32} {y5 : Vec Ideal ⟨1, ![64]⟩ .f32} {y6 : Vec Ideal ⟨1, ![64]⟩ .f32} {y7 : Vec Ideal ⟨1, ![64]⟩ .f32}
    (h1 : y1 = a1 m c) (h2 : y2 = a2 m c) (h3 : y3 = a3 m c) (h4 : y4 = a4 m c) (h5 : y5 = a5 m c) (h6 : y6 = a6 m c) (h7 : y7 = a7 m c) :
    val_main_v93 (F := Ideal) y1 y2 y3 y4 y5 y6 y7 = G7 m c := by
  rw [h1, h2, h3, h4, h5, h6, h7]
  exact codes_eq m c

/-- The scales agree on equal arguments. -/
theorem scales_of {y1 : Vec Ideal ⟨3, ![40, 256, 2688]⟩ .bf16} {y2 : Vec Ideal ⟨3, ![40, 1, 2688]⟩ .f32} {y3 : Vec Ideal ⟨4, ![256, 2, 2, 64]⟩ .i8} {y4 : Vec Ideal ⟨3, ![2, 2, 64]⟩ .f32} {y5 : Vec Ideal ⟨1, ![64]⟩ .f32} {y6 : Vec Ideal ⟨1, ![64]⟩ .f32} {y7 : Vec Ideal ⟨1, ![64]⟩ .f32}
    (h1 : y1 = a1 m c) (h2 : y2 = a2 m c) (h3 : y3 = a3 m c) (h4 : y4 = a4 m c) (h5 : y5 = a5 m c) (h6 : y6 = a6 m c) (h7 : y7 = a7 m c) :
    val_main_v94 (F := Ideal) y1 y2 y3 y4 y5 y6 y7 = G8 m c := by
  rw [h1, h2, h3, h4, h5, h6, h7]
  exact scales_eq m c

/-- The masks agree on equal arguments. -/
theorem masks_of {y0 : Vec Ideal ⟨3, ![4, 40, 32]⟩ .f32} {y1 : Vec Ideal ⟨3, ![40, 256, 2688]⟩ .bf16} {y2 : Vec Ideal ⟨3, ![40, 1, 2688]⟩ .f32} {y3 : Vec Ideal ⟨4, ![256, 2, 2, 64]⟩ .i8} {y4 : Vec Ideal ⟨3, ![2, 2, 64]⟩ .f32} {y5 : Vec Ideal ⟨1, ![64]⟩ .f32} {y6 : Vec Ideal ⟨1, ![64]⟩ .f32} {y7 : Vec Ideal ⟨1, ![64]⟩ .f32} {y8 : Vec Ideal ⟨4, ![64, 2, 2, 32]⟩ .i8} {y9 : Vec Ideal ⟨3, ![2, 2, 32]⟩ .f32} {y10 : Vec Ideal ⟨1, ![32]⟩ .f32}
    (h0 : y0 = a0 m c) (h1 : y1 = a1 m c) (h2 : y2 = a2 m c) (h3 : y3 = a3 m c) (h4 : y4 = a4 m c) (h5 : y5 = a5 m c) (h6 : y6 = a6 m c) (h7 : y7 = a7 m c) (h8 : y8 = a8 m c) (h9 : y9 = a9 m c) (h10 : y10 = a10 m c) :
    val_main_v95 (F := Ideal) y0 y1 y2 y3 y4 y5 y6 y7 y8 y9 y10 = G9 m c := by
  rw [h0, h1, h2, h3, h4, h5, h6, h7, h8, h9, h10]
  exact masks_eq m c

end Cert.Up

end
-- ==== Proof.AttnVectors.lean ====
/-
  The attention kernel's arithmetic as functions of whole vectors, one chunk of 384 pixels at a time: image-to-token
  attention, its quantiser, the output projection and residual, layer norm, the two quantisers of the result, and the
  keys, values and scores of the attention that follows. No memory is mentioned here; `AttnTrip.lean` says that a trip of
  the kernel's first loop stores these.
-/
module

public import proofs.«01_k».proof.Proof.Gen.AttnIdeal.Loops
public import Idealize.ShloMosaic.Lib.Pipeline.ValueKit
public import Idealize.ShloMosaic.Lib.Pointwise

@[expose] public section

set_option maxRecDepth 16384

noncomputable section

namespace Cert.At

open Cert.AttnIdeal Cert.AttnIdeal.Gen Idealize.ShloMosaic

/-- Rows `o … o+7` of a block of 128 rows. -/
abbrev eight128 (o : ℕ) (h : S128x384.Slices ![o, 0] S8x384) (v : FVec Ideal S128x384 .f32) : FVec Ideal S8x384 .f32 :=
  extractStridedSlice S8x384 ![o, 0] v h

/-- Column maxima of a block of 128 rows, its 8-row pieces taken in a tree. -/
def colMax128 (v : FVec Ideal S128x384 .f32) : FVec Ideal S1x384 .f32 :=
  shapeCast S1x384 (multiReduction .maximumf [0] S384
    (maximumf (maximumf (maximumf (maximumf (maximumf (eight128 0 slices_S128x384_o0_0_S8x384 v) (eight128 32 slices_S128x384_o32_0_S8x384 v)) (eight128 64 slices_S128x384_o64_0_S8x384 v)) (eight128 96 slices_S128x384_o96_0_S8x384 v))
        (maximumf (maximumf (maximumf (eight128 8 slices_S128x384_o8_0_S8x384 v) (eight128 40 slices_S128x384_o40_0_S8x384 v)) (eight128 72 slices_S128x384_o72_0_S8x384 v)) (eight128 104 slices_S128x384_o104_0_S8x384 v)))
      (maximumf (maximumf (maximumf (maximumf (eight128 16 slices_S128x384_o16_0_S8x384 v) (eight128 48 slices_S128x384_o48_0_S8x384 v)) (eight128 80 slices_S128x384_o80_0_S8x384 v)) (eight128 112 slices_S128x384_o112_0_S8x384 v))
        (maximumf (maximumf (maximumf (eight128 24 slices_S128x384_o24_0_S8x384 v) (eight128 56 slices_S128x384_o56_0_S8x384 v)) (eight128 88 slices_S128x384_o88_0_S8x384 v)) (eight128 120 slices_S128x384_o120_0_S8x384 v))))
    0xFF800000#32 reduces_S8x384_S384 (.inl rfl) rfl) shapeCasts_S384_S1x384

/-- A block's scales: a column's largest magnitude over 127, or one for a zero column. -/
def scale128 (u : FVec Ideal S128x384 .f32) : FVec Ideal S1x384 .f32 :=
  select (cmpf .ogt (colMax128 (absf u)) (broadcast S1x384 (Scalar.ofBits .f32 0x00000000#32)))
    (divf (colMax128 (absf u)) (broadcast S1x384 (Scalar.ofBits .f32 0x42FE0000#32)))
    (broadcast S1x384 (Scalar.ofBits .f32 0x3F800000#32))

/-- A block's codes, still as numbers: the block over its scales, rounded to even and clipped. -/
def code128 (u : FVec Ideal S128x384 .f32) : FVec Ideal S128x384 .f32 :=
  minimumf (broadcast S128x384 (Scalar.ofBits .f32 0x42FE0000#32))
    (maximumf (broadcast S128x384 (Scalar.ofBits .f32 0xC2FE0000#32))
      (roundeven (mulf u (broadcastTo S128x384
        (divf (broadcast S1x384 (Scalar.ofBits .f32 0x3F800000#32)) (scale128 u)) broadcasts_S1x384_S128x384))))

/-- Rows `o … o+7` of a block of 256 rows. -/
abbrev eight256 (o : ℕ) (h : S256x384.Slices ![o, 0] S8x384) (v : FVec Ideal S256x384 .f32) : FVec Ideal S8x384 .f32 :=
  extractStridedSlice S8x384 ![o, 0] v h

/-- Column maxima of a block of 256 rows, its 8-row pieces taken in a tree. -/
def colMax256 (v : FVec Ideal S256x384 .f32) : FVec Ideal S1x384 .f32 :=
  shapeCast S1x384 (multiReduction .maximumf [0] S384
    (maximumf (maximumf (maximumf (maximumf (maximumf (maximumf (maximumf (maximumf (maximumf (eight256 0 slices_S256x384_o0_0_S8x384 v) (eight256 32 slices_S256x384_o32_0_S8x384 v)) (eight256 64 slices_S256x384_o64_0_S8x384 v)) (eight256 96 slices_S256x384_o96_0_S8x384 v)) (eight256 128 slices_S256x384_o128_0_S8x384 v)) (eight256 160 slices_S256x384_o160_0_S8x384 v)) (eight256 192 slices_S256x384_o192_0_S8x384 v)) (eight256 224 slices_S256x384_o224_0_S8x384 v))
        (maximumf (maximumf (maximumf (maximumf (maximumf (maximumf (maximumf (eight256 8 slices_S256x384_o8_0_S8x384 v) (eight256 40 slices_S256x384_o40_0_S8x384 v)) (eight256 72 slices_S256x384_o72_0_S8x384 v)) (eight256 104 slices_S256x384_o104_0_S8x384 v)) (eight256 136 slices_S256x384_o136_0_S8x384 v)) (eight256 168 slices_S256x384_o168_0_S8x384 v)) (eight256 200 slices_S256x384_o200_0_S8x384 v)) (eight256 232 slices_S256x384_o232_0_S8x384 v)))
      (maximumf (maximumf (maximumf (maximumf (maximumf (maximumf (maximumf (maximumf (eight256 16 slices_S256x384_o16_0_S8x384 v) (eight256 48 slices_S256x384_o48_0_S8x384 v)) (eight256 80 slices_S256x384_o80_0_S8x384 v)) (eight256 112 slices_S256x384_o112_0_S8x384 v)) (eight256 144 slices_S256x384_o144_0_S8x384 v)) (eight256 176 slices_S256x384_o176_0_S8x384 v)) (eight256 208 slices_S256x384_o208_0_S8x384 v)) (eight256 240 slices_S256x384_o240_0_S8x384 v))
        (maximumf (maximumf (maximumf (maximumf (maximumf (maximumf (maximumf (eight256 24 slices_S256x384_o24_0_S8x384 v) (eight256 56 slices_S256x384_o56_0_S8x384 v)) (eight256 88 slices_S256x384_o88_0_S8x384 v)) (eight256 120 slices_S256x384_o120_0_S8x384 v)) (eight256 152 slices_S256x384_o152_0_S8x384 v)) (eight256 184 slices_S256x384_o184_0_S8x384 v)) (eight256 216 slices_S256x384_o216_0_S8x384 v)) (eight256 248 slices_S256x384_o248_0_S8x384 v))))
    0xFF800000#32 reduces_S8x384_S384 (.inl rfl) rfl) shapeCasts_S384_S1x384

/-- A block's scales: a column's largest magnitude over 127, or one for a zero column. -/
def scale256 (u : FVec Ideal S256x384 .f32) : FVec Ideal S1x384 .f32 :=
  select (cmpf .ogt (colMax256 (absf u)) (broadcast S1x384 (Scalar.ofBits .f32 0x00000000#32)))
    (divf (colMax256 (absf u)) (broadcast S1x384 (Scalar.ofBits .f32 0x42FE0000#32)))
    (broadcast S1x384 (Scalar.ofBits .f32 0x3F800000#32))

/-- A block's codes, still as numbers: the block over its scales, rounded to even and clipped. -/
def code256 (u : FVec Ideal S256x384 .f32) : FVec Ideal S256x384 .f32 :=
  minimumf (broadcast S256x384 (Scalar.ofBits .f32 0x42FE0000#32))
    (maximumf (broadcast S256x384 (Scalar.ofBits .f32 0xC2FE0000#32))
      (roundeven (mulf u (broadcastTo S256x384
        (divf (broadcast S1x384 (Scalar.ofBits .f32 0x3F800000#32)) (scale256 u)) broadcasts_S1x384_S256x384))))

/-- Column sums of a block of 256 rows, in the same tree. -/
def colSum256 (v : FVec Ideal S256x384 .f32) : FVec Ideal S1x384 .f32 :=
  shapeCast S1x384 (multiReduction .add [0] S384
    (addf (addf (addf (addf (addf (addf (addf (addf (addf (eight256 0 slices_S256x384_o0_0_S8x384 v) (eight256 32 slices_S256x384_o32_0_S8x384 v)) (eight256 64 slices_S256x384_o64_0_S8x384 v)) (eight256 96 slices_S256x384_o96_0_S8x384 v)) (eight256 128 slices_S256x384_o128_0_S8x384 v)) (eight256 160 slices_S256x384_o160_0_S8x384 v)) (eight256 192 slices_S256x384_o192_0_S8x384 v)) (eight256 224 slices_S256x384_o224_0_S8x384 v))
        (addf (addf (addf (addf (addf (addf (addf (eight256 8 slices_S256x384_o8_0_S8x384 v) (eight256 40 slices_S256x384_o40_0_S8x384 v)) (eight256 72 slices_S256x384_o72_0_S8x384 v)) (eight256 104 slices_S256x384_o104_0_S8x384 v)) (eight256 136 slices_S256x384_o136_0_S8x384 v)) (eight256 168 slices_S256x384_o168_0_S8x384 v)) (eight256 200 slices_S256x384_o200_0_S8x384 v)) (eight256 232 slices_S256x384_o232_0_S8x384 v)))
      (addf (addf (addf (addf (addf (addf (addf (addf (eight256 16 slices_S256x384_o16_0_S8x384 v) (eight256 48 slices_S256x384_o48_0_S8x384 v)) (eight256 80 slices_S256x384_o80_0_S8x384 v)) (eight256 112 slices_S256x384_o112_0_S8x384 v)) (eight256 144 slices_S256x384_o144_0_S8x384 v)) (eight256 176 slices_S256x384_o176_0_S8x384 v)) (eight256 208 slices_S256x384_o208_0_S8x384 v)) (eight256 240 slices_S256x384_o240_0_S8x384 v))
        (addf (addf (addf (addf (addf (addf (addf (eight256 24 slices_S256x384_o24_0_S8x384 v) (eight256 56 slices_S256x384_o56_0_S8x384 v)) (eight256 88 slices_S256x384_o88_0_S8x384 v)) (eight256 120 slices_S256x384_o120_0_S8x384 v)) (eight256 152 slices_S256x384_o152_0_S8x384 v)) (eight256 184 slices_S256x384_o184_0_S8x384 v)) (eight256 216 slices_S256x384_o216_0_S8x384 v)) (eight256 248 slices_S256x384_o248_0_S8x384 v))))
    0x00000000#32 reduces_S8x384_S384 (.inl rfl) rfl) shapeCasts_S384_S1x384

/-- A column of 256 numbers held along 128 lanes, spread over the chunk's 384 lanes. -/
abbrev lanes256 (v : Vec Ideal S1x256x128 .f32) : FVec Ideal S256x384 .f32 :=
  concatenate S256x384 1 [⟨S256x128, shapeCast S256x128 v shapeCasts_S1x256x128_S256x128⟩,
    ⟨S256x128, shapeCast S256x128 v shapeCasts_S1x256x128_S256x128⟩,
    ⟨S256x128, shapeCast S256x128 v shapeCasts_S1x256x128_S256x128⟩] concatenates_S256x128_S256x128_S256x128_S256x384_d1

/-- A column of 128 numbers held along 128 lanes, spread over the chunk's 384 lanes. -/
abbrev lanes128 (v : Vec Ideal S1x128x128 .f32) : FVec Ideal S128x384 .f32 :=
  concatenate S128x384 1 [⟨S128x128, shapeCast S128x128 v shapeCasts_S1x128x128_S128x128⟩,
    ⟨S128x128, shapeCast S128x128 v shapeCasts_S1x128x128_S128x128⟩,
    ⟨S128x128, shapeCast S128x128 v shapeCasts_S1x128x128_S128x128⟩] concatenates_S128x128_S128x128_S128x128_S128x384_d1

/-- The token rows' bias spread over the chunk's 384 lanes. -/
abbrev lanes88 (v : FVec Ideal S88x128 .f32) : FVec Ideal S88x384 .f32 :=
  concatenate S88x384 1 [⟨S88x128, v⟩, ⟨S88x128, v⟩, ⟨S88x128, v⟩] concatenates_S88x128_S88x128_S88x128_S88x384_d1

/-- Scores of the pixels against the tokens, one row per token and head. -/
def scores (ikb : FVec Ideal S88x128 .bf16) (kb : FVec Ideal S88x128 .f32) (q : Vec Ideal S1x128x384 .bf16) :
    FVec Ideal S88x384 .f32 :=
  addf (mulf (matmul dot_S88x128_S128x384_S88x384_1_0_0_1_n_n none ikb
      (shapeCast S128x384 q shapeCasts_S1x128x384_S128x384 : FVec Ideal S128x384 .bf16) (constant S88x384 .f32 0x00000000#32))
    (broadcast S88x384 (Scalar.ofBits .f32 0x3EB8AA3B#32))) (lanes88 kb)

/-- The eight heads' rows of the token whose rows start at `o`. -/
abbrev tokRows (a : FVec Ideal S88x384 .f32) (o : ℕ) (h : S88x384.Slices ![o, 0] S8x384) : FVec Ideal S8x384 .f32 :=
  extractStridedSlice S8x384 ![o, 0] a h

/-- Each head's largest score over the eleven tokens, rounded up. -/
def shift (a : FVec Ideal S88x384 .f32) : FVec Ideal S8x384 .f32 :=
  ceil (maximumf (maximumf (maximumf (maximumf (maximumf (maximumf (maximumf (maximumf (maximumf (maximumf (tokRows a 0 slices_S88x384_o0_0_S8x384) (tokRows a 8 slices_S88x384_o8_0_S8x384)) (tokRows a 16 slices_S88x384_o16_0_S8x384)) (tokRows a 24 slices_S88x384_o24_0_S8x384)) (tokRows a 32 slices_S88x384_o32_0_S8x384)) (tokRows a 40 slices_S88x384_o40_0_S8x384)) (tokRows a 48 slices_S88x384_o48_0_S8x384)) (tokRows a 56 slices_S88x384_o56_0_S8x384)) (tokRows a 64 slices_S88x384_o64_0_S8x384)) (tokRows a 72 slices_S88x384_o72_0_S8x384)) (tokRows a 80 slices_S88x384_o80_0_S8x384))

/-- One token's weights before division. -/
abbrev prob (a : FVec Ideal S88x384 .f32) (o : ℕ) (h : S88x384.Slices ![o, 0] S8x384) : FVec Ideal S8x384 .f32 :=
  exp2 (subf (tokRows a o h) (shift a))

/-- One over the sum of the weights. -/
def recip (a : FVec Ideal S88x384 .f32) : FVec Ideal S8x384 .f32 :=
  divf (broadcast S8x384 (Scalar.ofBits .f32 0x3F800000#32))
    (addf (addf (addf (addf (addf (addf (addf (addf (addf (addf (prob a 0 slices_S88x384_o0_0_S8x384) (prob a 8 slices_S88x384_o8_0_S8x384)) (prob a 16 slices_S88x384_o16_0_S8x384)) (prob a 24 slices_S88x384_o24_0_S8x384)) (prob a 32 slices_S88x384_o32_0_S8x384)) (prob a 40 slices_S88x384_o40_0_S8x384)) (prob a 48 slices_S88x384_o48_0_S8x384)) (prob a 56 slices_S88x384_o56_0_S8x384)) (prob a 64 slices_S88x384_o64_0_S8x384)) (prob a 72 slices_S88x384_o72_0_S8x384)) (prob a 80 slices_S88x384_o80_0_S8x384))

/-- The weighted values, all heads, not yet divided. -/
def weighted (ivb : FVec Ideal S128x88 .bf16) (a : FVec Ideal S88x384 .f32) : FVec Ideal S128x384 .f32 :=
  matmul dot_S128x88_S88x384_S128x384_1_0_0_1_n_n none ivb (truncf .bf16 (concatenate S88x384 0 [
    ⟨S8x384, prob a 0 slices_S88x384_o0_0_S8x384⟩,
    ⟨S8x384, prob a 8 slices_S88x384_o8_0_S8x384⟩,
    ⟨S8x384, prob a 16 slices_S88x384_o16_0_S8x384⟩,
    ⟨S8x384, prob a 24 slices_S88x384_o24_0_S8x384⟩,
    ⟨S8x384, prob a 32 slices_S88x384_o32_0_S8x384⟩,
    ⟨S8x384, prob a 40 slices_S88x384_o40_0_S8x384⟩,
    ⟨S8x384, prob a 48 slices_S88x384_o48_0_S8x384⟩,
    ⟨S8x384, prob a 56 slices_S88x384_o56_0_S8x384⟩,
    ⟨S8x384, prob a 64 slices_S88x384_o64_0_S8x384⟩,
    ⟨S8x384, prob a 72 slices_S88x384_o72_0_S8x384⟩,
    ⟨S8x384, prob a 80 slices_S88x384_o80_0_S8x384⟩]
    concatenates_S8x384_S8x384_S8x384_S8x384_S8x384_S8x384_S8x384_S8x384_S8x384_S8x384_S8x384_S88x384_d0)
    bitsLt_bf16_f32) (constant S128x384 .f32 0x00000000#32)

/-- One head's 16 rows, divided. -/
abbrev headOut (o : FVec Ideal S128x384 .f32) (r : FVec Ideal S8x384 .f32) (a b : ℕ) (ha : S128x384.Slices ![a, 0] S16x384)
    (hb : S8x384.Slices ![b, 0] S1x384) : FVec Ideal S16x384 .f32 :=
  mulf (extractStridedSlice S16x384 ![a, 0] o ha)
    (broadcastTo S16x384 (shapeCast S1x384 (extractStridedSlice S1x384 ![b, 0] r hb) shapeCasts_S1x384_S1x384)
      broadcasts_S1x384_S16x384)

/-- All heads' outputs, one under another. -/
def heads (o : FVec Ideal S128x384 .f32) (r : FVec Ideal S8x384 .f32) : FVec Ideal S128x384 .f32 :=
  concatenate S128x384 0 [⟨S16x384, headOut o r 0 0 slices_S128x384_o0_0_S16x384 slices_S8x384_o0_0_S1x384⟩,
    ⟨S16x384, headOut o r 16 1 slices_S128x384_o16_0_S16x384 slices_S8x384_o1_0_S1x384⟩,
    ⟨S16x384, headOut o r 32 2 slices_S128x384_o32_0_S16x384 slices_S8x384_o2_0_S1x384⟩,
    ⟨S16x384, headOut o r 48 3 slices_S128x384_o48_0_S16x384 slices_S8x384_o3_0_S1x384⟩,
    ⟨S16x384, headOut o r 64 4 slices_S128x384_o64_0_S16x384 slices_S8x384_o4_0_S1x384⟩,
    ⟨S16x384, headOut o r 80 5 slices_S128x384_o80_0_S16x384 slices_S8x384_o5_0_S1x384⟩,
    ⟨S16x384, headOut o r 96 6 slices_S128x384_o96_0_S16x384 slices_S8x384_o6_0_S1x384⟩,
    ⟨S16x384, headOut o r 112 7 slices_S128x384_o112_0_S16x384 slices_S8x384_o7_0_S1x384⟩]
    concatenates_S16x384_S16x384_S16x384_S16x384_S16x384_S16x384_S16x384_S16x384_S128x384_d0

/-- Image-to-token attention of one chunk. -/
def attended (ikb : FVec Ideal S88x128 .bf16) (ivb : FVec Ideal S128x88 .bf16) (kb : FVec Ideal S88x128 .f32)
    (q : Vec Ideal S1x128x384 .bf16) : FVec Ideal S128x384 .f32 :=
  heads (weighted ivb (scores ikb kb q)) (recip (scores ikb kb q))

/-- A product with codes, scaled and biased, 256 rows out. -/
def lin256 (w : Vec Ideal S256x128 .bf16) (u : FVec Ideal S128x384 .f32) (s b : Vec Ideal S1x256x128 .f32) :
    FVec Ideal S256x384 .f32 :=
  addf (mulf (mulf (matmul dot_S256x128_S128x384_S256x384_1_0_0_1_n_n (φ₁ := .bf16) none w
      (truncf .bf16 (code128 u) bitsLt_bf16_f32) (constant S256x384 .f32 0x00000000#32))
    (broadcastTo S256x384 (scale128 u) broadcasts_S1x384_S256x384)) (lanes256 s)) (lanes256 b)

/-- A product with codes, scaled and biased, 128 rows out. -/
def lin128 (w : Vec Ideal S128x256 .bf16) (u : FVec Ideal S256x384 .f32) (s b : Vec Ideal S1x128x128 .f32) :
    FVec Ideal S128x384 .f32 :=
  addf (mulf (mulf (matmul dot_S128x256_S256x384_S128x384_1_0_0_1_n_n (φ₁ := .bf16) none w
      (truncf .bf16 (code256 u) bitsLt_bf16_f32) (constant S128x384 .f32 0x00000000#32))
    (broadcastTo S128x384 (scale256 u) broadcasts_S1x384_S128x384)) (lanes128 s)) (lanes128 b)

/-- The column mean: the sum times 1/256. -/
abbrev colMean (v : FVec Ideal S256x384 .f32) : FVec Ideal S1x384 .f32 :=
  mulf (colSum256 v) (broadcast S1x384 (Scalar.ofBits .f32 0x3B800000#32))

/-- The block less its column means. -/
abbrev centred (y : FVec Ideal S256x384 .f32) : FVec Ideal S256x384 .f32 :=
  subf y (broadcastTo S256x384 (colMean y) broadcasts_S1x384_S256x384)

/-- Layer norm down the columns, with gain `g` and offset `b`. -/
def lnV (y g b : FVec Ideal S256x384 .f32) : FVec Ideal S256x384 .f32 :=
  addf (mulf (mulf (centred y) (broadcastTo S256x384
      (divf (broadcast S1x384 (Scalar.ofBits .f32 0x3F800000#32))
        (sqrt (addf (colMean (mulf (centred y) (centred y))) (broadcast S1x384 (Scalar.ofBits .f32 0x3727C5AC#32)))))
      broadcasts_S1x384_S256x384)) g) b

/-- The image after the residual: what the layer norm is given. -/
def residual (img : Vec Ideal S1x256x384 .f32) (io : FVec Ideal S256x384 .f32) : FVec Ideal S256x384 .f32 :=
  addf (shapeCast S256x384 img shapeCasts_S1x256x384_S256x384) io

/-- The new image with the position encoding added. -/
def withPe (v : FVec Ideal S256x384 .f32) (pe : Vec Ideal S256x384 .f32) : FVec Ideal S256x384 .f32 := addf v pe

/-- Codes as stored, pixel-major int8. -/
def codesOut (u : FVec Ideal S256x384 .f32) : IVec S1x384x256 8 :=
  shapeCast S1x384x256 (trunci 8 (fptosi 32 (transpose S384x256 [1, 0] (code256 u) transposes_S256x384_p1_0_S384x256))
    natLt_8_32) shapeCasts_S384x256_S1x384x256

/-- Scales as stored. -/
def scalesOut (u : FVec Ideal S256x384 .f32) : FVec Ideal S1x1x384 .f32 :=
  shapeCast S1x1x384 (scale256 u) shapeCasts_S1x384_S1x1x384

/-- Codes as stored channel-major. -/
def codesT (u : FVec Ideal S256x384 .f32) : FVec Ideal S1x256x384 .bf16 :=
  shapeCast S1x256x384 (truncf .bf16 (code256 u) bitsLt_bf16_f32) shapeCasts_S256x384_S1x256x384

/-- The values as kept for the second loop. -/
def valuesV (v : FVec Ideal S128x384 .f32) : FVec Ideal S128x384 .bf16 :=
  shapeCast S128x384 (truncf .bf16 v bitsLt_bf16_f32) shapeCasts_S128x384_S128x384

/-- The scores of the tokens against the new keys. -/
def keyScores (tqb : FVec Ideal S88x128 .bf16) (k : FVec Ideal S128x384 .f32) : FVec Ideal S88x384 .f32 :=
  matmul dot_S88x128_S128x384_S88x384_1_0_0_1_n_n none tqb (truncf .bf16 k bitsLt_bf16_f32) (constant S88x384 .f32 0x00000000#32)

/-- The running maxima after a chunk: the three groups of 128 lanes in turn. -/
def maxStep (m : FVec Ideal S88x128 .f32) (s : FVec Ideal S88x384 .f32) : FVec Ideal S88x128 .f32 :=
  maximumf (maximumf (maximumf m (extractStridedSlice S88x128 ![0, 0] s slices_S88x384_o0_0_S88x128))
    (extractStridedSlice S88x128 ![0, 128] s slices_S88x384_o0_128_S88x128))
    (extractStridedSlice S88x128 ![0, 256] s slices_S88x384_o0_256_S88x128)

end Cert.At

end
-- ==== Proof.AttnTrip.lean ====
/-
  What one trip of the attention kernel's first loop stores and carries: the two quantised forms of the new image, the
  values and scores kept for the second loop, and the running maxima, as the vector functions of `AttnVectors.lean`
  applied to what the trip loads.
-/
module

public import proofs.«01_k».proof.Proof.AttnVectors

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

/-- Column `i` of the four kept for the 256 channels: scale, bias, gain, offset. -/
abbrev colAt (c : Vec Ideal S4x256x128 .f32) (i : ℕ) (h : ∀ a, (![i, 0, 0] : Fin 3 → ℕ) a + S1x256x128.size a ≤ S4x256x128.size a) :
    Vec Ideal S1x256x128 .f32 := View.ld (Val := Elt Ideal) (e' := .f32) c (Rect.unit (s := S4x256x128) ![i, 0, 0] S1x256x128.size h)

/-- Column `i` of the four kept for keys and values: scale and bias of each. -/
abbrev kvAt (c : Vec Ideal S4x128x128 .f32) (i : ℕ) (h : ∀ a, (![i, 0, 0] : Fin 3 → ℕ) a + S1x128x128.size a ≤ S4x128x128.size a) :
    Vec Ideal S1x128x128 .f32 := View.ld (Val := Elt Ideal) (e' := .f32) c (Rect.unit (s := S4x128x128) ![i, 0, 0] S1x128x128.size h)

/-- The new image of one chunk: attention, output projection, residual, layer norm. -/
def newImg (ikb : FVec Ideal S88x128 .bf16) (ivb : FVec Ideal S128x88 .bf16) (kb : FVec Ideal S88x128 .f32)
    (wo : Vec Ideal S256x128 .bf16) (c : Vec Ideal S4x256x128 .f32) (q : Vec Ideal S1x128x384 .bf16)
    (img : Vec Ideal S1x256x384 .f32) : FVec Ideal S256x384 .f32 :=
  lnV (residual img (lin256 wo (attended ikb ivb kb q) (colAt c 0 inb_S4x256x128_S1x256x128_0_0_0)
      (colAt c 1 inb_S4x256x128_S1x256x128_1_0_0)))
    (lanes256 (colAt c 2 inb_S4x256x128_S1x256x128_2_0_0)) (lanes256 (colAt c 3 inb_S4x256x128_S1x256x128_3_0_0))

/-- The new keys of one chunk, from the new image with the position encoding. -/
def keys (wk : Vec Ideal S128x256 .bf16) (u : FVec Ideal S256x384 .f32) (c : Vec Ideal S4x128x128 .f32) :
    FVec Ideal S128x384 .f32 :=
  lin128 wk u (kvAt c 0 inb_S4x128x128_S1x128x128_0_0_0) (kvAt c 1 inb_S4x128x128_S1x128x128_1_0_0)

/-- The new values of one chunk, from the new image. -/
def values (wv : Vec Ideal S128x256 .bf16) (u : FVec Ideal S256x384 .f32) (c : Vec Ideal S4x128x128 .f32) :
    FVec Ideal S128x384 .f32 :=
  lin128 wv u (kvAt c 2 inb_S4x128x128_S1x128x128_2_0_0) (kvAt c 3 inb_S4x128x128_S1x128x128_3_0_0)

section
variable (𝒱 : Variants) (c : Dev nD) (bd : Option 𝒱.V) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (v40 : FVec Ideal S88x128 .bf16) (v79 : FVec Ideal S128x88 .bf16) (v117 : FVec Ideal S88x128 .bf16) (v127 : FVec Ideal S88x128 .f32) (cst_32 : Ideal .f32) (X_arg5 : BufTy.Contents (Elt Ideal) arg5.view.ty) (X_arg6 : BufTy.Contents (Elt Ideal) arg6.view.ty) (X_arg7 : BufTy.Contents (Elt Ideal) arg7.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (X_arg23 : BufTy.Contents (Elt Ideal) arg23.view.ty) (k : Fin k0_t1_loop.trips) (acc : FVec Ideal S88x128 .f32)

set_option maxHeartbeats 4000000

/-- The chunk's codes of the image with the position encoding. -/
theorem trip_kc : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 k).2.1 acc
    = [⟨Rect.unit (s := S1x2688x256) (k0_off6 k) S1x384x256.size (k0_off6_inb k), codesOut (withPe (newImg v40 v79 v127 (View.ld (Val := Elt Ideal) (View.read (Elt Ideal) arg19.view X_arg19) (Rect.unit (s := S256x128) ![0, 0] S256x128.size inb_S256x128_S256x128_0_0)) (View.read (Elt Ideal) arg22.view X_arg22) (View.ld (Val := Elt Ideal) (View.read (Elt Ideal) arg5.view X_arg5) (Rect.unit (s := S1x128x2688) (k0_off3 k) S1x128x384.size (k0_off3_inb k))) (View.ld (Val := Elt Ideal) (View.read (Elt Ideal) arg6.view X_arg6) (Rect.unit (s := S1x256x2688) (k0_off4 k) S1x256x384.size (k0_off4_inb k)))) (View.ld (Val := Elt Ideal) (View.read (Elt Ideal) arg7.view X_arg7) (Rect.unit (s := S256x2688) (k0_off5 k) S256x384.size (k0_off5_inb k))))⟩] := by
  unfold trip_k0_t1
  rfl

/-- Their scales. -/
theorem trip_kcs : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 k).2.2.1 acc
    = [⟨Rect.unit (s := S1x1x2688) (k0_off7 k) S1x1x384.size (k0_off7_inb k), scalesOut (withPe (newImg v40 v79 v127 (View.ld (Val := Elt Ideal) (View.read (Elt Ideal) arg19.view X_arg19) (Rect.unit (s := S256x128) ![0, 0] S256x128.size inb_S256x128_S256x128_0_0)) (View.read (Elt Ideal) arg22.view X_arg22) (View.ld (Val := Elt Ideal) (View.read (Elt Ideal) arg5.view X_arg5) (Rect.unit (s := S1x128x2688) (k0_off3 k) S1x128x384.size (k0_off3_inb k))) (View.ld (Val := Elt Ideal) (View.read (Elt Ideal) arg6.view X_arg6) (Rect.unit (s := S1x256x2688) (k0_off4 k) S1x256x384.size (k0_off4_inb k)))) (View.ld (Val := Elt Ideal) (View.read (Elt Ideal) arg7.view X_arg7) (Rect.unit (s := S256x2688) (k0_off5 k) S256x384.size (k0_off5_inb k))))⟩] := by
  unfold trip_k0_t1
  rfl

/-- The chunk's codes of the image. -/
theorem trip_ic : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 k).2.2.2.1 acc
    = [⟨Rect.unit (s := S1x2688x256) (k0_off6 k) S1x384x256.size (k0_off6_inb k), codesOut (newImg v40 v79 v127 (View.ld (Val := Elt Ideal) (View.read (Elt Ideal) arg19.view X_arg19) (Rect.unit (s := S256x128) ![0, 0] S256x128.size inb_S256x128_S256x128_0_0)) (View.read (Elt Ideal) arg22.view X_arg22) (View.ld (Val := Elt Ideal) (View.read (Elt Ideal) arg5.view X_arg5) (Rect.unit (s := S1x128x2688) (k0_off3 k) S1x128x384.size (k0_off3_inb k))) (View.ld (Val := Elt Ideal) (View.read (Elt Ideal) arg6.view X_arg6) (Rect.unit (s := S1x256x2688) (k0_off4 k) S1x256x384.size (k0_off4_inb k))))⟩] := by
  unfold trip_k0_t1
  rfl

/-- Their scales. -/
theorem trip_ics : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 k).2.2.2.2.1 acc
    = [⟨Rect.unit (s := S1x1x2688) (k0_off7 k) S1x1x384.size (k0_off7_inb k), scalesOut (newImg v40 v79 v127 (View.ld (Val := Elt Ideal) (View.read (Elt Ideal) arg19.view X_arg19) (Rect.unit (s := S256x128) ![0, 0] S256x128.size inb_S256x128_S256x128_0_0)) (View.read (Elt Ideal) arg22.view X_arg22) (View.ld (Val := Elt Ideal) (View.read (Elt Ideal) arg5.view X_arg5) (Rect.unit (s := S1x128x2688) (k0_off3 k) S1x128x384.size (k0_off3_inb k))) (View.ld (Val := Elt Ideal) (View.read (Elt Ideal) arg6.view X_arg6) (Rect.unit (s := S1x256x2688) (k0_off4 k) S1x256x384.size (k0_off4_inb k))))⟩] := by
  unfold trip_k0_t1
  rfl

/-- The image's codes channel-major. -/
theorem trip_ict : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 k).2.2.2.2.2.1 acc
    = [⟨Rect.unit (s := S1x256x2688) (k0_off4 k) S1x256x384.size (k0_off4_inb k), codesT (newImg v40 v79 v127 (View.ld (Val := Elt Ideal) (View.read (Elt Ideal) arg19.view X_arg19) (Rect.unit (s := S256x128) ![0, 0] S256x128.size inb_S256x128_S256x128_0_0)) (View.read (Elt Ideal) arg22.view X_arg22) (View.ld (Val := Elt Ideal) (View.read (Elt Ideal) arg5.view X_arg5) (Rect.unit (s := S1x128x2688) (k0_off3 k) S1x128x384.size (k0_off3_inb k))) (View.ld (Val := Elt Ideal) (View.read (Elt Ideal) arg6.view X_arg6) (Rect.unit (s := S1x256x2688) (k0_off4 k) S1x256x384.size (k0_off4_inb k))))⟩] := by
  unfold trip_k0_t1
  rfl

/-- The scores against the new keys. -/
theorem trip_s : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 k).2.2.2.2.2.2.1 acc
    = [⟨Rect.unit (s := S88x2688) (k0_off9 k) S88x384.size (k0_off9_inb k), shapeCast S88x384 (keyScores v117 (keys (View.ld (Val := Elt Ideal) (View.read (Elt Ideal) arg20.view X_arg20) (Rect.unit (s := S128x256) ![0, 0] S128x256.size inb_S128x256_S128x256_0_0)) (withPe (newImg v40 v79 v127 (View.ld (Val := Elt Ideal) (View.read (Elt Ideal) arg19.view X_arg19) (Rect.unit (s := S256x128) ![0, 0] S256x128.size inb_S256x128_S256x128_0_0)) (View.read (Elt Ideal) arg22.view X_arg22) (View.ld (Val := Elt Ideal) (View.read (Elt Ideal) arg5.view X_arg5) (Rect.unit (s := S1x128x2688) (k0_off3 k) S1x128x384.size (k0_off3_inb k))) (View.ld (Val := Elt Ideal) (View.read (Elt Ideal) arg6.view X_arg6) (Rect.unit (s := S1x256x2688) (k0_off4 k) S1x256x384.size (k0_off4_inb k)))) (View.ld (Val := Elt Ideal) (View.read (Elt Ideal) arg7.view X_arg7) (Rect.unit (s := S256x2688) (k0_off5 k) S256x384.size (k0_off5_inb k)))) (View.read (Elt Ideal) arg23.view X_arg23))) shapeCasts_S88x384_S88x384⟩] := by
  unfold trip_k0_t1
  rfl

/-- The new values. -/
theorem trip_v : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 k).2.2.2.2.2.2.2.1 acc
    = [⟨Rect.unit (s := S128x2688) (k0_off8 k) S128x384.size (k0_off8_inb k), valuesV (values (View.ld (Val := Elt Ideal) (View.read (Elt Ideal) arg21.view X_arg21) (Rect.unit (s := S128x256) ![0, 0] S128x256.size inb_S128x256_S128x256_0_0)) (newImg v40 v79 v127 (View.ld (Val := Elt Ideal) (View.read (Elt Ideal) arg19.view X_arg19) (Rect.unit (s := S256x128) ![0, 0] S256x128.size inb_S256x128_S256x128_0_0)) (View.read (Elt Ideal) arg22.view X_arg22) (View.ld (Val := Elt Ideal) (View.read (Elt Ideal) arg5.view X_arg5) (Rect.unit (s := S1x128x2688) (k0_off3 k) S1x128x384.size (k0_off3_inb k))) (View.ld (Val := Elt Ideal) (View.read (Elt Ideal) arg6.view X_arg6) (Rect.unit (s := S1x256x2688) (k0_off4 k) S1x256x384.size (k0_off4_inb k)))) (View.read (Elt Ideal) arg23.view X_arg23))⟩] := by
  unfold trip_k0_t1
  rfl

/-- The running maxima. -/
theorem trip_max : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 k).1 acc
    = maxStep acc (keyScores v117 (keys (View.ld (Val := Elt Ideal) (View.read (Elt Ideal) arg20.view X_arg20) (Rect.unit (s := S128x256) ![0, 0] S128x256.size inb_S128x256_S128x256_0_0)) (withPe (newImg v40 v79 v127 (View.ld (Val := Elt Ideal) (View.read (Elt Ideal) arg19.view X_arg19) (Rect.unit (s := S256x128) ![0, 0] S256x128.size inb_S256x128_S256x128_0_0)) (View.read (Elt Ideal) arg22.view X_arg22) (View.ld (Val := Elt Ideal) (View.read (Elt Ideal) arg5.view X_arg5) (Rect.unit (s := S1x128x2688) (k0_off3 k) S1x128x384.size (k0_off3_inb k))) (View.ld (Val := Elt Ideal) (View.read (Elt Ideal) arg6.view X_arg6) (Rect.unit (s := S1x256x2688) (k0_off4 k) S1x256x384.size (k0_off4_inb k)))) (View.ld (Val := Elt Ideal) (View.read (Elt Ideal) arg7.view X_arg7) (Rect.unit (s := S256x2688) (k0_off5 k) S256x384.size (k0_off5_inb k)))) (View.read (Elt Ideal) arg23.view X_arg23))) := by
  unfold trip_k0_t1
  rfl

end

end Cert.At

end
-- ==== Proof.AttnScalar.lean ====
/-
  The attention kernel's arithmetic at one pixel, in plain functions of that pixel's numbers: a head's score against a
  token, the softmax's shift, weights and sum, layer norm over 256 channels and the quantiser over any number of channels.
  And the facts about extended reals by which the kernel's forms of them are the same as the reference's.
-/
module

public import proofs.«01_k».proof.Proof.Scalar

@[expose] public section

set_option maxRecDepth 16384

noncomputable section

namespace Cert.At

open Idealize.ShloMosaic Cert.Up

/-- The largest magnitude among `n` numbers. -/
def magN {n : ℕ} (u : Fin n → EReal) : EReal :=
  Finset.univ.fold max (Ideal.ofBits .f32 0xFF800000#32) (fun r => FloatOps.absf (F := Ideal) (φ := .f32) (u r))

/-- The quantiser's scale: the largest magnitude over 127, or one when all are zero. -/
def scaleN {n : ℕ} (u : Fin n → EReal) : EReal :=
  if 0 < magN u then Ideal.div (magN u) (Ideal.ofBits .f32 0x42FE0000#32) else 1

/-- A quantiser's code, as a number: the quotient by the scale, rounded to even, clipped to `-127 … 127`. -/
def codeN {n : ℕ} (u : Fin n → EReal) (r : Fin n) : EReal :=
  min (max (Ideal.liftRound Ideal.roundHalfEven (Ideal.div (u r) (scaleN u))) (Ideal.ofBits .f32 0xC2FE0000#32))
    (Ideal.ofBits .f32 0x42FE0000#32)

/-- The mean of 256 numbers. -/
def mean256 (f : Fin 256 → EReal) : EReal := Ideal.div (∑ r, f r) (Ideal.ofBits .f32 0x43800000#32)

/-- A number less the mean. -/
def cen256 (f : Fin 256 → EReal) (r : Fin 256) : EReal := f r - mean256 f

/-- The root that a layer norm divides by. -/
def root256 (f : Fin 256 → EReal) : EReal :=
  Ideal.sqrt (mean256 (fun r => cen256 f r * cen256 f r) + Ideal.ofBits .f32 0x3727C5AC#32)

/-- Layer norm of 256 numbers with gain `g` and offset `b`. -/
def ln256 (f g b : Fin 256 → EReal) (r : Fin 256) : EReal := Ideal.div (cen256 f r) (root256 f) * g r + b r

/-- The head of a channel. -/
abbrev headOf (d : Fin 128) : Fin 8 := ⟨d.val / 16, by omega⟩

/-- Channel `j` of head `h`. -/
abbrev chanOf (h : Fin 8) (j : Fin 16) : Fin 128 := ⟨h.val * 16 + j.val, by omega⟩

/-- The row of a token's head. -/
abbrev rowOf (t : Fin 11) (h : Fin 8) : Fin 88 := ⟨t.val * 8 + h.val, by omega⟩

/-- A number rounded up. -/
abbrev ceilS (x : EReal) : EReal := FloatOps.ceil (F := Ideal) (φ := .f32) x

/-- The softmax's shift: the largest of the scores, rounded up. -/
def shiftS {n : ℕ} (σ : Fin n → EReal) : EReal := ceilS (Finset.univ.fold max (Ideal.ofBits .f32 0xFF800000#32) σ)

/-- A score's weight before division. -/
def probS {n : ℕ} (σ : Fin n → EReal) (t : Fin n) : EReal := Ideal.exp2 (σ t - shiftS σ)

/-- The sum of the weights. -/
def denS {n : ℕ} (σ : Fin n → EReal) : EReal := ∑ t, probS σ t

/-- A pixel's score against token `t` in head `h`: `K` holds the tokens' keys, `B` the tokens' biases, `q` the pixel. -/
def attScore (K : Fin 11 → Fin 128 → EReal) (B : Fin 11 → EReal) (q : Fin 128 → EReal) (h : Fin 8) (t : Fin 11) : EReal :=
  (∑ j, K t (chanOf h j) * q (chanOf h j)) * Ideal.ofBits .f32 0x3EB8AA3B#32 + B t

/-- A pixel's attention output at a channel, by the reciprocal of the sum. -/
def attOut (V : Fin 11 → Fin 128 → EReal) (σ : Fin 8 → Fin 11 → EReal) (d : Fin 128) : EReal :=
  (∑ t, V t d * probS (σ (headOf d)) t) * Ideal.div 1 (denS (σ (headOf d)))

/-- A product of `w`'s row with the codes of `u`, with the scale of `u`, the row's scale and its bias. -/
def linN {m n : ℕ} (w : Fin m → Fin n → EReal) (u : Fin n → EReal) (s b : Fin m → EReal) (r : Fin m) : EReal :=
  (∑ k, w r k * codeN u k) * scaleN u * s r + b r

/-- The new image at a pixel: residual and layer norm. `o` is the attention output, `c` the rows' scale, bias, gain and
  offset. -/
def imgP (w : Fin 256 → Fin 128 → EReal) (c : Fin 4 → Fin 256 → EReal) (o : Fin 128 → EReal) (x : Fin 256 → EReal) :
    Fin 256 → EReal := ln256 (fun r => x r + linN w o (c 0) (c 1) r) (c 2) (c 3)

theorem bits_ninf : Ideal.ofBits .f32 0xFF800000#32 = ⊥ := by
  simp [Ideal.ofBits, Ideal.ieee, -EReal.coe_mul]

theorem bits_256 : Ideal.ofBits .f32 0x43800000#32 = ((256 : ℝ) : EReal) := by
  simp [Ideal.ofBits, Ideal.ieee, -EReal.coe_mul]; norm_num

theorem bits_256th : Ideal.ofBits .f32 0x3B800000#32 = ((1 / 256 : ℝ) : EReal) := by
  simp [Ideal.ofBits, Ideal.ieee, -EReal.coe_mul]; norm_num

theorem bits_eps5_pos : 0 < Ideal.ofBits .f32 0x3727C5AC#32 := by
  have h : Ideal.ofBits .f32 0x3727C5AC#32 = ((10995116 / 2 ^ 40 : ℝ) : EReal) := by
    simp [Ideal.ofBits, Ideal.ieee, -EReal.coe_mul]; norm_num
  rw [h]; exact EReal.coe_pos.mpr (by norm_num)

/-- The mean by a product with `1/256`. -/
theorem mul_256th (x : EReal) : x * Ideal.ofBits .f32 0x3B800000#32 = Ideal.div x (Ideal.ofBits .f32 0x43800000#32) := by
  rw [bits_256, bits_256th, Ideal.div_coe (by norm_num)]

theorem mean256_nonneg (f : Fin 256 → EReal) (h : ∀ r, 0 ≤ f r) : 0 ≤ mean256 f := by
  unfold mean256
  rw [bits_256, Ideal.div_coe (by norm_num)]
  exact mul_nonneg (Finset.sum_nonneg fun r _ => h r) (EReal.coe_nonneg.mpr (by norm_num))

theorem root256_ne_zero (f : Fin 256 → EReal) : root256 f ≠ 0 :=
  sqrt_ne_zero (lt_of_lt_of_le bits_eps5_pos
    (le_add_of_nonneg_left (mean256_nonneg _ fun r => sq_nonneg' _)))

theorem scaleN_ne_zero {n : ℕ} (u : Fin n → EReal) : scaleN u ≠ 0 := by
  unfold scaleN
  split
  · rename_i h
    rw [bits_127, Ideal.div_coe (by norm_num)]
    exact (EReal.mul_pos h (EReal.coe_pos.mpr (by norm_num))).ne'
  · exact one_ne_zero

/-- A code is an integer between -127 and 127. -/
theorem codeN_int {n : ℕ} (u : Fin n → EReal) (r : Fin n) :
    ∃ k : ℤ, -127 ≤ k ∧ k ≤ 127 ∧ codeN u r = ((k : ℝ) : EReal) := by
  unfold codeN
  rw [bits_127, bits_neg127]
  generalize Ideal.div (u r) (scaleN u) = x
  induction x using EReal.rec with
  | bot =>
    refine ⟨-127, by norm_num, by norm_num, ?_⟩
    rw [Ideal.liftRound_bot, max_eq_right bot_le, min_eq_left (EReal.coe_le_coe_iff.mpr (by norm_num))]; norm_num
  | top =>
    refine ⟨127, by norm_num, by norm_num, ?_⟩
    rw [Ideal.liftRound_top, max_eq_left le_top, min_eq_right le_top]; norm_num
  | coe a =>
    refine ⟨min (max (Ideal.roundHalfEven a) (-127)) 127, by omega, by omega, ?_⟩
    rw [Ideal.liftRound_coe, ← EReal.coe_strictMono.monotone.map_max, ← EReal.coe_strictMono.monotone.map_min]
    congr 1
    push_cast
    rfl

/-- A code read back from its int8 word is the code. -/
theorem wordN_toInt {n : ℕ} (u : Fin n → EReal) (r : Fin n) : (((word (codeN u r)).toInt : ℝ) : EReal) = codeN u r := by
  obtain ⟨k, h1, h2, hk⟩ := codeN_int u r
  rw [hk]
  have hc : Ideal.toIntClamped (-(2 ^ (32 - 1) : ℕ)) ((2 ^ (32 - 1) : ℕ) - 1) ((k : ℝ) : EReal) = k := by
    rw [Ideal.toIntClamped_coe, Int.floor_intCast, Int.ceil_intCast, ite_self]
    norm_num
    omega
  have hw : (word ((k : ℝ) : EReal)).toInt = k := by
    unfold word Ideal.fptosi
    rw [hc]
    have h := toInt_cut ⟨(k + 127).toNat, by omega⟩
    have e : (((k + 127).toNat : ℕ) : ℤ) - 127 = k := by omega
    simp only [e] at h
    exact h
  rw [hw]

/-- A sum over the 128 channels in which only one head's are left. -/
theorem sum_head (h : Fin 8) (f : Fin 128 → EReal) :
    ∑ d, (if headOf d = h then f d else 0) = ∑ j, f (chanOf h j) := by
  rw [Fin.sum_univ_tiles 8 16 rfl, Finset.sum_eq_single h]
  · refine Finset.sum_congr rfl fun j _ => if_pos (Fin.ext ?_)
    show (h.val * 16 + j.val) / 16 = h.val
    omega
  · intro b _ hb
    refine Finset.sum_eq_zero fun j _ => if_neg fun e => hb (Fin.ext ?_)
    have e' : (b.val * 16 + j.val) / 16 = h.val := congrArg Fin.val e
    omega
  · exact fun hn => absurd (Finset.mem_univ _) hn

/-- A sum over the 88 token and head rows in which only one head's are left. -/
theorem sum_rows (h : Fin 8) (f : Fin 11 → EReal) (g : Fin 88 → EReal)
    (hg : ∀ t h', g (rowOf t h') = if h' = h then f t else 0) : ∑ x, g x = ∑ t, f t := by
  rw [Fin.sum_univ_tiles 11 8 rfl]
  refine Finset.sum_congr rfl fun t _ => ?_
  rw [Finset.sum_congr rfl fun h' _ => hg t h', Finset.sum_ite_eq' Finset.univ h, if_pos (Finset.mem_univ _)]

/-- The largest of eleven numbers, taken one after another. -/
theorem max11 (g : Fin 11 → EReal) :
    (max (max (max (max (max (max (max (max (max (max (g 0) (g 1)) (g 2)) (g 3)) (g 4)) (g 5)) (g 6)) (g 7)) (g 8)) (g 9)) (g 10)) =
      Finset.univ.fold max (Ideal.ofBits .f32 0xFF800000#32) g := by
  refine eq_of_forall_ge_iff fun c => ?_
  rw [bits_ninf]
  simp only [Finset.fold_max_le, Finset.mem_univ, true_implies, bot_le, true_and, max_le_iff]
  constructor
  · rintro ⟨⟨⟨⟨⟨⟨⟨⟨⟨⟨h0, h1⟩, h2⟩, h3⟩, h4⟩, h5⟩, h6⟩, h7⟩, h8⟩, h9⟩, h10⟩ p
    fin_cases p <;> assumption
  · intro h
    simp only [h, and_self]

/-- The sum of eleven numbers, taken one after another. -/
theorem add11 (g : Fin 11 → EReal) :
    ((((((((((g 0 + g 1) + g 2) + g 3) + g 4) + g 5) + g 6) + g 7) + g 8) + g 9) + g 10) = ∑ t, g t := by
  simp only [Fin.sum_univ_succ, Fin.sum_univ_zero, add_zero, add_assoc]
  rfl

/-- The tree over 16 pieces lies below `c` when every piece does. -/
theorem treeMax128 (g : Fin 16 → EReal) (c : EReal) :
    max (max ((max ((max ((max (g 0) (g 4))) (g 8))) (g 12))) ((max ((max ((max (g 1) (g 5))) (g 9))) (g 13)))) (max ((max ((max ((max (g 2) (g 6))) (g 10))) (g 14))) ((max ((max ((max (g 3) (g 7))) (g 11))) (g 15)))) ≤ c ↔ ∀ p, g p ≤ c := by
  constructor
  · intro h
    simp only [max_le_iff] at h
    obtain ⟨⟨⟨⟨⟨h0, h4⟩, h8⟩, h12⟩, ⟨⟨⟨h1, h5⟩, h9⟩, h13⟩⟩, ⟨⟨⟨h2, h6⟩, h10⟩, h14⟩, ⟨⟨⟨h3, h7⟩, h11⟩, h15⟩⟩ := h
    intro p
    fin_cases p <;> assumption
  · intro h
    simp only [max_le_iff, h, and_self]

/-- The tree over 32 pieces lies below `c` when every piece does. -/
theorem treeMax256 (g : Fin 32 → EReal) (c : EReal) :
    max (max ((max ((max ((max ((max ((max ((max ((max (g 0) (g 4))) (g 8))) (g 12))) (g 16))) (g 20))) (g 24))) (g 28))) ((max ((max ((max ((max ((max ((max ((max (g 1) (g 5))) (g 9))) (g 13))) (g 17))) (g 21))) (g 25))) (g 29)))) (max ((max ((max ((max ((max ((max ((max ((max (g 2) (g 6))) (g 10))) (g 14))) (g 18))) (g 22))) (g 26))) (g 30))) ((max ((max ((max ((max ((max ((max ((max (g 3) (g 7))) (g 11))) (g 15))) (g 19))) (g 23))) (g 27))) (g 31)))) ≤ c ↔ ∀ p, g p ≤ c := by
  constructor
  · intro h
    simp only [max_le_iff] at h
    obtain ⟨⟨⟨⟨⟨⟨⟨⟨⟨h0, h4⟩, h8⟩, h12⟩, h16⟩, h20⟩, h24⟩, h28⟩, ⟨⟨⟨⟨⟨⟨⟨h1, h5⟩, h9⟩, h13⟩, h17⟩, h21⟩, h25⟩, h29⟩⟩, ⟨⟨⟨⟨⟨⟨⟨h2, h6⟩, h10⟩, h14⟩, h18⟩, h22⟩, h26⟩, h30⟩, ⟨⟨⟨⟨⟨⟨⟨h3, h7⟩, h11⟩, h15⟩, h19⟩, h23⟩, h27⟩, h31⟩⟩ := h
    intro p
    fin_cases p <;> assumption
  · intro h
    simp only [max_le_iff, h, and_self]

/-- The tree over 32 pieces adds them up. -/
theorem treeSum256 (g : Fin 32 → EReal) :
    ((((((((g 0 + g 4) + g 8) + g 12) + g 16) + g 20) + g 24) + g 28) + (((((((g 1 + g 5) + g 9) + g 13) + g 17) + g 21) + g 25) + g 29)) + ((((((((g 2 + g 6) + g 10) + g 14) + g 18) + g 22) + g 26) + g 30) + (((((((g 3 + g 7) + g 11) + g 15) + g 19) + g 23) + g 27) + g 31)) = ∑ p, g p := by
  simp only [Fin.sum_univ_succ, Fin.sum_univ_zero, add_zero]
  show _ = g 0 + (g 1 + (g 2 + (g 3 + (g 4 + (g 5 + (g 6 + (g 7 + (g 8 + (g 9 + (g 10 + (g 11 + (g 12 + (g 13 + (g 14 + (g 15 + (g 16 + (g 17 + (g 18 + (g 19 + (g 20 + (g 21 + (g 22 + (g 23 + (g 24 + (g 25 + (g 26 + (g 27 + (g 28 + (g 29 + (g 30 + (g 31)))))))))))))))))))))))))))))))
  ac_rfl

/-- The maximum over 8-row pieces, each below its rows, is the maximum over the rows. -/
theorem max_pieces {P : ℕ} (z : EReal) (f : Fin (P * 8) → EReal) (F : Fin 8 → EReal)
    (hF : ∀ x c, F x ≤ c ↔ ∀ p : Fin P, f ⟨p.val * 8 + x.val, by omega⟩ ≤ c) :
    Finset.univ.fold max z F = Finset.univ.fold max z f := by
  refine eq_of_forall_ge_iff fun c => ?_
  simp only [Finset.fold_max_le, Finset.mem_univ, true_implies, hF]
  refine and_congr_right fun _ => ⟨fun h r => ?_, fun h x p => h _⟩
  have h' := h ⟨r.val % 8, by omega⟩ ⟨r.val / 8, by omega⟩
  exact (congrArg f (Fin.ext (by show r.val = r.val / 8 * 8 + r.val % 8; omega))).trans_le h'

end Cert.At

end
-- ==== Proof.AttnColumns.lean ====
/-
  The attention kernel's vector functions read at an entry: each is the arithmetic of `AttnScalar.lean` applied to that
  pixel's column.
-/
module

public import proofs.«01_k».proof.Proof.AttnVectors
public import proofs.«01_k».proof.Proof.AttnScalar

@[expose] public section

set_option maxRecDepth 16384

noncomputable section

namespace Cert.At

open Cert.AttnIdeal Cert.AttnIdeal.Gen Idealize.ShloMosaic

/-- Column `l` of a block. -/
abbrev colOf {n m : ℕ} (v : (⟨2, ![n, m]⟩ : Shape).Idx → EReal) (l : Fin m) : Fin n → EReal := fun r => v (ix2 r l)

/-- Eight rows' maxima, at a pixel. -/
theorem maxRow_apply (v : FVec Ideal S8x384 .f32) (l : Fin 384) :
    shapeCast S1x384 (multiReduction .maximumf [0] S384 v 0xFF800000#32 reduces_S8x384_S384 (.inl rfl) rfl)
      shapeCasts_S384_S1x384 (ix2 0 l) =
    Finset.univ.fold max (Ideal.ofBits .f32 0xFF800000#32) (fun x : Fin 8 => v (ix2 x l)) := by
  pointwise

/-- Eight rows' sums, at a pixel. -/
theorem sumRow_apply (v : FVec Ideal S8x384 .f32) (l : Fin 384) :
    shapeCast S1x384 (multiReduction .add [0] S384 v 0x00000000#32 reduces_S8x384_S384 (.inl rfl) rfl)
      shapeCasts_S384_S1x384 (ix2 0 l) = ∑ x : Fin 8, v (ix2 x l) := by
  pointwise

theorem eight128_at (v : FVec Ideal S128x384 .f32) (x : Fin 8) (l : Fin 384) (p : Fin 16) (o : ℕ) (h) (e : o = p.val * 8) :
    eight128 o h v (ix2 x l) = v (ix2 ⟨p.val * 8 + x.val, by omega⟩ l) := by
  subst e
  pointwise

theorem colMag128_apply (u : FVec Ideal S128x384 .f32) (l : Fin 384) : colMax128 (absf u) (ix2 0 l) = magN (colOf u l) := by
  generalize ha : (absf u : FVec Ideal S128x384 .f32) = v
  have hv : magN (colOf u l) = Finset.univ.fold max (Ideal.ofBits .f32 0xFF800000#32) (fun r : Fin 128 => v (ix2 r l)) := by
    subst ha; rfl
  rw [hv]
  unfold colMax128
  rw [maxRow_apply]
  refine max_pieces (P := 16) _ (fun r : Fin 128 => v (ix2 r l)) _ fun x c => ?_
  have e := eight128_at v x l
  refine Iff.trans (iff_of_eq (congrArg (· ≤ c) ?_)) (treeMax128 (fun p : Fin 16 => v (ix2 ⟨p.val * 8 + x.val, by omega⟩ l)) c)
  exact congrArg₂ max (congrArg₂ max (congrArg₂ max (congrArg₂ max (congrArg₂ max (e 0 0 slices_S128x384_o0_0_S8x384 rfl) (e 4 32 slices_S128x384_o32_0_S8x384 rfl)) (e 8 64 slices_S128x384_o64_0_S8x384 rfl)) (e 12 96 slices_S128x384_o96_0_S8x384 rfl)) (congrArg₂ max (congrArg₂ max (congrArg₂ max (e 1 8 slices_S128x384_o8_0_S8x384 rfl) (e 5 40 slices_S128x384_o40_0_S8x384 rfl)) (e 9 72 slices_S128x384_o72_0_S8x384 rfl)) (e 13 104 slices_S128x384_o104_0_S8x384 rfl))) (congrArg₂ max (congrArg₂ max (congrArg₂ max (congrArg₂ max (e 2 16 slices_S128x384_o16_0_S8x384 rfl) (e 6 48 slices_S128x384_o48_0_S8x384 rfl)) (e 10 80 slices_S128x384_o80_0_S8x384 rfl)) (e 14 112 slices_S128x384_o112_0_S8x384 rfl)) (congrArg₂ max (congrArg₂ max (congrArg₂ max (e 3 24 slices_S128x384_o24_0_S8x384 rfl) (e 7 56 slices_S128x384_o56_0_S8x384 rfl)) (e 11 88 slices_S128x384_o88_0_S8x384 rfl)) (e 15 120 slices_S128x384_o120_0_S8x384 rfl)))

/-- A block's scale at a pixel. -/
theorem scale128_apply (u : FVec Ideal S128x384 .f32) (l : Fin 384) : scale128 u (ix2 0 l) = scaleN (colOf u l) := by
  have h := colMag128_apply u l
  unfold scale128 scaleN
  generalize colMax128 (absf u) = m at h
  rw [← h]
  pointwise

/-- A block's code at a pixel. -/
theorem code128_apply (u : FVec Ideal S128x384 .f32) (r : Fin 128) (l : Fin 384) : code128 u (ix2 r l) = codeN (colOf u l) r := by
  unfold code128
  generalize hs : scale128 u = s
  have h := scale128_apply u l
  rw [hs] at h
  pointwise
  rw [h, Ideal.mul_one_div (scaleN_ne_zero _), min_comm, max_comm]
  rfl

theorem eight256_at (v : FVec Ideal S256x384 .f32) (x : Fin 8) (l : Fin 384) (p : Fin 32) (o : ℕ) (h) (e : o = p.val * 8) :
    eight256 o h v (ix2 x l) = v (ix2 ⟨p.val * 8 + x.val, by omega⟩ l) := by
  subst e
  pointwise

theorem colMag256_apply (u : FVec Ideal S256x384 .f32) (l : Fin 384) : colMax256 (absf u) (ix2 0 l) = magN (colOf u l) := by
  generalize ha : (absf u : FVec Ideal S256x384 .f32) = v
  have hv : magN (colOf u l) = Finset.univ.fold max (Ideal.ofBits .f32 0xFF800000#32) (fun r : Fin 256 => v (ix2 r l)) := by
    subst ha; rfl
  rw [hv]
  unfold colMax256
  rw [maxRow_apply]
  refine max_pieces (P := 32) _ (fun r : Fin 256 => v (ix2 r l)) _ fun x c => ?_
  have e := eight256_at v x l
  refine Iff.trans (iff_of_eq (congrArg (· ≤ c) ?_)) (treeMax256 (fun p : Fin 32 => v (ix2 ⟨p.val * 8 + x.val, by omega⟩ l)) c)
  exact congrArg₂ max (congrArg₂ max (congrArg₂ max (congrArg₂ max (congrArg₂ max (congrArg₂ max (congrArg₂ max (congrArg₂ max (congrArg₂ max (e 0 0 slices_S256x384_o0_0_S8x384 rfl) (e 4 32 slices_S256x384_o32_0_S8x384 rfl)) (e 8 64 slices_S256x384_o64_0_S8x384 rfl)) (e 12 96 slices_S256x384_o96_0_S8x384 rfl)) (e 16 128 slices_S256x384_o128_0_S8x384 rfl)) (e 20 160 slices_S256x384_o160_0_S8x384 rfl)) (e 24 192 slices_S256x384_o192_0_S8x384 rfl)) (e 28 224 slices_S256x384_o224_0_S8x384 rfl)) (congrArg₂ max (congrArg₂ max (congrArg₂ max (congrArg₂ max (congrArg₂ max (congrArg₂ max (congrArg₂ max (e 1 8 slices_S256x384_o8_0_S8x384 rfl) (e 5 40 slices_S256x384_o40_0_S8x384 rfl)) (e 9 72 slices_S256x384_o72_0_S8x384 rfl)) (e 13 104 slices_S256x384_o104_0_S8x384 rfl)) (e 17 136 slices_S256x384_o136_0_S8x384 rfl)) (e 21 168 slices_S256x384_o168_0_S8x384 rfl)) (e 25 200 slices_S256x384_o200_0_S8x384 rfl)) (e 29 232 slices_S256x384_o232_0_S8x384 rfl))) (congrArg₂ max (congrArg₂ max (congrArg₂ max (congrArg₂ max (congrArg₂ max (congrArg₂ max (congrArg₂ max (congrArg₂ max (e 2 16 slices_S256x384_o16_0_S8x384 rfl) (e 6 48 slices_S256x384_o48_0_S8x384 rfl)) (e 10 80 slices_S256x384_o80_0_S8x384 rfl)) (e 14 112 slices_S256x384_o112_0_S8x384 rfl)) (e 18 144 slices_S256x384_o144_0_S8x384 rfl)) (e 22 176 slices_S256x384_o176_0_S8x384 rfl)) (e 26 208 slices_S256x384_o208_0_S8x384 rfl)) (e 30 240 slices_S256x384_o240_0_S8x384 rfl)) (congrArg₂ max (congrArg₂ max (congrArg₂ max (congrArg₂ max (congrArg₂ max (congrArg₂ max (congrArg₂ max (e 3 24 slices_S256x384_o24_0_S8x384 rfl) (e 7 56 slices_S256x384_o56_0_S8x384 rfl)) (e 11 88 slices_S256x384_o88_0_S8x384 rfl)) (e 15 120 slices_S256x384_o120_0_S8x384 rfl)) (e 19 152 slices_S256x384_o152_0_S8x384 rfl)) (e 23 184 slices_S256x384_o184_0_S8x384 rfl)) (e 27 216 slices_S256x384_o216_0_S8x384 rfl)) (e 31 248 slices_S256x384_o248_0_S8x384 rfl)))

/-- A block's scale at a pixel. -/
theorem scale256_apply (u : FVec Ideal S256x384 .f32) (l : Fin 384) : scale256 u (ix2 0 l) = scaleN (colOf u l) := by
  have h := colMag256_apply u l
  unfold scale256 scaleN
  generalize colMax256 (absf u) = m at h
  rw [← h]
  pointwise

/-- A block's code at a pixel. -/
theorem code256_apply (u : FVec Ideal S256x384 .f32) (r : Fin 256) (l : Fin 384) : code256 u (ix2 r l) = codeN (colOf u l) r := by
  unfold code256
  generalize hs : scale256 u = s
  have h := scale256_apply u l
  rw [hs] at h
  pointwise
  rw [h, Ideal.mul_one_div (scaleN_ne_zero _), min_comm, max_comm]
  rfl

theorem colSum256_apply (v : FVec Ideal S256x384 .f32) (l : Fin 384) :
    colSum256 v (ix2 0 l) = ∑ r : Fin 256, v (ix2 r l) := by
  unfold colSum256
  rw [sumRow_apply, Fin.sum_univ_tiles 32 8 rfl (fun r : Fin 256 => v (ix2 r l)), Finset.sum_comm]
  refine Finset.sum_congr rfl fun x _ => ?_
  have e := eight256_at v x l
  refine Eq.trans ?_ (treeSum256 (fun p : Fin 32 => v (ix2 ⟨p.val * 8 + x.val, by omega⟩ l)))
  exact congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (e 0 0 slices_S256x384_o0_0_S8x384 rfl) (e 4 32 slices_S256x384_o32_0_S8x384 rfl)) (e 8 64 slices_S256x384_o64_0_S8x384 rfl)) (e 12 96 slices_S256x384_o96_0_S8x384 rfl)) (e 16 128 slices_S256x384_o128_0_S8x384 rfl)) (e 20 160 slices_S256x384_o160_0_S8x384 rfl)) (e 24 192 slices_S256x384_o192_0_S8x384 rfl)) (e 28 224 slices_S256x384_o224_0_S8x384 rfl)) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (e 1 8 slices_S256x384_o8_0_S8x384 rfl) (e 5 40 slices_S256x384_o40_0_S8x384 rfl)) (e 9 72 slices_S256x384_o72_0_S8x384 rfl)) (e 13 104 slices_S256x384_o104_0_S8x384 rfl)) (e 17 136 slices_S256x384_o136_0_S8x384 rfl)) (e 21 168 slices_S256x384_o168_0_S8x384 rfl)) (e 25 200 slices_S256x384_o200_0_S8x384 rfl)) (e 29 232 slices_S256x384_o232_0_S8x384 rfl))) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (e 2 16 slices_S256x384_o16_0_S8x384 rfl) (e 6 48 slices_S256x384_o48_0_S8x384 rfl)) (e 10 80 slices_S256x384_o80_0_S8x384 rfl)) (e 14 112 slices_S256x384_o112_0_S8x384 rfl)) (e 18 144 slices_S256x384_o144_0_S8x384 rfl)) (e 22 176 slices_S256x384_o176_0_S8x384 rfl)) (e 26 208 slices_S256x384_o208_0_S8x384 rfl)) (e 30 240 slices_S256x384_o240_0_S8x384 rfl)) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (e 3 24 slices_S256x384_o24_0_S8x384 rfl) (e 7 56 slices_S256x384_o56_0_S8x384 rfl)) (e 11 88 slices_S256x384_o88_0_S8x384 rfl)) (e 15 120 slices_S256x384_o120_0_S8x384 rfl)) (e 19 152 slices_S256x384_o152_0_S8x384 rfl)) (e 23 184 slices_S256x384_o184_0_S8x384 rfl)) (e 27 216 slices_S256x384_o216_0_S8x384 rfl)) (e 31 248 slices_S256x384_o248_0_S8x384 rfl)))

theorem colMean_apply (v : FVec Ideal S256x384 .f32) (l : Fin 384) : colMean v (ix2 0 l) = mean256 (colOf v l) := by
  show colSum256 v (ix2 0 l) * Ideal.ofBits .f32 0x3B800000#32 = _
  rw [colSum256_apply, mul_256th]
  rfl

theorem centred_apply (y : FVec Ideal S256x384 .f32) (r : Fin 256) (l : Fin 384) :
    centred y (ix2 r l) = cen256 (colOf y l) r := by
  have h : centred y (ix2 r l) = y (ix2 r l) - colMean y (ix2 0 l) := by
    unfold centred; generalize colMean y = m; pointwise
  rw [h, colMean_apply]
  rfl

/-- Layer norm at a pixel. -/
theorem lnV_apply (y g b : FVec Ideal S256x384 .f32) (r : Fin 256) (l : Fin 384) :
    lnV y g b (ix2 r l) = ln256 (colOf y l) (colOf g l) (colOf b l) r := by
  have hr : (sqrt (addf (colMean (mulf (centred y) (centred y))) (broadcast S1x384 (Scalar.ofBits .f32 0x3727C5AC#32)))
      : FVec Ideal S1x384 .f32) (ix2 0 l) = root256 (colOf y l) := by
    show Ideal.sqrt (colMean (mulf (centred y) (centred y)) (ix2 0 l) + Ideal.ofBits .f32 0x3727C5AC#32) = _
    rw [colMean_apply]
    unfold root256
    congr 3
    funext r'
    show centred y (ix2 r' l) * centred y (ix2 r' l) = _
    rw [centred_apply]
  have h : lnV y g b (ix2 r l) = centred y (ix2 r l) * Ideal.div 1 ((sqrt (addf (colMean (mulf (centred y) (centred y)))
      (broadcast S1x384 (Scalar.ofBits .f32 0x3727C5AC#32))) : FVec Ideal S1x384 .f32) (ix2 0 l)) * g (ix2 r l) + b (ix2 r l) := by
    unfold lnV
    generalize sqrt (addf (colMean (mulf (centred y) (centred y))) (broadcast S1x384 (Scalar.ofBits .f32 0x3727C5AC#32))) = q
    generalize centred y = d
    pointwise
  rw [h, hr, centred_apply, Ideal.mul_one_div (root256_ne_zero _)]
  rfl

theorem lanes256_apply (s : Vec Ideal S1x256x128 .f32) (sv : Fin 256 → EReal) (hs : ∀ r l, s (ix3 0 r l) = sv r)
    (r : Fin 256) (l : Fin 384) : lanes256 s (ix2 r l) = sv r := by
  pointwise
  simp only [hs, dite_eq_ite, ite_self]

theorem lanes128_apply (s : Vec Ideal S1x128x128 .f32) (sv : Fin 128 → EReal) (hs : ∀ r l, s (ix3 0 r l) = sv r)
    (r : Fin 128) (l : Fin 384) : lanes128 s (ix2 r l) = sv r := by
  pointwise
  simp only [hs, dite_eq_ite, ite_self]

theorem lanes88_apply (s : FVec Ideal S88x128 .f32) (sv : Fin 88 → EReal) (hs : ∀ r l, s (ix2 r l) = sv r)
    (r : Fin 88) (l : Fin 384) : lanes88 s (ix2 r l) = sv r := by
  pointwise
  simp only [hs, dite_eq_ite, ite_self]

/-- A product with codes, scaled and biased, at a pixel. -/
theorem lin256_apply (w : Vec Ideal S256x128 .bf16) (u : FVec Ideal S128x384 .f32) (s b : Vec Ideal S1x256x128 .f32)
    (sv bv : Fin 256 → EReal) (hs : ∀ r l, s (ix3 0 r l) = sv r) (hb : ∀ r l, b (ix3 0 r l) = bv r)
    (r : Fin 256) (l : Fin 384) : lin256 w u s b (ix2 r l) = linN (fun r k => w (ix2 r k)) (colOf u l) sv bv r := by
  have h : lin256 w u s b (ix2 r l) = (∑ k, w (ix2 r k) * code128 u (ix2 k l)) * scale128 u (ix2 0 l) *
      lanes256 s (ix2 r l) + lanes256 b (ix2 r l) := by
    unfold lin256
    generalize code128 u = q
    generalize scale128 u = t
    generalize lanes256 s = s'
    generalize lanes256 b = b'
    pointwise
  rw [h, lanes256_apply s sv hs, lanes256_apply b bv hb, scale128_apply]
  unfold linN
  rw [Finset.sum_congr rfl fun k _ => by rw [code128_apply]]

theorem lin128_apply (w : Vec Ideal S128x256 .bf16) (u : FVec Ideal S256x384 .f32) (s b : Vec Ideal S1x128x128 .f32)
    (sv bv : Fin 128 → EReal) (hs : ∀ r l, s (ix3 0 r l) = sv r) (hb : ∀ r l, b (ix3 0 r l) = bv r)
    (r : Fin 128) (l : Fin 384) : lin128 w u s b (ix2 r l) = linN (fun r k => w (ix2 r k)) (colOf u l) sv bv r := by
  have h : lin128 w u s b (ix2 r l) = (∑ k, w (ix2 r k) * code256 u (ix2 k l)) * scale256 u (ix2 0 l) *
      lanes128 s (ix2 r l) + lanes128 b (ix2 r l) := by
    unfold lin128
    generalize code256 u = q
    generalize scale256 u = t
    generalize lanes128 s = s'
    generalize lanes128 b = b'
    pointwise
  rw [h, lanes128_apply s sv hs, lanes128_apply b bv hb, scale256_apply]
  unfold linN
  rw [Finset.sum_congr rfl fun k _ => by rw [code256_apply]]

theorem residual_apply (img : Vec Ideal S1x256x384 .f32) (io : FVec Ideal S256x384 .f32) (r : Fin 256) (l : Fin 384) :
    residual img io (ix2 r l) = img (ix3 0 r l) + io (ix2 r l) := by
  unfold residual
  pointwise

theorem withPe_apply (v : FVec Ideal S256x384 .f32) (pe : Vec Ideal S256x384 .f32) (r : Fin 256) (l : Fin 384) :
    withPe v pe (ix2 r l) = v (ix2 r l) + pe (ix2 r l) := rfl

theorem codesOut_apply (u : FVec Ideal S256x384 .f32) (r : Fin 256) (l : Fin 384) :
    codesOut u (ix3 0 l r) = Cert.Up.word (codeN (colOf u l) r) := by
  have h : codesOut u (ix3 0 l r) = Cert.Up.word (code256 u (ix2 r l)) := by
    unfold codesOut
    generalize code256 u = q
    pointwise
    rfl
  rw [h, code256_apply]

theorem scalesOut_apply (u : FVec Ideal S256x384 .f32) (l : Fin 384) :
    scalesOut u (ix3 0 0 l) = scaleN (colOf u l) := by
  have h : scalesOut u (ix3 0 0 l) = scale256 u (ix2 0 l) := by
    unfold scalesOut
    generalize scale256 u = q
    pointwise
  rw [h, scale256_apply]

theorem codesT_apply (u : FVec Ideal S256x384 .f32) (r : Fin 256) (l : Fin 384) :
    codesT u (ix3 0 r l) = codeN (colOf u l) r := by
  have h : codesT u (ix3 0 r l) = code256 u (ix2 r l) := by
    unfold codesT
    generalize code256 u = q
    pointwise
  rw [h, code256_apply]

theorem valuesV_apply (v : FVec Ideal S128x384 .f32) (r : Fin 128) (l : Fin 384) : valuesV v (ix2 r l) = v (ix2 r l) := by
  unfold valuesV
  pointwise

theorem keyScores_apply (tqb : FVec Ideal S88x128 .bf16) (k : FVec Ideal S128x384 .f32) (r : Fin 88) (l : Fin 384) :
    keyScores tqb k (ix2 r l) = ∑ d : Fin 128, tqb (ix2 r d) * k (ix2 d l) := by
  unfold keyScores
  pointwise

end Cert.At

end
-- ==== Proof.AttnAttend.lean ====
/-
  Image-to-token attention read at a pixel: with the tokens' keys and values spread over eight masked rows each, a head's
  row of the product is that head's score, and the sum over the 88 rows is the sum over the eleven tokens.
-/
module

public import proofs.«01_k».proof.Proof.AttnColumns

@[expose] public section

set_option maxRecDepth 16384

noncomputable section

namespace Cert.At

open Cert.AttnIdeal Cert.AttnIdeal.Gen Idealize.ShloMosaic

set_option maxHeartbeats 2000000 in
/-- Eleven 8-row blocks one under another, at a token's head. -/
theorem cat11_apply (p : Fin 11 → FVec Ideal S8x384 .f32) (t : Fin 11) (h : Fin 8) (l : Fin 384) :
    concatenate S88x384 0 [⟨S8x384, p 0⟩, ⟨S8x384, p 1⟩, ⟨S8x384, p 2⟩, ⟨S8x384, p 3⟩, ⟨S8x384, p 4⟩, ⟨S8x384, p 5⟩, ⟨S8x384, p 6⟩, ⟨S8x384, p 7⟩, ⟨S8x384, p 8⟩, ⟨S8x384, p 9⟩, ⟨S8x384, p 10⟩]
      concatenates_S8x384_S8x384_S8x384_S8x384_S8x384_S8x384_S8x384_S8x384_S8x384_S8x384_S8x384_S88x384_d0 (ix2 (rowOf t h) l) = p t (ix2 h l) := by
  pointwise
  obtain ⟨h, hh⟩ := h
  fin_cases t <;> simp only [Fin.val] <;>
    (repeat rw [dif_neg (by omega)]) <;> (try rw [dif_pos (by omega)]) <;>
    exact congrArg (fun x => p _ (ix2 x l)) (Fin.ext (by simp only; omega))

/-- Eight 16-row blocks one under another, at a channel. -/
theorem cat8_apply (p : Fin 8 → FVec Ideal S16x384 .f32) (h : Fin 8) (j : Fin 16) (l : Fin 384) :
    concatenate S128x384 0 [⟨S16x384, p 0⟩, ⟨S16x384, p 1⟩, ⟨S16x384, p 2⟩, ⟨S16x384, p 3⟩, ⟨S16x384, p 4⟩, ⟨S16x384, p 5⟩, ⟨S16x384, p 6⟩, ⟨S16x384, p 7⟩]
      concatenates_S16x384_S16x384_S16x384_S16x384_S16x384_S16x384_S16x384_S16x384_S128x384_d0 (ix2 (chanOf h j) l) = p h (ix2 j l) := by
  pointwise
  obtain ⟨j, hj⟩ := j
  fin_cases h <;> simp only [Fin.val] <;>
    (repeat rw [dif_neg (by omega)]) <;> (try rw [dif_pos (by omega)]) <;>
    exact congrArg (fun x => p _ (ix2 x l)) (Fin.ext (by simp only; omega))

section
variable (a : FVec Ideal S88x384 .f32)

theorem tokRows_at (t : Fin 11) (h : Fin 8) (l : Fin 384) (o : ℕ) (ho) (e : o = t.val * 8) :
    tokRows a o ho (ix2 h l) = a (ix2 (rowOf t h) l) := by
  subst e
  pointwise

/-- The shift of a pixel's head. -/
theorem shift_apply (h : Fin 8) (l : Fin 384) : shift a (ix2 h l) = shiftS (fun t => a (ix2 (rowOf t h) l)) := by
  unfold shift shiftS
  rw [← max11]
  have e := fun t o ho he => tokRows_at a t h l o ho he
  exact congrArg ceilS (congrArg₂ max (congrArg₂ max (congrArg₂ max (congrArg₂ max (congrArg₂ max (congrArg₂ max (congrArg₂ max (congrArg₂ max (congrArg₂ max (congrArg₂ max (e 0 0 slices_S88x384_o0_0_S8x384 rfl) (e 1 8 slices_S88x384_o8_0_S8x384 rfl)) (e 2 16 slices_S88x384_o16_0_S8x384 rfl)) (e 3 24 slices_S88x384_o24_0_S8x384 rfl)) (e 4 32 slices_S88x384_o32_0_S8x384 rfl)) (e 5 40 slices_S88x384_o40_0_S8x384 rfl)) (e 6 48 slices_S88x384_o48_0_S8x384 rfl)) (e 7 56 slices_S88x384_o56_0_S8x384 rfl)) (e 8 64 slices_S88x384_o64_0_S8x384 rfl)) (e 9 72 slices_S88x384_o72_0_S8x384 rfl)) (e 10 80 slices_S88x384_o80_0_S8x384 rfl))

theorem prob_at (t : Fin 11) (h : Fin 8) (l : Fin 384) (o : ℕ) (ho) (e : o = t.val * 8) :
    prob a o ho (ix2 h l) = probS (fun t => a (ix2 (rowOf t h) l)) t := by
  have e' : prob a o ho (ix2 h l) = Ideal.exp2 (tokRows a o ho (ix2 h l) - shift a (ix2 h l)) := rfl
  rw [e', tokRows_at a t h l o ho e, shift_apply]
  rfl

/-- One over the sum of the weights of a pixel's head. -/
theorem recip_apply (h : Fin 8) (l : Fin 384) :
    recip a (ix2 h l) = Ideal.div 1 (denS (fun t => a (ix2 (rowOf t h) l))) := by
  unfold recip denS
  rw [← add11]
  have e := fun t o ho he => prob_at a t h l o ho he
  have h1 : (Scalar.ofBits .f32 0x3F800000#32 : Ideal .f32) = (1 : EReal) := by pointwise
  exact congrArg₂ Ideal.div h1 (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (e 0 0 slices_S88x384_o0_0_S8x384 rfl) (e 1 8 slices_S88x384_o8_0_S8x384 rfl)) (e 2 16 slices_S88x384_o16_0_S8x384 rfl)) (e 3 24 slices_S88x384_o24_0_S8x384 rfl)) (e 4 32 slices_S88x384_o32_0_S8x384 rfl)) (e 5 40 slices_S88x384_o40_0_S8x384 rfl)) (e 6 48 slices_S88x384_o48_0_S8x384 rfl)) (e 7 56 slices_S88x384_o56_0_S8x384 rfl)) (e 8 64 slices_S88x384_o64_0_S8x384 rfl)) (e 9 72 slices_S88x384_o72_0_S8x384 rfl)) (e 10 80 slices_S88x384_o80_0_S8x384 rfl))

/-- The weighted values of a pixel's channel. -/
theorem weighted_apply (ivb : FVec Ideal S128x88 .bf16) (V : Fin 11 → Fin 128 → EReal)
    (hV : ∀ d t h, ivb (ix2 d (rowOf t h)) = if h = headOf d then V t d else 0) (d : Fin 128) (l : Fin 384) :
    weighted ivb a (ix2 d l) = ∑ t, V t d * probS (fun t => a (ix2 (rowOf t (headOf d)) l)) t := by
  unfold weighted
  have hc := cat11_apply (fun t => prob a (t.val * 8) ⟨rfl, fun b => match b with
      | ⟨0, _⟩ => by show t.val * 8 + 8 ≤ 88; omega
      | ⟨1, _⟩ => by show 0 + 384 ≤ 384; omega⟩)

  generalize hC : concatenate S88x384 0 _ _ = C
  have hC' : ∀ t h, C (ix2 (rowOf t h) l) = probS (fun t => a (ix2 (rowOf t h) l)) t := fun t h => by
    rw [← hC]
    exact (hc t h l).trans (prob_at a t h l _ _ rfl)
  clear hc hC
  pointwise
  refine sum_rows (headOf d) (fun t => V t d * probS (fun t => a (ix2 (rowOf t (headOf d)) l)) t) _ fun t h => ?_
  rw [hV, hC']
  split
  · rename_i e; subst e; rfl
  · exact zero_mul _

/-- All heads' outputs at a channel. -/
theorem heads_apply (o : FVec Ideal S128x384 .f32) (r : FVec Ideal S8x384 .f32) (d : Fin 128) (l : Fin 384) :
    heads o r (ix2 d l) = o (ix2 d l) * r (ix2 (headOf d) l) := by
  have ed : d = chanOf (headOf d) ⟨d.val % 16, by omega⟩ := Fin.ext (by show d.val = d.val / 16 * 16 + d.val % 16; omega)
  have hh : ∀ (h : Fin 8) (j : Fin 16) (a b : ℕ) (ha hb), a = h.val * 16 → b = h.val →
      headOut o r a b ha hb (ix2 j l) = o (ix2 (chanOf h j) l) * r (ix2 h l) := by
    intro h j a b ha hb e1 e2
    subst e1 e2
    pointwise
  generalize headOf d = h at ed
  generalize (⟨d.val % 16, by omega⟩ : Fin 16) = j at ed
  subst ed
  unfold heads
  refine (cat8_apply (fun h => headOut o r (h.val * 16) h.val ⟨rfl, fun b => match b with
      | ⟨0, _⟩ => by show h.val * 16 + 16 ≤ 128; omega
      | ⟨1, _⟩ => by show 0 + 384 ≤ 384; omega⟩ ⟨rfl, fun b => match b with
      | ⟨0, _⟩ => by show h.val + 1 ≤ 8; omega
      | ⟨1, _⟩ => by show 0 + 384 ≤ 384; omega⟩) h j l).trans (hh h j _ _ _ _ rfl rfl)

end

section
variable (ikb : FVec Ideal S88x128 .bf16) (ivb : FVec Ideal S128x88 .bf16) (kb : FVec Ideal S88x128 .f32)
  (K V : Fin 11 → Fin 128 → EReal) (B : Fin 11 → EReal)
  (hK : ∀ t h d, ikb (ix2 (rowOf t h) d) = if headOf d = h then K t d else 0)
  (hV : ∀ d t h, ivb (ix2 d (rowOf t h)) = if h = headOf d then V t d else 0)
  (hB : ∀ t h l, kb (ix2 (rowOf t h) l) = B t)

include hK hB in
/-- A pixel's score against a token, in a head. -/
theorem scores_apply (q : Vec Ideal S1x128x384 .bf16) (t : Fin 11) (h : Fin 8) (l : Fin 384) :
    scores ikb kb q (ix2 (rowOf t h) l) = attScore K B (fun d => q (ix3 0 d l)) h t := by
  have hl : ∀ (r : Fin 88) (m : Fin 128), kb (ix2 r m) = kb (ix2 r 0) := fun r m => by
    have er : r = rowOf ⟨r.val / 8, by omega⟩ ⟨r.val % 8, by omega⟩ :=
      Fin.ext (by show r.val = r.val / 8 * 8 + r.val % 8; omega)
    rw [er, hB, hB]
  have e : scores ikb kb q (ix2 (rowOf t h) l) = (∑ d, ikb (ix2 (rowOf t h) d) * q (ix3 0 d l)) *
      Ideal.ofBits .f32 0x3EB8AA3B#32 + lanes88 kb (ix2 (rowOf t h) l) := by
    unfold scores
    generalize lanes88 kb = b
    pointwise
  rw [e, lanes88_apply kb (fun r => kb (ix2 r 0)) hl, hB]
  unfold attScore
  congr 2
  rw [← sum_head h (fun d => K t d * q (ix3 0 d l))]
  refine Finset.sum_congr rfl fun d _ => ?_
  rw [hK]
  split
  · rfl
  · exact zero_mul _

include hK hV hB in
/-- A pixel's attention output at a channel. -/
theorem attended_apply (q : Vec Ideal S1x128x384 .bf16) (d : Fin 128) (l : Fin 384) :
    attended ikb ivb kb q (ix2 d l) = attOut V (attScore K B (fun d => q (ix3 0 d l))) d := by
  have hs : ∀ h, (fun t => scores ikb kb q (ix2 (rowOf t h) l)) = attScore K B (fun d => q (ix3 0 d l)) h := fun h =>
    funext fun t => scores_apply ikb kb K B hK hB q t h l
  unfold attended
  rw [heads_apply, weighted_apply _ ivb V hV, recip_apply, hs]
  rfl

end

end Cert.At

end
-- ==== Proof.AttnChunk.lean ====
/-
  What one chunk of the attention kernel's first loop computes, read at a pixel, and what a whole block of 2688 pixels is
  to hold: the new image, its two quantised forms, the new values and the tokens' scores against the new keys.
-/
module

public import proofs.«01_k».proof.Proof.AttnTrip
public import proofs.«01_k».proof.Proof.AttnAttend

@[expose] public section

set_option maxRecDepth 16384

noncomputable section

namespace Cert.At

open Cert.AttnIdeal Cert.AttnIdeal.Gen Idealize.ShloMosaic

/-- A matrix as a function of row and column. -/
abbrev mat {n m : ℕ} (W : (⟨2, ![n, m]⟩ : Shape).Idx → EReal) : Fin n → Fin m → EReal := fun r k => W (ix2 r k)

theorem colAt_apply (c : Vec Ideal S4x256x128 .f32) (i : Fin 4) (h) (r : Fin 256) (l : Fin 128) :
    colAt c i.val h (ix3 0 r l) = c (ix3 i r l) := by
  refine View.ld_unit_apply_of _ _ _ _ _ (ix3 i r l) fun a => ?_
  fin_cases a
  · show i.val = i.val + 0; rfl
  · show r.val = 0 + r.val; omega
  · show l.val = 0 + l.val; omega

theorem kvAt_apply (c : Vec Ideal S4x128x128 .f32) (i : Fin 4) (h) (r : Fin 128) (l : Fin 128) :
    kvAt c i.val h (ix3 0 r l) = c (ix3 i r l) := by
  refine View.ld_unit_apply_of _ _ _ _ _ (ix3 i r l) fun a => ?_
  fin_cases a
  · show i.val = i.val + 0; rfl
  · show r.val = 0 + r.val; omega
  · show l.val = 0 + l.val; omega

section
variable (ikb : FVec Ideal S88x128 .bf16) (ivb : FVec Ideal S128x88 .bf16) (kb : FVec Ideal S88x128 .f32)
  (K V : Fin 11 → Fin 128 → EReal) (B : Fin 11 → EReal)
  (hK : ∀ t h d, ikb (ix2 (rowOf t h) d) = if headOf d = h then K t d else 0)
  (hV : ∀ d t h, ivb (ix2 d (rowOf t h)) = if h = headOf d then V t d else 0)
  (hB : ∀ t h l, kb (ix2 (rowOf t h) l) = B t)

include hK hV hB in
/-- The new image of a chunk, at a pixel. -/
theorem newImg_apply (wo : Vec Ideal S256x128 .bf16) (c : Vec Ideal S4x256x128 .f32) (cv : Fin 4 → Fin 256 → EReal)
    (hc : ∀ i r l, c (ix3 i r l) = cv i r) (q : Vec Ideal S1x128x384 .bf16) (img : Vec Ideal S1x256x384 .f32)
    (r : Fin 256) (l : Fin 384) :
    newImg ikb ivb kb wo c q img (ix2 r l) =
      imgP (mat wo) cv (attOut V (attScore K B (fun d => q (ix3 0 d l)))) (fun r => img (ix3 0 r l)) r := by
  have h0 : ∀ (i : Fin 4) (h) (r : Fin 256) (m : Fin 128), colAt c i.val h (ix3 0 r m) = cv i r := fun i h r m =>
    (colAt_apply c i h r m).trans (hc i r m)
  have e2 : colOf (lanes256 (colAt c 2 inb_S4x256x128_S1x256x128_2_0_0)) l = cv 2 :=
    funext fun r => lanes256_apply _ _ (h0 2 _) r l
  have e3 : colOf (lanes256 (colAt c 3 inb_S4x256x128_S1x256x128_3_0_0)) l = cv 3 :=
    funext fun r => lanes256_apply _ _ (h0 3 _) r l
  have eo : colOf (attended ikb ivb kb q) l = attOut V (attScore K B (fun d => q (ix3 0 d l))) :=
    funext fun d => attended_apply ikb ivb kb K V B hK hV hB q d l
  unfold newImg imgP
  rw [lnV_apply, e2, e3]
  congr 1
  funext r
  refine (residual_apply _ _ r l).trans ?_
  rw [← eo]
  exact congrArg (fun z => img (ix3 0 r l) + z)
    (lin256_apply wo _ _ _ (cv 0) (cv 1) (h0 0 inb_S4x256x128_S1x256x128_0_0_0) (h0 1 inb_S4x256x128_S1x256x128_1_0_0) r l)

end

/-- The new keys of a chunk, at a pixel. -/
theorem keys_apply (w : Vec Ideal S128x256 .bf16) (u : FVec Ideal S256x384 .f32) (c : Vec Ideal S4x128x128 .f32)
    (kv : Fin 4 → Fin 128 → EReal) (hc : ∀ i r l, c (ix3 i r l) = kv i r) (r : Fin 128) (l : Fin 384) :
    keys w u c (ix2 r l) = linN (mat w) (colOf u l) (kv 0) (kv 1) r := by
  unfold keys
  exact lin128_apply w u _ _ _ _ (fun r m => (kvAt_apply c 0 _ r m).trans (hc 0 r m))
    (fun r m => (kvAt_apply c 1 _ r m).trans (hc 1 r m)) r l

/-- The new values of a chunk, at a pixel. -/
theorem values_apply (w : Vec Ideal S128x256 .bf16) (u : FVec Ideal S256x384 .f32) (c : Vec Ideal S4x128x128 .f32)
    (kv : Fin 4 → Fin 128 → EReal) (hc : ∀ i r l, c (ix3 i r l) = kv i r) (r : Fin 128) (l : Fin 384) :
    values w u c (ix2 r l) = linN (mat w) (colOf u l) (kv 2) (kv 3) r := by
  unfold values
  exact lin128_apply w u _ _ _ _ (fun r m => (kvAt_apply c 2 _ r m).trans (hc 2 r m))
    (fun r m => (kvAt_apply c 3 _ r m).trans (hc 3 r m)) r l

/-- What the first loop is given: the tokens' keys, values, biases and queries, the weights, the rows' numbers, and the
  blocks of pixels. -/
structure Data where
  K : Fin 11 → Fin 128 → EReal
  V : Fin 11 → Fin 128 → EReal
  B : Fin 11 → EReal
  T : Fin 11 → Fin 128 → EReal
  wo : Fin 256 → Fin 128 → EReal
  wk : Fin 128 → Fin 256 → EReal
  wv : Fin 128 → Fin 256 → EReal
  cv : Fin 4 → Fin 256 → EReal
  kv : Fin 4 → Fin 128 → EReal
  q : Fin 128 → Fin 2688 → EReal
  x : Fin 256 → Fin 2688 → EReal
  pe : Fin 256 → Fin 2688 → EReal

namespace Data
variable (D : Data)

/-- The new image at pixel `s`. -/
def img (s : Fin 2688) : Fin 256 → EReal :=
  imgP D.wo D.cv (attOut D.V (attScore D.K D.B (fun d => D.q d s))) (fun r => D.x r s)

/-- The new image with the position encoding. -/
def key (s : Fin 2688) : Fin 256 → EReal := fun r => D.img s r + D.pe r s

/-- The score of token `t` in head `h` against pixel `s`, unscaled. -/
def score (t : Fin 11) (h : Fin 8) (s : Fin 2688) : EReal :=
  ∑ j, D.T t (chanOf h j) * linN D.wk (D.key s) (D.kv 0) (D.kv 1) (chanOf h j)

/-- The new value at pixel `s`. -/
def value (s : Fin 2688) : Fin 128 → EReal := linN D.wv (D.img s) (D.kv 2) (D.kv 3)

/-- Codes of the image with the position encoding, pixel by pixel. -/
def kc : Vec Ideal S1x2688x256 .i8 := fun i => Cert.Up.word (codeN (D.key (i 1)) (i 2))

/-- Their scales. -/
def kcs : Vec Ideal S1x1x2688 .f32 := fun i => scaleN (D.key (i 2))

/-- Codes of the image, pixel by pixel. -/
def ic : Vec Ideal S1x2688x256 .i8 := fun i => Cert.Up.word (codeN (D.img (i 1)) (i 2))

/-- Their scales. -/
def ics : Vec Ideal S1x1x2688 .f32 := fun i => scaleN (D.img (i 2))

/-- Codes of the image, channel by channel. -/
def ict : Vec Ideal S1x256x2688 .bf16 := fun i => codeN (D.img (i 2)) (i 1)

/-- The scores kept for the second loop, one row per token and head. -/
def sc : Vec Ideal S88x2688 .f32 := fun i =>
  D.score ⟨(i 0).val / 8, by have h : (i 0).val < 88 := (i 0).isLt; omega⟩ ⟨(i 0).val % 8, by omega⟩ (i 1)

/-- The values kept for the second loop. -/
def vals : Vec Ideal S128x2688 .bf16 := fun i => D.value (i 1) (i 0)

end Data

end Cert.At

end
-- ==== Proof.AttnLoop.lean ====
/-
  The attention kernel's first loop: after any number of trips, every piece stored so far holds, wherever it lies, the value
  that the whole block is to hold there; and the running maxima lie below a bound exactly when the scores so far do.
-/
module

public import proofs.«01_k».proof.Proof.AttnChunk

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

theorem trips7 : k0_t1_loop.trips = 7 := by decide

theorem off3_eq : ∀ k : Fin k0_t1_loop.trips, k0_off3 k = ![0, 0, k.val * 384] := by decide
theorem off4_eq : ∀ k : Fin k0_t1_loop.trips, k0_off4 k = ![0, 0, k.val * 384] := by decide
theorem off5_eq : ∀ k : Fin k0_t1_loop.trips, k0_off5 k = ![0, k.val * 384] := by decide
theorem off6_eq : ∀ k : Fin k0_t1_loop.trips, k0_off6 k = ![0, k.val * 384, 0] := by decide
theorem off7_eq : ∀ k : Fin k0_t1_loop.trips, k0_off7 k = ![0, 0, k.val * 384] := by decide
theorem off8_eq : ∀ k : Fin k0_t1_loop.trips, k0_off8 k = ![0, k.val * 384] := by decide
theorem off9_eq : ∀ k : Fin k0_t1_loop.trips, k0_off9 k = ![0, k.val * 384] := by decide

theorem allAt_append {S : Shape} {e : EltTy} {y : S.Idx} {v : Elt Ideal e} {L M : List (View.Piece (Elt Ideal) S e)}
    (h1 : View.AllAt L y v) (h2 : View.AllAt M y v) : View.AllAt (L ++ M) y v := fun p hp =>
  (List.mem_append.mp hp).elim (h1 p) (h2 p)

/-- The vectors that the first loop works on hold the numbers of `D`. -/
structure Holds (D : Data) (ikb : FVec Ideal S88x128 .bf16) (ivb : FVec Ideal S128x88 .bf16) (kb : FVec Ideal S88x128 .f32)
  (tqb : FVec Ideal S88x128 .bf16) (WO : Vec Ideal S256x128 .bf16) (WK WV : Vec Ideal S128x256 .bf16)
  (C : Vec Ideal S4x256x128 .f32) (KV : Vec Ideal S4x128x128 .f32) (Q : Vec Ideal S1x128x2688 .bf16)
  (IM : Vec Ideal S1x256x2688 .f32) (PE : Vec Ideal S256x2688 .f32) : Prop where
  hK : ∀ t h d, ikb (ix2 (rowOf t h) d) = if headOf d = h then D.K t d else 0
  hV : ∀ d t h, ivb (ix2 d (rowOf t h)) = if h = headOf d then D.V t d else 0
  hB : ∀ t h l, kb (ix2 (rowOf t h) l) = D.B t
  hT : ∀ t h d, tqb (ix2 (rowOf t h) d) = if headOf d = h then D.T t d else 0
  hwo : ∀ r k, WO (ix2 r k) = D.wo r k
  hwk : ∀ r k, WK (ix2 r k) = D.wk r k
  hwv : ∀ r k, WV (ix2 r k) = D.wv r k
  hcv : ∀ i r l, C (ix3 i r l) = D.cv i r
  hkv : ∀ i r l, KV (ix3 i r l) = D.kv i r
  hq : ∀ d s, Q (ix3 0 d s) = D.q d s
  hx : ∀ r s, IM (ix3 0 r s) = D.x r s
  hpe : ∀ r s, PE (ix2 r s) = D.pe r s

section Trip
variable {D : Data} {ikb : FVec Ideal S88x128 .bf16} {ivb : FVec Ideal S128x88 .bf16} {kb : FVec Ideal S88x128 .f32}
  {tqb : FVec Ideal S88x128 .bf16} {WO : Vec Ideal S256x128 .bf16} {WK WV : Vec Ideal S128x256 .bf16}
  {C : Vec Ideal S4x256x128 .f32} {KV : Vec Ideal S4x128x128 .f32} {Q : Vec Ideal S1x128x2688 .bf16}
  {IM : Vec Ideal S1x256x2688 .f32} {PE : Vec Ideal S256x2688 .f32}
  (H : Holds D ikb ivb kb tqb WO WK WV C KV Q IM PE) (k : Fin k0_t1_loop.trips) (l : Fin 384) (s : Fin 2688)
  (hs : s.val = k.val * 384 + l.val)

include hs in
theorem ld_q (d : Fin 128) : (View.ld (Val := Elt Ideal) (e' := .bf16) Q (Rect.unit (s := S1x128x2688) (k0_off3 k) S1x128x384.size (k0_off3_inb k))) (ix3 0 d l) = Q (ix3 0 d s) := by
  refine View.ld_unit_apply_of _ _ _ _ _ (ix3 0 d s) fun a => ?_
  refine Eq.trans ?_ (congrArg (fun o : Fin 3 → ℕ => o a + _) (off3_eq k).symm)
  fin_cases a
  · show 0 = 0 + 0; rfl
  · show d.val = 0 + d.val; omega
  · show s.val = k.val * 384 + l.val; omega

include hs in
theorem ld_x (r : Fin 256) : (View.ld (Val := Elt Ideal) (e' := .f32) IM (Rect.unit (s := S1x256x2688) (k0_off4 k) S1x256x384.size (k0_off4_inb k))) (ix3 0 r l) = IM (ix3 0 r s) := by
  refine View.ld_unit_apply_of _ _ _ _ _ (ix3 0 r s) fun a => ?_
  refine Eq.trans ?_ (congrArg (fun o : Fin 3 → ℕ => o a + _) (off4_eq k).symm)
  fin_cases a
  · show 0 = 0 + 0; rfl
  · show r.val = 0 + r.val; omega
  · show s.val = k.val * 384 + l.val; omega

include hs in
theorem ld_pe (r : Fin 256) : (View.ld (Val := Elt Ideal) (e' := .f32) PE (Rect.unit (s := S256x2688) (k0_off5 k) S256x384.size (k0_off5_inb k))) (ix2 r l) = PE (ix2 r s) := by
  refine View.ld_unit_apply_of _ _ _ _ _ (ix2 r s) fun a => ?_
  refine Eq.trans ?_ (congrArg (fun o : Fin 2 → ℕ => o a + _) (off5_eq k).symm)
  fin_cases a
  · show r.val = 0 + r.val; omega
  · show s.val = k.val * 384 + l.val; omega

theorem zero2 : (![0, 0] : Fin 2 → ℕ) = fun _ => 0 := by funext a; fin_cases a <;> rfl
theorem zero3 : (![0, 0, 0] : Fin 3 → ℕ) = fun _ => 0 := by funext a; fin_cases a <;> rfl

include H hs in
/-- The chunk's new image is the block's. -/
theorem img_chunk : colOf (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) l = D.img s := by
  funext r
  refine (newImg_apply ikb ivb kb D.K D.V D.B H.hK H.hV H.hB _ C D.cv H.hcv _ _ r l).trans ?_
  rw [View.ld_unit_zero zero2]
  have e1 : (fun d => (View.ld (Val := Elt Ideal) (e' := .bf16) Q (Rect.unit (s := S1x128x2688) (k0_off3 k) S1x128x384.size (k0_off3_inb k))) (ix3 0 d l)) = fun d => D.q d s :=
    funext fun d => (ld_q k l s hs d).trans (H.hq d s)
  have e2 : (fun r => (View.ld (Val := Elt Ideal) (e' := .f32) IM (Rect.unit (s := S1x256x2688) (k0_off4 k) S1x256x384.size (k0_off4_inb k))) (ix3 0 r l)) = fun r => D.x r s :=
    funext fun r => (ld_x k l s hs r).trans (H.hx r s)
  have e3 : mat WO = D.wo := funext fun r => funext fun k => H.hwo r k
  rw [e1, e2, e3]
  rfl

include H hs in
/-- The chunk's new image with the position encoding is the block's. -/
theorem key_chunk : colOf (withPe (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) (View.ld (Val := Elt Ideal) (e' := .f32) PE (Rect.unit (s := S256x2688) (k0_off5 k) S256x384.size (k0_off5_inb k)))) l = D.key s := by
  funext r
  exact congrArg₂ (· + · : EReal → EReal → EReal) (congrFun (img_chunk H k l s hs) r) ((ld_pe k l s hs r).trans (H.hpe r s))

include H hs in
/-- The chunk's scores are the block's. -/
theorem score_chunk (t : Fin 11) (h : Fin 8) : (keyScores tqb (keys (View.ld (Val := Elt Ideal) (e' := .bf16) WK (Rect.unit (s := S128x256) ![0, 0] S128x256.size inb_S128x256_S128x256_0_0)) (withPe (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) (View.ld (Val := Elt Ideal) (e' := .f32) PE (Rect.unit (s := S256x2688) (k0_off5 k) S256x384.size (k0_off5_inb k)))) KV)) (ix2 (rowOf t h) l) = D.score t h s := by
  refine (keyScores_apply _ _ _ _).trans ?_
  unfold Data.score
  rw [← sum_head h (fun d => D.T t d * linN D.wk (D.key s) (D.kv 0) (D.kv 1) d)]
  refine Finset.sum_congr rfl fun d _ => ?_
  have e : keys (View.ld (Val := Elt Ideal) (e' := .bf16) WK (Rect.unit (s := S128x256) ![0, 0] S128x256.size inb_S128x256_S128x256_0_0)) (withPe (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) (View.ld (Val := Elt Ideal) (e' := .f32) PE (Rect.unit (s := S256x2688) (k0_off5 k) S256x384.size (k0_off5_inb k)))) KV (ix2 d l) = linN D.wk (D.key s) (D.kv 0) (D.kv 1) d := by
    refine (keys_apply _ _ KV D.kv H.hkv d l).trans ?_
    rw [key_chunk H k l s hs, View.ld_unit_zero zero2]
    have e3 : mat WK = D.wk := funext fun r => funext fun k => H.hwk r k
    rw [e3]
  rw [H.hT, e]
  split
  · rfl
  · exact zero_mul _

include H hs in
/-- The chunk's new values are the block's. -/
theorem value_chunk (r : Fin 128) : (values (View.ld (Val := Elt Ideal) (e' := .bf16) WV (Rect.unit (s := S128x256) ![0, 0] S128x256.size inb_S128x256_S128x256_0_0)) (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) KV) (ix2 r l) = D.value s r := by
  refine (values_apply _ _ KV D.kv H.hkv r l).trans ?_
  rw [img_chunk H k l s hs, View.ld_unit_zero zero2]
  have e3 : mat WV = D.wv := funext fun r => funext fun k => H.hwv r k
  rw [e3]
  rfl

end Trip

section Tiles
variable {D : Data} {ikb : FVec Ideal S88x128 .bf16} {ivb : FVec Ideal S128x88 .bf16} {kb : FVec Ideal S88x128 .f32}
  {tqb : FVec Ideal S88x128 .bf16} {WO : Vec Ideal S256x128 .bf16} {WK WV : Vec Ideal S128x256 .bf16}
  {C : Vec Ideal S4x256x128 .f32} {KV : Vec Ideal S4x128x128 .f32} {Q : Vec Ideal S1x128x2688 .bf16}
  {IM : Vec Ideal S1x256x2688 .f32} {PE : Vec Ideal S256x2688 .f32}
  (H : Holds D ikb ivb kb tqb WO WK WV C KV Q IM PE) (k : Fin k0_t1_loop.trips)

include H in
theorem tile_kc (y : S1x2688x256.Idx) :
    View.TileAt (Val := Elt Ideal) (e := .i8) y (k0_off6 k) S1x384x256.size (codesOut (withPe (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) (View.ld (Val := Elt Ideal) (e' := .f32) PE (Rect.unit (s := S256x2688) (k0_off5 k) S256x384.size (k0_off5_inb k))))) (D.kc y) := by
  intro x hy
  rw [off6_eq] at hy
  obtain ⟨x0, x1, x2, rfl⟩ : ∃ (x0 : Fin 1) (x1 : Fin 384) (x2 : Fin 256), x = ix3 x0 x1 x2 :=
    ⟨x 0, x 1, x 2, by funext a; fin_cases a <;> rfl⟩
  obtain rfl : x0 = 0 := Subsingleton.elim _ _
  have e1 : (y 1).val = k.val * 384 + x1.val := hy 1
  have e2 : (y 2).val = 0 + x2.val := hy 2
  refine (codesOut_apply _ x2 x1).trans ?_
  rw [key_chunk H k x1 (y 1) e1, show x2 = y 2 from Fin.ext (by omega)]
  rfl

include H in
theorem tile_ic (y : S1x2688x256.Idx) :
    View.TileAt (Val := Elt Ideal) (e := .i8) y (k0_off6 k) S1x384x256.size (codesOut (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k))))) (D.ic y) := by
  intro x hy
  rw [off6_eq] at hy
  obtain ⟨x0, x1, x2, rfl⟩ : ∃ (x0 : Fin 1) (x1 : Fin 384) (x2 : Fin 256), x = ix3 x0 x1 x2 :=
    ⟨x 0, x 1, x 2, by funext a; fin_cases a <;> rfl⟩
  obtain rfl : x0 = 0 := Subsingleton.elim _ _
  have e1 : (y 1).val = k.val * 384 + x1.val := hy 1
  have e2 : (y 2).val = 0 + x2.val := hy 2
  refine (codesOut_apply _ x2 x1).trans ?_
  rw [img_chunk H k x1 (y 1) e1, show x2 = y 2 from Fin.ext (by omega)]
  rfl

include H in
theorem tile_kcs (y : S1x1x2688.Idx) :
    View.TileAt (Val := Elt Ideal) (e := .f32) y (k0_off7 k) S1x1x384.size (scalesOut (withPe (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) (View.ld (Val := Elt Ideal) (e' := .f32) PE (Rect.unit (s := S256x2688) (k0_off5 k) S256x384.size (k0_off5_inb k))))) (D.kcs y) := by
  intro x hy
  rw [off7_eq] at hy
  obtain ⟨x0, x1, x2, rfl⟩ : ∃ (x0 : Fin 1) (x1 : Fin 1) (x2 : Fin 384), x = ix3 x0 x1 x2 :=
    ⟨x 0, x 1, x 2, by funext a; fin_cases a <;> rfl⟩
  obtain rfl : x0 = 0 := Subsingleton.elim _ _
  obtain rfl : x1 = 0 := Subsingleton.elim _ _
  have e2 : (y 2).val = k.val * 384 + x2.val := hy 2
  refine (scalesOut_apply _ x2).trans ?_
  rw [key_chunk H k x2 (y 2) e2]
  rfl

include H in
theorem tile_ics (y : S1x1x2688.Idx) :
    View.TileAt (Val := Elt Ideal) (e := .f32) y (k0_off7 k) S1x1x384.size (scalesOut (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k))))) (D.ics y) := by
  intro x hy
  rw [off7_eq] at hy
  obtain ⟨x0, x1, x2, rfl⟩ : ∃ (x0 : Fin 1) (x1 : Fin 1) (x2 : Fin 384), x = ix3 x0 x1 x2 :=
    ⟨x 0, x 1, x 2, by funext a; fin_cases a <;> rfl⟩
  obtain rfl : x0 = 0 := Subsingleton.elim _ _
  obtain rfl : x1 = 0 := Subsingleton.elim _ _
  have e2 : (y 2).val = k.val * 384 + x2.val := hy 2
  refine (scalesOut_apply _ x2).trans ?_
  rw [img_chunk H k x2 (y 2) e2]
  rfl

include H in
theorem tile_ict (y : S1x256x2688.Idx) :
    View.TileAt (Val := Elt Ideal) (e := .bf16) y (k0_off4 k) S1x256x384.size (codesT (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k))))) (D.ict y) := by
  intro x hy
  rw [off4_eq] at hy
  obtain ⟨x0, x1, x2, rfl⟩ : ∃ (x0 : Fin 1) (x1 : Fin 256) (x2 : Fin 384), x = ix3 x0 x1 x2 :=
    ⟨x 0, x 1, x 2, by funext a; fin_cases a <;> rfl⟩
  obtain rfl : x0 = 0 := Subsingleton.elim _ _
  have e1 : (y 1).val = 0 + x1.val := hy 1
  have e2 : (y 2).val = k.val * 384 + x2.val := hy 2
  refine (codesT_apply _ x1 x2).trans ?_
  rw [img_chunk H k x2 (y 2) e2, show x1 = y 1 from Fin.ext (by omega)]
  rfl

include H in
theorem tile_s (y : S88x2688.Idx) :
    View.TileAt (Val := Elt Ideal) (e := .f32) y (k0_off9 k) S88x384.size (shapeCast S88x384 (keyScores tqb (keys (View.ld (Val := Elt Ideal) (e' := .bf16) WK (Rect.unit (s := S128x256) ![0, 0] S128x256.size inb_S128x256_S128x256_0_0)) (withPe (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) (View.ld (Val := Elt Ideal) (e' := .f32) PE (Rect.unit (s := S256x2688) (k0_off5 k) S256x384.size (k0_off5_inb k)))) KV)) shapeCasts_S88x384_S88x384) (D.sc y) := by
  intro x hy
  rw [off9_eq] at hy
  obtain ⟨x0, x1, rfl⟩ : ∃ (x0 : Fin 88) (x1 : Fin 384), x = ix2 x0 x1 :=
    ⟨x 0, x 1, by funext a; fin_cases a <;> rfl⟩
  have e0 : (y 0).val = 0 + x0.val := hy 0
  have e1 : (y 1).val = k.val * 384 + x1.val := hy 1
  rw [shapeCast_self, show x0 = rowOf ⟨(y 0).val / 8, by have h : (y 0).val < 88 := (y 0).isLt; omega⟩ ⟨(y 0).val % 8, by omega⟩ from
    Fin.ext (by show x0.val = (y 0).val / 8 * 8 + (y 0).val % 8; omega)]
  exact score_chunk H k x1 (y 1) e1 _ _

include H in
theorem tile_v (y : S128x2688.Idx) :
    View.TileAt (Val := Elt Ideal) (e := .bf16) y (k0_off8 k) S128x384.size (valuesV (values (View.ld (Val := Elt Ideal) (e' := .bf16) WV (Rect.unit (s := S128x256) ![0, 0] S128x256.size inb_S128x256_S128x256_0_0)) (newImg ikb ivb kb (View.ld (Val := Elt Ideal) (e' := .bf16) WO (Rect.unit (s := S256x128) ![0, 0] S256x128.size inb_S256x128_S256x128_0_0)) C (View.ld (Val := Elt Ideal) (e' := .bf16) Q (Rect.unit (s := S1x128x2688) (k0_off3 k) S1x128x384.size (k0_off3_inb k))) (View.ld (Val := Elt Ideal) (e' := .f32) IM (Rect.unit (s := S1x256x2688) (k0_off4 k) S1x256x384.size (k0_off4_inb k)))) KV)) (D.vals y) := by
  intro x hy
  rw [off8_eq] at hy
  obtain ⟨x0, x1, rfl⟩ : ∃ (x0 : Fin 128) (x1 : Fin 384), x = ix2 x0 x1 :=
    ⟨x 0, x 1, by funext a; fin_cases a <;> rfl⟩
  have e0 : (y 0).val = 0 + x0.val := hy 0
  have e1 : (y 1).val = k.val * 384 + x1.val := hy 1
  refine (valuesV_apply _ x0 x1).trans ?_
  rw [value_chunk H k x1 (y 1) e1 x0, show x0 = y 0 from Fin.ext (by omega)]
  rfl

end Tiles

section Loop
variable (𝒱 : Variants) (c : Dev nD) (bd : Option 𝒱.V) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (v40 : FVec Ideal S88x128 .bf16) (v79 : FVec Ideal S128x88 .bf16) (v117 : FVec Ideal S88x128 .bf16) (v127 : FVec Ideal S88x128 .f32) (cst_32 : Ideal .f32) (X_arg5 : BufTy.Contents (Elt Ideal) arg5.view.ty) (X_arg6 : BufTy.Contents (Elt Ideal) arg6.view.ty) (X_arg7 : BufTy.Contents (Elt Ideal) arg7.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (X_arg23 : BufTy.Contents (Elt Ideal) arg23.view.ty) (init : FVec Ideal S88x128 .f32)
  (D : Data) (WO : Vec Ideal S256x128 .bf16) (WK WV : Vec Ideal S128x256 .bf16)
  (C : Vec Ideal S4x256x128 .f32) (KV : Vec Ideal S4x128x128 .f32) (Q : Vec Ideal S1x128x2688 .bf16)
  (IM : Vec Ideal S1x256x2688 .f32) (PE : Vec Ideal S256x2688 .f32)
  (eQ : View.read (Elt Ideal) arg5.view X_arg5 = Q) (eI : View.read (Elt Ideal) arg6.view X_arg6 = IM)
  (eP : View.read (Elt Ideal) arg7.view X_arg7 = PE) (eWO : View.read (Elt Ideal) arg19.view X_arg19 = WO)
  (eWK : View.read (Elt Ideal) arg20.view X_arg20 = WK) (eWV : View.read (Elt Ideal) arg21.view X_arg21 = WV)
  (eC : View.read (Elt Ideal) arg22.view X_arg22 = C) (eKV : View.read (Elt Ideal) arg23.view X_arg23 = KV)
  (H : Holds D v40 v79 v127 v117 WO WK WV C KV Q IM PE)

set_option maxHeartbeats 4000000

include eQ eI eP eWO eC H in
/-- After `n` trips, every stored piece of codes of the image with the position encoding agrees with the block. -/
theorem loop_kc (y : S1x2688x256.Idx) : ∀ n : ℕ, n ≤ k0_t1_loop.trips → View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).2.1 y (D.kc y)
  | 0, _ => View.allAt_nil _ _
  | n + 1, hn => by
    have ih := loop_kc y n (Nat.le_of_succ_le hn)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init ⟨n, hn⟩]
    refine allAt_append ?_ ih
    have e := trip_kc 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1
    rw [eQ, eI, eP, eWO, eC] at e
    refine Eq.mpr (congrArg (fun L => View.AllAt L y (D.kc y)) e) ?_
    exact View.allAt_cons_unit _ _ _ _ _ (tile_kc H ⟨n, hn⟩ y) (View.allAt_nil _ _)

include eQ eI eP eWO eC H in
/-- After `n` trips, every stored piece of scales of the image with the position encoding agrees with the block. -/
theorem loop_kcs (y : S1x1x2688.Idx) : ∀ n : ℕ, n ≤ k0_t1_loop.trips → View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).2.2.1 y (D.kcs y)
  | 0, _ => View.allAt_nil _ _
  | n + 1, hn => by
    have ih := loop_kcs y n (Nat.le_of_succ_le hn)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init ⟨n, hn⟩]
    refine allAt_append ?_ ih
    have e := trip_kcs 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1
    rw [eQ, eI, eP, eWO, eC] at e
    refine Eq.mpr (congrArg (fun L => View.AllAt L y (D.kcs y)) e) ?_
    exact View.allAt_cons_unit _ _ _ _ _ (tile_kcs H ⟨n, hn⟩ y) (View.allAt_nil _ _)

include eQ eI eWO eC H in
/-- After `n` trips, every stored piece of codes of the image agrees with the block. -/
theorem loop_ic (y : S1x2688x256.Idx) : ∀ n : ℕ, n ≤ k0_t1_loop.trips → View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).2.2.2.1 y (D.ic y)
  | 0, _ => View.allAt_nil _ _
  | n + 1, hn => by
    have ih := loop_ic y n (Nat.le_of_succ_le hn)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init ⟨n, hn⟩]
    refine allAt_append ?_ ih
    have e := trip_ic 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1
    rw [eQ, eI, eWO, eC] at e
    refine Eq.mpr (congrArg (fun L => View.AllAt L y (D.ic y)) e) ?_
    exact View.allAt_cons_unit _ _ _ _ _ (tile_ic H ⟨n, hn⟩ y) (View.allAt_nil _ _)

include eQ eI eWO eC H in
/-- After `n` trips, every stored piece of scales of the image agrees with the block. -/
theorem loop_ics (y : S1x1x2688.Idx) : ∀ n : ℕ, n ≤ k0_t1_loop.trips → View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).2.2.2.2.1 y (D.ics y)
  | 0, _ => View.allAt_nil _ _
  | n + 1, hn => by
    have ih := loop_ics y n (Nat.le_of_succ_le hn)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init ⟨n, hn⟩]
    refine allAt_append ?_ ih
    have e := trip_ics 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1
    rw [eQ, eI, eWO, eC] at e
    refine Eq.mpr (congrArg (fun L => View.AllAt L y (D.ics y)) e) ?_
    exact View.allAt_cons_unit _ _ _ _ _ (tile_ics H ⟨n, hn⟩ y) (View.allAt_nil _ _)

include eQ eI eWO eC H in
/-- After `n` trips, every stored piece of channel-major codes agrees with the block. -/
theorem loop_ict (y : S1x256x2688.Idx) : ∀ n : ℕ, n ≤ k0_t1_loop.trips → View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).2.2.2.2.2.1 y (D.ict y)
  | 0, _ => View.allAt_nil _ _
  | n + 1, hn => by
    have ih := loop_ict y n (Nat.le_of_succ_le hn)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init ⟨n, hn⟩]
    refine allAt_append ?_ ih
    have e := trip_ict 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1
    rw [eQ, eI, eWO, eC] at e
    refine Eq.mpr (congrArg (fun L => View.AllAt L y (D.ict y)) e) ?_
    exact View.allAt_cons_unit _ _ _ _ _ (tile_ict H ⟨n, hn⟩ y) (View.allAt_nil _ _)

include eQ eI eP eWO eWK eC eKV H in
/-- After `n` trips, every stored piece of scores agrees with the block. -/
theorem loop_s (y : S88x2688.Idx) : ∀ n : ℕ, n ≤ k0_t1_loop.trips → View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).2.2.2.2.2.2.1 y (D.sc y)
  | 0, _ => View.allAt_nil _ _
  | n + 1, hn => by
    have ih := loop_s y n (Nat.le_of_succ_le hn)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init ⟨n, hn⟩]
    refine allAt_append ?_ ih
    have e := trip_s 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1
    rw [eQ, eI, eP, eWO, eWK, eC, eKV] at e
    refine Eq.mpr (congrArg (fun L => View.AllAt L y (D.sc y)) e) ?_
    exact View.allAt_cons_unit _ _ _ _ _ (tile_s H ⟨n, hn⟩ y) (View.allAt_nil _ _)

include eQ eI eWO eWV eC eKV H in
/-- After `n` trips, every stored piece of values agrees with the block. -/
theorem loop_v (y : S128x2688.Idx) : ∀ n : ℕ, n ≤ k0_t1_loop.trips → View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).2.2.2.2.2.2.2 y (D.vals y)
  | 0, _ => View.allAt_nil _ _
  | n + 1, hn => by
    have ih := loop_v y n (Nat.le_of_succ_le hn)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init ⟨n, hn⟩]
    refine allAt_append ?_ ih
    have e := trip_v 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1
    rw [eQ, eI, eWO, eWV, eC, eKV] at e
    refine Eq.mpr (congrArg (fun L => View.AllAt L y (D.vals y)) e) ?_
    exact View.allAt_cons_unit _ _ _ _ _ (tile_v H ⟨n, hn⟩ y) (View.allAt_nil _ _)

/-- The running maxima after one more chunk. -/
theorem maxStep_le (m : FVec Ideal S88x128 .f32) (a : FVec Ideal S88x384 .f32) (r : Fin 88) (l : Fin 128) (z : EReal) :
    maxStep m a (ix2 r l) ≤ z ↔ m (ix2 r l) ≤ z ∧ ∀ g : Fin 3, a (ix2 r ⟨g.val * 128 + l.val, by omega⟩) ≤ z := by
  have e : maxStep m a (ix2 r l) = max (max (max (m (ix2 r l)) (a (ix2 r ⟨0 * 128 + l.val, by omega⟩)))
      (a (ix2 r ⟨1 * 128 + l.val, by omega⟩))) (a (ix2 r ⟨2 * 128 + l.val, by omega⟩)) := by
    unfold maxStep
    pointwise
  rw [e, max_le_iff, max_le_iff, max_le_iff]
  constructor
  · rintro ⟨⟨⟨h, h0⟩, h1⟩, h2⟩
    refine ⟨h, fun g => ?_⟩
    fin_cases g <;> assumption
  · rintro ⟨h, hg⟩
    exact ⟨⟨⟨h, hg 0⟩, hg 1⟩, hg 2⟩

include eQ eI eP eWO eWK eC eKV H in
/-- After `n` trips, the running maxima lie below `z` exactly when the initial ones and the scores so far do. -/
theorem loop_max (t : Fin 11) (h : Fin 8) (l : Fin 128) (z : EReal) : ∀ n : ℕ, n ≤ k0_t1_loop.trips →
    ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1 (ix2 (rowOf t h) l) ≤ z ↔ init (ix2 (rowOf t h) l) ≤ z ∧
      ∀ s : Fin 2688, s.val < n * 384 → s.val % 128 = l.val → D.score t h s ≤ z)
  | 0, _ => by
    refine ⟨fun e => ⟨e, fun s hs => absurd hs (by omega)⟩, fun e => e.1⟩
  | n + 1, hn => by
    have ih := loop_max t h l z n (Nat.le_of_succ_le hn)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init ⟨n, hn⟩]
    have e := trip_max 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 X_arg5 X_arg6 X_arg7 X_arg19 X_arg20 X_arg21 X_arg22 X_arg23 init n).1
    rw [eQ, eI, eP, eWO, eWK, eC, eKV] at e
    refine Iff.trans (iff_of_eq (congrArg (fun m : FVec Ideal S88x128 .f32 => m (ix2 (rowOf t h) l) ≤ z) e)) ?_
    refine (maxStep_le _ _ _ _ _).trans ?_
    rw [ih, and_assoc]
    have hn7 : n < 7 := lt_of_lt_of_eq hn trips7
    refine and_congr_right fun _ => ⟨fun hh s hs hl => ?_, fun hh => ⟨fun s hs hl => hh s (by omega) hl, fun g => ?_⟩⟩
    · by_cases hlt : s.val < n * 384
      · exact hh.1 s hlt hl
      · have h2 := hh.2 ⟨(s.val - n * 384) / 128, by omega⟩
        rw [score_chunk H ⟨n, hn⟩ _ s (by show s.val = n * 384 + ((s.val - n * 384) / 128 * 128 + l.val); omega) t h] at h2
        exact h2
    · rw [score_chunk H ⟨n, hn⟩ _ ⟨n * 384 + (g.val * 128 + l.val), by omega⟩ rfl t h]
      exact hh _ (by show n * 384 + (g.val * 128 + l.val) < (n + 1) * 384; omega)
        (by show (n * 384 + (g.val * 128 + l.val)) % 128 = l.val; omega)

end Loop

end Cert.At

end
-- ==== Proof.AttnSum.lean ====
/-
  The attention kernel's second loop: the tokens' softmax over the pixels, and the sum over a head's rows.
-/
module

public import proofs.«01_k».proof.Proof.AttnLoop

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

namespace Data
variable (D : Data)

/-- The shift of token `t`'s scores in head `h`. -/
def top (t : Fin 11) (h : Fin 8) : EReal :=
  ceilS (Finset.univ.fold max (Ideal.ofBits .f32 0xFF800000#32) (fun s => D.score t h s) * Ideal.ofBits .f32 0x3EB8AA3B#32)

/-- The weight of pixel `s` before division. -/
def prob (t : Fin 11) (h : Fin 8) (s : Fin 2688) : EReal :=
  Ideal.exp2 (D.score t h s * Ideal.ofBits .f32 0x3EB8AA3B#32 - D.top t h)

/-- Token `t`'s attention output at channel `d`. -/
def out (t : Fin 11) (d : Fin 128) : EReal :=
  Ideal.div (∑ s, D.prob t (headOf d) s * D.value s d) (∑ s, D.prob t (headOf d) s)

/-- The block of the tokens' attention outputs. -/
def fa : Vec Ideal S1x11x128 .f32 := fun i => D.out (i 1) (i 2)

end Data

theorem trips7' : k0_t2_loop.trips = 7 := by decide
theorem off10_eq : ∀ k : Fin k0_t2_loop.trips, k0_off10 k = ![0, k.val * 384] := by decide
theorem off11_eq : ∀ k : Fin k0_t2_loop.trips, k0_off11 k = ![0, k.val * 384] := by decide

section Pay
variable (m : Vec Ideal S88x128 .f32) (s : Vec Ideal S88x384 .f32) (v : Vec Ideal S128x384 .bf16)

theorem pay174_apply (r : Fin 88) (l : Fin 384) : k0_pay174 (F := Ideal) m s (ix2 r l) =
    Ideal.exp2 (s (ix2 r l) * Ideal.ofBits .f32 0x3EB8AA3B#32 -
      ceilS (Finset.univ.fold max (Ideal.ofBits .f32 0xFF800000#32) (fun l : Fin 128 => m (ix2 r l)) * Ideal.ofBits .f32 0x3EB8AA3B#32)) := by
  pointwise [k0_pay174]
  rfl

theorem pay175_apply (a : FVec Ideal S88x128 .f32) (r : Fin 88) (l : Fin 128) : k0_pay175 (F := Ideal) m a s (ix2 r l) =
    a (ix2 r l) + ∑ g : Fin 3, k0_pay174 (F := Ideal) m s (ix2 r ⟨g.val * 128 + l.val, by omega⟩) := by
  unfold k0_pay175
  generalize k0_pay174 (F := Ideal) m s = p
  rw [Fin.sum_univ_three, ← add_assoc, ← add_assoc]
  have e : ∀ (g : Fin 3) (o : ℕ) (h) (e : o = g.val * 128), extractStridedSlice (s := S88x384) S88x128 ![0, o] p h (ix2 r l) =
      p (ix2 r ⟨g.val * 128 + l.val, by omega⟩) := by
    intro g o h e
    subst e
    pointwise
  exact congrArg₂ (· + · : EReal → EReal → EReal) (congrArg₂ (· + · : EReal → EReal → EReal)
    (congrArg (fun z : EReal => a (ix2 r l) + z) (e 0 0 _ rfl)) (e 1 128 _ rfl)) (e 2 256 _ rfl)

theorem pay176_apply (a : FVec Ideal S88x128 .f32) (r : Fin 88) (d : Fin 128) : k0_pay176 (F := Ideal) m a s v (ix2 r d) =
    a (ix2 r d) + ∑ l : Fin 384, k0_pay174 (F := Ideal) m s (ix2 r l) * v (ix2 d l) := by
  unfold k0_pay176
  generalize k0_pay174 (F := Ideal) m s = p
  pointwise

/-- The division by the rows' sums. -/
theorem pay177_apply (o a : FVec Ideal S88x128 .f32) (r : Fin 88) (d : Fin 128) : k0_pay177 (F := Ideal) o a (ix2 r d) =
    Ideal.div (o (ix2 r d)) (∑ l : Fin 128, a (ix2 r l)) := by
  pointwise [k0_pay177]

/-- The head mask's words, with the signed division by 16 as the kernel writes it. -/
def maskWords : IVec S8x128 32 :=
  let x : IVec S8x128 32 := iota .tc S8x128 32 [1] iota_S8x128_d1_w32
  let q : IVec S8x128 32 := divsi x (broadcast S8x128 16#32)
  extui 32 (cmpi .eq (select (andi (cmpi .ne (subi (extui 32 (cmpi .sgt x (broadcast S8x128 0#32)) natLt_1_32)
      (extui 32 (cmpi .slt x (broadcast S8x128 0#32)) natLt_1_32))
        (broadcast S8x128 (Scalar.subi (Scalar.extui (Scalar.cmpi .sgt 16#32 0#32)) (Scalar.extui (Scalar.cmpi .slt 16#32 0#32)))))
      (cmpi .ne (remsi x (broadcast S8x128 16#32)) (broadcast S8x128 0#32))) (subi q (broadcast S8x128 1#32)) q)
    (iota .tc S8x128 32 [0] iota_S8x128_d0_w32)) natLt_1_32

theorem maskWords_apply : ∀ (h : Fin 8) (d : Fin 128), maskWords (ix2 h d) = if headOf d = h then 1#32 else 0#32 := by
  decide +kernel

/-- The head mask. -/
def headMask : FVec Ideal S8x128 .f32 := sitofp (F := Ideal) .f32 maskWords

/-- The head mask: one at a head's channels, zero elsewhere. -/
theorem mask_apply (h : Fin 8) (d : Fin 128) : headMask (ix2 h d) = if headOf d = h then 1 else 0 := by
  have e : headMask (ix2 h d) = (((maskWords (ix2 h d)).toInt : ℝ) : EReal) := rfl
  rw [e, maskWords_apply]
  split <;> simp

/-- The rows of the heads put together: each of a token's eight rows under its head's channels, added up. -/
def rowsOut (x : FVec Ideal S88x128 .f32) : FVec Ideal S1x11x128 .f32 :=
  shapeCast S1x11x128 (multiReduction .add [1] S11x128 (mulf (shapeCast S11x8x128 x shapeCasts_S88x128_S11x8x128)
    (broadcastTo S11x8x128 (shapeCast S1x8x128 headMask shapeCasts_S8x128_S1x8x128) broadcasts_S1x8x128_S11x8x128))
    0x00000000#32 reduces_S11x8x128_S11x128 (.inl rfl) rfl) shapeCasts_S11x128_S1x11x128

/-- The stored rows are put together so. -/
theorem pay1_eq (x : FVec Ideal S88x128 .f32) :
    k0_pay1 (F := Ideal) x (iota .tc S8x128 32 [1] iota_S8x128_d1_w32) (iota .tc S8x128 32 [0] iota_S8x128_d0_w32) 16#32
      k0_pay178 k0_pay179 k0_pay180 = rowsOut x := rfl

theorem rowsOut_apply (x : FVec Ideal S88x128 .f32) (t : Fin 11) (d : Fin 128) :
    rowsOut x (ix3 0 t d) = x (ix2 (rowOf t (headOf d)) d) := by
  have hm : ∀ h : Fin 8, headMask (ix2 h d) = if headOf d = h then 1 else 0 := fun h => mask_apply h d
  unfold rowsOut
  generalize headMask = w at hm ⊢
  have e : shapeCast S1x11x128 (multiReduction .add [1] S11x128 (mulf (shapeCast S11x8x128 x shapeCasts_S88x128_S11x8x128)
      (broadcastTo S11x8x128 (shapeCast S1x8x128 w shapeCasts_S8x128_S1x8x128) broadcasts_S1x8x128_S11x8x128))
      0x00000000#32 reduces_S11x8x128_S11x128 (.inl rfl) rfl) shapeCasts_S11x128_S1x11x128 (ix3 0 t d) =
      ∑ h : Fin 8, x (ix2 (rowOf t h) d) * w (ix2 h d) := by
    clear hm
    pointwise [rowOf]
  rw [e, Finset.sum_eq_single (headOf d)]
  · rw [hm, if_pos rfl, mul_one]
  · intro h _ hne
    rw [hm, if_neg (Ne.symm hne), mul_zero]
  · intro h
    exact absurd (Finset.mem_univ _) h

/-- The stored rows from the two sums that the loop carries. -/
theorem perHead_apply (o a : FVec Ideal S88x128 .f32) (t : Fin 11) (d : Fin 128) :
    rowsOut (k0_pay177 (F := Ideal) o a) (ix3 0 t d) =
      Ideal.div (o (ix2 (rowOf t (headOf d)) d)) (∑ l : Fin 128, a (ix2 (rowOf t (headOf d)) l)) := by
  rw [rowsOut_apply, pay177_apply]

end Pay

section Sum
variable (𝒱 : Variants) (c : Dev nD) (bd : Option 𝒱.V) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (v40 : FVec Ideal S88x128 .bf16) (v79 : FVec Ideal S128x88 .bf16) (v117 : FVec Ideal S88x128 .bf16) (v127 : FVec Ideal S88x128 .f32) (cst_32 : Ideal .f32) (v142 : Vec Ideal S88x128 .f32) (X_arg24 : BufTy.Contents (Elt Ideal) arg24.view.ty) (X_arg26 : BufTy.Contents (Elt Ideal) arg26.view.ty) (init : FVec Ideal S88x128 .f32 × FVec Ideal S88x128 .f32)

theorem trip_sums (k : Fin k0_t2_loop.trips) (acc : FVec Ideal S88x128 .f32 × FVec Ideal S88x128 .f32) :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 k).1 acc =
      (k0_pay176 v142 acc.1 (View.ld (Val := Elt Ideal) (View.read (Elt Ideal) arg24.view X_arg24) (Rect.unit (s := S88x2688) (k0_off10 k) S88x384.size (k0_off10_inb k))) (View.ld (Val := Elt Ideal) (View.read (Elt Ideal) arg26.view X_arg26) (Rect.unit (s := S128x2688) (k0_off11 k) S128x384.size (k0_off11_inb k))), k0_pay175 v142 acc.2 (View.ld (Val := Elt Ideal) (View.read (Elt Ideal) arg24.view X_arg24) (Rect.unit (s := S88x2688) (k0_off10 k) S88x384.size (k0_off10_inb k)))) := by
  unfold trip_k0_t2
  rfl

variable (D : Data) (eS : View.read (Elt Ideal) arg24.view X_arg24 = D.sc) (eV : View.read (Elt Ideal) arg26.view X_arg26 = D.vals)
  (hm : ∀ t h, Finset.univ.fold max (Ideal.ofBits .f32 0xFF800000#32) (fun l : Fin 128 => v142 (ix2 (rowOf t h) l)) = Finset.univ.fold max (Ideal.ofBits .f32 0xFF800000#32) (fun s => D.score t h s))

theorem sc_row (t : Fin 11) (h : Fin 8) (s : Fin 2688) : D.sc (ix2 (rowOf t h) s) = D.score t h s := by
  have e1 : (⟨(rowOf t h).val / 8, by have h' := (rowOf t h).isLt; omega⟩ : Fin 11) = t :=
    Fin.ext (by show (t.val * 8 + h.val) / 8 = t.val; omega)
  have e2 : (⟨(rowOf t h).val % 8, by omega⟩ : Fin 8) = h := Fin.ext (by show (t.val * 8 + h.val) % 8 = h.val; omega)
  show D.score ⟨(rowOf t h).val / 8, _⟩ ⟨(rowOf t h).val % 8, _⟩ s = _
  rw [e1, e2]

include hm in
/-- A chunk's weights. -/
theorem prob_chunk (k : Fin k0_t2_loop.trips) (t : Fin 11) (h : Fin 8) (l : Fin 384) (s : Fin 2688) (hs : s.val = k.val * 384 + l.val) :
    k0_pay174 (F := Ideal) v142 (View.ld (Val := Elt Ideal) (e' := .f32) (D.sc) (Rect.unit (s := S88x2688) (k0_off10 k) S88x384.size (k0_off10_inb k))) (ix2 (rowOf t h) l) = D.prob t h s := by
  rw [pay174_apply, hm]
  have e : (View.ld (Val := Elt Ideal) (e' := .f32) (D.sc) (Rect.unit (s := S88x2688) (k0_off10 k) S88x384.size (k0_off10_inb k))) (ix2 (rowOf t h) l) = D.sc (ix2 (rowOf t h) s) := by
    refine View.ld_unit_apply_of _ _ _ _ _ (ix2 (rowOf t h) s) fun a => ?_
    refine Eq.trans ?_ (congrArg (fun o : Fin 2 → ℕ => o a + _) (off10_eq k).symm)
    fin_cases a
    · show (rowOf t h).val = 0 + (rowOf t h).val; omega
    · show s.val = k.val * 384 + l.val; omega
  rw [e, sc_row]
  rfl

theorem value_at (k : Fin k0_t2_loop.trips) (d : Fin 128) (l : Fin 384) (s : Fin 2688) (hs : s.val = k.val * 384 + l.val) :
    (View.ld (Val := Elt Ideal) (e' := .bf16) (D.vals) (Rect.unit (s := S128x2688) (k0_off11 k) S128x384.size (k0_off11_inb k))) (ix2 d l) = D.value s d := by
  refine View.ld_unit_apply_of _ _ _ _ _ (ix2 d s) fun a => ?_
  refine Eq.trans ?_ (congrArg (fun o : Fin 2 → ℕ => o a + _) (off11_eq k).symm)
  fin_cases a
  · show d.val = 0 + d.val; omega
  · show s.val = k.val * 384 + l.val; omega

/-- Pixel `l` of chunk `k`. -/
def pix (k l : ℕ) (hk : k < 7) (hl : l < 384) : Fin 2688 := ⟨k * 384 + l, by omega⟩

/-- Chunk `k`'s part of the weighted sum of the values. -/
def outPart (t : Fin 11) (d : Fin 128) (k : ℕ) : EReal :=
  if hk : k < 7 then ∑ l : Fin 384, D.prob t (headOf d) (pix k l hk l.isLt) * D.value (pix k l hk l.isLt) d else 0

/-- Chunk `k`'s part of the sum of the weights, in one lane. -/
def denPart (t : Fin 11) (h : Fin 8) (l : Fin 128) (k : ℕ) : EReal :=
  if hk : k < 7 then ∑ g : Fin 3, D.prob t h (pix k (g.val * 128 + l.val) hk (by omega)) else 0

set_option maxHeartbeats 1000000

include eS eV hm in
theorem loop_out (t : Fin 11) (d : Fin 128) : ∀ n : ℕ, n ≤ k0_t2_loop.trips →
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 init n).1 (ix2 (rowOf t (headOf d)) d) = init.1 (ix2 (rowOf t (headOf d)) d) + ∑ k ∈ Finset.range n, outPart D t d k
  | 0, _ => by
    refine Eq.trans ?_ (add_zero _).symm
    rfl
  | n + 1, hn => by
    have ih := loop_out t d n (Nat.le_of_succ_le hn)
    have hn7 : n < 7 := lt_of_lt_of_eq hn trips7'
    rw [st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 init ⟨n, hn⟩, Finset.sum_range_succ, ← add_assoc, ← ih]
    have e := trip_sums 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 ⟨n, hn⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 init n)
    rw [eS, eV] at e
    refine (congrArg (fun p : FVec Ideal S88x128 .f32 × FVec Ideal S88x128 .f32 => p.1 (ix2 (rowOf t (headOf d)) d)) e).trans ?_
    refine (pay176_apply _ _ _ _ _ _).trans (congrArg (fun z : EReal => _ + z) ?_)
    unfold outPart
    rw [dif_pos hn7]
    refine Finset.sum_congr rfl fun l _ => ?_
    exact congrArg₂ (· * · : EReal → EReal → EReal) (prob_chunk v142 D hm ⟨n, hn⟩ t _ l (pix n l hn7 l.isLt) rfl)
      (value_at D ⟨n, hn⟩ d l (pix n l hn7 l.isLt) rfl)

include eS eV hm in
theorem loop_den (t : Fin 11) (h : Fin 8) (l : Fin 128) : ∀ n : ℕ, n ≤ k0_t2_loop.trips →
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 init n).2 (ix2 (rowOf t h) l) = init.2 (ix2 (rowOf t h) l) + ∑ k ∈ Finset.range n, denPart D t h l k
  | 0, _ => by
    refine Eq.trans ?_ (add_zero _).symm
    rfl
  | n + 1, hn => by
    have ih := loop_den t h l n (Nat.le_of_succ_le hn)
    have hn7 : n < 7 := lt_of_lt_of_eq hn trips7'
    rw [st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 init ⟨n, hn⟩, Finset.sum_range_succ, ← add_assoc, ← ih]
    have e := trip_sums 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 ⟨n, hn⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 init n)
    rw [eS, eV] at e
    refine (congrArg (fun p : FVec Ideal S88x128 .f32 × FVec Ideal S88x128 .f32 => p.2 (ix2 (rowOf t h) l)) e).trans ?_
    refine (pay175_apply _ _ _ _ _).trans (congrArg (fun z : EReal => _ + z) ?_)
    unfold denPart
    rw [dif_pos hn7]
    refine Finset.sum_congr rfl fun g _ => ?_
    exact prob_chunk v142 D hm ⟨n, hn⟩ t _ ⟨g.val * 128 + l.val, by omega⟩ (pix n (g.val * 128 + l.val) hn7 (by omega)) rfl

end Sum

/-- The chunks' parts add up to the sum over all pixels. -/
theorem outPart_sum (D : Data) (t : Fin 11) (d : Fin 128) :
    ∑ k ∈ Finset.range 7, outPart D t d k = ∑ s, D.prob t (headOf d) s * D.value s d := by
  rw [Finset.sum_range, Fin.sum_univ_tiles 7 384 rfl]
  refine Finset.sum_congr rfl fun k _ => ?_
  unfold outPart
  rw [dif_pos k.isLt]
  rfl

theorem denPart_sum (D : Data) (t : Fin 11) (h : Fin 8) :
    ∑ l, ∑ k ∈ Finset.range 7, denPart D t h l k = ∑ s, D.prob t h s := by
  rw [Finset.sum_comm, Finset.sum_range, Fin.sum_univ_tiles 7 384 rfl]
  refine Finset.sum_congr rfl fun k _ => ?_
  rw [Fin.sum_univ_tiles 3 128 rfl, Finset.sum_comm]
  refine Finset.sum_congr rfl fun l _ => ?_
  unfold denPart
  rw [dif_pos k.isLt]
  rfl

section Row
variable (𝒱 : Variants) (c : Dev nD) (bd : Option 𝒱.V) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (v40 : FVec Ideal S88x128 .bf16) (v79 : FVec Ideal S128x88 .bf16) (v117 : FVec Ideal S88x128 .bf16) (v127 : FVec Ideal S88x128 .f32) (cst_32 : Ideal .f32) (v142 : Vec Ideal S88x128 .f32) (X_arg24 : BufTy.Contents (Elt Ideal) arg24.view.ty) (X_arg26 : BufTy.Contents (Elt Ideal) arg26.view.ty)
  (D : Data) (eS : View.read (Elt Ideal) arg24.view X_arg24 = D.sc) (eV : View.read (Elt Ideal) arg26.view X_arg26 = D.vals)
  (hm : ∀ t h, Finset.univ.fold max (Ideal.ofBits .f32 0xFF800000#32) (fun l : Fin 128 => v142 (ix2 (rowOf t h) l)) = Finset.univ.fold max (Ideal.ofBits .f32 0xFF800000#32) (fun s => D.score t h s))

include eS eV hm in
/-- The stored rows hold the tokens' outputs. -/
theorem row_apply (t : Fin 11) (d : Fin 128) :
    rowsOut (k0_pay177 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 (k0_pay172, k0_pay173) k0_t2_loop.trips).1
      (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 (k0_pay172, k0_pay173) k0_t2_loop.trips).2) (ix3 0 t d) = D.out t d := by
  rw [perHead_apply]
  rw [loop_out 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 (k0_pay172, k0_pay173) D eS eV hm t d _ le_rfl]
  have e2 : ∀ l : Fin 128, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 (k0_pay172, k0_pay173) k0_t2_loop.trips).2 (ix2 (rowOf t (headOf d)) l) =
      ∑ k ∈ Finset.range 7, denPart D t (headOf d) l k := by
    intro l
    refine (loop_den 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v40 v79 v117 v127 cst_32 v142 X_arg24 X_arg26 (k0_pay172, k0_pay173) D eS eV hm t (headOf d) l _ le_rfl).trans ?_
    rw [trips7']
    refine Eq.trans (congrArg (fun z : EReal => z + _) ?_) (zero_add _)
    exact Idealize.ShloMosaic.Ideal.ofBits_zero_f32
  rw [Finset.sum_congr rfl fun l _ => e2 l, denPart_sum, trips7', outPart_sum]
  refine congrArg (fun z : EReal => Ideal.div z _) ?_
  refine Eq.trans (congrArg (fun z : EReal => z + _) ?_) (zero_add _)
  exact Idealize.ShloMosaic.Ideal.ofBits_zero_f32

end Row

end Cert.At

end
-- ==== Proof.AttnHeads.lean ====
/-
  The tokens' vectors spread over the heads: row `t * 8 + h` holds token `t`'s channels of head `h`, and zero elsewhere. And
  the tokens' biases.
-/
module

public import proofs.«01_k».proof.Proof.AttnSum

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

/-- The tokens' vectors over the heads. -/
def blocks (x : Vec Ideal S11x1x128 .f32) : FVec Ideal S88x128 .f32 :=
  shapeCast S88x128 (mulf (broadcastTo S11x8x128 (shapeCast S11x1x128 x shapeCasts_S11x1x128_S11x1x128) broadcasts_S11x1x128_S11x8x128)
    (broadcastTo S11x8x128 (shapeCast S1x8x128 headMask shapeCasts_S8x128_S1x8x128) broadcasts_S1x8x128_S11x8x128)) shapeCasts_S11x8x128_S88x128

theorem blocks_apply (x : Vec Ideal S11x1x128 .f32) (t : Fin 11) (h : Fin 8) (d : Fin 128) :
    blocks x (ix2 (rowOf t h) d) = if headOf d = h then x (ix3 t 0 d) else 0 := by
  have hm := mask_apply h d
  unfold blocks
  generalize headMask = w at hm ⊢
  have e1 : (t.val * 8 + h.val) / 8 = t.val := by omega
  have e2 : (t.val * 8 + h.val) % 8 = h.val := by omega
  have e : shapeCast S88x128 (mulf (broadcastTo S11x8x128 (shapeCast S11x1x128 x shapeCasts_S11x1x128_S11x1x128) broadcasts_S11x1x128_S11x8x128)
    (broadcastTo S11x8x128 (shapeCast S1x8x128 w shapeCasts_S8x128_S1x8x128) broadcasts_S1x8x128_S11x8x128)) shapeCasts_S11x8x128_S88x128
      (ix2 (rowOf t h) d) = x (ix3 t 0 d) * w (ix2 h d) := by
    clear hm
    pointwise [rowOf]
  rw [e, hm]
  split
  · exact mul_one _
  · exact mul_zero _

/-- The blocks of keys or queries. -/
def keyBlocks (x : Vec Ideal S11x1x128 .f32) : FVec Ideal S88x128 .bf16 := truncf .bf16 (blocks x) bitsLt_bf16_f32

/-- The blocks of values, transposed. -/
def valueBlocks (x : Vec Ideal S11x1x128 .f32) : FVec Ideal S128x88 .bf16 :=
  truncf .bf16 (transpose S128x88 [1, 0] (blocks x) transposes_S88x128_p1_0_S128x88) bitsLt_bf16_f32

theorem keyBlocks_apply (x : Vec Ideal S11x1x128 .f32) (t : Fin 11) (h : Fin 8) (d : Fin 128) :
    keyBlocks x (ix2 (rowOf t h) d) = if headOf d = h then x (ix3 t 0 d) else 0 := blocks_apply x t h d

theorem valueBlocks_apply (x : Vec Ideal S11x1x128 .f32) (d : Fin 128) (t : Fin 11) (h : Fin 8) :
    valueBlocks x (ix2 d (rowOf t h)) = if h = headOf d then x (ix3 t 0 d) else 0 := by
  have e : valueBlocks x (ix2 d (rowOf t h)) = blocks x (ix2 (rowOf t h) d) := by
    unfold valueBlocks
    generalize blocks x = z
    pointwise
  rw [e, blocks_apply]
  exact if_congr eq_comm rfl rfl

/-- The bias of token `t`, from the number `w` of valid tokens after the first five. -/
def bias (w : BitVec 32) (t : Fin 11) : EReal :=
  if (BitVec.ofNat 32 (t.val * 8)).slt ((5#32 + w) * 8#32) then 0 else ⊥

theorem row_lt (w : BitVec 32) (t : Fin 11) (h : Fin 8) :
    (BitVec.ofNat 32 (t.val * 8 + h.val)).slt ((5#32 + w) * 8#32) = (BitVec.ofNat 32 (t.val * 8)).slt ((5#32 + w) * 8#32) := by
  have e : ∀ n : ℕ, n < 88 → (BitVec.ofNat 32 n).toInt = n := fun n hn => by
    rw [BitVec.toInt_ofNat', Int.bmod_def]
    omega
  rw [BitVec.slt_eq_decide, BitVec.slt_eq_decide, e _ (by omega), e _ (by omega), BitVec.toInt_mul]
  generalize (5#32 + w).toInt = a
  have h8 : (8#32).toInt = 8 := by decide
  rw [h8, Int.bmod_def]
  refine decide_eq_decide.mpr ?_
  push_cast
  split <;> omega

theorem bias_apply (w : BitVec 32) (t : Fin 11) (h : Fin 8) (l : Fin 128) :
    k0_pay166 (F := Ideal) w (ix2 (rowOf t h) l) = bias w t := by
  pointwise [k0_pay166]
  have e : Scalar.muli (Scalar.addi 5#32 w) 8#32 = (5#32 + w) * 8#32 := rfl
  rw [bits_ninf, e]
  unfold bias
  rw [← row_lt w t h]
  unfold IntOp.cmpi
  dsimp only
  generalize (BitVec.ofNat 32 (t.val * 8 + h.val)).slt ((5#32 + w) * 8#32) = z
  cases z <;> rfl

theorem off1_eq (i : grid0.Coords) : k0_off1 i = ![0, (i 0).val, 0] := by
  have h : (i 0).val < 40 := (i 0).isLt
  have e : (BitVec.ofNat 32 (i 0).val).toNat = (i 0).val := by rw [BitVec.toNat_ofNat]; omega
  funext a
  fin_cases a
  · rfl
  · exact e
  · rfl

theorem off2_eq (i : grid0.Coords) : k0_off2 i = ![(i 0).val] := by
  have h : (i 0).val < 40 := (i 0).isLt
  have e : (BitVec.ofNat 32 (i 0).val).toNat = (i 0).val := by rw [BitVec.toNat_ofNat]; omega
  funext a
  fin_cases a
  exact e

/-- A prompt's tokens, read off all prompts' tokens. -/
theorem tok_ld (X : Vec Ideal S11x40x128 .f32) (i : grid0.Coords) (t : Fin 11) (d : Fin 128) :
    View.ld (Val := Elt Ideal) (e' := .f32) X (Rect.unit (s := S11x40x128) (k0_off1 i) S11x1x128.size (k0_off1_inb i)) (ix3 t 0 d) =
      X (ix3 t (i 0) d) := by
  refine View.ld_unit_apply_of _ _ _ _ _ (ix3 t (i 0) d) fun a => ?_
  refine Eq.trans ?_ (congrArg (fun o : Fin 3 → ℕ => o a + _) (off1_eq i).symm)
  fin_cases a
  · show t.val = 0 + t.val; omega
  · show (i 0).val = (i 0).val + 0; rfl
  · show d.val = 0 + d.val; omega

end Cert.At

end
-- ==== Proof.AttnKept.lean ====
/-
  What the attention kernel keeps between grid points: the weights as numbers, and the per-row columns spread along the
  lanes; and the tokens' blocks that a point starts from.
-/
module

public import proofs.«01_k».proof.Proof.AttnHeads
public import proofs.«01_k».proof.Proof.Spec
public import proofs.«01_k».proof.Proof.Gen.AttnIdeal.Frame

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

/-- The output projection's weights, as numbers. -/
def keptWO (x : Vec Ideal S1x128x256 .i8) : Vec Ideal S256x128 .bf16 := fun i => Cert.Up.num (x (ix3 0 (i 1) (i 0)))

/-- The weights of the new keys or values, as numbers. -/
def keptWI (x : Vec Ideal S1x256x128 .i8) : Vec Ideal S128x256 .bf16 := fun i => Cert.Up.num (x (ix3 0 (i 1) (i 0)))

/-- The four rows of numbers per image channel, each spread along the lanes. -/
def keptCol (x : Vec Ideal S4x256 .f32) : Vec Ideal S4x256x128 .f32 := fun i => x (ix2 (i 0) (i 1))

/-- The four rows of numbers per key or value channel, each spread along the lanes. -/
def keptKV (x : Vec Ideal S4x128 .f32) : Vec Ideal S4x128x128 .f32 := fun i => x (ix2 (i 0) (i 1))

theorem pay2_num (w : Vec Ideal S1x128x256 .i8) (r : Fin 256) (k : Fin 128) :
    k0_pay2 (F := Ideal) w (ix2 r k) = Cert.Up.num (w (ix3 0 k r)) := by
  pointwise [k0_pay2]
  rfl

theorem pay3_num (w : Vec Ideal S1x256x128 .i8) (r : Fin 128) (k : Fin 256) :
    k0_pay3 (F := Ideal) w (ix2 r k) = Cert.Up.num (w (ix3 0 k r)) := by
  pointwise [k0_pay3]
  rfl

theorem pay4_num (w : Vec Ideal S1x256x128 .i8) (r : Fin 128) (k : Fin 256) :
    k0_pay4 (F := Ideal) w (ix2 r k) = Cert.Up.num (w (ix3 0 k r)) := by
  pointwise [k0_pay4]
  rfl

theorem pay5_col (w : Vec Ideal S1x256 .f32) (r : Fin 256) (l : Fin 128) : k0_pay5 (F := Ideal) w (ix3 0 r l) = w (ix2 0 r) := by
  pointwise [k0_pay5]

theorem pay8_col (w : Vec Ideal S1x256 .f32) (r : Fin 256) (l : Fin 128) : k0_pay8 (F := Ideal) w (ix3 0 r l) = w (ix2 0 r) := by
  pointwise [k0_pay8]

theorem pay10_col (w : Vec Ideal S1x256 .f32) (r : Fin 256) (l : Fin 128) : k0_pay10 (F := Ideal) w (ix3 0 r l) = w (ix2 0 r) := by
  pointwise [k0_pay10]

theorem pay158_col (w : Vec Ideal S1x256 .f32) (r : Fin 256) (l : Fin 128) : k0_pay158 (F := Ideal) w (ix3 0 r l) = w (ix2 0 r) := by
  pointwise [k0_pay158]

theorem kv0_col (w : Vec Ideal S1x128 .f32) (r l : Fin 128) : k0_pay7 (F := Ideal) (k0_pay6 (F := Ideal) w) (ix3 0 r l) = w (ix2 0 r) := by
  pointwise [k0_pay7, k0_pay6]

theorem kv1_col (w : Vec Ideal S1x128 .f32) (r l : Fin 128) : k0_pay9 (F := Ideal) w (ix3 0 r l) = w (ix2 0 r) := by
  pointwise [k0_pay9]

theorem kv2_col (w : Vec Ideal S1x128 .f32) (r l : Fin 128) : k0_pay157 (F := Ideal) (k0_pay11 (F := Ideal) w) (ix3 0 r l) = w (ix2 0 r) := by
  pointwise [k0_pay157, k0_pay11]

theorem kv3_col (w : Vec Ideal S1x128 .f32) (r l : Fin 128) : k0_pay159 (F := Ideal) w (ix3 0 r l) = w (ix2 0 r) := by
  pointwise [k0_pay159]

/-- A row of a block of rows, read off as a one-row block. -/
theorem row_ld {n m : ℕ} (X : Vec Ideal ⟨2, ![n, m]⟩ .f32) (i : ℕ) (hi : i < n) (h) (r : Fin m) :
    View.ld (Val := Elt Ideal) (e' := .f32) X (Rect.unit (s := ⟨2, ![n, m]⟩) ![i, 0] ![1, m] h) (ix2 0 r) = X (ix2 ⟨i, hi⟩ r) := by
  refine View.ld_unit_apply_of _ _ _ _ _ (ix2 ⟨i, hi⟩ r) fun a => ?_
  fin_cases a
  · show i = i + 0; rfl
  · show r.val = 0 + r.val; omega

/-- One stored column agrees with the kept array. -/
theorem tileCol (x : Vec Ideal S4x256 .f32) (i : ℕ) (hi : i < 4) (w : Vec Ideal S1x256x128 .f32) (y : S4x256x128.Idx)
    (hw : ∀ r l, w (ix3 0 r l) = x (ix2 ⟨i, hi⟩ r)) :
    View.TileAt (Val := Elt Ideal) (e := .f32) y ![i, 0, 0] ![1, 256, 128] w (keptCol x y) := by
  intro z hy
  obtain ⟨z0, r, l, rfl⟩ : ∃ (z0 : Fin 1) (r : Fin 256) (l : Fin 128), z = ix3 z0 r l :=
    ⟨z 0, z 1, z 2, by funext a; fin_cases a <;> rfl⟩
  obtain rfl : z0 = 0 := Subsingleton.elim _ _
  have e0 : (y 0).val = i + 0 := hy 0
  have e1 : (y 1).val = 0 + r.val := hy 1
  have a0 : (⟨i, hi⟩ : Fin 4) = y 0 := Fin.ext (by rw [e0]; rfl)
  have a1 : r = y 1 := Fin.ext (by omega)
  refine (hw r l).trans ?_
  rw [a0, a1]
  rfl

/-- One stored column agrees with the kept array. -/
theorem tileKV (x : Vec Ideal S4x128 .f32) (i : ℕ) (hi : i < 4) (w : Vec Ideal S1x128x128 .f32) (y : S4x128x128.Idx)
    (hw : ∀ r l, w (ix3 0 r l) = x (ix2 ⟨i, hi⟩ r)) :
    View.TileAt (Val := Elt Ideal) (e := .f32) y ![i, 0, 0] ![1, 128, 128] w (keptKV x y) := by
  intro z hy
  obtain ⟨z0, r, l, rfl⟩ : ∃ (z0 : Fin 1) (r : Fin 128) (l : Fin 128), z = ix3 z0 r l :=
    ⟨z 0, z 1, z 2, by funext a; fin_cases a <;> rfl⟩
  obtain rfl : z0 = 0 := Subsingleton.elim _ _
  have e0 : (y 0).val = i + 0 := hy 0
  have e1 : (y 1).val = 0 + r.val := hy 1
  have a0 : (⟨i, hi⟩ : Fin 4) = y 0 := Fin.ext (by rw [e0]; rfl)
  have a1 : r = y 1 := Fin.ext (by omega)
  refine (hw r l).trans ?_
  rw [a0, a1]
  rfl

section Kept
variable {sp : Space} (c : Dev nD)

theorem kept_WO (arg8 : Memref sig .tc .vmem S1x128x256 .i8) (harg8 : arg8.IsWhole) (x7 : Vec Ideal S1x128x256 .i8)
    (v : View sig .tc sp S256x128 .bf16) (f) :
    View.read (Elt Ideal) v (v.writes (Elt Ideal) f (kernelRun0_A.sl.HS0_1 (F := Ideal) c arg8 harg8 x7)) = keptWO x7 := by
  rw [View.read_writes_eq_canon _ _ _ (View.cover_of_tiledL _ S256x128.size (by sl_kernel_rfl))]
  unfold kernelRun0_A.sl.HS0_1
  refine (View.canon_unit_zero zero2 _ _).trans ?_
  funext i
  obtain ⟨r, k, rfl⟩ : ∃ (r : Fin 256) (k : Fin 128), i = ix2 r k := ⟨i 0, i 1, by funext a; fin_cases a <;> rfl⟩
  refine (pay2_num _ r k).trans ?_
  rw [View.readAt_eq_ld, harg8.read_unread]
  exact congrArg Cert.Up.num (congrFun (View.ld_unit_zero zero3 _ _) _)

theorem kept_WK (arg9 : Memref sig .tc .vmem S1x256x128 .i8) (harg9 : arg9.IsWhole) (x8 : Vec Ideal S1x256x128 .i8)
    (v : View sig .tc sp S128x256 .bf16) (f) :
    View.read (Elt Ideal) v (v.writes (Elt Ideal) f (kernelRun0_A.sl.HS1_1 (F := Ideal) c arg9 harg9 x8)) = keptWI x8 := by
  rw [View.read_writes_eq_canon _ _ _ (View.cover_of_tiledL _ S128x256.size (by sl_kernel_rfl))]
  unfold kernelRun0_A.sl.HS1_1
  refine (View.canon_unit_zero zero2 _ _).trans ?_
  funext i
  obtain ⟨r, k, rfl⟩ : ∃ (r : Fin 128) (k : Fin 256), i = ix2 r k := ⟨i 0, i 1, by funext a; fin_cases a <;> rfl⟩
  refine (pay3_num _ r k).trans ?_
  rw [View.readAt_eq_ld, harg9.read_unread]
  exact congrArg Cert.Up.num (congrFun (View.ld_unit_zero zero3 _ _) _)

theorem kept_WV (arg10 : Memref sig .tc .vmem S1x256x128 .i8) (harg10 : arg10.IsWhole) (x9 : Vec Ideal S1x256x128 .i8)
    (v : View sig .tc sp S128x256 .bf16) (f) :
    View.read (Elt Ideal) v (v.writes (Elt Ideal) f (kernelRun0_A.sl.HS2_1 (F := Ideal) c arg10 harg10 x9)) = keptWI x9 := by
  rw [View.read_writes_eq_canon _ _ _ (View.cover_of_tiledL _ S128x256.size (by sl_kernel_rfl))]
  unfold kernelRun0_A.sl.HS2_1
  refine (View.canon_unit_zero zero2 _ _).trans ?_
  funext i
  obtain ⟨r, k, rfl⟩ : ∃ (r : Fin 128) (k : Fin 256), i = ix2 r k := ⟨i 0, i 1, by funext a; fin_cases a <;> rfl⟩
  refine (pay4_num _ r k).trans ?_
  rw [View.readAt_eq_ld, harg10.read_unread]
  exact congrArg Cert.Up.num (congrFun (View.ld_unit_zero zero3 _ _) _)

theorem kept_Col (arg11 : Memref sig .tc .vmem S4x256 .f32) (harg11 : arg11.IsWhole) (x10 : Vec Ideal S4x256 .f32)
    (v : View sig .tc sp S4x256x128 .f32) (f) :
    View.read (Elt Ideal) v (v.writes (Elt Ideal) f (kernelRun0_A.sl.HS3_4 (F := Ideal) c arg11 harg11 x10)) = keptCol x10 := by
  have hc : ∀ y : S4x256x128.Idx, ∃ p ∈ kernelRun0_A.sl.HS3_4 (F := Ideal) c arg11 harg11 x10, y ∈ p.1.set :=
    View.cover_of_tiledL _ S1x256x128.size (by sl_kernel_rfl)
  rw [View.read_writes_eq_canon _ _ _ hc]
  funext y
  refine View.canon_eq_of_allAt _ y _ (hc y) ?_
  unfold kernelRun0_A.sl.HS3_4
  refine View.allAt_cons_unit _ _ _ _ _ (tileCol x10 3 (by omega) _ y fun r l => (pay158_col _ _ _).trans (by rw [View.readAt_eq_ld, harg11.read_unread]; exact row_ld x10 3 _ _ r)) ?_
  refine View.allAt_cons_unit _ _ _ _ _ (tileCol x10 2 (by omega) _ y fun r l => (pay10_col _ _ _).trans (by rw [View.readAt_eq_ld, harg11.read_unread]; exact row_ld x10 2 _ _ r)) ?_
  refine View.allAt_cons_unit _ _ _ _ _ (tileCol x10 1 (by omega) _ y fun r l => (pay8_col _ _ _).trans (by rw [View.readAt_eq_ld, harg11.read_unread]; exact row_ld x10 1 _ _ r)) ?_
  refine View.allAt_cons_unit _ _ _ _ _ (tileCol x10 0 (by omega) _ y fun r l => (pay5_col _ _ _).trans (by rw [View.readAt_eq_ld, harg11.read_unread]; exact row_ld x10 0 _ _ r)) ?_
  exact View.allAt_nil _ _

theorem kept_KV (arg12 : Memref sig .tc .vmem S4x128 .f32) (harg12 : arg12.IsWhole) (x11 : Vec Ideal S4x128 .f32)
    (v : View sig .tc sp S4x128x128 .f32) (f) :
    View.read (Elt Ideal) v (v.writes (Elt Ideal) f (kernelRun0_A.sl.HS4_4 (F := Ideal) c arg12 harg12 x11)) = keptKV x11 := by
  have hc : ∀ y : S4x128x128.Idx, ∃ p ∈ kernelRun0_A.sl.HS4_4 (F := Ideal) c arg12 harg12 x11, y ∈ p.1.set :=
    View.cover_of_tiledL _ S1x128x128.size (by sl_kernel_rfl)
  rw [View.read_writes_eq_canon _ _ _ hc]
  funext y
  refine View.canon_eq_of_allAt _ y _ (hc y) ?_
  unfold kernelRun0_A.sl.HS4_4
  refine View.allAt_cons_unit _ _ _ _ _ (tileKV x11 3 (by omega) _ y fun r l => (kv3_col _ _ _).trans (by rw [View.readAt_eq_ld, harg12.read_unread]; exact row_ld x11 3 _ _ r)) ?_
  refine View.allAt_cons_unit _ _ _ _ _ (tileKV x11 2 (by omega) _ y fun r l => (kv2_col _ _ _).trans (by rw [View.readAt_eq_ld, harg12.read_unread]; exact row_ld x11 2 _ _ r)) ?_
  refine View.allAt_cons_unit _ _ _ _ _ (tileKV x11 1 (by omega) _ y fun r l => (kv1_col _ _ _).trans (by rw [View.readAt_eq_ld, harg12.read_unread]; exact row_ld x11 1 _ _ r)) ?_
  refine View.allAt_cons_unit _ _ _ _ _ (tileKV x11 0 (by omega) _ y fun r l => (kv0_col _ _ _).trans (by rw [View.readAt_eq_ld, harg12.read_unread]; exact row_ld x11 0 _ _ r)) ?_
  exact View.allAt_nil _ _

end Kept

/-- The tokens of the prompt that point `i` works on. -/
def slab (x : Vec Ideal S11x40x128 .f32) (i : grid0.Coords) : Vec Ideal S11x1x128 .f32 := fun y => x (ix3 (y 0) (i 0) (y 2))

theorem slab_ld (x : Vec Ideal S11x40x128 .f32) (i : grid0.Coords) :
    View.ld (Val := Elt Ideal) (e' := .f32) x (Rect.unit (s := S11x40x128) (k0_off1 i) S11x1x128.size (k0_off1_inb i)) = slab x i := by
  funext y
  obtain ⟨t, z, d, rfl⟩ : ∃ (t : Fin 11) (z : Fin 1) (d : Fin 128), y = ix3 t z d := ⟨y 0, y 1, y 2, by funext a; fin_cases a <;> rfl⟩
  obtain rfl : z = 0 := Subsingleton.elim _ _
  exact tok_ld x i t d

section Start
variable (c : Dev nD) (i : grid0.Coords)

theorem key_A (arg2 : Memref sig .tc .vmem S11x40x128 .f32) (harg2 : arg2.IsWhole) (x : Vec Ideal S11x40x128 .f32) :
    kernelRun0_A.sl.r_1 (F := Ideal) c i arg2 harg2 x = keyBlocks (slab x i) := by
  unfold kernelRun0_A.sl.r_1
  rw [View.readAt_eq_ld, harg2.read_unread, slab_ld]
  rfl

theorem value_A (arg3 : Memref sig .tc .vmem S11x40x128 .f32) (harg3 : arg3.IsWhole) (x : Vec Ideal S11x40x128 .f32) :
    kernelRun0_A.sl.r_2 (F := Ideal) c i arg3 harg3 x = valueBlocks (slab x i) := by
  unfold kernelRun0_A.sl.r_2
  rw [View.readAt_eq_ld, harg3.read_unread, slab_ld]
  rfl

theorem query_A (arg4 : Memref sig .tc .vmem S11x40x128 .f32) (harg4 : arg4.IsWhole) (x : Vec Ideal S11x40x128 .f32) :
    kernelRun0_A.sl.r_4 (F := Ideal) c i arg4 harg4 x = keyBlocks (slab x i) := by
  unfold kernelRun0_A.sl.r_4
  rw [View.readAt_eq_ld, harg4.read_unread, slab_ld]
  rfl

theorem bias_A (arg1 : Memref sig .tc .smem S40 .i32) (harg1 : arg1.IsWhole) (x : Vec Ideal S40 .i32) (t : Fin 11) (h : Fin 8) (l : Fin 128) :
    kernelRun0_A.sl.r_5 (F := Ideal) c i arg1 harg1 x (ix2 (rowOf t h) l) = bias (x (ix1 (i 0))) t := by
  unfold kernelRun0_A.sl.r_5
  have e : kernelRun0_A.sl.r_3 (F := Ideal) c i arg1 harg1 x = x (ix1 (i 0)) := by
    unfold kernelRun0_A.sl.r_3
    simp only [View.readAt_eq_ld, harg1.read_unread]
    refine View.ld_unit_apply_of _ _ _ _ _ (ix1 (i 0)) fun a => ?_
    refine Eq.trans ?_ (congrArg (fun o : Fin 1 → ℕ => o a + _) (off2_eq i).symm)
    fin_cases a
    rfl
  rw [e]
  exact bias_apply _ _ _ _

theorem key_B (arg2 : Memref sig .tc .vmem S11x40x128 .f32) (harg2 : arg2.IsWhole) (x : Vec Ideal S11x40x128 .f32) :
    kernelRun0_B.sl.r (F := Ideal) c i arg2 harg2 x = keyBlocks (slab x i) := by
  unfold kernelRun0_B.sl.r
  rw [View.readAt_eq_ld, harg2.read_unread, slab_ld]
  rfl

theorem value_B (arg3 : Memref sig .tc .vmem S11x40x128 .f32) (harg3 : arg3.IsWhole) (x : Vec Ideal S11x40x128 .f32) :
    kernelRun0_B.sl.r_1 (F := Ideal) c i arg3 harg3 x = valueBlocks (slab x i) := by
  unfold kernelRun0_B.sl.r_1
  rw [View.readAt_eq_ld, harg3.read_unread, slab_ld]
  rfl

theorem query_B (arg4 : Memref sig .tc .vmem S11x40x128 .f32) (harg4 : arg4.IsWhole) (x : Vec Ideal S11x40x128 .f32) :
    kernelRun0_B.sl.r_3 (F := Ideal) c i arg4 harg4 x = keyBlocks (slab x i) := by
  unfold kernelRun0_B.sl.r_3
  rw [View.readAt_eq_ld, harg4.read_unread, slab_ld]
  rfl

theorem bias_B (arg1 : Memref sig .tc .smem S40 .i32) (harg1 : arg1.IsWhole) (x : Vec Ideal S40 .i32) (t : Fin 11) (h : Fin 8) (l : Fin 128) :
    kernelRun0_B.sl.r_4 (F := Ideal) c i arg1 harg1 x (ix2 (rowOf t h) l) = bias (x (ix1 (i 0))) t := by
  unfold kernelRun0_B.sl.r_4
  have e : kernelRun0_B.sl.r_2 (F := Ideal) c i arg1 harg1 x = x (ix1 (i 0)) := by
    unfold kernelRun0_B.sl.r_2
    simp only [View.readAt_eq_ld, harg1.read_unread]
    refine View.ld_unit_apply_of _ _ _ _ _ (ix1 (i 0)) fun a => ?_
    refine Eq.trans ?_ (congrArg (fun o : Fin 1 → ℕ => o a + _) (off2_eq i).symm)
    fin_cases a
    rfl
  rw [e]
  exact bias_apply _ _ _ _

end Start

end Cert.At

end
-- ==== Proof.AttnStart.lean ====
/-
  What the first grid point of the attention kernel starts its loops from: the numbers that it works on.
-/
module

public import proofs.«01_k».proof.Proof.AttnKept

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

/-- What a point works on, from its input blocks, the kept weights and the kept columns. -/
def dataP (i : grid0.Coords) (x0 : Vec Ideal S40 .i32) (x1 x2 x3 : Vec Ideal S11x40x128 .f32) (x4 : Vec Ideal S1x128x2688 .bf16)
    (x5 : Vec Ideal S1x256x2688 .f32) (x6 : Vec Ideal S256x2688 .f32) (WO : Vec Ideal S256x128 .bf16) (WK WV : Vec Ideal S128x256 .bf16)
    (v : Fin 4 → Fin 256 → EReal) (u : Fin 4 → Fin 128 → EReal) : Data where
  K := fun t d => x1 (ix3 t (i 0) d)
  V := fun t d => x2 (ix3 t (i 0) d)
  B := bias (x0 (ix1 (i 0)))
  T := fun t d => x3 (ix3 t (i 0) d)
  wo := fun r k => WO (ix2 r k)
  wk := fun r k => WK (ix2 r k)
  wv := fun r k => WV (ix2 r k)
  cv := v
  kv := u
  q := fun d s => x4 (ix3 0 d s)
  x := fun r s => x5 (ix3 0 r s)
  pe := fun r s => x6 (ix2 r s)

theorem slab_at (x : Vec Ideal S11x40x128 .f32) (i : grid0.Coords) (t : Fin 11) (d : Fin 128) : slab x i (ix3 t 0 d) = x (ix3 t (i 0) d) := rfl

theorem pay171_eq (x : Vec Ideal S88x128 .f32) (i : S88x128.Idx) : k0_pay171 (F := Ideal) x i = x i := by
  obtain ⟨r, l, rfl⟩ : ∃ (r : Fin 88) (l : Fin 128), i = ix2 r l := ⟨i 0, i 1, by funext a; fin_cases a <;> rfl⟩
  pointwise [k0_pay171]

/-- The largest over the lanes of the maxima over the chunks is the largest over the pixels. -/
theorem lanes_max (f : Fin 2688 → EReal) (m : Fin 128 → EReal)
    (hm : ∀ l z, m l ≤ z ↔ Ideal.ofBits .f32 0xFF800000#32 ≤ z ∧ ∀ s : Fin 2688, s.val < 7 * 384 → s.val % 128 = l.val → f s ≤ z) :
    Finset.univ.fold max (Ideal.ofBits .f32 0xFF800000#32) m = Finset.univ.fold max (Ideal.ofBits .f32 0xFF800000#32) f := by
  refine eq_of_forall_ge_iff fun z => ?_
  rw [Finset.fold_max_le, Finset.fold_max_le]
  refine and_congr_right fun h0 => ⟨fun h s _ => ?_, fun h l _ => ?_⟩
  · exact ((hm ⟨s.val % 128, by omega⟩ z).mp (h _ (Finset.mem_univ _))).2 s (by have := s.isLt; omega) rfl
  · exact (hm l z).mpr ⟨h0, fun s _ _ => h s (Finset.mem_univ _)⟩

/-- The values that the loops start from are those of the data. -/
theorem holds_A (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole)
    (x0 : Vec Ideal S40 .i32) (x1 x2 x3 : Vec Ideal S11x40x128 .f32) (x4 : Vec Ideal S1x128x2688 .bf16)
    (x5 : Vec Ideal S1x256x2688 .f32) (x6 : Vec Ideal S256x2688 .f32) (WO : Vec Ideal S256x128 .bf16) (WK WV : Vec Ideal S128x256 .bf16)
    (C : Vec Ideal S4x256x128 .f32) (KV : Vec Ideal S4x128x128 .f32) (v : Fin 4 → Fin 256 → EReal) (u : Fin 4 → Fin 128 → EReal)
    (hv : ∀ i r l, C (ix3 i r l) = v i r) (hu : ∀ i r l, KV (ix3 i r l) = u i r) :
    Holds (dataP i x0 x1 x2 x3 x4 x5 x6 WO WK WV v u) (kernelRun0_A.sl.r_1 (F := Ideal) c i arg2 harg2 x1) (kernelRun0_A.sl.r_2 (F := Ideal) c i arg3 harg3 x2)
      (kernelRun0_A.sl.r_5 (F := Ideal) c i arg1 harg1 x0) (kernelRun0_A.sl.r_4 (F := Ideal) c i arg4 harg4 x3) WO WK WV C KV x4 x5 x6 where
  hK := fun t h d => by rw [key_A, keyBlocks_apply]; rfl
  hV := fun d t h => by rw [value_A, valueBlocks_apply]; rfl
  hB := fun t h l => bias_A c i arg1 harg1 x0 t h l
  hT := fun t h d => by rw [query_A, keyBlocks_apply]; rfl
  hwo := fun _ _ => rfl
  hwk := fun _ _ => rfl
  hwv := fun _ _ => rfl
  hcv := hv
  hkv := hu
  hq := fun _ _ => rfl
  hx := fun _ _ => rfl
  hpe := fun _ _ => rfl

/-- The values that the loops start from are those of the data. -/
theorem holds_B (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole)
    (x0 : Vec Ideal S40 .i32) (x1 x2 x3 : Vec Ideal S11x40x128 .f32) (x4 : Vec Ideal S1x128x2688 .bf16)
    (x5 : Vec Ideal S1x256x2688 .f32) (x6 : Vec Ideal S256x2688 .f32) (WO : Vec Ideal S256x128 .bf16) (WK WV : Vec Ideal S128x256 .bf16)
    (C : Vec Ideal S4x256x128 .f32) (KV : Vec Ideal S4x128x128 .f32) (v : Fin 4 → Fin 256 → EReal) (u : Fin 4 → Fin 128 → EReal)
    (hv : ∀ i r l, C (ix3 i r l) = v i r) (hu : ∀ i r l, KV (ix3 i r l) = u i r) :
    Holds (dataP i x0 x1 x2 x3 x4 x5 x6 WO WK WV v u) (kernelRun0_B.sl.r (F := Ideal) c i arg2 harg2 x1) (kernelRun0_B.sl.r_1 (F := Ideal) c i arg3 harg3 x2)
      (kernelRun0_B.sl.r_4 (F := Ideal) c i arg1 harg1 x0) (kernelRun0_B.sl.r_3 (F := Ideal) c i arg4 harg4 x3) WO WK WV C KV x4 x5 x6 where
  hK := fun t h d => by rw [key_B, keyBlocks_apply]; rfl
  hV := fun d t h => by rw [value_B, valueBlocks_apply]; rfl
  hB := fun t h l => bias_B c i arg1 harg1 x0 t h l
  hT := fun t h d => by rw [query_B, keyBlocks_apply]; rfl
  hwo := fun _ _ => rfl
  hwk := fun _ _ => rfl
  hwv := fun _ _ => rfl
  hcv := hv
  hkv := hu
  hq := fun _ _ => rfl
  hx := fun _ _ => rfl
  hpe := fun _ _ => rfl

end Cert.At

end
-- ==== Proof.AttnBlockA.lean ====
/-
  What a grid point of the attention kernel leaves in its output blocks, in the case of the first point.
-/
module

public import proofs.«01_k».proof.Proof.AttnStart

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

set_option maxHeartbeats 1000000

theorem out_A_12 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (dataP i x0 x1 x2 x3 x4 x5 x6 (keptWO x7) (keptWI x8) (keptWI x9) (fun i r => x10 (ix2 i r)) (fun i r => x11 (ix2 i r))).kc := by
  have hc := cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11
  unfold out0_A_12
  rw [View.read_writes_eq_canon _ _ _ hc]
  funext y
  refine View.canon_eq_of_allAt _ y _ (hc y) ?_
  clear hc
  unfold kernelRun0_A
  dsimp only
  exact loop_kc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) (keptWO x7) (keptWI x8) (keptWI x9) (keptCol x10) (keptKV x11) x4 x5 x6 (harg5.read_unread x4) (harg6.read_unread x5) (harg7.read_unread x6) (kept_WO c arg8 harg8 x7 _ _) (kept_Col c arg11 harg11 x10 _ _) (holds_A c i arg1 harg1 arg2 harg2 arg3 harg3 arg4 harg4 x0 x1 x2 x3 x4 x5 x6 (keptWO x7) (keptWI x8) (keptWI x9) (keptCol x10) (keptKV x11) _ _ (fun _ _ _ => rfl) (fun _ _ _ => rfl)) y _ (by decide)

theorem out_A_13 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (dataP i x0 x1 x2 x3 x4 x5 x6 (keptWO x7) (keptWI x8) (keptWI x9) (fun i r => x10 (ix2 i r)) (fun i r => x11 (ix2 i r))).kcs := by
  have hc := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11
  unfold out0_A_13
  rw [View.read_writes_eq_canon _ _ _ hc]
  funext y
  refine View.canon_eq_of_allAt _ y _ (hc y) ?_
  clear hc
  unfold kernelRun0_A
  dsimp only
  exact loop_kcs _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) (keptWO x7) (keptWI x8) (keptWI x9) (keptCol x10) (keptKV x11) x4 x5 x6 (harg5.read_unread x4) (harg6.read_unread x5) (harg7.read_unread x6) (kept_WO c arg8 harg8 x7 _ _) (kept_Col c arg11 harg11 x10 _ _) (holds_A c i arg1 harg1 arg2 harg2 arg3 harg3 arg4 harg4 x0 x1 x2 x3 x4 x5 x6 (keptWO x7) (keptWI x8) (keptWI x9) (keptCol x10) (keptKV x11) _ _ (fun _ _ _ => rfl) (fun _ _ _ => rfl)) y _ (by decide)

theorem out_A_14 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (dataP i x0 x1 x2 x3 x4 x5 x6 (keptWO x7) (keptWI x8) (keptWI x9) (fun i r => x10 (ix2 i r)) (fun i r => x11 (ix2 i r))).ic := by
  have hc := cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11
  unfold out0_A_14
  rw [View.read_writes_eq_canon _ _ _ hc]
  funext y
  refine View.canon_eq_of_allAt _ y _ (hc y) ?_
  clear hc
  unfold kernelRun0_A
  dsimp only
  exact loop_ic _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) (keptWO x7) (keptWI x8) (keptWI x9) (keptCol x10) (keptKV x11) x4 x5 x6 (harg5.read_unread x4) (harg6.read_unread x5) (kept_WO c arg8 harg8 x7 _ _) (kept_Col c arg11 harg11 x10 _ _) (holds_A c i arg1 harg1 arg2 harg2 arg3 harg3 arg4 harg4 x0 x1 x2 x3 x4 x5 x6 (keptWO x7) (keptWI x8) (keptWI x9) (keptCol x10) (keptKV x11) _ _ (fun _ _ _ => rfl) (fun _ _ _ => rfl)) y _ (by decide)

theorem out_A_15 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (dataP i x0 x1 x2 x3 x4 x5 x6 (keptWO x7) (keptWI x8) (keptWI x9) (fun i r => x10 (ix2 i r)) (fun i r => x11 (ix2 i r))).ics := by
  have hc := cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11
  unfold out0_A_15
  rw [View.read_writes_eq_canon _ _ _ hc]
  funext y
  refine View.canon_eq_of_allAt _ y _ (hc y) ?_
  clear hc
  unfold kernelRun0_A
  dsimp only
  exact loop_ics _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) (keptWO x7) (keptWI x8) (keptWI x9) (keptCol x10) (keptKV x11) x4 x5 x6 (harg5.read_unread x4) (harg6.read_unread x5) (kept_WO c arg8 harg8 x7 _ _) (kept_Col c arg11 harg11 x10 _ _) (holds_A c i arg1 harg1 arg2 harg2 arg3 harg3 arg4 harg4 x0 x1 x2 x3 x4 x5 x6 (keptWO x7) (keptWI x8) (keptWI x9) (keptCol x10) (keptKV x11) _ _ (fun _ _ _ => rfl) (fun _ _ _ => rfl)) y _ (by decide)

theorem out_A_16 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (dataP i x0 x1 x2 x3 x4 x5 x6 (keptWO x7) (keptWI x8) (keptWI x9) (fun i r => x10 (ix2 i r)) (fun i r => x11 (ix2 i r))).ict := by
  have hc := cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11
  unfold out0_A_16
  rw [View.read_writes_eq_canon _ _ _ hc]
  funext y
  refine View.canon_eq_of_allAt _ y _ (hc y) ?_
  clear hc
  unfold kernelRun0_A
  dsimp only
  exact loop_ict _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) (keptWO x7) (keptWI x8) (keptWI x9) (keptCol x10) (keptKV x11) x4 x5 x6 (harg5.read_unread x4) (harg6.read_unread x5) (kept_WO c arg8 harg8 x7 _ _) (kept_Col c arg11 harg11 x10 _ _) (holds_A c i arg1 harg1 arg2 harg2 arg3 harg3 arg4 harg4 x0 x1 x2 x3 x4 x5 x6 (keptWO x7) (keptWI x8) (keptWI x9) (keptCol x10) (keptKV x11) _ _ (fun _ _ _ => rfl) (fun _ _ _ => rfl)) y _ (by decide)

theorem sout_A_0 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (keptWO x7) := by
  unfold sout0_A_0 kernelRun0_A
  dsimp only
  exact (kept_WO c arg8 harg8 x7 _ _)

theorem sout_A_1 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (keptWI x8) := by
  unfold sout0_A_1 kernelRun0_A
  dsimp only
  exact (kept_WK c arg9 harg9 x8 _ _)

theorem sout_A_2 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (keptWI x9) := by
  unfold sout0_A_2 kernelRun0_A
  dsimp only
  exact (kept_WV c arg10 harg10 x9 _ _)

theorem sout_A_3 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (keptCol x10) := by
  unfold sout0_A_3 kernelRun0_A
  dsimp only
  exact (kept_Col c arg11 harg11 x10 _ _)

theorem sout_A_4 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (keptKV x11) := by
  unfold sout0_A_4 kernelRun0_A
  dsimp only
  exact (kept_KV c arg12 harg12 x11 _ _)

end Cert.At

end
-- ==== Proof.AttnTokensA.lean ====
/-
  The tokens' attention output that a grid point of the attention kernel leaves, in the case of the first point.
-/
module

public import proofs.«01_k».proof.Proof.AttnBlockA

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

set_option maxHeartbeats 2000000

theorem tops_A (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (t : Fin 11) (h : Fin 8) :
    Finset.univ.fold max (Ideal.ofBits .f32 0xFF800000#32) (fun l : Fin 128 => kernelRun0_A.sl.v142 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 (ix2 (rowOf t h) l))
      = Finset.univ.fold max (Ideal.ofBits .f32 0xFF800000#32) (fun s => (dataP i x0 x1 x2 x3 x4 x5 x6 (keptWO x7) (keptWI x8) (keptWI x9) (fun i r => x10 (ix2 i r)) (fun i r => x11 (ix2 i r))).score t h s) := by
  refine lanes_max _ _ fun l z => ?_
  unfold kernelRun0_A.sl.v142 kernelRun0_A.sl.HS6_1
  refine Iff.trans (iff_of_eq (congrArg (fun f : Vec Ideal S88x128 .f32 => f (ix2 (rowOf t h) l) ≤ z) (View.readCov_unit_zero arg25.view zero2 _ _))) ?_
  refine Iff.trans (iff_of_eq (congrArg (fun x : EReal => x ≤ z) (pay171_eq _ _))) ?_
  exact loop_max _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) (keptWO x7) (keptWI x8) (keptWI x9) (keptCol x10) (keptKV x11) x4 x5 x6 (harg5.read_unread x4) (harg6.read_unread x5) (harg7.read_unread x6) (kept_WO c arg8 harg8 x7 _ _) (kept_WK c arg9 harg9 x8 _ _) (kept_Col c arg11 harg11 x10 _ _) (kept_KV c arg12 harg12 x11 _ _) (holds_A c i arg1 harg1 arg2 harg2 arg3 harg3 arg4 harg4 x0 x1 x2 x3 x4 x5 x6 (keptWO x7) (keptWI x8) (keptWI x9) (keptCol x10) (keptKV x11) _ _ (fun _ _ _ => rfl) (fun _ _ _ => rfl)) t h l z 7 (by decide)

theorem out_A_17 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 = (dataP i x0 x1 x2 x3 x4 x5 x6 (keptWO x7) (keptWI x8) (keptWI x9) (fun i r => x10 (ix2 i r)) (fun i r => x11 (ix2 i r))).fa := by
  have hc := cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11
  unfold out0_A_17
  rw [View.read_writes_eq_canon _ _ _ hc]
  clear hc
  unfold kernelRun0_A
  dsimp only
  refine (View.canon_unit_zero zero3 _ _).trans ?_
  funext y
  obtain ⟨z, t, d, rfl⟩ : ∃ (z : Fin 1) (t : Fin 11) (d : Fin 128), y = ix3 z t d := ⟨y 0, y 1, y 2, by funext a; fin_cases a <;> rfl⟩
  obtain rfl : z = 0 := Subsingleton.elim _ _
  unfold kernelRun0_A.sl.r_6 kernelRun0_A.sl.v156 kernelRun0_A.sl.v157
  rw [pay1_eq]
  refine row_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) ?_ ?_ (tops_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11) t d
  · funext y
    rw [View.writes_append]
    refine (View.read_writes_apply_eq_canon _ _ y _ ?_).trans (View.canon_eq_of_allAt _ y _ ?_ (loop_s _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) (keptWO x7) (keptWI x8) (keptWI x9) (keptCol x10) (keptKV x11) x4 x5 x6 (harg5.read_unread x4) (harg6.read_unread x5) (harg7.read_unread x6) (kept_WO c arg8 harg8 x7 _ _) (kept_WK c arg9 harg9 x8 _ _) (kept_Col c arg11 harg11 x10 _ _) (kept_KV c arg12 harg12 x11 _ _) (holds_A c i arg1 harg1 arg2 harg2 arg3 harg3 arg4 harg4 x0 x1 x2 x3 x4 x5 x6 (keptWO x7) (keptWI x8) (keptWI x9) (keptCol x10) (keptKV x11) _ _ (fun _ _ _ => rfl) (fun _ _ _ => rfl)) y _ (by decide)))
    · exact View.cover_of_tiledL (s := S88x2688) _ S88x384.size (by sl_kernel_rfl) y
    · exact View.cover_of_tiledL (s := S88x2688) _ S88x384.size (by sl_kernel_rfl) y
  · funext y
    rw [View.writes_append]
    refine (View.read_writes_apply_eq_canon _ _ y _ ?_).trans (View.canon_eq_of_allAt _ y _ ?_ (loop_v _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 (keptWO x7) (keptWI x8) (keptWI x9) (fun i r => x10 (ix2 i r)) (fun i r => x11 (ix2 i r))) (keptWO x7) (keptWI x8) (keptWI x9) (keptCol x10) (keptKV x11) x4 x5 x6 (harg5.read_unread x4) (harg6.read_unread x5) (kept_WO c arg8 harg8 x7 _ _) (kept_WV c arg10 harg10 x9 _ _) (kept_Col c arg11 harg11 x10 _ _) (kept_KV c arg12 harg12 x11 _ _) (holds_A c i arg1 harg1 arg2 harg2 arg3 harg3 arg4 harg4 x0 x1 x2 x3 x4 x5 x6 (keptWO x7) (keptWI x8) (keptWI x9) (keptCol x10) (keptKV x11) _ _ (fun _ _ _ => rfl) (fun _ _ _ => rfl)) y _ (by decide)))
    · exact View.cover_of_tiledL (s := S128x2688) _ S128x384.size (by sl_kernel_rfl) y
    · exact View.cover_of_tiledL (s := S128x2688) _ S128x384.size (by sl_kernel_rfl) y

end Cert.At

end
-- ==== Proof.AttnBlockB.lean ====
/-
  What a grid point of the attention kernel leaves in its output blocks, in the case of a later point.
-/
module

public import proofs.«01_k».proof.Proof.AttnStart

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

set_option maxHeartbeats 1000000

theorem out_B_12 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) (v : Fin 4 → Fin 256 → EReal) (u : Fin 4 → Fin 128 → EReal) (hv : ∀ i r l, xs3 (ix3 i r l) = v i r) (hu : ∀ i r l, xs4 (ix3 i r l) = u i r) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = (dataP i x0 x1 x2 x3 x4 x5 x6 xs0 xs1 xs2 v u).kc := by
  have hc := cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4
  unfold out0_B_12
  rw [View.read_writes_eq_canon _ _ _ hc]
  funext y
  refine View.canon_eq_of_allAt _ y _ (hc y) ?_
  clear hc
  unfold kernelRun0_B
  dsimp only
  exact loop_kc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) xs0 xs1 xs2 xs3 xs4 x4 x5 x6 (harg5.read_unread x4) (harg6.read_unread x5) (harg7.read_unread x6) (harg19.read_unread xs0) (harg22.read_unread xs3) (holds_B c i arg1 harg1 arg2 harg2 arg3 harg3 arg4 harg4 x0 x1 x2 x3 x4 x5 x6 xs0 xs1 xs2 xs3 xs4 _ _ hv hu) y _ (by decide)

theorem out_B_13 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) (v : Fin 4 → Fin 256 → EReal) (u : Fin 4 → Fin 128 → EReal) (hv : ∀ i r l, xs3 (ix3 i r l) = v i r) (hu : ∀ i r l, xs4 (ix3 i r l) = u i r) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = (dataP i x0 x1 x2 x3 x4 x5 x6 xs0 xs1 xs2 v u).kcs := by
  have hc := cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4
  unfold out0_B_13
  rw [View.read_writes_eq_canon _ _ _ hc]
  funext y
  refine View.canon_eq_of_allAt _ y _ (hc y) ?_
  clear hc
  unfold kernelRun0_B
  dsimp only
  exact loop_kcs _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) xs0 xs1 xs2 xs3 xs4 x4 x5 x6 (harg5.read_unread x4) (harg6.read_unread x5) (harg7.read_unread x6) (harg19.read_unread xs0) (harg22.read_unread xs3) (holds_B c i arg1 harg1 arg2 harg2 arg3 harg3 arg4 harg4 x0 x1 x2 x3 x4 x5 x6 xs0 xs1 xs2 xs3 xs4 _ _ hv hu) y _ (by decide)

theorem out_B_14 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) (v : Fin 4 → Fin 256 → EReal) (u : Fin 4 → Fin 128 → EReal) (hv : ∀ i r l, xs3 (ix3 i r l) = v i r) (hu : ∀ i r l, xs4 (ix3 i r l) = u i r) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = (dataP i x0 x1 x2 x3 x4 x5 x6 xs0 xs1 xs2 v u).ic := by
  have hc := cover0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4
  unfold out0_B_14
  rw [View.read_writes_eq_canon _ _ _ hc]
  funext y
  refine View.canon_eq_of_allAt _ y _ (hc y) ?_
  clear hc
  unfold kernelRun0_B
  dsimp only
  exact loop_ic _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) xs0 xs1 xs2 xs3 xs4 x4 x5 x6 (harg5.read_unread x4) (harg6.read_unread x5) (harg19.read_unread xs0) (harg22.read_unread xs3) (holds_B c i arg1 harg1 arg2 harg2 arg3 harg3 arg4 harg4 x0 x1 x2 x3 x4 x5 x6 xs0 xs1 xs2 xs3 xs4 _ _ hv hu) y _ (by decide)

theorem out_B_15 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) (v : Fin 4 → Fin 256 → EReal) (u : Fin 4 → Fin 128 → EReal) (hv : ∀ i r l, xs3 (ix3 i r l) = v i r) (hu : ∀ i r l, xs4 (ix3 i r l) = u i r) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = (dataP i x0 x1 x2 x3 x4 x5 x6 xs0 xs1 xs2 v u).ics := by
  have hc := cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4
  unfold out0_B_15
  rw [View.read_writes_eq_canon _ _ _ hc]
  funext y
  refine View.canon_eq_of_allAt _ y _ (hc y) ?_
  clear hc
  unfold kernelRun0_B
  dsimp only
  exact loop_ics _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) xs0 xs1 xs2 xs3 xs4 x4 x5 x6 (harg5.read_unread x4) (harg6.read_unread x5) (harg19.read_unread xs0) (harg22.read_unread xs3) (holds_B c i arg1 harg1 arg2 harg2 arg3 harg3 arg4 harg4 x0 x1 x2 x3 x4 x5 x6 xs0 xs1 xs2 xs3 xs4 _ _ hv hu) y _ (by decide)

theorem out_B_16 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) (v : Fin 4 → Fin 256 → EReal) (u : Fin 4 → Fin 128 → EReal) (hv : ∀ i r l, xs3 (ix3 i r l) = v i r) (hu : ∀ i r l, xs4 (ix3 i r l) = u i r) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = (dataP i x0 x1 x2 x3 x4 x5 x6 xs0 xs1 xs2 v u).ict := by
  have hc := cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4
  unfold out0_B_16
  rw [View.read_writes_eq_canon _ _ _ hc]
  funext y
  refine View.canon_eq_of_allAt _ y _ (hc y) ?_
  clear hc
  unfold kernelRun0_B
  dsimp only
  exact loop_ict _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) xs0 xs1 xs2 xs3 xs4 x4 x5 x6 (harg5.read_unread x4) (harg6.read_unread x5) (harg19.read_unread xs0) (harg22.read_unread xs3) (holds_B c i arg1 harg1 arg2 harg2 arg3 harg3 arg4 harg4 x0 x1 x2 x3 x4 x5 x6 xs0 xs1 xs2 xs3 xs4 _ _ hv hu) y _ (by decide)

theorem sout_B_0 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = xs0 := rfl

theorem sout_B_1 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = xs1 := rfl

theorem sout_B_2 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = xs2 := rfl

theorem sout_B_3 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = xs3 := rfl

theorem sout_B_4 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) :
    sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = xs4 := rfl

end Cert.At

end
-- ==== Proof.AttnTokensB.lean ====
/-
  The tokens' attention output that a grid point of the attention kernel leaves, in the case of a later point.
-/
module

public import proofs.«01_k».proof.Proof.AttnBlockB

@[expose] public section

set_option maxRecDepth 16384

noncomputable section

namespace Cert.At

open Cert.AttnIdeal Cert.AttnIdeal.Gen Idealize.ShloMosaic Idealize.ShloMosaic.TcCoe Idealize.SL.Sem Idealize.ShloMosaic.Tactic

set_option maxHeartbeats 2000000

theorem tops_B (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) (v : Fin 4 → Fin 256 → EReal) (u : Fin 4 → Fin 128 → EReal) (hv : ∀ i r l, xs3 (ix3 i r l) = v i r) (hu : ∀ i r l, xs4 (ix3 i r l) = u i r) (t : Fin 11) (h : Fin 8) :
    Finset.univ.fold max (Ideal.ofBits .f32 0xFF800000#32) (fun l : Fin 128 => kernelRun0_B.sl.v142 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 xs0 xs1 xs2 xs3 xs4 (ix2 (rowOf t h) l))
      = Finset.univ.fold max (Ideal.ofBits .f32 0xFF800000#32) (fun s => (dataP i x0 x1 x2 x3 x4 x5 x6 xs0 xs1 xs2 v u).score t h s) := by
  refine lanes_max _ _ fun l z => ?_
  unfold kernelRun0_B.sl.v142 kernelRun0_B.sl.HS6_1
  refine Iff.trans (iff_of_eq (congrArg (fun f : Vec Ideal S88x128 .f32 => f (ix2 (rowOf t h) l) ≤ z) (View.readCov_unit_zero arg25.view zero2 _ _))) ?_
  refine Iff.trans (iff_of_eq (congrArg (fun x : EReal => x ≤ z) (pay171_eq _ _))) ?_
  exact loop_max _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) xs0 xs1 xs2 xs3 xs4 x4 x5 x6 (harg5.read_unread x4) (harg6.read_unread x5) (harg7.read_unread x6) (harg19.read_unread xs0) (harg20.read_unread xs1) (harg22.read_unread xs3) (harg23.read_unread xs4) (holds_B c i arg1 harg1 arg2 harg2 arg3 harg3 arg4 harg4 x0 x1 x2 x3 x4 x5 x6 xs0 xs1 xs2 xs3 xs4 _ _ hv hu) t h l z 7 (by decide)

theorem out_B_17 (c : Dev nD) (i : grid0.Coords) (arg1 : Memref sig .tc .smem S40 .i32) (harg1 : arg1.IsWhole) (arg2 : Memref sig .tc .vmem S11x40x128 .f32) (harg2 : arg2.IsWhole) (arg3 : Memref sig .tc .vmem S11x40x128 .f32) (harg3 : arg3.IsWhole) (arg4 : Memref sig .tc .vmem S11x40x128 .f32) (harg4 : arg4.IsWhole) (arg5 : Memref sig .tc .vmem S1x128x2688 .bf16) (harg5 : arg5.IsWhole) (arg6 : Memref sig .tc .vmem S1x256x2688 .f32) (harg6 : arg6.IsWhole) (arg7 : Memref sig .tc .vmem S256x2688 .f32) (harg7 : arg7.IsWhole) (arg8 : Memref sig .tc .vmem S1x128x256 .i8) (harg8 : arg8.IsWhole) (arg9 : Memref sig .tc .vmem S1x256x128 .i8) (harg9 : arg9.IsWhole) (arg10 : Memref sig .tc .vmem S1x256x128 .i8) (harg10 : arg10.IsWhole) (arg11 : Memref sig .tc .vmem S4x256 .f32) (harg11 : arg11.IsWhole) (arg12 : Memref sig .tc .vmem S4x128 .f32) (harg12 : arg12.IsWhole) (arg13 : Memref sig .tc .vmem S1x2688x256 .i8) (harg13 : arg13.IsWhole) (arg14 : Memref sig .tc .vmem S1x1x2688 .f32) (harg14 : arg14.IsWhole) (arg15 : Memref sig .tc .vmem S1x2688x256 .i8) (harg15 : arg15.IsWhole) (arg16 : Memref sig .tc .vmem S1x1x2688 .f32) (harg16 : arg16.IsWhole) (arg17 : Memref sig .tc .vmem S1x256x2688 .bf16) (harg17 : arg17.IsWhole) (arg18 : Memref sig .tc .vmem S1x11x128 .f32) (harg18 : arg18.IsWhole) (arg19 : Memref sig .tc .vmem S256x128 .bf16) (harg19 : arg19.IsWhole) (arg20 : Memref sig .tc .vmem S128x256 .bf16) (harg20 : arg20.IsWhole) (arg21 : Memref sig .tc .vmem S128x256 .bf16) (harg21 : arg21.IsWhole) (arg22 : Memref sig .tc .vmem S4x256x128 .f32) (harg22 : arg22.IsWhole) (arg23 : Memref sig .tc .vmem S4x128x128 .f32) (harg23 : arg23.IsWhole) (arg24 : Memref sig .tc .vmem S88x2688 .f32) (harg24 : arg24.IsWhole) (arg25 : Memref sig .tc .vmem S88x128 .f32) (harg25 : arg25.IsWhole) (arg26 : Memref sig .tc .vmem S128x2688 .bf16) (harg26 : arg26.IsWhole) (hc0 : ¬cond0_0 i)
    (x0 : Vec Ideal S40 .i32) (x1 : Vec Ideal S11x40x128 .f32) (x2 : Vec Ideal S11x40x128 .f32) (x3 : Vec Ideal S11x40x128 .f32) (x4 : Vec Ideal S1x128x2688 .bf16) (x5 : Vec Ideal S1x256x2688 .f32) (x6 : Vec Ideal S256x2688 .f32) (x7 : Vec Ideal S1x128x256 .i8) (x8 : Vec Ideal S1x256x128 .i8) (x9 : Vec Ideal S1x256x128 .i8) (x10 : Vec Ideal S4x256 .f32) (x11 : Vec Ideal S4x128 .f32) (xs0 : Vec Ideal S256x128 .bf16) (xs1 : Vec Ideal S128x256 .bf16) (xs2 : Vec Ideal S128x256 .bf16) (xs3 : Vec Ideal S4x256x128 .f32) (xs4 : Vec Ideal S4x128x128 .f32) (v : Fin 4 → Fin 256 → EReal) (u : Fin 4 → Fin 128 → EReal) (hv : ∀ i r l, xs3 (ix3 i r l) = v i r) (hu : ∀ i r l, xs4 (ix3 i r l) = u i r) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 = (dataP i x0 x1 x2 x3 x4 x5 x6 xs0 xs1 xs2 v u).fa := by
  have hc := cover0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4
  unfold out0_B_17
  rw [View.read_writes_eq_canon _ _ _ hc]
  clear hc
  unfold kernelRun0_B
  dsimp only
  refine (View.canon_unit_zero zero3 _ _).trans ?_
  funext y
  obtain ⟨z, t, d, rfl⟩ : ∃ (z : Fin 1) (t : Fin 11) (d : Fin 128), y = ix3 z t d := ⟨y 0, y 1, y 2, by funext a; fin_cases a <;> rfl⟩
  obtain rfl : z = 0 := Subsingleton.elim _ _
  unfold kernelRun0_B.sl.r_5 kernelRun0_B.sl.v156 kernelRun0_B.sl.v157
  rw [pay1_eq]
  refine row_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) ?_ ?_ (tops_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs0 xs1 xs2 xs3 xs4 v u hv hu) t d
  · funext y
    rw [View.writes_append]
    refine (View.read_writes_apply_eq_canon _ _ y _ ?_).trans (View.canon_eq_of_allAt _ y _ ?_ (loop_s _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) xs0 xs1 xs2 xs3 xs4 x4 x5 x6 (harg5.read_unread x4) (harg6.read_unread x5) (harg7.read_unread x6) (harg19.read_unread xs0) (harg20.read_unread xs1) (harg22.read_unread xs3) (harg23.read_unread xs4) (holds_B c i arg1 harg1 arg2 harg2 arg3 harg3 arg4 harg4 x0 x1 x2 x3 x4 x5 x6 xs0 xs1 xs2 xs3 xs4 _ _ hv hu) y _ (by decide)))
    · exact View.cover_of_tiledL (s := S88x2688) _ S88x384.size (by sl_kernel_rfl) y
    · exact View.cover_of_tiledL (s := S88x2688) _ S88x384.size (by sl_kernel_rfl) y
  · funext y
    rw [View.writes_append]
    refine (View.read_writes_apply_eq_canon _ _ y _ ?_).trans (View.canon_eq_of_allAt _ y _ ?_ (loop_v _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (dataP i x0 x1 x2 x3 x4 x5 x6 xs0 xs1 xs2 v u) xs0 xs1 xs2 xs3 xs4 x4 x5 x6 (harg5.read_unread x4) (harg6.read_unread x5) (harg19.read_unread xs0) (harg21.read_unread xs2) (harg22.read_unread xs3) (harg23.read_unread xs4) (holds_B c i arg1 harg1 arg2 harg2 arg3 harg3 arg4 harg4 x0 x1 x2 x3 x4 x5 x6 xs0 xs1 xs2 xs3 xs4 _ _ hv hu) y _ (by decide)))
    · exact View.cover_of_tiledL (s := S128x2688) _ S128x384.size (by sl_kernel_rfl) y
    · exact View.cover_of_tiledL (s := S128x2688) _ S128x384.size (by sl_kernel_rfl) y

end Cert.At

end
-- ==== Proof.AttnPoints.lean ====
/-
  What every grid point of the attention kernel leaves: the weights and columns of the first point stay, and each point's outputs
  are those of the numbers that it works on.
-/
module

public import proofs.«01_k».proof.Proof.AttnTokensA
public import proofs.«01_k».proof.Proof.AttnTokensB

@[expose] public section

set_option maxRecDepth 16384
set_option maxHeartbeats 2000000

noncomputable section

namespace Cert.At

open Cert.AttnIdeal Cert.AttnIdeal.Gen Idealize.ShloMosaic Idealize.ShloMosaic.TcCoe Idealize.SL.Sem Idealize.ShloMosaic.Tactic

variable (m : (ℓ : Loc nD τ sig) → Buf (Elt Ideal) ℓ) (c : Dev nD)

/-- Argument `n` of the kernel. -/
abbrev a0 : Vec Ideal ⟨1, ![40]⟩ .i32 := m ((c : Thread nD τ).loc main_arg0)
abbrev a1 : Vec Ideal ⟨3, ![11, 40, 128]⟩ .f32 := m ((c : Thread nD τ).loc main_arg1)
abbrev a2 : Vec Ideal ⟨3, ![11, 40, 128]⟩ .f32 := m ((c : Thread nD τ).loc main_arg2)
abbrev a3 : Vec Ideal ⟨3, ![11, 40, 128]⟩ .f32 := m ((c : Thread nD τ).loc main_arg3)
abbrev a4 : Vec Ideal ⟨3, ![40, 128, 2688]⟩ .bf16 := m ((c : Thread nD τ).loc main_arg4)
abbrev a5 : Vec Ideal ⟨3, ![40, 256, 2688]⟩ .f32 := m ((c : Thread nD τ).loc main_arg5)
abbrev a6 : Vec Ideal ⟨2, ![256, 2688]⟩ .f32 := m ((c : Thread nD τ).loc main_arg6)
abbrev a7 : Vec Ideal ⟨3, ![2, 128, 256]⟩ .i8 := m ((c : Thread nD τ).loc main_arg7)
abbrev a8 : Vec Ideal ⟨2, ![2, 256]⟩ .f32 := m ((c : Thread nD τ).loc main_arg8)
abbrev a9 : Vec Ideal ⟨2, ![2, 256]⟩ .f32 := m ((c : Thread nD τ).loc main_arg9)
abbrev a10 : Vec Ideal ⟨3, ![2, 4, 256]⟩ .f32 := m ((c : Thread nD τ).loc main_arg10)
abbrev a11 : Vec Ideal ⟨3, ![2, 4, 256]⟩ .f32 := m ((c : Thread nD τ).loc main_arg11)
abbrev a12 : Vec Ideal ⟨3, ![3, 256, 128]⟩ .i8 := m ((c : Thread nD τ).loc main_arg12)
abbrev a13 : Vec Ideal ⟨2, ![3, 128]⟩ .f32 := m ((c : Thread nD τ).loc main_arg13)
abbrev a14 : Vec Ideal ⟨2, ![3, 128]⟩ .f32 := m ((c : Thread nD τ).loc main_arg14)

theorem idx0 : ∀ t : Fin cfg0.N, win0_0.index t = ![0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![t.val, 0, 0] := by decide +kernel
theorem idx5 : ∀ t : Fin cfg0.N, win0_5.index t = ![t.val, 0, 0] := by decide +kernel
theorem idx6 : ∀ t : Fin cfg0.N, win0_6.index t = ![0, 0] := by decide +kernel
theorem idx7 : ∀ t : Fin cfg0.N, win0_7.index t = ![1, 0, 0] := by decide +kernel
theorem idx8 : ∀ t : Fin cfg0.N, win0_8.index t = ![1, 0, 0] := by decide +kernel
theorem idx9 : ∀ t : Fin cfg0.N, win0_9.index t = ![2, 0, 0] := by decide +kernel
theorem idx10 : ∀ t : Fin cfg0.N, win0_10.index t = ![0, 0] := by decide +kernel
theorem idx11 : ∀ t : Fin cfg0.N, win0_11.index t = ![0, 0] := by decide +kernel

theorem coord : ∀ t : Fin cfg0.N, ((grid0.coords t) 0).val = t.val := by decide +kernel

theorem blk0 (t : Fin cfg0.N) : iblk m c 0 t = V m c main_arg0 := by
  funext y
  blk_ext [iblk, idx0 t]
theorem blk1 (t : Fin cfg0.N) : iblk m c 1 t = V m c main_arg1 := by
  funext y
  blk_ext [iblk, idx1 t]
theorem blk2 (t : Fin cfg0.N) : iblk m c 2 t = V m c main_arg2 := by
  funext y
  blk_ext [iblk, idx2 t]
theorem blk3 (t : Fin cfg0.N) : iblk m c 3 t = V m c main_arg3 := by
  funext y
  blk_ext [iblk, idx3 t]
theorem blk6 (t : Fin cfg0.N) : iblk m c 6 t = V m c main_arg6 := by
  funext y
  blk_ext [iblk, idx6 t]
theorem blk10 (t : Fin cfg0.N) : iblk m c 10 t = V m c main_v12 := by
  funext y
  blk_ext [iblk, idx10 t]
theorem blk11 (t : Fin cfg0.N) : iblk m c 11 t = V m c main_v25 := by
  funext y
  blk_ext [iblk, idx11 t]
theorem blk4 (t : Fin cfg0.N) (p : Fin 40) (hp : p.val = t.val) (d : Fin 128) (s : Fin 2688) :
    iblk m c 4 t (ix3 0 d s) = V m c main_arg4 (ix3 p d s) := by
  blk_ext [iblk, idx4 t]
theorem blk5 (t : Fin cfg0.N) (p : Fin 40) (hp : p.val = t.val) (r : Fin 256) (s : Fin 2688) :
    iblk m c 5 t (ix3 0 r s) = V m c main_arg5 (ix3 p r s) := by
  blk_ext [iblk, idx5 t]

/-- The block of the output weights that the call works with. -/
def blkWO : Vec Ideal S1x128x256 .i8 := fun i => V m c main_arg7 (ix3 1 (i 1) (i 2))
/-- The blocks of the key and value weights that the call works with. -/
def blkWK : Vec Ideal S1x256x128 .i8 := fun i => V m c main_arg12 (ix3 1 (i 1) (i 2))
def blkWV : Vec Ideal S1x256x128 .i8 := fun i => V m c main_arg12 (ix3 2 (i 1) (i 2))

theorem blk7 (t : Fin cfg0.N) : iblk m c 7 t = blkWO m c := by
  funext y
  obtain ⟨z, k, r, rfl⟩ : ∃ (z : Fin 1) (k : Fin 128) (r : Fin 256), y = ix3 z k r := ⟨y 0, y 1, y 2, by funext a; fin_cases a <;> rfl⟩
  show iblk m c 7 t (ix3 z k r) = V m c main_arg7 (ix3 1 k r)
  blk_ext [iblk, idx7 t]
theorem blk8 (t : Fin cfg0.N) : iblk m c 8 t = blkWK m c := by
  funext y
  obtain ⟨z, k, r, rfl⟩ : ∃ (z : Fin 1) (k : Fin 256) (r : Fin 128), y = ix3 z k r := ⟨y 0, y 1, y 2, by funext a; fin_cases a <;> rfl⟩
  show iblk m c 8 t (ix3 z k r) = V m c main_arg12 (ix3 1 k r)
  blk_ext [iblk, idx8 t]
theorem blk9 (t : Fin cfg0.N) : iblk m c 9 t = blkWV m c := by
  funext y
  obtain ⟨z, k, r, rfl⟩ : ∃ (z : Fin 1) (k : Fin 256) (r : Fin 128), y = ix3 z k r := ⟨y 0, y 1, y 2, by funext a; fin_cases a <;> rfl⟩
  show iblk m c 9 t (ix3 z k r) = V m c main_arg12 (ix3 2 k r)
  blk_ext [iblk, idx9 t]

/-- What is kept after any point. -/
theorem kept_at : ∀ (n : ℕ) (hn : n < cfg0.N), (outsAt0 m c n hn).2.2.2.2.2.2
    = (keptWO (blkWO m c), keptWI (blkWK m c), keptWI (blkWV m c), keptCol (V m c main_v12), keptKV (V m c main_v25)) := by
  intro n
  induction n with
  | zero =>
    intro hn
    have e := outsAt0_A m c ⟨0, hn⟩ (Nat.zero_mod _)
    dsimp only at e
    rw [e]
    dsimp only
    rw [sout_A_0, sout_A_1, sout_A_2, sout_A_3, sout_A_4, blk7, blk8, blk9, blk10, blk11]
  | succ n ih =>
    intro hn
    have hN := lt_of_lt_of_eq hn (show cfg0.N = 40 from N_0)
    have e := outsAt0_B m c ⟨n + 1, hn⟩ (by show ¬ (n + 1) % 40 = 0; omega)
    dsimp only at e
    rw [e]
    dsimp only
    rw [sout_B_0, sout_B_1, sout_B_2, sout_B_3, sout_B_4]
    exact ih (Nat.lt_of_succ_lt hn)

/-- What point `t` works on. -/
def dataV (t : Fin cfg0.N) : Data :=
  dataP (grid0.coords t) (iblk m c 0 t) (iblk m c 1 t) (iblk m c 2 t) (iblk m c 3 t) (iblk m c 4 t) (iblk m c 5 t) (iblk m c 6 t)
    (keptWO (blkWO m c)) (keptWI (blkWK m c)) (keptWI (blkWV m c)) (fun i r => V m c main_v12 (ix2 i r)) (fun i r => V m c main_v25 (ix2 i r))

/-- The six blocks that a point leaves. -/
theorem blocks_at (t : Fin cfg0.N) :
    (outsAt0 m c t.val t.isLt).1 = (dataV m c t).kc
    ∧ (outsAt0 m c t.val t.isLt).2.1 = (dataV m c t).kcs
    ∧ (outsAt0 m c t.val t.isLt).2.2.1 = (dataV m c t).ic
    ∧ (outsAt0 m c t.val t.isLt).2.2.2.1 = (dataV m c t).ics
    ∧ (outsAt0 m c t.val t.isLt).2.2.2.2.1 = (dataV m c t).ict
    ∧ (outsAt0 m c t.val t.isLt).2.2.2.2.2.1 = (dataV m c t).fa := by
  by_cases h0 : t.val % 40 = 0
  · rw [outsAt0_A m c t h0]
    dsimp only
    rw [out_A_12, out_A_13, out_A_14, out_A_15, out_A_16, out_A_17, blk7, blk8, blk9, blk10, blk11]
    exact ⟨rfl, rfl, rfl, rfl, rfl, rfl⟩
  · rw [outsAt0_B m c t h0]
    dsimp only
    have k := kept_at m c (t.val - 1) (Nat.lt_of_le_of_lt (Nat.sub_le _ _) t.isLt)
    generalize outsAt0 m c (t.val - 1) (Nat.lt_of_le_of_lt (Nat.sub_le _ _) t.isLt) = o at k ⊢
    obtain ⟨o1, o2, o3, o4, o5, o6, o7⟩ := o
    dsimp only at k
    subst k
    dsimp only
    have h1 : ∀ (i : Fin 4) (r : Fin 256) (l : Fin 128), keptCol (V m c main_v12) (ix3 i r l) = (fun i r => V m c main_v12 (ix2 i r)) i r := fun _ _ _ => rfl
    have h2 : ∀ (i : Fin 4) (r : Fin 128) (l : Fin 128), keptKV (V m c main_v25) (ix3 i r l) = (fun i r => V m c main_v25 (ix2 i r)) i r := fun _ _ _ => rfl
    exact ⟨out_B_12 (v := fun i r => V m c main_v12 (ix2 i r)) (u := fun i r => V m c main_v25 (ix2 i r)) (hv := h1) (hu := h2) .., out_B_13 (v := fun i r => V m c main_v12 (ix2 i r)) (u := fun i r => V m c main_v25 (ix2 i r)) (hv := h1) (hu := h2) .., out_B_14 (v := fun i r => V m c main_v12 (ix2 i r)) (u := fun i r => V m c main_v25 (ix2 i r)) (hv := h1) (hu := h2) .., out_B_15 (v := fun i r => V m c main_v12 (ix2 i r)) (u := fun i r => V m c main_v25 (ix2 i r)) (hv := h1) (hu := h2) .., out_B_16 (v := fun i r => V m c main_v12 (ix2 i r)) (u := fun i r => V m c main_v25 (ix2 i r)) (hv := h1) (hu := h2) .., out_B_17 (v := fun i r => V m c main_v12 (ix2 i r)) (u := fun i r => V m c main_v25 (ix2 i r)) (hv := h1) (hu := h2) ..⟩

end Cert.At

end
-- ==== Proof.AttnEntry.lean ====
/-
  The rows of numbers that the attention kernel's region finds, entry by entry, in terms of the arguments.
-/
module

public import proofs.«01_k».proof.Proof.AttnKept
public import Idealize.ShloMosaic.Lib.StableHlo.RunRead

@[expose] public section

set_option maxRecDepth 16384
set_option maxHeartbeats 2000000

noncomputable section

namespace Cert.At

open Cert.AttnIdeal Cert.AttnIdeal.Gen Idealize.ShloMosaic Idealize.ShloMosaic.TcCoe Idealize.SL.Sem Idealize.ShloMosaic.Tactic

variable (m : (ℓ : Loc nD τ sig) → Buf (Elt Ideal) ℓ) (c : Dev nD)

theorem col_0 (r : Fin 256) : V m c main_v12 (ix2 0 r) = m ((c : Thread nD τ).loc main_arg8) (ix2 1 r) := by
  unfold V
  simp only [hostOps0]
  after_reads_simp
  pointwise
  after_reads_simp
  pointwise

theorem col_1 (r : Fin 256) : V m c main_v12 (ix2 1 r) = m ((c : Thread nD τ).loc main_arg9) (ix2 1 r) := by
  unfold V
  simp only [hostOps0]
  after_reads_simp
  pointwise
  after_reads_simp
  pointwise

theorem col_2 (r : Fin 256) : V m c main_v12 (ix2 2 r) = m ((c : Thread nD τ).loc main_arg10) (ix3 1 3 r) := by
  unfold V
  simp only [hostOps0]
  after_reads_simp
  pointwise
  after_reads_simp
  pointwise

theorem col_3 (r : Fin 256) : V m c main_v12 (ix2 3 r) = m ((c : Thread nD τ).loc main_arg11) (ix3 1 3 r) := by
  unfold V
  simp only [hostOps0]
  after_reads_simp
  pointwise
  after_reads_simp
  pointwise

theorem kv_0 (r : Fin 128) : V m c main_v25 (ix2 0 r) = m ((c : Thread nD τ).loc main_arg13) (ix2 1 r) := by
  unfold V
  simp only [hostOps0]
  after_reads_simp
  pointwise
  after_reads_simp
  pointwise

theorem kv_1 (r : Fin 128) : V m c main_v25 (ix2 1 r) = m ((c : Thread nD τ).loc main_arg14) (ix2 1 r) := by
  unfold V
  simp only [hostOps0]
  after_reads_simp
  pointwise
  after_reads_simp
  pointwise

theorem kv_2 (r : Fin 128) : V m c main_v25 (ix2 2 r) = m ((c : Thread nD τ).loc main_arg13) (ix2 2 r) := by
  unfold V
  simp only [hostOps0]
  after_reads_simp
  pointwise
  after_reads_simp
  pointwise

theorem kv_3 (r : Fin 128) : V m c main_v25 (ix2 3 r) = m ((c : Thread nD τ).loc main_arg14) (ix2 2 r) := by
  unfold V
  simp only [hostOps0]
  after_reads_simp
  pointwise
  after_reads_simp
  pointwise

end Cert.At

end
-- ==== Proof.AttnSpec.lean ====
/-
  The attention call's mathematics in terms of its arguments: the numbers that prompt `p` works on, the bias of a token by
  its place, and the facts about the softmax under which a product with the reciprocal of the sum is the quotient by it.
-/
module

public import proofs.«01_k».proof.Proof.AttnHeads
public import proofs.«01_k».proof.Proof.Spec

@[expose] public section

set_option maxRecDepth 16384

noncomputable section

namespace Cert.At

open Idealize.ShloMosaic Cert.Up

section
variable (x0 : Vec Ideal ⟨1, ![40]⟩ .i32) (x1 x2 x3 : Vec Ideal ⟨3, ![11, 40, 128]⟩ .f32) (x4 : Vec Ideal ⟨3, ![40, 128, 2688]⟩ .bf16)
  (x5 : Vec Ideal ⟨3, ![40, 256, 2688]⟩ .f32) (x6 : Vec Ideal ⟨2, ![256, 2688]⟩ .f32) (x7 : Vec Ideal ⟨3, ![2, 128, 256]⟩ .i8)
  (x8 x9 : Vec Ideal ⟨2, ![2, 256]⟩ .f32) (x10 x11 : Vec Ideal ⟨3, ![2, 4, 256]⟩ .f32) (x12 : Vec Ideal ⟨3, ![3, 256, 128]⟩ .i8)
  (x13 x14 : Vec Ideal ⟨2, ![3, 128]⟩ .f32)

/-- What prompt `p` works on. -/
def dataS (p : Fin 40) : Data where
  K := fun t d => x1 (ix3 t p d)
  V := fun t d => x2 (ix3 t p d)
  B := bias (x0 (ix1 p))
  T := fun t d => x3 (ix3 t p d)
  wo := fun r k => num (x7 (ix3 1 k r))
  wk := fun r k => num (x12 (ix3 1 k r))
  wv := fun r k => num (x12 (ix3 2 k r))
  cv := fun i r => ![x8 (ix2 1 r), x9 (ix2 1 r), x10 (ix3 1 3 r), x11 (ix3 1 3 r)] i
  kv := fun i r => ![x13 (ix2 1 r), x14 (ix2 1 r), x13 (ix2 2 r), x14 (ix2 2 r)] i
  q := fun d s => x4 (ix3 p d s)
  x := fun r s => x5 (ix3 p r s)
  pe := fun r s => x6 (ix2 r s)

end

/-- Unless the count of tokens is near the ends of the words, five more of them and eight rows for each are counted without overflow. -/
theorem rows_count (w : BitVec 32) (h0 : -4 ≤ w.toInt) (h6 : w.toInt ≤ 268435450) :
    (5#32 + w).toInt = 5 + w.toInt ∧ ((5#32 + w) * 8#32).toInt = (5 + w.toInt) * 8 := by
  have h5 : (5#32).toInt = 5 := by decide
  have h8 : (8#32).toInt = 8 := by decide
  have e : (5#32 + w).toInt = 5 + w.toInt := by
    rw [BitVec.toInt_add, h5, Int.bmod_def]
    push_cast
    split <;> omega
  refine ⟨e, ?_⟩
  rw [BitVec.toInt_mul, e, h8, Int.bmod_def]
  push_cast
  split <;> omega

theorem small_toInt (n : ℕ) (hn : n < 88) : (BitVec.ofNat 32 n).toInt = n := by
  rw [BitVec.toInt_ofNat', Int.bmod_def]
  omega

/-- The bias is zero at the valid tokens. -/
theorem bias_valid (w : BitVec 32) (h0 : -4 ≤ w.toInt) (h6 : w.toInt ≤ 268435450) (t : Fin 11) (a : EReal) :
    a + bias w t = Scalar.select (IntOp.cmpi .slt (BitVec.ofNat 32 t.val) (5#32 + w)) a ⊥ := by
  obtain ⟨e1, e2⟩ := rows_count w h0 h6
  have hb : (BitVec.ofNat 32 (t.val * 8)).slt ((5#32 + w) * 8#32) = (BitVec.ofNat 32 t.val).slt (5#32 + w) := by
    rw [BitVec.slt_eq_decide, BitVec.slt_eq_decide, small_toInt _ (by omega), small_toInt _ (by omega), e1, e2]
    refine decide_eq_decide.mpr ?_
    push_cast
    omega
  unfold bias IntOp.cmpi
  rw [hb]
  generalize (BitVec.ofNat 32 t.val).slt (5#32 + w) = z
  unfold Scalar.select
  cases z <;> simp

/-- The first token is always valid. -/
theorem bias_first (w : BitVec 32) (h0 : -4 ≤ w.toInt) (h6 : w.toInt ≤ 268435450) : bias w 0 = 0 := by
  obtain ⟨_, e2⟩ := rows_count w h0 h6
  have hb : (BitVec.ofNat 32 ((0 : Fin 11).val * 8)).slt ((5#32 + w) * 8#32) = true := by
    rw [BitVec.slt_eq_decide, small_toInt _ (by decide), e2]
    refine decide_eq_true ?_
    push_cast
    simp
    omega
  unfold bias
  rw [hb]
  rfl

/-- The bias is zero or minus infinity. -/
theorem bias_cases (w : BitVec 32) (t : Fin 11) : bias w t = 0 ∨ bias w t = ⊥ := by
  unfold bias
  split
  · exact Or.inl rfl
  · exact Or.inr rfl

/-- Two to a power, as the host writes it. -/
theorem pow_two (x : EReal) : Ideal.pow (Ideal.ofBits .f32 0x40000000#32) x = Ideal.exp2 x := by
  have h : Ideal.ofBits .f32 0x40000000#32 = ((2 : ℝ) : EReal) := by
    simp [Ideal.ofBits, Ideal.ieee, -EReal.coe_mul]
    norm_num
  rw [h]
  induction x using EReal.rec with
  | bot => show (if (2 : ℝ) < 0 then ⊥ else if (1 : ℝ) < 2 then 0 else _) = _; rw [if_neg (by norm_num), if_pos (by norm_num)]; rfl
  | top => show (if (2 : ℝ) < 0 then ⊥ else if (1 : ℝ) < 2 then ⊤ else _) = _; rw [if_neg (by norm_num), if_pos (by norm_num)]; rfl
  | coe r => rfl

/-- The two constants that the score is multiplied by, in one. -/
theorem scale_one (x : EReal) : x * Ideal.ofBits .f32 0x3E800000#32 * Ideal.ofBits .f32 0x3FB8AA3B#32 = x * Ideal.ofBits .f32 0x3EB8AA3B#32 := by
  rw [mul_assoc]
  have h : Ideal.ofBits .f32 0x3E800000#32 * Ideal.ofBits .f32 0x3FB8AA3B#32 = Ideal.ofBits .f32 0x3EB8AA3B#32 := by
    have h1 : Ideal.ofBits .f32 0x3E800000#32 = ((1 / 4 : ℝ) : EReal) := by
      simp [Ideal.ofBits, Ideal.ieee, -EReal.coe_mul]; norm_num
    have h2 : Ideal.ofBits .f32 0x3FB8AA3B#32 = ((12102203 / 2 ^ 23 : ℝ) : EReal) := by
      simp [Ideal.ofBits, Ideal.ieee, -EReal.coe_mul]; norm_num
    have h3 : Ideal.ofBits .f32 0x3EB8AA3B#32 = ((12102203 / 2 ^ 25 : ℝ) : EReal) := by
      simp [Ideal.ofBits, Ideal.ieee, -EReal.coe_mul]; norm_num
    rw [h1, h2, h3, ← EReal.coe_mul]
    congr 1
    norm_num
  rw [h]

theorem scale_real : ∃ c : ℝ, 0 < c ∧ Ideal.ofBits .f32 0x3EB8AA3B#32 = (c : EReal) := by
  refine ⟨12102203 / 2 ^ 25, by norm_num, ?_⟩
  simp [Ideal.ofBits, Ideal.ieee, -EReal.coe_mul]; norm_num

/-- The largest of scaled numbers is the largest, scaled. -/
theorem fold_scale {n : ℕ} (f : Fin n → EReal) :
    Finset.univ.fold max (Ideal.ofBits .f32 0xFF800000#32) (fun s => f s * Ideal.ofBits .f32 0x3EB8AA3B#32)
      = Finset.univ.fold max (Ideal.ofBits .f32 0xFF800000#32) f * Ideal.ofBits .f32 0x3EB8AA3B#32 := by
  obtain ⟨c, hc, e⟩ := scale_real
  rw [e, bits_ninf]
  have hm : Monotone fun x : EReal => x * (c : EReal) := fun x y h =>
    mul_le_mul_of_nonneg_right h (EReal.coe_nonneg.mpr hc.le)
  have hb : (⊥ : EReal) * (c : EReal) = ⊥ := EReal.bot_mul_coe_of_pos hc
  have h := Finset.fold_hom (op := max) (op' := max) (m := fun x : EReal => x * (c : EReal)) (f := f) (b := ⊥) (s := Finset.univ)
    (fun x y => hm.map_max)
  rw [← h, hb]

/-- The weights of finite scores, the first of which is not minus infinity, do not add up to zero. -/
theorem denS_ne_zero (σ : Fin 11 → EReal) (htop : ∀ t, σ t ≠ ⊤) (h0 : σ 0 ≠ ⊥) : denS σ ≠ 0 := by
  have hle : ∀ t, σ t ≤ Finset.univ.fold max (Ideal.ofBits .f32 0xFF800000#32) σ := fun t =>
    (Finset.le_fold_max _).mpr (Or.inr ⟨t, Finset.mem_univ _, le_rfl⟩)
  have hlt : Finset.univ.fold max (Ideal.ofBits .f32 0xFF800000#32) σ < ⊤ := by
    rw [Finset.fold_max_lt]
    refine ⟨?_, fun t _ => lt_top_iff_ne_top.mpr (htop t)⟩
    rw [bits_ninf]
    exact bot_lt_top
  have hgt : ⊥ < Finset.univ.fold max (Ideal.ofBits .f32 0xFF800000#32) σ := lt_of_lt_of_le (bot_lt_iff_ne_bot.mpr h0) (hle 0)
  have hnn : ∀ x : EReal, 0 ≤ Ideal.exp2 x := by
    intro x
    induction x using EReal.rec with
    | bot => exact le_rfl
    | top => exact le_top
    | coe r => exact EReal.coe_nonneg.mpr (Real.rpow_nonneg (by norm_num) r)
  have hp : 0 < probS σ 0 := by
    unfold probS shiftS
    generalize Finset.univ.fold max (Ideal.ofBits .f32 0xFF800000#32) σ = M at hlt hgt
    generalize hs : σ 0 = a
    have ha : a ≠ ⊤ := hs ▸ htop 0
    have hb : a ≠ ⊥ := hs ▸ h0
    lift a to ℝ using ⟨ha, hb⟩
    lift M to ℝ using ⟨hlt.ne, hgt.ne'⟩
    have e : ceilS (M : EReal) = ((⌈M⌉ : ℝ) : EReal) := rfl
    rw [e, ← EReal.coe_sub]
    exact EReal.coe_pos.mpr (Real.rpow_pos_of_pos (by norm_num) _)
  unfold denS
  refine (lt_of_lt_of_le hp ?_).ne'
  exact Finset.single_le_sum (f := fun t => probS σ t) (fun t _ => hnn _) (Finset.mem_univ 0)

/-- A score of finite keys against a finite pixel is no plus infinity, and finite at the first token. -/
theorem attScore_finite (K : Fin 11 → Fin 128 → EReal) (w : BitVec 32) (q : Fin 128 → EReal) (h0 : -4 ≤ w.toInt) (h6 : w.toInt ≤ 268435450)
    (hK : ∀ t d, ∃ r : ℝ, K t d = r) (hq : ∀ d, ∃ r : ℝ, q d = r) (h : Fin 8) :
    denS (attScore K (bias w) q h) ≠ 0 := by
  choose k hk using hK
  choose r hr using hq
  obtain ⟨c, hc, e⟩ := scale_real
  have hs : ∀ t, attScore K (bias w) q h t = (((∑ j, k t (chanOf h j) * r (chanOf h j)) * c : ℝ) : EReal) + bias w t := by
    intro t
    unfold attScore
    rw [e, EReal.coe_mul]
    refine congrArg (fun z : EReal => z * (c : EReal) + bias w t) ?_
    refine (Finset.sum_congr rfl fun j _ => by rw [hk, hr, ← EReal.coe_mul]).trans ?_
    exact (map_sum (⟨⟨Real.toEReal, rfl⟩, EReal.coe_add⟩ : ℝ →+ EReal) (fun j => k t (chanOf h j) * r (chanOf h j)) Finset.univ).symm
  refine denS_ne_zero _ (fun t => ?_) ?_
  · rw [hs]
    rcases bias_cases w t with hb | hb
    · rw [hb, add_zero]; exact EReal.coe_ne_top _
    · rw [hb, EReal.add_bot]; exact bot_ne_top
  · rw [hs, bias_first w h0 h6, add_zero]
    exact EReal.coe_ne_bot _

/-- The attention output by a quotient. -/
theorem attOut_div (V : Fin 11 → Fin 128 → EReal) (σ : Fin 8 → Fin 11 → EReal) (hσ : ∀ h, denS (σ h) ≠ 0) (d : Fin 128) :
    Ideal.div (∑ t, V t d * probS (σ (headOf d)) t) (denS (σ (headOf d))) = attOut V σ d := by
  unfold attOut
  exact (Ideal.mul_one_div (hσ _)).symm

end Cert.At

end
-- ==== Proof.AttnFinal.lean ====
/-
  The attention kernel's six arrays, number by number, in terms of its arguments.
-/
module

public import proofs.«01_k».proof.Proof.AttnPoints
public import proofs.«01_k».proof.Proof.AttnEntry
public import proofs.«01_k».proof.Proof.AttnSpec
public import proofs.«01_k».proof.Proof.Gen.AttnIdeal.Value

@[expose] public section

set_option maxRecDepth 16384
set_option maxHeartbeats 2000000

noncomputable section

namespace Cert.At

open Cert.AttnIdeal Cert.AttnIdeal.Gen Cert.AttnIdeal.Value Idealize.ShloMosaic Idealize.ShloMosaic.TcCoe Idealize.SL.Sem Idealize.ShloMosaic.Tactic

variable (m : (ℓ : Loc nD τ sig) → Buf (Elt Ideal) ℓ) (c : Dev nD)

theorem data_ext {D E : Data} (h1 : D.K = E.K) (h2 : D.V = E.V) (h3 : D.B = E.B) (h4 : D.T = E.T) (h5 : D.wo = E.wo) (h6 : D.wk = E.wk)
    (h7 : D.wv = E.wv) (h8 : D.cv = E.cv) (h9 : D.kv = E.kv) (h10 : D.q = E.q) (h11 : D.x = E.x) (h12 : D.pe = E.pe) : D = E := by
  cases D
  cases E
  dsimp only at *
  subst h1 h2 h3 h4 h5 h6 h7 h8 h9 h10 h11 h12
  rfl

/-- What point `t` works on is what the specification says of prompt `p`. -/
theorem data_at (t : Fin cfg0.N) (p : Fin 40) (hp : p.val = t.val) : dataV m c t = dataS (a0 m c) (a1 m c) (a2 m c) (a3 m c) (a4 m c) (a5 m c) (a6 m c) (a7 m c) (a8 m c) (a9 m c) (a10 m c) (a11 m c) (a12 m c) (a13 m c) (a14 m c) p := by
  have hco : (grid0.coords t) 0 = p := Fin.ext ((coord t).trans hp.symm)
  refine data_ext ?_ ?_ ?_ ?_ ?_ ?_ ?_ ?_ ?_ ?_ ?_ ?_
  · funext u d
    show iblk m c 1 t (ix3 u ((grid0.coords t) 0) d) = a1 m c (ix3 u p d)
    rw [hco, blk1, V_main_arg1]
  · funext u d
    show iblk m c 2 t (ix3 u ((grid0.coords t) 0) d) = a2 m c (ix3 u p d)
    rw [hco, blk2, V_main_arg2]
  · show bias (iblk m c 0 t (ix1 ((grid0.coords t) 0))) = bias (a0 m c (ix1 p))
    rw [hco, blk0, V_main_arg0]
  · funext u d
    show iblk m c 3 t (ix3 u ((grid0.coords t) 0) d) = a3 m c (ix3 u p d)
    rw [hco, blk3, V_main_arg3]
  · funext r k
    show Cert.Up.num (V m c main_arg7 (ix3 1 k r)) = Cert.Up.num (a7 m c (ix3 1 k r))
    rw [V_main_arg7]
  · funext r k
    show Cert.Up.num (V m c main_arg12 (ix3 1 k r)) = Cert.Up.num (a12 m c (ix3 1 k r))
    rw [V_main_arg12]
  · funext r k
    show Cert.Up.num (V m c main_arg12 (ix3 2 k r)) = Cert.Up.num (a12 m c (ix3 2 k r))
    rw [V_main_arg12]
  · funext i r
    match i with
    | ⟨0, _⟩ => exact col_0 m c r
    | ⟨1, _⟩ => exact col_1 m c r
    | ⟨2, _⟩ => exact col_2 m c r
    | ⟨3, _⟩ => exact col_3 m c r
  · funext i r
    match i with
    | ⟨0, _⟩ => exact kv_0 m c r
    | ⟨1, _⟩ => exact kv_1 m c r
    | ⟨2, _⟩ => exact kv_2 m c r
    | ⟨3, _⟩ => exact kv_3 m c r
  · funext d s
    show iblk m c 4 t (ix3 0 d s) = a4 m c (ix3 p d s)
    rw [blk4 m c t p hp, V_main_arg4]
  · funext r s
    show iblk m c 5 t (ix3 0 r s) = a5 m c (ix3 p r s)
    rw [blk5 m c t p hp, V_main_arg5]
  · funext r s
    show iblk m c 6 t (ix2 r s) = a6 m c (ix2 r s)
    rw [blk6, V_main_arg6]

/-- The codes of the image with the position encoding. -/
theorem final_kc (p : Fin 40) (s : Fin 2688) (r : Fin 256) : G12 m c (ix3 p s r) = Cert.Up.word (codeN ((dataS (a0 m c) (a1 m c) (a2 m c) (a3 m c) (a4 m c) (a5 m c) (a6 m c) (a7 m c) (a8 m c) (a9 m c) (a10 m c) (a11 m c) (a12 m c) (a13 m c) (a14 m c) p).key s) r) := by
  have hq : pt12Of (ix3 p s r) = p.val := by
    show 1 * (p.val / 1 - 0) + 1 * (s.val / 2688 - 0) + 1 * (r.val / 256 - 0) = p.val
    omega
  have hN : (cfg0.N : ℕ) = 40 := N_0
  have h : pt12Of (ix3 p s r) < cfg0.N := by rw [hq, hN]; exact p.isLt
  have hl : loc12Of (ix3 p s r) = ix3 0 s r := by
    funext a
    match a with
    | ⟨0, _⟩ => exact Fin.ext (show p.val % 1 = 0 by omega)
    | ⟨1, _⟩ => exact Fin.ext (show s.val % 2688 = s.val by omega)
    | ⟨2, _⟩ => exact Fin.ext (show r.val % 256 = r.val by omega)
  unfold G12
  rw [dif_pos h, ← outsAt0_sweep m c _ h, hl, (blocks_at m c ⟨_, h⟩).1, data_at m c ⟨_, h⟩ p hq.symm]
  rfl

/-- Their scales. -/
theorem final_kcs (p : Fin 40) (z : Fin 1) (s : Fin 2688) : G13 m c (ix3 p z s) = scaleN ((dataS (a0 m c) (a1 m c) (a2 m c) (a3 m c) (a4 m c) (a5 m c) (a6 m c) (a7 m c) (a8 m c) (a9 m c) (a10 m c) (a11 m c) (a12 m c) (a13 m c) (a14 m c) p).key s) := by
  have hq : pt13Of (ix3 p z s) = p.val := by
    show 1 * (p.val / 1 - 0) + 1 * (z.val / 1 - 0) + 1 * (s.val / 2688 - 0) = p.val
    omega
  have hN : (cfg0.N : ℕ) = 40 := N_0
  have h : pt13Of (ix3 p z s) < cfg0.N := by rw [hq, hN]; exact p.isLt
  have hl : loc13Of (ix3 p z s) = ix3 0 z s := by
    funext a
    match a with
    | ⟨0, _⟩ => exact Fin.ext (show p.val % 1 = 0 by omega)
    | ⟨1, _⟩ => exact Fin.ext (show z.val % 1 = z.val by omega)
    | ⟨2, _⟩ => exact Fin.ext (show s.val % 2688 = s.val by omega)
  unfold G13
  rw [dif_pos h, ← outsAt0_sweep m c _ h, hl, (blocks_at m c ⟨_, h⟩).2.1, data_at m c ⟨_, h⟩ p hq.symm]
  rfl

/-- The codes of the image. -/
theorem final_ic (p : Fin 40) (s : Fin 2688) (r : Fin 256) : G14 m c (ix3 p s r) = Cert.Up.word (codeN ((dataS (a0 m c) (a1 m c) (a2 m c) (a3 m c) (a4 m c) (a5 m c) (a6 m c) (a7 m c) (a8 m c) (a9 m c) (a10 m c) (a11 m c) (a12 m c) (a13 m c) (a14 m c) p).img s) r) := by
  have hq : pt14Of (ix3 p s r) = p.val := by
    show 1 * (p.val / 1 - 0) + 1 * (s.val / 2688 - 0) + 1 * (r.val / 256 - 0) = p.val
    omega
  have hN : (cfg0.N : ℕ) = 40 := N_0
  have h : pt14Of (ix3 p s r) < cfg0.N := by rw [hq, hN]; exact p.isLt
  have hl : loc14Of (ix3 p s r) = ix3 0 s r := by
    funext a
    match a with
    | ⟨0, _⟩ => exact Fin.ext (show p.val % 1 = 0 by omega)
    | ⟨1, _⟩ => exact Fin.ext (show s.val % 2688 = s.val by omega)
    | ⟨2, _⟩ => exact Fin.ext (show r.val % 256 = r.val by omega)
  unfold G14
  rw [dif_pos h, ← outsAt0_sweep m c _ h, hl, (blocks_at m c ⟨_, h⟩).2.2.1, data_at m c ⟨_, h⟩ p hq.symm]
  rfl

/-- Their scales. -/
theorem final_ics (p : Fin 40) (z : Fin 1) (s : Fin 2688) : G15 m c (ix3 p z s) = scaleN ((dataS (a0 m c) (a1 m c) (a2 m c) (a3 m c) (a4 m c) (a5 m c) (a6 m c) (a7 m c) (a8 m c) (a9 m c) (a10 m c) (a11 m c) (a12 m c) (a13 m c) (a14 m c) p).img s) := by
  have hq : pt15Of (ix3 p z s) = p.val := by
    show 1 * (p.val / 1 - 0) + 1 * (z.val / 1 - 0) + 1 * (s.val / 2688 - 0) = p.val
    omega
  have hN : (cfg0.N : ℕ) = 40 := N_0
  have h : pt15Of (ix3 p z s) < cfg0.N := by rw [hq, hN]; exact p.isLt
  have hl : loc15Of (ix3 p z s) = ix3 0 z s := by
    funext a
    match a with
    | ⟨0, _⟩ => exact Fin.ext (show p.val % 1 = 0 by omega)
    | ⟨1, _⟩ => exact Fin.ext (show z.val % 1 = z.val by omega)
    | ⟨2, _⟩ => exact Fin.ext (show s.val % 2688 = s.val by omega)
  unfold G15
  rw [dif_pos h, ← outsAt0_sweep m c _ h, hl, (blocks_at m c ⟨_, h⟩).2.2.2.1, data_at m c ⟨_, h⟩ p hq.symm]
  rfl

/-- The codes of the image channel by channel. -/
theorem final_ict (p : Fin 40) (r : Fin 256) (s : Fin 2688) : G16 m c (ix3 p r s) = codeN ((dataS (a0 m c) (a1 m c) (a2 m c) (a3 m c) (a4 m c) (a5 m c) (a6 m c) (a7 m c) (a8 m c) (a9 m c) (a10 m c) (a11 m c) (a12 m c) (a13 m c) (a14 m c) p).img s) r := by
  have hq : pt16Of (ix3 p r s) = p.val := by
    show 1 * (p.val / 1 - 0) + 1 * (r.val / 256 - 0) + 1 * (s.val / 2688 - 0) = p.val
    omega
  have hN : (cfg0.N : ℕ) = 40 := N_0
  have h : pt16Of (ix3 p r s) < cfg0.N := by rw [hq, hN]; exact p.isLt
  have hl : loc16Of (ix3 p r s) = ix3 0 r s := by
    funext a
    match a with
    | ⟨0, _⟩ => exact Fin.ext (show p.val % 1 = 0 by omega)
    | ⟨1, _⟩ => exact Fin.ext (show r.val % 256 = r.val by omega)
    | ⟨2, _⟩ => exact Fin.ext (show s.val % 2688 = s.val by omega)
  unfold G16
  rw [dif_pos h, ← outsAt0_sweep m c _ h, hl, (blocks_at m c ⟨_, h⟩).2.2.2.2.1, data_at m c ⟨_, h⟩ p hq.symm]
  rfl

/-- The attention output of the tokens. -/
theorem final_fa (p : Fin 40) (t : Fin 11) (d : Fin 128) : G17 m c (ix3 p t d) = (dataS (a0 m c) (a1 m c) (a2 m c) (a3 m c) (a4 m c) (a5 m c) (a6 m c) (a7 m c) (a8 m c) (a9 m c) (a10 m c) (a11 m c) (a12 m c) (a13 m c) (a14 m c) p).out t d := by
  have hq : pt17Of (ix3 p t d) = p.val := by
    show 1 * (p.val / 1 - 0) + 1 * (t.val / 11 - 0) + 1 * (d.val / 128 - 0) = p.val
    omega
  have hN : (cfg0.N : ℕ) = 40 := N_0
  have h : pt17Of (ix3 p t d) < cfg0.N := by rw [hq, hN]; exact p.isLt
  have hl : loc17Of (ix3 p t d) = ix3 0 t d := by
    funext a
    match a with
    | ⟨0, _⟩ => exact Fin.ext (show p.val % 1 = 0 by omega)
    | ⟨1, _⟩ => exact Fin.ext (show t.val % 11 = t.val by omega)
    | ⟨2, _⟩ => exact Fin.ext (show d.val % 128 = d.val by omega)
  unfold G17
  rw [dif_pos h, ← outsAt0_sweep m c _ h, hl, (blocks_at m c ⟨_, h⟩).2.2.2.2.2, data_at m c ⟨_, h⟩ p hq.symm]
  rfl

end Cert.At

end
-- ==== Proof.AttnRefScore.lean ====
/-
  The reference of the attention call, number by number: the scores of the pixels against the tokens and the attention output.
-/
module

public import proofs.«01_k».proof.Proof.AttnSpec
public import proofs.«01_k».proof.Proof.Reference
public import proofs.«01_k».proof.Proof.Gen.AttnRefIdeal.Read

@[expose] public section

set_option maxRecDepth 16384

noncomputable section

namespace Cert.At

open Cert.AttnRefIdeal Cert.AttnRefIdeal.Read Idealize.ShloMosaic Cert.Up

variable (x0 : Vec Ideal ⟨1, ![40]⟩ .i32) (x1 x2 x3 : Vec Ideal ⟨3, ![11, 40, 128]⟩ .f32) (x4 : Vec Ideal ⟨3, ![40, 128, 2688]⟩ .bf16)
  (x5 : Vec Ideal ⟨3, ![40, 256, 2688]⟩ .f32) (x6 : Vec Ideal ⟨2, ![256, 2688]⟩ .f32) (x7 : Vec Ideal ⟨3, ![2, 128, 256]⟩ .i8)
  (x8 x9 : Vec Ideal ⟨2, ![2, 256]⟩ .f32) (x10 x11 : Vec Ideal ⟨3, ![2, 4, 256]⟩ .f32) (x12 : Vec Ideal ⟨3, ![3, 256, 128]⟩ .i8)
  (x13 x14 : Vec Ideal ⟨2, ![3, 128]⟩ .f32)

/-- The scores of one pixel against the tokens, head by head. -/
abbrev Data.scores (D : Data) (s : Fin 2688) : Fin 8 → Fin 11 → EReal := attScore D.K D.B (fun d => D.q d s)

/-- The attention output at one pixel. -/
abbrev Data.att (D : Data) (s : Fin 2688) : Fin 128 → EReal := attOut D.V (D.scores s)

/-- The numbers that the condition speaks of: counts that leave a token valid and do not overflow, finite keys and queries. -/
structure Fine (x0 : Vec Ideal ⟨1, ![40]⟩ .i32) (x1 : Vec Ideal ⟨3, ![11, 40, 128]⟩ .f32) (x4 : Vec Ideal ⟨3, ![40, 128, 2688]⟩ .bf16) :
    Prop where
  lo : ∀ p, -4 ≤ (x0 (ix1 p)).toInt
  hi : ∀ p, (x0 (ix1 p)).toInt ≤ 268435450
  key : ∀ t p d, ∃ r : ℝ, x1 (ix3 t p d) = r
  query : ∀ p d s, ∃ r : ℝ, x4 (ix3 p d s) = r

theorem dot_ref (p : Fin 40) (h : Fin 8) (s : Fin 2688) (t : Fin 11) :
    val_main_v20 (F := Ideal) x1 x4 (ix4 p h s t) = (∑ j : Fin 16, x4 (ix3 p (chanOf h j) s) * x1 (ix3 t p (chanOf h j)))
      * Ideal.ofBits .f32 0x3E800000#32 * Ideal.ofBits .f32 0x3FB8AA3B#32 := by
  pointwise [val_main_v8, val_main_v9, val_main_v11, val_main_v12, val_main_v13, val_main_v16, val_main_v17, val_main_v18, val_main_v19, val_main_v20, val_main_cst, val_main_cst_0]

theorem mask_ref (p : Fin 40) (h : Fin 8) (s : Fin 2688) (t : Fin 11) :
    val_main_call0_v1 (F := Ideal) x0 (ix4 p h s t) = IntOp.cmpi .slt (BitVec.ofNat 32 t.val) (5#32 + x0 (ix1 p)) := by
  pointwise [val_main_v0, val_main_c, val_main_v1, val_main_v2, val_main_v3, val_main_v4, val_main_v5, val_main_v6, val_main_v7, val_main_v21, val_main_call0_v1]
  rfl

theorem none_ref (i) : val_main_call0_v2 (F := Ideal)  i = ⊥ := by
  rw [← bits_ninf]
  rfl

theorem ceil_eq (x : EReal) : FloatOps.hostUnary (F := Ideal) (φ := .f32) .ceil x = ceilS x := rfl

theorem tokens_max (y : Vec Ideal S40x8x2688x11 .f32) (p : Fin 40) (h : Fin 8) (s : Fin 2688) :
    Host.reduce (FloatOps.maximumf (F := Ideal) (φ := .f32)) y (val_main_cst_2 (F := Ideal)) Gen.reducesTo_S40x8x2688x11_S40x8x2688_d3 Gen.h_S_ (ix3 p h s)
      = Finset.univ.fold max (Ideal.ofBits .f32 0xFF800000#32) (fun t => y (ix4 p h s t)) := by
  rw [Host.reduce_eq_fold, Shape.ReducesTo.fold_fiber_r4_a3]
  rfl

theorem pixels_max (y : Vec Ideal S40x8x11x2688 .f32) (p : Fin 40) (h : Fin 8) (t : Fin 11) :
    Host.reduce (FloatOps.maximumf (F := Ideal) (φ := .f32)) y (val_main_cst_30 (F := Ideal)) Gen.reducesTo_S40x8x11x2688_S40x8x11_d3 Gen.h_S_ (ix3 p h t)
      = Finset.univ.fold max (Ideal.ofBits .f32 0xFF800000#32) (fun s => y (ix4 p h t s)) := by
  rw [Host.reduce_eq_fold, Shape.ReducesTo.fold_fiber_r4_a3]
  rfl

section Under
variable (F : Fine x0 x1 x4)
include F

/-- The scores, minus infinity at tokens that are not valid. -/
theorem score_ref (p : Fin 40) (h : Fin 8) (s : Fin 2688) (t : Fin 11) :
    val_main_v22 (F := Ideal) x0 x1 x4 (ix4 p h s t) = (dataS x0 x1 x2 x3 x4 x5 x6 x7 x8 x9 x10 x11 x12 x13 x14 p).scores s h t := by
  rw [val_main_v22_apply, mask_ref, none_ref, dot_ref, ← bias_valid (x0 (ix1 p)) (F.lo p) (F.hi p) t, scale_one]
  unfold Data.scores attScore
  refine congrArg (fun z : EReal => z * Ideal.ofBits .f32 0x3EB8AA3B#32 + bias (x0 (ix1 p)) t) ?_
  exact Finset.sum_congr rfl fun j _ => mul_comm _ _

theorem shift_ref (p : Fin 40) (h : Fin 8) (s : Fin 2688) :
    val_main_v25 (F := Ideal) x0 x1 x4 (ix4 p h s 0) = shiftS ((dataS x0 x1 x2 x3 x4 x5 x6 x7 x8 x9 x10 x11 x12 x13 x14 p).scores s h) := by
  rw [val_main_v25_apply, val_main_v24_apply, ceil_eq]
  have e : idx_main_v24 (ix4 p h s 0) = ix3 p h s := by
    funext a; fin_cases a <;> rfl
  rw [e]
  unfold val_main_v23
  rw [tokens_max]
  unfold shiftS
  refine congrArg ceilS (congrArg (Finset.fold max (Ideal.ofBits .f32 0xFF800000#32) · Finset.univ) (funext fun t => ?_))
  exact score_ref x0 x1 x2 x3 x4 x5 x6 x7 x8 x9 x10 x11 x12 x13 x14 F p h s t

theorem prob_ref (p : Fin 40) (h : Fin 8) (s : Fin 2688) (t : Fin 11) :
    val_main_v29 (F := Ideal) x0 x1 x4 (ix4 p h s t) = probS ((dataS x0 x1 x2 x3 x4 x5 x6 x7 x8 x9 x10 x11 x12 x13 x14 p).scores s h) t := by
  rw [val_main_v29_apply, val_main_v28_apply, score_ref x0 x1 x2 x3 x4 x5 x6 x7 x8 x9 x10 x11 x12 x13 x14 F, val_main_v27_apply]
  have e : idx_main_v27 (ix4 p h s t) = ix4 p h s 0 := by
    funext a; fin_cases a <;> rfl
  rw [e, shift_ref x0 x1 x2 x3 x4 x5 x6 x7 x8 x9 x10 x11 x12 x13 x14 F]
  unfold probS
  generalize (dataS x0 x1 x2 x3 x4 x5 x6 x7 x8 x9 x10 x11 x12 x13 x14 p).scores s h t = a
  generalize shiftS ((dataS x0 x1 x2 x3 x4 x5 x6 x7 x8 x9 x10 x11 x12 x13 x14 p).scores s h) = b
  rw [val_main_v26_apply]
  exact pow_two (a - b)

theorem den_ref (p : Fin 40) (h : Fin 8) (s : Fin 2688) :
    val_main_v30 (F := Ideal) x0 x1 x4 (ix3 p h s) = denS ((dataS x0 x1 x2 x3 x4 x5 x6 x7 x8 x9 x10 x11 x12 x13 x14 p).scores s h) := by
  rw [val_main_v30_apply]
  have e : ∀ k, idx_main_v30 (ix3 p h s) k = ix4 p h s k := by
    intro k; funext a; fin_cases a <;> rfl
  have z : val_main_cst_4 (F := Ideal) (Shape.Idx.first Gen.h_S_) = 0 := Ideal.ofBits_zero_f32
  rw [z, zero_add]
  unfold denS
  refine Finset.sum_congr rfl fun k _ => ?_
  rw [e, prob_ref x0 x1 x2 x3 x4 x5 x6 x7 x8 x9 x10 x11 x12 x13 x14 F]

theorem num_ref (p : Fin 40) (h : Fin 8) (s : Fin 2688) (j : Fin 16) :
    val_main_v33 (F := Ideal) x0 x1 x2 x4 (ix4 p s h j) = ∑ t, (dataS x0 x1 x2 x3 x4 x5 x6 x7 x8 x9 x10 x11 x12 x13 x14 p).V t (chanOf h j) * probS ((dataS x0 x1 x2 x3 x4 x5 x6 x7 x8 x9 x10 x11 x12 x13 x14 p).scores s h) t := by
  have e := prob_ref x0 x1 x2 x3 x4 x5 x6 x7 x8 x9 x10 x11 x12 x13 x14 F p h s
  simp only [← e]
  clear e
  pointwise [val_main_v10, val_main_v14, val_main_v15, val_main_v31, val_main_v32, val_main_v33]
  rfl

/-- The attention output. -/
theorem out_ref (p : Fin 40) (s : Fin 2688) (d : Fin 128) :
    val_main_v38 (F := Ideal) x0 x1 x2 x4 (ix3 p s d) = (dataS x0 x1 x2 x3 x4 x5 x6 x7 x8 x9 x10 x11 x12 x13 x14 p).att s d := by
  rw [val_main_v38_apply]
  have e : idx_main_v38 (ix3 p s d) = ix4 p s (headOf d) ⟨d.val % 16, by omega⟩ := by
    have h1 := p.isLt
    have h2 := s.isLt
    have h3 := d.isLt
    funext a
    fin_cases a
    · exact Fin.ext (by simp; omega)
    · exact Fin.ext (by simp; omega)
    · exact Fin.ext (by simp; omega)
    · exact Fin.ext (by simp; omega)
  rw [e, val_main_v37_apply, num_ref x0 x1 x2 x3 x4 x5 x6 x7 x8 x9 x10 x11 x12 x13 x14 F, val_main_v36_apply, val_main_v35_apply, val_main_v34_apply]
  have e2 : idx_main_v34 (idx_main_v35 (idx_main_v36 (ix4 p s (headOf d) ⟨d.val % 16, by omega⟩))) = ix3 p (headOf d) s := by
    funext a; fin_cases a <;> rfl
  rw [e2, den_ref x0 x1 x2 x3 x4 x5 x6 x7 x8 x9 x10 x11 x12 x13 x14 F]
  have e3 : chanOf (headOf d) ⟨d.val % 16, by omega⟩ = d := Fin.ext (by show d.val / 16 * 16 + d.val % 16 = d.val; omega)
  rw [e3]
  exact attOut_div _ _ (fun h => attScore_finite _ (x0 (ix1 p)) _ (F.lo p) (F.hi p) (fun t d => F.key t p d) (fun d => F.query p d s) h) d

end Under

end Cert.At

end
-- ==== Proof.AttnRefImage.lean ====
/-
  The reference of the attention call, number by number: the quantised attention output, the residual sum and the layer norm.
-/
module

public import proofs.«01_k».proof.Proof.AttnRefScore

@[expose] public section

set_option maxRecDepth 16384

noncomputable section

namespace Cert.At

open Cert.AttnRefIdeal Cert.AttnRefIdeal.Read Idealize.ShloMosaic Cert.Up

variable (x0 : Vec Ideal ⟨1, ![40]⟩ .i32) (x1 x2 x3 : Vec Ideal ⟨3, ![11, 40, 128]⟩ .f32) (x4 : Vec Ideal ⟨3, ![40, 128, 2688]⟩ .bf16)
  (x5 : Vec Ideal ⟨3, ![40, 256, 2688]⟩ .f32) (x6 : Vec Ideal ⟨2, ![256, 2688]⟩ .f32) (x7 : Vec Ideal ⟨3, ![2, 128, 256]⟩ .i8)
  (x8 x9 : Vec Ideal ⟨2, ![2, 256]⟩ .f32) (x10 x11 : Vec Ideal ⟨3, ![2, 4, 256]⟩ .f32) (x12 : Vec Ideal ⟨3, ![3, 256, 128]⟩ .i8)
  (x13 x14 : Vec Ideal ⟨2, ![3, 128]⟩ .f32)

section Under
variable (F : Fine x0 x1 x4)
include F

theorem o_mag_ref (p : Fin 40) (s : Fin 2688) :
    val_main_v40 (F := Ideal) x0 x1 x2 x4 (ix2 p s) = magN ((dataS x0 x1 x2 x3 x4 x5 x6 x7 x8 x9 x10 x11 x12 x13 x14 p).att s) := by
  have e := out_ref x0 x1 x2 x3 x4 x5 x6 x7 x8 x9 x10 x11 x12 x13 x14 F p s
  unfold magN
  simp only [← e]
  clear e
  pointwise [val_main_v39, val_main_v40, val_main_cst_5]

/-- The scale of the attention output. -/
theorem o_scale_ref (p : Fin 40) (s : Fin 2688) :
    val_main_v46 (F := Ideal) x0 x1 x2 x4 (ix2 p s) = scaleN ((dataS x0 x1 x2 x3 x4 x5 x6 x7 x8 x9 x10 x11 x12 x13 x14 p).att s) := by
  rw [val_main_v46_apply, val_main_v42_apply, val_main_v44_apply, o_mag_ref x0 x1 x2 x3 x4 x5 x6 x7 x8 x9 x10 x11 x12 x13 x14 F, val_main_v41_apply, val_main_v43_apply, val_main_v45_apply]
  unfold scaleN
  generalize magN ((dataS x0 x1 x2 x3 x4 x5 x6 x7 x8 x9 x10 x11 x12 x13 x14 p).att s) = a
  pointwise [val_main_cst_6, val_main_cst_7, val_main_cst_8]

theorem o_code_ref (p : Fin 40) (s : Fin 2688) (r : Fin 128) :
    val_main_v54 (F := Ideal) x0 x1 x2 x4 (ix3 p s r) = codeN ((dataS x0 x1 x2 x3 x4 x5 x6 x7 x8 x9 x10 x11 x12 x13 x14 p).att s) r := by
  rw [val_main_v54_apply, val_main_v53_apply, val_main_v52_apply, val_main_v51_apply, val_main_v50_apply, val_main_v49_apply, val_main_v48_apply, val_main_v47_apply, out_ref x0 x1 x2 x3 x4 x5 x6 x7 x8 x9 x10 x11 x12 x13 x14 F]
  have e : idx_main_v47 (idx_main_v48 (ix3 p s r)) = ix2 p s := by
    funext a; fin_cases a <;> rfl
  rw [e, o_scale_ref x0 x1 x2 x3 x4 x5 x6 x7 x8 x9 x10 x11 x12 x13 x14 F]
  unfold codeN
  generalize scaleN ((dataS x0 x1 x2 x3 x4 x5 x6 x7 x8 x9 x10 x11 x12 x13 x14 p).att s) = a
  generalize ((dataS x0 x1 x2 x3 x4 x5 x6 x7 x8 x9 x10 x11 x12 x13 x14 p).att s) r = b
  rfl

/-- The codes of the attention output, as words. -/
theorem o_word_ref (p : Fin 40) (s : Fin 2688) (r : Fin 128) :
    val_main_v56 (F := Ideal) x0 x1 x2 x4 (ix3 p s r) = word (codeN ((dataS x0 x1 x2 x3 x4 x5 x6 x7 x8 x9 x10 x11 x12 x13 x14 p).att s) r) := by
  rw [← o_code_ref x0 x1 x2 x3 x4 x5 x6 x7 x8 x9 x10 x11 x12 x13 x14 F]
  unfold val_main_v56 val_main_v55
  generalize val_main_v54 (F := Ideal) x0 x1 x2 x4 = y
  pointwise
  rfl

/-- … and read back as numbers. -/
theorem o_back_ref (p : Fin 40) (s : Fin 2688) (r : Fin 128) :
    val_main_v65 (F := Ideal) x0 x1 x2 x4 (ix3 p s r) = codeN ((dataS x0 x1 x2 x3 x4 x5 x6 x7 x8 x9 x10 x11 x12 x13 x14 p).att s) r := by
  have h := o_word_ref x0 x1 x2 x3 x4 x5 x6 x7 x8 x9 x10 x11 x12 x13 x14 F p s r
  unfold val_main_v65 val_main_v64 val_main_v63
  generalize val_main_v56 (F := Ideal) x0 x1 x2 x4 = y at h ⊢
  pointwise
  rw [h, num_wide]
  exact wordN_toInt _ _

omit F in
theorem o_lin_w_ref (k : Fin 128) (r : Fin 256) : val_main_v68 (F := Ideal) x7 (ix2 k r) = num (x7 (ix3 1 k r)) := by
  pointwise [val_main_v57, val_main_v58, val_main_v66, val_main_v67, val_main_v68]
  exact num_wide _

omit F in
theorem o_lin_s_ref (r : Fin 256) : val_main_v60 (F := Ideal) x8 (ix1 r) = x8 (ix2 1 r) := by
  pointwise [val_main_v60, val_main_v59]

omit F in
theorem o_lin_b_ref (r : Fin 256) : val_main_v62 (F := Ideal) x9 (ix1 r) = x9 (ix2 1 r) := by
  pointwise [val_main_v62, val_main_v61]

theorem o_lin_ref (p : Fin 40) (s : Fin 2688) (r : Fin 256) :
    val_main_v78 (F := Ideal) x0 x1 x2 x4 x7 x8 x9 (ix3 p s r) = linN (dataS x0 x1 x2 x3 x4 x5 x6 x7 x8 x9 x10 x11 x12 x13 x14 p).wo ((dataS x0 x1 x2 x3 x4 x5 x6 x7 x8 x9 x10 x11 x12 x13 x14 p).att s) ((dataS x0 x1 x2 x3 x4 x5 x6 x7 x8 x9 x10 x11 x12 x13 x14 p).cv 0) ((dataS x0 x1 x2 x3 x4 x5 x6 x7 x8 x9 x10 x11 x12 x13 x14 p).cv 1) r := by
  rw [val_main_v78_apply, val_main_v77_apply, val_main_v76_apply, val_main_v75_apply, val_main_v74_apply, val_main_v73_apply, val_main_v72_apply, val_main_v71_apply, val_main_v70_apply, val_main_v69_apply]
  have e : idx_main_v70 (idx_main_v71 (ix3 p s r)) = ix2 p s := by
    funext a; fin_cases a <;> rfl
  have e1 : ∀ k, lidx_main_v69 (ix3 p s r) k = ix3 p s k := by
    intro k; funext a; fin_cases a <;> rfl
  have e2 : ∀ k, ridx_main_v69 (ix3 p s r) k = ix2 k r := by
    intro k; funext a; fin_cases a <;> rfl
  have e3 : idx_main_v73 (idx_main_v74 (ix3 p s r)) = ix1 r := by
    funext a; fin_cases a; rfl
  have e4 : idx_main_v76 (idx_main_v77 (ix3 p s r)) = ix1 r := by
    funext a; fin_cases a; rfl
  rw [e, e3, e4, o_lin_s_ref, o_lin_b_ref, o_scale_ref x0 x1 x2 x3 x4 x5 x6 x7 x8 x9 x10 x11 x12 x13 x14 F]
  unfold linN
  refine congrArg (fun z : EReal => z * scaleN ((dataS x0 x1 x2 x3 x4 x5 x6 x7 x8 x9 x10 x11 x12 x13 x14 p).att s) * x8 (ix2 1 r) + x9 (ix2 1 r)) ?_
  refine Finset.sum_congr rfl fun k _ => ?_
  rw [e1, e2, o_lin_w_ref, o_back_ref x0 x1 x2 x3 x4 x5 x6 x7 x8 x9 x10 x11 x12 x13 x14 F]
  exact mul_comm _ _

/-- The residual sum. -/
abbrev Data.res (D : Data) (s : Fin 2688) (r : Fin 256) : EReal := D.x r s + linN D.wo (D.att s) (D.cv 0) (D.cv 1) r

theorem res_ref (p : Fin 40) (s : Fin 2688) (r : Fin 256) : val_main_v80 (F := Ideal) x0 x1 x2 x4 x5 x7 x8 x9 (ix3 p s r) = (dataS x0 x1 x2 x3 x4 x5 x6 x7 x8 x9 x10 x11 x12 x13 x14 p).res s r := by
  rw [val_main_v80_apply, o_lin_ref x0 x1 x2 x3 x4 x5 x6 x7 x8 x9 x10 x11 x12 x13 x14 F, val_main_v79_apply]
  have e : idx_main_v79 (ix3 p s r) = ix3 p r s := by
    funext a; fin_cases a <;> rfl
  rw [e]
  rfl

theorem mean_ref (p : Fin 40) (s : Fin 2688) : val_main_v88 (F := Ideal) x0 x1 x2 x4 x5 x7 x8 x9 (ix3 p s 0) = mean256 ((dataS x0 x1 x2 x3 x4 x5 x6 x7 x8 x9 x10 x11 x12 x13 x14 p).res s) := by
  have e := res_ref x0 x1 x2 x3 x4 x5 x6 x7 x8 x9 x10 x11 x12 x13 x14 F p s
  unfold mean256
  simp only [← e]
  clear e
  pointwise [val_main_v85, val_main_v86, val_main_v87, val_main_v88, val_main_cst_11, val_main_cst_12]

theorem cen_ref (p : Fin 40) (s : Fin 2688) (r : Fin 256) : val_main_v90 (F := Ideal) x0 x1 x2 x4 x5 x7 x8 x9 (ix3 p s r) = cen256 ((dataS x0 x1 x2 x3 x4 x5 x6 x7 x8 x9 x10 x11 x12 x13 x14 p).res s) r := by
  rw [val_main_v90_apply, res_ref x0 x1 x2 x3 x4 x5 x6 x7 x8 x9 x10 x11 x12 x13 x14 F, val_main_v89_apply]
  have e : idx_main_v89 (ix3 p s r) = ix3 p s 0 := by
    funext a; fin_cases a <;> rfl
  rw [e, mean_ref x0 x1 x2 x3 x4 x5 x6 x7 x8 x9 x10 x11 x12 x13 x14 F]
  rfl

theorem var_ref (p : Fin 40) (s : Fin 2688) :
    val_main_v95 (F := Ideal) x0 x1 x2 x4 x5 x7 x8 x9 (ix3 p s 0) = mean256 (fun r => cen256 ((dataS x0 x1 x2 x3 x4 x5 x6 x7 x8 x9 x10 x11 x12 x13 x14 p).res s) r * cen256 ((dataS x0 x1 x2 x3 x4 x5 x6 x7 x8 x9 x10 x11 x12 x13 x14 p).res s) r) := by
  have e := cen_ref x0 x1 x2 x3 x4 x5 x6 x7 x8 x9 x10 x11 x12 x13 x14 F p s
  unfold mean256
  simp only [← e]
  clear e
  pointwise [val_main_v91, val_main_v92, val_main_v93, val_main_v94, val_main_v95, val_main_cst_13, val_main_cst_14]

omit F in
theorem gain_ref (r : Fin 256) : val_main_v82 (F := Ideal) x10 (ix1 r) = x10 (ix3 1 3 r) := by
  pointwise [val_main_v81, val_main_v82]

omit F in
theorem offset_ref (r : Fin 256) : val_main_v84 (F := Ideal) x11 (ix1 r) = x11 (ix3 1 3 r) := by
  pointwise [val_main_v83, val_main_v84]

/-- The new image. -/
theorem img_ref (p : Fin 40) (s : Fin 2688) (r : Fin 256) : val_main_v106 (F := Ideal) x0 x1 x2 x4 x5 x7 x8 x9 x10 x11 (ix3 p s r) = (dataS x0 x1 x2 x3 x4 x5 x6 x7 x8 x9 x10 x11 x12 x13 x14 p).img s r := by
  rw [val_main_v106_apply, val_main_v105_apply, val_main_v104_apply, val_main_v103_apply, val_main_v102_apply, val_main_v101_apply, val_main_v100_apply, val_main_v99_apply, val_main_v98_apply, val_main_v97_apply, cen_ref x0 x1 x2 x3 x4 x5 x6 x7 x8 x9 x10 x11 x12 x13 x14 F]
  have e : idx_main_v99 (ix3 p s r) = ix3 p s 0 := by
    funext a; fin_cases a <;> rfl
  have e3 : idx_main_v101 (idx_main_v102 (ix3 p s r)) = ix1 r := by
    funext a; fin_cases a; rfl
  have e4 : idx_main_v104 (idx_main_v105 (ix3 p s r)) = ix1 r := by
    funext a; fin_cases a; rfl
  rw [e, e3, e4, gain_ref, offset_ref, var_ref x0 x1 x2 x3 x4 x5 x6 x7 x8 x9 x10 x11 x12 x13 x14 F]
  unfold Data.img imgP ln256 root256
  rfl

/-- … with the position encoding. -/
theorem key_ref (p : Fin 40) (s : Fin 2688) (r : Fin 256) : val_main_v110 (F := Ideal) x0 x1 x2 x4 x5 x6 x7 x8 x9 x10 x11 (ix3 p s r) = (dataS x0 x1 x2 x3 x4 x5 x6 x7 x8 x9 x10 x11 x12 x13 x14 p).key s r := by
  rw [val_main_v110_apply, val_main_v109_apply, val_main_v108_apply, val_main_v107_apply, img_ref x0 x1 x2 x3 x4 x5 x6 x7 x8 x9 x10 x11 x12 x13 x14 F]
  have e : idx_main_v107 (idx_main_v108 (idx_main_v109 (ix3 p s r))) = ix2 r s := by
    funext a; fin_cases a <;> rfl
  rw [e]
  rfl

end Under

end Cert.At

end
-- ==== Proof.AttnRefQuant.lean ====
/-
  The reference of the attention call, number by number: the quantiser of the new image, with and without the position encoding.
-/
module

public import proofs.«01_k».proof.Proof.AttnRefImage

@[expose] public section

set_option maxRecDepth 16384

noncomputable section

namespace Cert.At

open Cert.AttnRefIdeal Cert.AttnRefIdeal.Read Idealize.ShloMosaic Cert.Up

variable (x0 : Vec Ideal ⟨1, ![40]⟩ .i32) (x1 x2 x3 : Vec Ideal ⟨3, ![11, 40, 128]⟩ .f32) (x4 : Vec Ideal ⟨3, ![40, 128, 2688]⟩ .bf16)
  (x5 : Vec Ideal ⟨3, ![40, 256, 2688]⟩ .f32) (x6 : Vec Ideal ⟨2, ![256, 2688]⟩ .f32) (x7 : Vec Ideal ⟨3, ![2, 128, 256]⟩ .i8)
  (x8 x9 : Vec Ideal ⟨2, ![2, 256]⟩ .f32) (x10 x11 : Vec Ideal ⟨3, ![2, 4, 256]⟩ .f32) (x12 : Vec Ideal ⟨3, ![3, 256, 128]⟩ .i8)
  (x13 x14 : Vec Ideal ⟨2, ![3, 128]⟩ .f32)

section Under
variable (F : Fine x0 x1 x4)
include F

theorem k_mag_ref (p : Fin 40) (s : Fin 2688) :
    val_main_v112 (F := Ideal) x0 x1 x2 x4 x5 x6 x7 x8 x9 x10 x11 (ix2 p s) = magN ((dataS x0 x1 x2 x3 x4 x5 x6 x7 x8 x9 x10 x11 x12 x13 x14 p).key s) := by
  have e := key_ref x0 x1 x2 x3 x4 x5 x6 x7 x8 x9 x10 x11 x12 x13 x14 F p s
  unfold magN
  simp only [← e]
  clear e
  pointwise [val_main_v111, val_main_v112, val_main_cst_16]

/-- The scale of the image with the position encoding. -/
theorem k_scale_ref (p : Fin 40) (s : Fin 2688) :
    val_main_v118 (F := Ideal) x0 x1 x2 x4 x5 x6 x7 x8 x9 x10 x11 (ix2 p s) = scaleN ((dataS x0 x1 x2 x3 x4 x5 x6 x7 x8 x9 x10 x11 x12 x13 x14 p).key s) := by
  rw [val_main_v118_apply, val_main_v114_apply, val_main_v116_apply, k_mag_ref x0 x1 x2 x3 x4 x5 x6 x7 x8 x9 x10 x11 x12 x13 x14 F, val_main_v113_apply, val_main_v115_apply, val_main_v117_apply]
  unfold scaleN
  generalize magN ((dataS x0 x1 x2 x3 x4 x5 x6 x7 x8 x9 x10 x11 x12 x13 x14 p).key s) = a
  pointwise [val_main_cst_17, val_main_cst_18, val_main_cst_19]

theorem k_code_ref (p : Fin 40) (s : Fin 2688) (r : Fin 256) :
    val_main_v126 (F := Ideal) x0 x1 x2 x4 x5 x6 x7 x8 x9 x10 x11 (ix3 p s r) = codeN ((dataS x0 x1 x2 x3 x4 x5 x6 x7 x8 x9 x10 x11 x12 x13 x14 p).key s) r := by
  rw [val_main_v126_apply, val_main_v125_apply, val_main_v124_apply, val_main_v123_apply, val_main_v122_apply, val_main_v121_apply, val_main_v120_apply, val_main_v119_apply, key_ref x0 x1 x2 x3 x4 x5 x6 x7 x8 x9 x10 x11 x12 x13 x14 F]
  have e : idx_main_v119 (idx_main_v120 (ix3 p s r)) = ix2 p s := by
    funext a; fin_cases a <;> rfl
  rw [e, k_scale_ref x0 x1 x2 x3 x4 x5 x6 x7 x8 x9 x10 x11 x12 x13 x14 F]
  unfold codeN
  generalize scaleN ((dataS x0 x1 x2 x3 x4 x5 x6 x7 x8 x9 x10 x11 x12 x13 x14 p).key s) = a
  generalize ((dataS x0 x1 x2 x3 x4 x5 x6 x7 x8 x9 x10 x11 x12 x13 x14 p).key s) r = b
  rfl

/-- The codes of the image with the position encoding, as words. -/
theorem k_word_ref (p : Fin 40) (s : Fin 2688) (r : Fin 256) :
    val_main_v128 (F := Ideal) x0 x1 x2 x4 x5 x6 x7 x8 x9 x10 x11 (ix3 p s r) = word (codeN ((dataS x0 x1 x2 x3 x4 x5 x6 x7 x8 x9 x10 x11 x12 x13 x14 p).key s) r) := by
  rw [← k_code_ref x0 x1 x2 x3 x4 x5 x6 x7 x8 x9 x10 x11 x12 x13 x14 F]
  unfold val_main_v128 val_main_v127
  generalize val_main_v126 (F := Ideal) x0 x1 x2 x4 x5 x6 x7 x8 x9 x10 x11 = y
  pointwise
  rfl

/-- … and read back as numbers. -/
theorem k_back_ref (p : Fin 40) (s : Fin 2688) (r : Fin 256) :
    val_main_v137 (F := Ideal) x0 x1 x2 x4 x5 x6 x7 x8 x9 x10 x11 (ix3 p s r) = codeN ((dataS x0 x1 x2 x3 x4 x5 x6 x7 x8 x9 x10 x11 x12 x13 x14 p).key s) r := by
  have h := k_word_ref x0 x1 x2 x3 x4 x5 x6 x7 x8 x9 x10 x11 x12 x13 x14 F p s r
  unfold val_main_v137 val_main_v136 val_main_v135
  generalize val_main_v128 (F := Ideal) x0 x1 x2 x4 x5 x6 x7 x8 x9 x10 x11 = y at h ⊢
  pointwise
  rw [h, num_wide]
  exact wordN_toInt _ _

theorem i_mag_ref (p : Fin 40) (s : Fin 2688) :
    val_main_v152 (F := Ideal) x0 x1 x2 x4 x5 x7 x8 x9 x10 x11 (ix2 p s) = magN ((dataS x0 x1 x2 x3 x4 x5 x6 x7 x8 x9 x10 x11 x12 x13 x14 p).img s) := by
  have e := img_ref x0 x1 x2 x3 x4 x5 x6 x7 x8 x9 x10 x11 x12 x13 x14 F p s
  unfold magN
  simp only [← e]
  clear e
  pointwise [val_main_v151, val_main_v152, val_main_cst_22]

/-- The scale of the image. -/
theorem i_scale_ref (p : Fin 40) (s : Fin 2688) :
    val_main_v158 (F := Ideal) x0 x1 x2 x4 x5 x7 x8 x9 x10 x11 (ix2 p s) = scaleN ((dataS x0 x1 x2 x3 x4 x5 x6 x7 x8 x9 x10 x11 x12 x13 x14 p).img s) := by
  rw [val_main_v158_apply, val_main_v154_apply, val_main_v156_apply, i_mag_ref x0 x1 x2 x3 x4 x5 x6 x7 x8 x9 x10 x11 x12 x13 x14 F, val_main_v153_apply, val_main_v155_apply, val_main_v157_apply]
  unfold scaleN
  generalize magN ((dataS x0 x1 x2 x3 x4 x5 x6 x7 x8 x9 x10 x11 x12 x13 x14 p).img s) = a
  pointwise [val_main_cst_23, val_main_cst_24, val_main_cst_25]

theorem i_code_ref (p : Fin 40) (s : Fin 2688) (r : Fin 256) :
    val_main_v166 (F := Ideal) x0 x1 x2 x4 x5 x7 x8 x9 x10 x11 (ix3 p s r) = codeN ((dataS x0 x1 x2 x3 x4 x5 x6 x7 x8 x9 x10 x11 x12 x13 x14 p).img s) r := by
  rw [val_main_v166_apply, val_main_v165_apply, val_main_v164_apply, val_main_v163_apply, val_main_v162_apply, val_main_v161_apply, val_main_v160_apply, val_main_v159_apply, img_ref x0 x1 x2 x3 x4 x5 x6 x7 x8 x9 x10 x11 x12 x13 x14 F]
  have e : idx_main_v159 (idx_main_v160 (ix3 p s r)) = ix2 p s := by
    funext a; fin_cases a <;> rfl
  rw [e, i_scale_ref x0 x1 x2 x3 x4 x5 x6 x7 x8 x9 x10 x11 x12 x13 x14 F]
  unfold codeN
  generalize scaleN ((dataS x0 x1 x2 x3 x4 x5 x6 x7 x8 x9 x10 x11 x12 x13 x14 p).img s) = a
  generalize ((dataS x0 x1 x2 x3 x4 x5 x6 x7 x8 x9 x10 x11 x12 x13 x14 p).img s) r = b
  rfl

/-- The codes of the image, as words. -/
theorem i_word_ref (p : Fin 40) (s : Fin 2688) (r : Fin 256) :
    val_main_v168 (F := Ideal) x0 x1 x2 x4 x5 x7 x8 x9 x10 x11 (ix3 p s r) = word (codeN ((dataS x0 x1 x2 x3 x4 x5 x6 x7 x8 x9 x10 x11 x12 x13 x14 p).img s) r) := by
  rw [← i_code_ref x0 x1 x2 x3 x4 x5 x6 x7 x8 x9 x10 x11 x12 x13 x14 F]
  unfold val_main_v168 val_main_v167
  generalize val_main_v166 (F := Ideal) x0 x1 x2 x4 x5 x7 x8 x9 x10 x11 = y
  pointwise
  rfl

/-- … and read back as numbers. -/
theorem i_back_ref (p : Fin 40) (s : Fin 2688) (r : Fin 256) :
    val_main_v177 (F := Ideal) x0 x1 x2 x4 x5 x7 x8 x9 x10 x11 (ix3 p s r) = codeN ((dataS x0 x1 x2 x3 x4 x5 x6 x7 x8 x9 x10 x11 x12 x13 x14 p).img s) r := by
  have h := i_word_ref x0 x1 x2 x3 x4 x5 x6 x7 x8 x9 x10 x11 x12 x13 x14 F p s r
  unfold val_main_v177 val_main_v176 val_main_v175
  generalize val_main_v168 (F := Ideal) x0 x1 x2 x4 x5 x7 x8 x9 x10 x11 = y at h ⊢
  pointwise
  rw [h, num_wide]
  exact wordN_toInt _ _

end Under

end Cert.At

end
-- ==== Proof.AttnRefKeys.lean ====
/-
  The reference of the attention call, number by number: the new keys and values.
-/
module

public import proofs.«01_k».proof.Proof.AttnRefQuant

@[expose] public section

set_option maxRecDepth 16384

noncomputable section

namespace Cert.At

open Cert.AttnRefIdeal Cert.AttnRefIdeal.Read Idealize.ShloMosaic Cert.Up

variable (x0 : Vec Ideal ⟨1, ![40]⟩ .i32) (x1 x2 x3 : Vec Ideal ⟨3, ![11, 40, 128]⟩ .f32) (x4 : Vec Ideal ⟨3, ![40, 128, 2688]⟩ .bf16)
  (x5 : Vec Ideal ⟨3, ![40, 256, 2688]⟩ .f32) (x6 : Vec Ideal ⟨2, ![256, 2688]⟩ .f32) (x7 : Vec Ideal ⟨3, ![2, 128, 256]⟩ .i8)
  (x8 x9 : Vec Ideal ⟨2, ![2, 256]⟩ .f32) (x10 x11 : Vec Ideal ⟨3, ![2, 4, 256]⟩ .f32) (x12 : Vec Ideal ⟨3, ![3, 256, 128]⟩ .i8)
  (x13 x14 : Vec Ideal ⟨2, ![3, 128]⟩ .f32)

section Under
variable (F : Fine x0 x1 x4)
include F

omit F in
theorem k_lin_w_ref (k : Fin 256) (r : Fin 128) : val_main_v140 (F := Ideal) x12 (ix2 k r) = num (x12 (ix3 1 k r)) := by
  pointwise [val_main_v129, val_main_v130, val_main_v138, val_main_v139, val_main_v140]
  exact num_wide _

omit F in
theorem k_lin_s_ref (r : Fin 128) : val_main_v132 (F := Ideal) x13 (ix1 r) = x13 (ix2 1 r) := by
  pointwise [val_main_v132, val_main_v131]

omit F in
theorem k_lin_b_ref (r : Fin 128) : val_main_v134 (F := Ideal) x14 (ix1 r) = x14 (ix2 1 r) := by
  pointwise [val_main_v134, val_main_v133]

theorem k_lin_ref (p : Fin 40) (s : Fin 2688) (r : Fin 128) :
    val_main_v150 (F := Ideal) x0 x1 x2 x4 x5 x6 x7 x8 x9 x10 x11 x12 x13 x14 (ix3 p s r) = linN (dataS x0 x1 x2 x3 x4 x5 x6 x7 x8 x9 x10 x11 x12 x13 x14 p).wk ((dataS x0 x1 x2 x3 x4 x5 x6 x7 x8 x9 x10 x11 x12 x13 x14 p).key s) ((dataS x0 x1 x2 x3 x4 x5 x6 x7 x8 x9 x10 x11 x12 x13 x14 p).kv 0) ((dataS x0 x1 x2 x3 x4 x5 x6 x7 x8 x9 x10 x11 x12 x13 x14 p).kv 1) r := by
  rw [val_main_v150_apply, val_main_v149_apply, val_main_v148_apply, val_main_v147_apply, val_main_v146_apply, val_main_v145_apply, val_main_v144_apply, val_main_v143_apply, val_main_v142_apply, val_main_v141_apply]
  have e : idx_main_v142 (idx_main_v143 (ix3 p s r)) = ix2 p s := by
    funext a; fin_cases a <;> rfl
  have e1 : ∀ k, lidx_main_v141 (ix3 p s r) k = ix3 p s k := by
    intro k; funext a; fin_cases a <;> rfl
  have e2 : ∀ k, ridx_main_v141 (ix3 p s r) k = ix2 k r := by
    intro k; funext a; fin_cases a <;> rfl
  have e3 : idx_main_v145 (idx_main_v146 (ix3 p s r)) = ix1 r := by
    funext a; fin_cases a; rfl
  have e4 : idx_main_v148 (idx_main_v149 (ix3 p s r)) = ix1 r := by
    funext a; fin_cases a; rfl
  rw [e, e3, e4, k_lin_s_ref, k_lin_b_ref, k_scale_ref x0 x1 x2 x3 x4 x5 x6 x7 x8 x9 x10 x11 x12 x13 x14 F]
  unfold linN
  refine congrArg (fun z : EReal => z * scaleN ((dataS x0 x1 x2 x3 x4 x5 x6 x7 x8 x9 x10 x11 x12 x13 x14 p).key s) * x13 (ix2 1 r) + x14 (ix2 1 r)) ?_
  refine Finset.sum_congr rfl fun k _ => ?_
  rw [e1, e2, k_lin_w_ref, k_back_ref x0 x1 x2 x3 x4 x5 x6 x7 x8 x9 x10 x11 x12 x13 x14 F]
  exact mul_comm _ _

omit F in
theorem v_lin_w_ref (k : Fin 256) (r : Fin 128) : val_main_v180 (F := Ideal) x12 (ix2 k r) = num (x12 (ix3 2 k r)) := by
  pointwise [val_main_v169, val_main_v170, val_main_v178, val_main_v179, val_main_v180]
  exact num_wide _

omit F in
theorem v_lin_s_ref (r : Fin 128) : val_main_v172 (F := Ideal) x13 (ix1 r) = x13 (ix2 2 r) := by
  pointwise [val_main_v172, val_main_v171]

omit F in
theorem v_lin_b_ref (r : Fin 128) : val_main_v174 (F := Ideal) x14 (ix1 r) = x14 (ix2 2 r) := by
  pointwise [val_main_v174, val_main_v173]

theorem v_lin_ref (p : Fin 40) (s : Fin 2688) (r : Fin 128) :
    val_main_v190 (F := Ideal) x0 x1 x2 x4 x5 x7 x8 x9 x10 x11 x12 x13 x14 (ix3 p s r) = linN (dataS x0 x1 x2 x3 x4 x5 x6 x7 x8 x9 x10 x11 x12 x13 x14 p).wv ((dataS x0 x1 x2 x3 x4 x5 x6 x7 x8 x9 x10 x11 x12 x13 x14 p).img s) ((dataS x0 x1 x2 x3 x4 x5 x6 x7 x8 x9 x10 x11 x12 x13 x14 p).kv 2) ((dataS x0 x1 x2 x3 x4 x5 x6 x7 x8 x9 x10 x11 x12 x13 x14 p).kv 3) r := by
  rw [val_main_v190_apply, val_main_v189_apply, val_main_v188_apply, val_main_v187_apply, val_main_v186_apply, val_main_v185_apply, val_main_v184_apply, val_main_v183_apply, val_main_v182_apply, val_main_v181_apply]
  have e : idx_main_v182 (idx_main_v183 (ix3 p s r)) = ix2 p s := by
    funext a; fin_cases a <;> rfl
  have e1 : ∀ k, lidx_main_v181 (ix3 p s r) k = ix3 p s k := by
    intro k; funext a; fin_cases a <;> rfl
  have e2 : ∀ k, ridx_main_v181 (ix3 p s r) k = ix2 k r := by
    intro k; funext a; fin_cases a <;> rfl
  have e3 : idx_main_v185 (idx_main_v186 (ix3 p s r)) = ix1 r := by
    funext a; fin_cases a; rfl
  have e4 : idx_main_v188 (idx_main_v189 (ix3 p s r)) = ix1 r := by
    funext a; fin_cases a; rfl
  rw [e, e3, e4, v_lin_s_ref, v_lin_b_ref, i_scale_ref x0 x1 x2 x3 x4 x5 x6 x7 x8 x9 x10 x11 x12 x13 x14 F]
  unfold linN
  refine congrArg (fun z : EReal => z * scaleN ((dataS x0 x1 x2 x3 x4 x5 x6 x7 x8 x9 x10 x11 x12 x13 x14 p).img s) * x13 (ix2 2 r) + x14 (ix2 2 r)) ?_
  refine Finset.sum_congr rfl fun k _ => ?_
  rw [e1, e2, v_lin_w_ref, i_back_ref x0 x1 x2 x3 x4 x5 x6 x7 x8 x9 x10 x11 x12 x13 x14 F]
  exact mul_comm _ _

end Under

end Cert.At

end
-- ==== Proof.AttnRefTokens.lean ====
/-
  The reference of the attention call, number by number: the attention of the tokens over the pixels.
-/
module

public import proofs.«01_k».proof.Proof.AttnRefKeys

@[expose] public section

set_option maxRecDepth 16384

noncomputable section

namespace Cert.At

open Cert.AttnRefIdeal Cert.AttnRefIdeal.Read Idealize.ShloMosaic Cert.Up

variable (x0 : Vec Ideal ⟨1, ![40]⟩ .i32) (x1 x2 x3 : Vec Ideal ⟨3, ![11, 40, 128]⟩ .f32) (x4 : Vec Ideal ⟨3, ![40, 128, 2688]⟩ .bf16)
  (x5 : Vec Ideal ⟨3, ![40, 256, 2688]⟩ .f32) (x6 : Vec Ideal ⟨2, ![256, 2688]⟩ .f32) (x7 : Vec Ideal ⟨3, ![2, 128, 256]⟩ .i8)
  (x8 x9 : Vec Ideal ⟨2, ![2, 256]⟩ .f32) (x10 x11 : Vec Ideal ⟨3, ![2, 4, 256]⟩ .f32) (x12 : Vec Ideal ⟨3, ![3, 256, 128]⟩ .i8)
  (x13 x14 : Vec Ideal ⟨2, ![3, 128]⟩ .f32)

section Under
variable (F : Fine x0 x1 x4)
include F

/-- The scores of the tokens against the new keys, scaled. -/
theorem score2_ref (p : Fin 40) (h : Fin 8) (t : Fin 11) (s : Fin 2688) :
    val_main_v202 (F := Ideal) x0 x1 x2 x3 x4 x5 x6 x7 x8 x9 x10 x11 x12 x13 x14 (ix4 p h t s) = (dataS x0 x1 x2 x3 x4 x5 x6 x7 x8 x9 x10 x11 x12 x13 x14 p).score t h s * Ideal.ofBits .f32 0x3EB8AA3B#32 := by
  have e := k_lin_ref x0 x1 x2 x3 x4 x5 x6 x7 x8 x9 x10 x11 x12 x13 x14 F p s
  unfold Data.score
  simp only [← e]
  clear e
  rw [← scale_one]
  pointwise [val_main_v191, val_main_v192, val_main_v193, val_main_v194, val_main_v195, val_main_v198, val_main_v199, val_main_v200, val_main_v201, val_main_v202, val_main_cst_28, val_main_cst_29]
  rfl

theorem shift2_ref (p : Fin 40) (h : Fin 8) (t : Fin 11) : val_main_v205 (F := Ideal) x0 x1 x2 x3 x4 x5 x6 x7 x8 x9 x10 x11 x12 x13 x14 (ix4 p h t 0) = (dataS x0 x1 x2 x3 x4 x5 x6 x7 x8 x9 x10 x11 x12 x13 x14 p).top t h := by
  rw [val_main_v205_apply, val_main_v204_apply, ceil_eq]
  have e : idx_main_v204 (ix4 p h t 0) = ix3 p h t := by
    funext a; fin_cases a <;> rfl
  rw [e]
  unfold val_main_v203
  rw [pixels_max]
  unfold Data.top
  rw [← fold_scale]
  refine congrArg ceilS (congrArg (Finset.fold max (Ideal.ofBits .f32 0xFF800000#32) · Finset.univ) (funext fun s => ?_))
  exact score2_ref x0 x1 x2 x3 x4 x5 x6 x7 x8 x9 x10 x11 x12 x13 x14 F p h t s

theorem prob2_ref (p : Fin 40) (h : Fin 8) (t : Fin 11) (s : Fin 2688) : val_main_v209 (F := Ideal) x0 x1 x2 x3 x4 x5 x6 x7 x8 x9 x10 x11 x12 x13 x14 (ix4 p h t s) = (dataS x0 x1 x2 x3 x4 x5 x6 x7 x8 x9 x10 x11 x12 x13 x14 p).prob t h s := by
  rw [val_main_v209_apply, val_main_v208_apply, score2_ref x0 x1 x2 x3 x4 x5 x6 x7 x8 x9 x10 x11 x12 x13 x14 F, val_main_v207_apply]
  have e : idx_main_v207 (ix4 p h t s) = ix4 p h t 0 := by
    funext a; fin_cases a <;> rfl
  rw [e, shift2_ref x0 x1 x2 x3 x4 x5 x6 x7 x8 x9 x10 x11 x12 x13 x14 F]
  unfold Data.prob
  generalize (dataS x0 x1 x2 x3 x4 x5 x6 x7 x8 x9 x10 x11 x12 x13 x14 p).score t h s * Ideal.ofBits .f32 0x3EB8AA3B#32 = a
  generalize (dataS x0 x1 x2 x3 x4 x5 x6 x7 x8 x9 x10 x11 x12 x13 x14 p).top t h = b
  rw [val_main_v206_apply]
  exact pow_two (a - b)

theorem den2_ref (p : Fin 40) (h : Fin 8) (t : Fin 11) : val_main_v210 (F := Ideal) x0 x1 x2 x3 x4 x5 x6 x7 x8 x9 x10 x11 x12 x13 x14 (ix3 p h t) = ∑ s, (dataS x0 x1 x2 x3 x4 x5 x6 x7 x8 x9 x10 x11 x12 x13 x14 p).prob t h s := by
  rw [val_main_v210_apply]
  have e : ∀ k, idx_main_v210 (ix3 p h t) k = ix4 p h t k := by
    intro k; funext a; fin_cases a <;> rfl
  have z : val_main_cst_32 (F := Ideal) (Shape.Idx.first Gen.h_S_) = 0 := Ideal.ofBits_zero_f32
  rw [z, zero_add]
  refine Finset.sum_congr rfl fun k _ => ?_
  rw [e, prob2_ref x0 x1 x2 x3 x4 x5 x6 x7 x8 x9 x10 x11 x12 x13 x14 F]

theorem num2_ref (p : Fin 40) (h : Fin 8) (t : Fin 11) (j : Fin 16) :
    val_main_v213 (F := Ideal) x0 x1 x2 x3 x4 x5 x6 x7 x8 x9 x10 x11 x12 x13 x14 (ix4 p t h j) = ∑ s, (dataS x0 x1 x2 x3 x4 x5 x6 x7 x8 x9 x10 x11 x12 x13 x14 p).prob t h s * (dataS x0 x1 x2 x3 x4 x5 x6 x7 x8 x9 x10 x11 x12 x13 x14 p).value s (chanOf h j) := by
  have e1 : ∀ s, (dataS x0 x1 x2 x3 x4 x5 x6 x7 x8 x9 x10 x11 x12 x13 x14 p).prob t h s * (dataS x0 x1 x2 x3 x4 x5 x6 x7 x8 x9 x10 x11 x12 x13 x14 p).value s (chanOf h j) = val_main_v190 (F := Ideal) x0 x1 x2 x4 x5 x7 x8 x9 x10 x11 x12 x13 x14 (ix3 p s (chanOf h j)) * val_main_v209 (F := Ideal) x0 x1 x2 x3 x4 x5 x6 x7 x8 x9 x10 x11 x12 x13 x14 (ix4 p h t s) := by
    intro s
    rw [prob2_ref x0 x1 x2 x3 x4 x5 x6 x7 x8 x9 x10 x11 x12 x13 x14 F, v_lin_ref x0 x1 x2 x3 x4 x5 x6 x7 x8 x9 x10 x11 x12 x13 x14 F]
    exact mul_comm _ _
  simp only [e1]
  pointwise [val_main_v196, val_main_v197, val_main_v211, val_main_v212, val_main_v213]

/-- The tokens' attention output. -/
theorem out2_ref (p : Fin 40) (t : Fin 11) (d : Fin 128) : val_main_v218 (F := Ideal) x0 x1 x2 x3 x4 x5 x6 x7 x8 x9 x10 x11 x12 x13 x14 (ix3 p t d) = (dataS x0 x1 x2 x3 x4 x5 x6 x7 x8 x9 x10 x11 x12 x13 x14 p).out t d := by
  rw [val_main_v218_apply]
  have e : idx_main_v218 (ix3 p t d) = ix4 p t (headOf d) ⟨d.val % 16, by omega⟩ := by
    have h1 := p.isLt
    have h2 := t.isLt
    have h3 := d.isLt
    funext a
    fin_cases a
    · exact Fin.ext (by simp; omega)
    · exact Fin.ext (by simp; omega)
    · exact Fin.ext (by simp; omega)
    · exact Fin.ext (by simp; omega)
  rw [e, val_main_v217_apply, num2_ref x0 x1 x2 x3 x4 x5 x6 x7 x8 x9 x10 x11 x12 x13 x14 F, val_main_v216_apply, val_main_v215_apply, val_main_v214_apply]
  have e2 : idx_main_v214 (idx_main_v215 (idx_main_v216 (ix4 p t (headOf d) ⟨d.val % 16, by omega⟩))) = ix3 p (headOf d) t := by
    funext a; fin_cases a <;> rfl
  rw [e2, den2_ref x0 x1 x2 x3 x4 x5 x6 x7 x8 x9 x10 x11 x12 x13 x14 F]
  have e3 : chanOf (headOf d) ⟨d.val % 16, by omega⟩ = d := Fin.ext (by show d.val / 16 * 16 + d.val % 16 = d.val; omega)
  rw [e3]
  rfl

/-- The scales of the keys, as they are given out. -/
theorem kcs_ref (p : Fin 40) (s : Fin 2688) : val_main_v223 (F := Ideal) x0 x1 x2 x4 x5 x6 x7 x8 x9 x10 x11 (ix3 p 0 s) = scaleN ((dataS x0 x1 x2 x3 x4 x5 x6 x7 x8 x9 x10 x11 x12 x13 x14 p).key s) := by
  rw [val_main_v223_apply]
  have e : idx_main_v223 (ix3 p 0 s) = ix2 p s := by
    funext a; fin_cases a <;> rfl
  rw [e, k_scale_ref x0 x1 x2 x3 x4 x5 x6 x7 x8 x9 x10 x11 x12 x13 x14 F]

/-- The scales of the image, as they are given out. -/
theorem ics_ref (p : Fin 40) (s : Fin 2688) : val_main_v224 (F := Ideal) x0 x1 x2 x4 x5 x7 x8 x9 x10 x11 (ix3 p 0 s) = scaleN ((dataS x0 x1 x2 x3 x4 x5 x6 x7 x8 x9 x10 x11 x12 x13 x14 p).img s) := by
  rw [val_main_v224_apply]
  have e : idx_main_v224 (ix3 p 0 s) = ix2 p s := by
    funext a; fin_cases a <;> rfl
  rw [e, i_scale_ref x0 x1 x2 x3 x4 x5 x6 x7 x8 x9 x10 x11 x12 x13 x14 F]

/-- The codes of the image channel by channel. -/
theorem ict_ref (p : Fin 40) (r : Fin 256) (s : Fin 2688) : val_main_v222 (F := Ideal) x0 x1 x2 x4 x5 x7 x8 x9 x10 x11 (ix3 p r s) = codeN ((dataS x0 x1 x2 x3 x4 x5 x6 x7 x8 x9 x10 x11 x12 x13 x14 p).img s) r := by
  rw [val_main_v222_apply]
  have e : idx_main_v222 (ix3 p r s) = ix3 p s r := by
    funext a; fin_cases a <;> rfl
  rw [e]
  have h := i_word_ref x0 x1 x2 x3 x4 x5 x6 x7 x8 x9 x10 x11 x12 x13 x14 F p s r
  unfold val_main_v221 val_main_v220 val_main_v219
  generalize val_main_v168 (F := Ideal) x0 x1 x2 x4 x5 x7 x8 x9 x10 x11 = y at h ⊢
  pointwise
  rw [h, num_wide]
  exact wordN_toInt _ _

end Under

end Cert.At

end
-- ==== Proof.AttnEquation.lean ====
/-
  The equation of the attention call: from equal arguments of which the condition holds the kernel's six arrays are the
  reference's six results.
-/
module

public import proofs.«01_k».proof.Proof.AttnFinal
public import proofs.«01_k».proof.Proof.AttnRefTokens

@[expose] public section

set_option maxRecDepth 16384
set_option maxHeartbeats 2000000

noncomputable section

namespace Cert.At

open Cert.AttnIdeal Cert.AttnIdeal.Value Cert.AttnRefIdeal.Read Idealize.ShloMosaic Idealize.ShloMosaic.TcCoe Idealize.SL.Sem Idealize.ShloMosaic.Tactic

variable (m : (ℓ : Loc nD τ sig) → Buf (Elt Ideal) ℓ) (c : Dev nD)

/-- The codes of the image with the position encoding, on equal arguments. -/
theorem kc_of (F : Fine (a0 m c) (a1 m c) (a4 m c)) {y0 : Vec Ideal ⟨1, ![40]⟩ .i32} {y1 : Vec Ideal ⟨3, ![11, 40, 128]⟩ .f32} {y2 : Vec Ideal ⟨3, ![11, 40, 128]⟩ .f32} {y4 : Vec Ideal ⟨3, ![40, 128, 2688]⟩ .bf16} {y5 : Vec Ideal ⟨3, ![40, 256, 2688]⟩ .f32} {y6 : Vec Ideal ⟨2, ![256, 2688]⟩ .f32} {y7 : Vec Ideal ⟨3, ![2, 128, 256]⟩ .i8} {y8 : Vec Ideal ⟨2, ![2, 256]⟩ .f32} {y9 : Vec Ideal ⟨2, ![2, 256]⟩ .f32} {y10 : Vec Ideal ⟨3, ![2, 4, 256]⟩ .f32} {y11 : Vec Ideal ⟨3, ![2, 4, 256]⟩ .f32}
    (h0 : y0 = a0 m c) (h1 : y1 = a1 m c) (h2 : y2 = a2 m c) (h4 : y4 = a4 m c) (h5 : y5 = a5 m c) (h6 : y6 = a6 m c) (h7 : y7 = a7 m c) (h8 : y8 = a8 m c) (h9 : y9 = a9 m c) (h10 : y10 = a10 m c) (h11 : y11 = a11 m c) :
    val_main_v128 (F := Ideal) y0 y1 y2 y4 y5 y6 y7 y8 y9 y10 y11 = G12 m c := by
  rw [h0, h1, h2, h4, h5, h6, h7, h8, h9, h10, h11]
  funext i
  obtain ⟨p, s, r, rfl⟩ : ∃ (p : Fin 40) (s : Fin 2688) (r : Fin 256), i = ix3 p s r :=
    ⟨i 0, i 1, i 2, by funext a; fin_cases a <;> rfl⟩
  exact (k_word_ref (a0 m c) (a1 m c) (a2 m c) (a3 m c) (a4 m c) (a5 m c) (a6 m c) (a7 m c) (a8 m c) (a9 m c) (a10 m c) (a11 m c) (a12 m c) (a13 m c) (a14 m c) F p s r).trans (final_kc m c p s r).symm

/-- Their scales, on equal arguments. -/
theorem kcs_of (F : Fine (a0 m c) (a1 m c) (a4 m c)) {y0 : Vec Ideal ⟨1, ![40]⟩ .i32} {y1 : Vec Ideal ⟨3, ![11, 40, 128]⟩ .f32} {y2 : Vec Ideal ⟨3, ![11, 40, 128]⟩ .f32} {y4 : Vec Ideal ⟨3, ![40, 128, 2688]⟩ .bf16} {y5 : Vec Ideal ⟨3, ![40, 256, 2688]⟩ .f32} {y6 : Vec Ideal ⟨2, ![256, 2688]⟩ .f32} {y7 : Vec Ideal ⟨3, ![2, 128, 256]⟩ .i8} {y8 : Vec Ideal ⟨2, ![2, 256]⟩ .f32} {y9 : Vec Ideal ⟨2, ![2, 256]⟩ .f32} {y10 : Vec Ideal ⟨3, ![2, 4, 256]⟩ .f32} {y11 : Vec Ideal ⟨3, ![2, 4, 256]⟩ .f32}
    (h0 : y0 = a0 m c) (h1 : y1 = a1 m c) (h2 : y2 = a2 m c) (h4 : y4 = a4 m c) (h5 : y5 = a5 m c) (h6 : y6 = a6 m c) (h7 : y7 = a7 m c) (h8 : y8 = a8 m c) (h9 : y9 = a9 m c) (h10 : y10 = a10 m c) (h11 : y11 = a11 m c) :
    val_main_v223 (F := Ideal) y0 y1 y2 y4 y5 y6 y7 y8 y9 y10 y11 = G13 m c := by
  rw [h0, h1, h2, h4, h5, h6, h7, h8, h9, h10, h11]
  funext i
  obtain ⟨p, z, s, rfl⟩ : ∃ (p : Fin 40) (z : Fin 1) (s : Fin 2688), i = ix3 p z s :=
    ⟨i 0, i 1, i 2, by funext a; fin_cases a <;> rfl⟩
  obtain rfl : z = 0 := Subsingleton.elim _ _
  exact (kcs_ref (a0 m c) (a1 m c) (a2 m c) (a3 m c) (a4 m c) (a5 m c) (a6 m c) (a7 m c) (a8 m c) (a9 m c) (a10 m c) (a11 m c) (a12 m c) (a13 m c) (a14 m c) F p s).trans (final_kcs m c p 0 s).symm

/-- The codes of the image, on equal arguments. -/
theorem ic_of (F : Fine (a0 m c) (a1 m c) (a4 m c)) {y0 : Vec Ideal ⟨1, ![40]⟩ .i32} {y1 : Vec Ideal ⟨3, ![11, 40, 128]⟩ .f32} {y2 : Vec Ideal ⟨3, ![11, 40, 128]⟩ .f32} {y4 : Vec Ideal ⟨3, ![40, 128, 2688]⟩ .bf16} {y5 : Vec Ideal ⟨3, ![40, 256, 2688]⟩ .f32} {y7 : Vec Ideal ⟨3, ![2, 128, 256]⟩ .i8} {y8 : Vec Ideal ⟨2, ![2, 256]⟩ .f32} {y9 : Vec Ideal ⟨2, ![2, 256]⟩ .f32} {y10 : Vec Ideal ⟨3, ![2, 4, 256]⟩ .f32} {y11 : Vec Ideal ⟨3, ![2, 4, 256]⟩ .f32}
    (h0 : y0 = a0 m c) (h1 : y1 = a1 m c) (h2 : y2 = a2 m c) (h4 : y4 = a4 m c) (h5 : y5 = a5 m c) (h7 : y7 = a7 m c) (h8 : y8 = a8 m c) (h9 : y9 = a9 m c) (h10 : y10 = a10 m c) (h11 : y11 = a11 m c) :
    val_main_v168 (F := Ideal) y0 y1 y2 y4 y5 y7 y8 y9 y10 y11 = G14 m c := by
  rw [h0, h1, h2, h4, h5, h7, h8, h9, h10, h11]
  funext i
  obtain ⟨p, s, r, rfl⟩ : ∃ (p : Fin 40) (s : Fin 2688) (r : Fin 256), i = ix3 p s r :=
    ⟨i 0, i 1, i 2, by funext a; fin_cases a <;> rfl⟩
  exact (i_word_ref (a0 m c) (a1 m c) (a2 m c) (a3 m c) (a4 m c) (a5 m c) (a6 m c) (a7 m c) (a8 m c) (a9 m c) (a10 m c) (a11 m c) (a12 m c) (a13 m c) (a14 m c) F p s r).trans (final_ic m c p s r).symm

/-- Their scales, on equal arguments. -/
theorem ics_of (F : Fine (a0 m c) (a1 m c) (a4 m c)) {y0 : Vec Ideal ⟨1, ![40]⟩ .i32} {y1 : Vec Ideal ⟨3, ![11, 40, 128]⟩ .f32} {y2 : Vec Ideal ⟨3, ![11, 40, 128]⟩ .f32} {y4 : Vec Ideal ⟨3, ![40, 128, 2688]⟩ .bf16} {y5 : Vec Ideal ⟨3, ![40, 256, 2688]⟩ .f32} {y7 : Vec Ideal ⟨3, ![2, 128, 256]⟩ .i8} {y8 : Vec Ideal ⟨2, ![2, 256]⟩ .f32} {y9 : Vec Ideal ⟨2, ![2, 256]⟩ .f32} {y10 : Vec Ideal ⟨3, ![2, 4, 256]⟩ .f32} {y11 : Vec Ideal ⟨3, ![2, 4, 256]⟩ .f32}
    (h0 : y0 = a0 m c) (h1 : y1 = a1 m c) (h2 : y2 = a2 m c) (h4 : y4 = a4 m c) (h5 : y5 = a5 m c) (h7 : y7 = a7 m c) (h8 : y8 = a8 m c) (h9 : y9 = a9 m c) (h10 : y10 = a10 m c) (h11 : y11 = a11 m c) :
    val_main_v224 (F := Ideal) y0 y1 y2 y4 y5 y7 y8 y9 y10 y11 = G15 m c := by
  rw [h0, h1, h2, h4, h5, h7, h8, h9, h10, h11]
  funext i
  obtain ⟨p, z, s, rfl⟩ : ∃ (p : Fin 40) (z : Fin 1) (s : Fin 2688), i = ix3 p z s :=
    ⟨i 0, i 1, i 2, by funext a; fin_cases a <;> rfl⟩
  obtain rfl : z = 0 := Subsingleton.elim _ _
  exact (ics_ref (a0 m c) (a1 m c) (a2 m c) (a3 m c) (a4 m c) (a5 m c) (a6 m c) (a7 m c) (a8 m c) (a9 m c) (a10 m c) (a11 m c) (a12 m c) (a13 m c) (a14 m c) F p s).trans (final_ics m c p 0 s).symm

/-- The codes of the image channel by channel, on equal arguments. -/
theorem ict_of (F : Fine (a0 m c) (a1 m c) (a4 m c)) {y0 : Vec Ideal ⟨1, ![40]⟩ .i32} {y1 : Vec Ideal ⟨3, ![11, 40, 128]⟩ .f32} {y2 : Vec Ideal ⟨3, ![11, 40, 128]⟩ .f32} {y4 : Vec Ideal ⟨3, ![40, 128, 2688]⟩ .bf16} {y5 : Vec Ideal ⟨3, ![40, 256, 2688]⟩ .f32} {y7 : Vec Ideal ⟨3, ![2, 128, 256]⟩ .i8} {y8 : Vec Ideal ⟨2, ![2, 256]⟩ .f32} {y9 : Vec Ideal ⟨2, ![2, 256]⟩ .f32} {y10 : Vec Ideal ⟨3, ![2, 4, 256]⟩ .f32} {y11 : Vec Ideal ⟨3, ![2, 4, 256]⟩ .f32}
    (h0 : y0 = a0 m c) (h1 : y1 = a1 m c) (h2 : y2 = a2 m c) (h4 : y4 = a4 m c) (h5 : y5 = a5 m c) (h7 : y7 = a7 m c) (h8 : y8 = a8 m c) (h9 : y9 = a9 m c) (h10 : y10 = a10 m c) (h11 : y11 = a11 m c) :
    val_main_v222 (F := Ideal) y0 y1 y2 y4 y5 y7 y8 y9 y10 y11 = G16 m c := by
  rw [h0, h1, h2, h4, h5, h7, h8, h9, h10, h11]
  funext i
  obtain ⟨p, r, s, rfl⟩ : ∃ (p : Fin 40) (r : Fin 256) (s : Fin 2688), i = ix3 p r s :=
    ⟨i 0, i 1, i 2, by funext a; fin_cases a <;> rfl⟩
  exact (ict_ref (a0 m c) (a1 m c) (a2 m c) (a3 m c) (a4 m c) (a5 m c) (a6 m c) (a7 m c) (a8 m c) (a9 m c) (a10 m c) (a11 m c) (a12 m c) (a13 m c) (a14 m c) F p r s).trans (final_ict m c p r s).symm

/-- The attention output of the tokens, on equal arguments. -/
theorem fa_of (F : Fine (a0 m c) (a1 m c) (a4 m c)) {y0 : Vec Ideal ⟨1, ![40]⟩ .i32} {y1 : Vec Ideal ⟨3, ![11, 40, 128]⟩ .f32} {y2 : Vec Ideal ⟨3, ![11, 40, 128]⟩ .f32} {y3 : Vec Ideal ⟨3, ![11, 40, 128]⟩ .f32} {y4 : Vec Ideal ⟨3, ![40, 128, 2688]⟩ .bf16} {y5 : Vec Ideal ⟨3, ![40, 256, 2688]⟩ .f32} {y6 : Vec Ideal ⟨2, ![256, 2688]⟩ .f32} {y7 : Vec Ideal ⟨3, ![2, 128, 256]⟩ .i8} {y8 : Vec Ideal ⟨2, ![2, 256]⟩ .f32} {y9 : Vec Ideal ⟨2, ![2, 256]⟩ .f32} {y10 : Vec Ideal ⟨3, ![2, 4, 256]⟩ .f32} {y11 : Vec Ideal ⟨3, ![2, 4, 256]⟩ .f32} {y12 : Vec Ideal ⟨3, ![3, 256, 128]⟩ .i8} {y13 : Vec Ideal ⟨2, ![3, 128]⟩ .f32} {y14 : Vec Ideal ⟨2, ![3, 128]⟩ .f32}
    (h0 : y0 = a0 m c) (h1 : y1 = a1 m c) (h2 : y2 = a2 m c) (h3 : y3 = a3 m c) (h4 : y4 = a4 m c) (h5 : y5 = a5 m c) (h6 : y6 = a6 m c) (h7 : y7 = a7 m c) (h8 : y8 = a8 m c) (h9 : y9 = a9 m c) (h10 : y10 = a10 m c) (h11 : y11 = a11 m c) (h12 : y12 = a12 m c) (h13 : y13 = a13 m c) (h14 : y14 = a14 m c) :
    val_main_v218 (F := Ideal) y0 y1 y2 y3 y4 y5 y6 y7 y8 y9 y10 y11 y12 y13 y14 = G17 m c := by
  rw [h0, h1, h2, h3, h4, h5, h6, h7, h8, h9, h10, h11, h12, h13, h14]
  funext i
  obtain ⟨p, t, d, rfl⟩ : ∃ (p : Fin 40) (t : Fin 11) (d : Fin 128), i = ix3 p t d :=
    ⟨i 0, i 1, i 2, by funext a; fin_cases a <;> rfl⟩
  exact (out2_ref (a0 m c) (a1 m c) (a2 m c) (a3 m c) (a4 m c) (a5 m c) (a6 m c) (a7 m c) (a8 m c) (a9 m c) (a10 m c) (a11 m c) (a12 m c) (a13 m c) (a14 m c) F p t d).trans (final_fa m c p t d).symm

end Cert.At

end
-- ==== Proof.AttnCondition.lean ====
/-
  What the condition of the attention call says: the first token of every prompt is valid, no count of tokens is so large that it
  overflows, and no key and no query is infinite.
-/
module

public import proofs.«01_k».proof.Pre_finite_scores
public import proofs.«01_k».proof.Proof.AttnRefScore
public import Idealize.ShloMosaic.Lib.StableHlo.Predicate

@[expose] public section

noncomputable section

namespace Cert.At

open Idealize.ShloMosaic Cert.Pre_finite_scores

/-- The condition's side conditions. -/
theorem pre_facts : Cert.Pre_finite_scores.Facts where
  bcast_S_S40 := by decide
  reducesTo_S40_S_d0 := by decide
  h_S_ := by decide
  bcast_S_S11x40x128 := by decide
  reducesTo_S11x40x128_S_d0_1_2 := by decide
  bitsLt_bf16_f32 := by decide
  bcast_S_S40x128x2688 := by decide
  reducesTo_S40x128x2688_S_d0_1_2 := by decide

/-- Two bits whose conjunction is set are both set. -/
theorem both_set (a b : BitVec 1) (h : IntOp.andi a b = 1#1) : a = 1#1 ∧ b = 1#1 := by
  revert a b
  decide

/-- A left fold of conjunctions that ends set started set and met set bits only. -/
theorem foldl_set {ι : Type} (x : ι → BitVec 1) (l : List ι) : ∀ b : BitVec 1,
    l.foldl (fun r i => IntOp.andi r (x i)) b = 1#1 → b = 1#1 ∧ ∀ i ∈ l, x i = 1#1 := by
  induction l with
  | nil => exact fun b h => ⟨h, fun i hi => absurd hi List.not_mem_nil⟩
  | cons a l ih =>
    intro b h
    obtain ⟨h1, h2⟩ := ih _ h
    obtain ⟨h3, h4⟩ := both_set _ _ h1
    refine ⟨h3, fun i hi => ?_⟩
    rcases List.mem_cons.1 hi with rfl | hi
    · exact h4
    · exact h2 i hi

/-- A conjunction over a whole array that is set says that each of its bits is. -/
theorem all_set {s u : Shape} {axes : List (Fin s.rank)} (x : s.Idx → BitVec 1) (init : u.Idx → BitVec 1) (h : s.ReducesTo axes S_) (hu : 0 < u.numel)
    (j : S_.Idx) (e : Host.reduce IntOp.andi x init h hu j = 1#1) (i : s.Idx) : x i = 1#1 := by
  rw [Host.reduce_eq_foldl] at e
  refine (foldl_set x _ _ e).2 i (List.mem_filter.2 ⟨List.mem_map.2 ⟨s.rowMajor i, List.mem_finRange _, by simp⟩, ?_⟩)
  exact decide_eq_true (funext fun a => a.elim0)

theorem inf_top : Ideal.ofBits .f32 0x7F800000#32 = ⊤ := by simp [Ideal.ofBits, Ideal.ieee]

/-- A number whose absolute value is below infinity is real. -/
theorem real_of_abs (x : EReal) (h : Ideal.cmp .olt (max x (-x)) ⊤ = 1#1) : ∃ r : ℝ, x = r := by
  have h1 : max x (-x) < ⊤ := of_decide_eq_true ((StableHlo.Predicate.ofBool_eq_one_iff _).1 h)
  induction x using EReal.rec with
  | bot => simp at h1
  | coe r => exact ⟨r, rfl⟩
  | top => simp at h1

/-- What the condition says of the arrays it looks at. -/
theorem fine_of [Cert.Pre_finite_scores.Facts] (x0 : Vec Ideal ⟨1, ![40]⟩ .i32) (x1 x2 x3 : Vec Ideal ⟨3, ![11, 40, 128]⟩ .f32)
    (x4 : Vec Ideal ⟨3, ![40, 128, 2688]⟩ .bf16) (x5 : FVec Ideal S40x256x2688 .f32) (x6 : FVec Ideal S256x2688 .f32) (x7 : IVec S2x128x256 8)
    (x8 x9 : FVec Ideal S2x256 .f32) (x10 x11 : FVec Ideal S2x4x256 .f32) (x12 : IVec S3x256x128 8) (x13 x14 : FVec Ideal S3x128 .f32)
    (h : Cert.Pre_finite_scores.fn (F := Ideal) x0 x1 x2 x3 x4 x5 x6 x7 x8 x9 x10 x11 x12 x13 x14 = fun _ => 1#1) : Fine x0 x1 x4 := by
  have h' := congrFun h (Shape.Idx.first Facts.h_S_)
  unfold Cert.Pre_finite_scores.fn Cert.Pre_finite_scores.fn_part1 at h'
  obtain ⟨h1, hq⟩ := both_set _ _ h'
  obtain ⟨h2, hk⟩ := both_set _ _ h1
  obtain ⟨hl, hh⟩ := both_set _ _ h2
  beta_reduce at hl hh hk hq
  refine ⟨fun p => ?_, fun p => ?_, fun t p d => ?_, fun p d s => ?_⟩
  · have e := all_set _ _ Facts.reducesTo_S40_S_d0 Facts.h_S_ _ hl (ix1 p)
    have e1 : IntOp.cmpi .sge (x0 (ix1 p)) 4294967292#32 = 1#1 := e
    unfold IntOp.cmpi at e1
    have e2 := (StableHlo.Predicate.ofBool_eq_one_iff _).1 e1
    simpa [BitVec.sle] using e2
  · have e := all_set _ _ Facts.reducesTo_S40_S_d0 Facts.h_S_ _ hh (ix1 p)
    have e1 : IntOp.cmpi .sle (x0 (ix1 p)) 268435450#32 = 1#1 := e
    unfold IntOp.cmpi at e1
    have e2 := (StableHlo.Predicate.ofBool_eq_one_iff _).1 e1
    simpa [BitVec.sle] using e2
  · have e := all_set _ _ Facts.reducesTo_S11x40x128_S_d0_1_2 Facts.h_S_ _ hk (ix3 t p d)
    have e1 : Ideal.cmp .olt (max (x1 (ix3 t p d)) (-(x1 (ix3 t p d)))) (Ideal.ofBits .f32 0x7F800000#32) = 1#1 := e
    rw [inf_top] at e1
    exact real_of_abs _ e1
  · have e := all_set _ _ Facts.reducesTo_S40x128x2688_S_d0_1_2 Facts.h_S_ _ hq (ix3 p d s)
    have e1 : Ideal.cmp .olt (max (x4 (ix3 p d s)) (-(x4 (ix3 p d s)))) (Ideal.ofBits .f32 0x7F800000#32) = 1#1 := e
    rw [inf_top] at e1
    exact real_of_abs _ e1

end Cert.At

end
-- ==== Proof.lean ====
module

public import proofs.«01_k».proof.Defs
public import proofs.«01_k».proof.Proof.Gen.UpscaleIdeal.Value
public import proofs.«01_k».proof.Proof.Gen.AttnIdeal.Value
public import proofs.«01_k».proof.Proof.Gen.UpscaleRefIdeal.Run
public import proofs.«01_k».proof.Proof.Gen.UpscaleRefIdeal.Read
public import proofs.«01_k».proof.Proof.Gen.Upscale
public import proofs.«01_k».proof.Proof.Gen.Upscale.Skeleton
public import proofs.«01_k».proof.Proof.Gen.Upscale.Loops
public import proofs.«01_k».proof.Proof.Gen.Upscale.Launch
public import proofs.«01_k».proof.Proof.Gen.Upscale.Points
public import proofs.«01_k».proof.Proof.Gen.Upscale.Frame
public import proofs.«01_k».proof.Proof.Gen.UpscaleIdeal
public import proofs.«01_k».proof.Proof.Gen.UpscaleIdeal.Skeleton
public import proofs.«01_k».proof.Proof.Gen.UpscaleIdeal.Loops
public import proofs.«01_k».proof.Proof.Gen.UpscaleIdeal.Launch
public import proofs.«01_k».proof.Proof.Gen.UpscaleIdeal.Points
public import proofs.«01_k».proof.Proof.Gen.UpscaleIdeal.Frame
public import proofs.«01_k».proof.Proof.Gen.UpscaleRefIdeal
public import proofs.«01_k».proof.Proof.Gen.AttnIdeal.Frame
public import proofs.«01_k».proof.Proof.Gen.AttnIdeal.Points
public import proofs.«01_k».proof.Proof.Gen.AttnIdeal.Launch
public import proofs.«01_k».proof.Proof.Gen.AttnIdeal.Loops
public import proofs.«01_k».proof.Proof.Gen.AttnIdeal.Skeleton
public import proofs.«01_k».proof.Proof.Gen.Attn.Frame
public import proofs.«01_k».proof.Proof.Gen.Attn.Points
public import proofs.«01_k».proof.Proof.Gen.Attn.Launch
public import proofs.«01_k».proof.Proof.Gen.Attn.Loops
public import proofs.«01_k».proof.Proof.Gen.Attn.Skeleton
public import proofs.«01_k».proof.Proof.Gen.AttnRefIdeal.Read
public import proofs.«01_k».proof.Proof.Gen.AttnRefIdeal.Run
public import proofs.«01_k».proof.Proof.Equation
public import proofs.«01_k».proof.Proof.AttnEquation
public import proofs.«01_k».proof.Proof.AttnCondition
public import Idealize.ShloMosaic.Adequacy
public import Idealize.ShloMosaic.Init

@[expose] public section

noncomputable section

namespace Cert.Proof

open Idealize.ShloMosaic Idealize.SL.Sem Cert.Upscale

/-- From equal arguments both programs run, and the reference's three results are the kernel's three arrays. -/
theorem value [Cert.UpscaleIdeal.Facts] [Cert.UpscaleRefIdeal.Facts] : Cert.algebraic_UpscaleIdeal_UpscaleRefIdeal := by
  intro m g m' g' _ hin
  refine ⟨fun c => Cert.UpscaleIdeal.Value.G7 m c, fun c => Cert.UpscaleIdeal.Value.G8 m c, fun c => Cert.UpscaleIdeal.Value.G9 m c,
    Cert.UpscaleIdeal.Value.run m g, ?_⟩
  refine (θ_run _ _ _).mono (fun r h c => ?_) (Cert.UpscaleRefIdeal.Value.run m' g')
  obtain ⟨r0, r1, r2, rest⟩ := h c
  obtain ⟨h0, h1, h2, h3, h4, h5, h6, h7, h8, h9, h10⟩ := hin c
  refine ⟨?_, ?_, ?_, rest⟩
  · exact (r0.trans (Cert.UpscaleRefIdeal.Read.val_main_v93_eq _)).trans (Cert.Up.codes_of m c h1 h2 h3 h4 h5 h6 h7)
  · exact (r1.trans (Cert.UpscaleRefIdeal.Read.val_main_v94_eq _)).trans (Cert.Up.scales_of m c h1 h2 h3 h4 h5 h6 h7)
  · exact (r2.trans (Cert.UpscaleRefIdeal.Read.val_main_v95_eq _)).trans (Cert.Up.masks_of m c h0 h1 h2 h3 h4 h5 h6 h7 h8 h9 h10)

/-- The reference runs and keeps its arguments; it declares no semaphore. -/
theorem frame_ref [Cert.UpscaleRefIdeal.Facts] : Cert.quiescent_UpscaleRefIdeal := fun m ρ _ =>
  (θ_run _ _ _).mono (fun r h => ⟨fun c => (h c).2.2.2, Idealize.ShloMosaic.sem_eq_zero_of_no_sems (by decide) r.2⟩)
    (Cert.UpscaleRefIdeal.Value.run m ρ)

/-- From equal arguments of which the condition holds both programs run, and the reference's six results are the kernel's six arrays. -/
theorem value_attn [Cert.AttnIdeal.Facts] [Cert.AttnRefIdeal.Facts] [Cert.Pre_finite_scores.Facts] :
    Cert.algebraic_AttnIdeal_AttnRefIdeal_pre_finite_scores := by
  intro m g m' g' hpre hin
  refine ⟨fun c => Cert.AttnIdeal.Value.G12 m c, fun c => Cert.AttnIdeal.Value.G13 m c, fun c => Cert.AttnIdeal.Value.G14 m c,
    fun c => Cert.AttnIdeal.Value.G15 m c, fun c => Cert.AttnIdeal.Value.G16 m c, fun c => Cert.AttnIdeal.Value.G17 m c,
    Cert.AttnIdeal.Value.run m g, ?_⟩
  refine (θ_run _ _ _).mono (fun r h c => ?_) (Cert.AttnRefIdeal.Value.run m' g')
  obtain ⟨r0, r1, r2, r3, r4, r5, rest⟩ := h c
  obtain ⟨h0, h1, h2, h3, h4, h5, h6, h7, h8, h9, h10, h11, h12, h13, h14⟩ := hin c
  have F := Cert.At.fine_of _ _ _ _ _ _ _ _ _ _ _ _ _ _ _ (hpre c)
  refine ⟨?_, ?_, ?_, ?_, ?_, ?_, rest⟩
  · exact (r0.trans (Cert.AttnRefIdeal.Read.val_main_v128_eq _)).trans (Cert.At.kc_of m c F h0 h1 h2 h4 h5 h6 h7 h8 h9 h10 h11)
  · exact (r1.trans (Cert.AttnRefIdeal.Read.val_main_v223_eq _)).trans (Cert.At.kcs_of m c F h0 h1 h2 h4 h5 h6 h7 h8 h9 h10 h11)
  · exact (r2.trans (Cert.AttnRefIdeal.Read.val_main_v168_eq _)).trans (Cert.At.ic_of m c F h0 h1 h2 h4 h5 h7 h8 h9 h10 h11)
  · exact (r3.trans (Cert.AttnRefIdeal.Read.val_main_v224_eq _)).trans (Cert.At.ics_of m c F h0 h1 h2 h4 h5 h7 h8 h9 h10 h11)
  · exact (r4.trans (Cert.AttnRefIdeal.Read.val_main_v222_eq _)).trans (Cert.At.ict_of m c F h0 h1 h2 h4 h5 h7 h8 h9 h10 h11)
  · exact (r5.trans (Cert.AttnRefIdeal.Read.val_main_v218_eq _)).trans
      (Cert.At.fa_of m c F h0 h1 h2 h3 h4 h5 h6 h7 h8 h9 h10 h11 h12 h13 h14)

/-- The attention reference runs and keeps its arguments; it declares no semaphore. -/
theorem frame_attn_ref [Cert.AttnRefIdeal.Facts] : Cert.quiescent_AttnRefIdeal := fun m ρ _ =>
  (θ_run _ _ _).mono (fun r h => ⟨fun c => (h c).2.2.2.2.2.2, Idealize.ShloMosaic.sem_eq_zero_of_no_sems (by decide) r.2⟩)
    (Cert.AttnRefIdeal.Value.run m ρ)

/-- The five claims of the upscaling call and the five of the attention call. -/
theorem claim : Cert.Claim := ⟨Cert.Upscale.Gen.facts, Cert.UpscaleIdeal.Gen.facts, Cert.UpscaleRefIdeal.Gen.facts,
  Cert.Attn.Gen.facts, Cert.AttnIdeal.Gen.facts, Cert.AttnRefIdeal.Gen.facts, Cert.At.pre_facts,
  fun m ρ _ => Cert.Upscale.Gen.frame m ρ, fun m ρ _ => Cert.UpscaleIdeal.Gen.frame m ρ, frame_ref,
  fun m ρ _ => Cert.Attn.Gen.frame m ρ, fun m ρ _ => Cert.AttnIdeal.Gen.frame m ρ, fun m ρ _ => Cert.AttnIdeal.Gen.frame m ρ,
  frame_attn_ref, fun m ρ _ => frame_attn_ref m ρ trivial,
  trivial, value, trivial, letI := Cert.At.pre_facts; value_attn⟩

end Cert.Proof

end
